-- ==== Defs.lean ====
def Pre_Kernel [hPre_tokens : Cert.Pre_tokens.Facts] (m : (ℓ : Loc Cert.Kernel.nD Cert.Kernel.τ Cert.Kernel.sig) → Buf (Elt Bits) ℓ) : Prop :=
  ∀ c : Dev Cert.Kernel.nD,
    (Cert.Pre_tokens.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_tokens : Cert.Pre_tokens.Facts] (m : (ℓ : Loc Cert.KernelIdeal.nD Cert.KernelIdeal.τ Cert.KernelIdeal.sig) → Buf (Elt Ideal) ℓ) : Prop :=
  ∀ c : Dev Cert.KernelIdeal.nD,
    (Cert.Pre_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens [hPre_tokens : Cert.Pre_tokens.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_tokens : Cert.Pre_tokens.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_tokens : Cert.Pre_tokens.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_tokens [hReferenceIdeal : Cert.ReferenceIdeal.Facts] [hPre_tokens : Cert.Pre_tokens.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tokens : Cert.Pre_tokens.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_tokens : Cert.Pre_tokens.Facts),
    quiescent_Kernel (hKernel := hKernel) (hPre_tokens := hPre_tokens)
    ∧ quiescent_KernelIdeal (hKernelIdeal := hKernelIdeal) (hPre_tokens := hPre_tokens)
    ∧ quiescent_ReferenceIdeal (hReferenceIdeal := hReferenceIdeal)
    ∧ quiescent_ReferenceIdeal_pre_tokens (hReferenceIdeal := hReferenceIdeal) (hPre_tokens := hPre_tokens)
    ∧ preserves_Kernel_KernelIdeal
    ∧ algebraic_KernelIdeal_ReferenceIdeal (hKernelIdeal := hKernelIdeal) (hReferenceIdeal := hReferenceIdeal) (hPre_tokens := hPre_tokens)
-- ==== Pre_tokens.lean ====
abbrev S2048x512 : Shape := ⟨2, ![2048, 512]⟩
abbrev S16x32128 : Shape := ⟨2, ![16, 32128]⟩
abbrev S16 : Shape := ⟨1, ![16]⟩
abbrev S16x16 : Shape := ⟨2, ![16, 16]⟩
abbrev S_ : Shape := ⟨0, ![]⟩

class Facts : Prop where
  bcast_S_S2048x512 : S_.BroadcastsInDim S2048x512 (![] : Fin 0 → Fin S2048x512.rank)

variable [Facts]

def fn {F : FTy → Type} [FloatOps F] (main_arg0 : IVec S2048x512 32) (main_arg1 : FVec F S16x32128 .f32) (main_arg2 : FVec F S16 .f32) (main_arg3 : FVec F S16x16 .f32) (main_arg4 : FVec F S16 .f32) (main_arg5 : FVec F S16x16 .f32) (main_arg6 : FVec F S16 .f32) : IVec S2048x512 1 :=
  let main_c : IVec S_ 32 := constantI S_ 32 0#32
  let main_v0 : IVec S2048x512 32 := broadcastInDim S2048x512 ![] bcast_S_S2048x512 main_c
  let main_v1 : IVec S2048x512 1 := cmpi .sge main_arg0 main_v0
  let main_c_0 : IVec S_ 32 := constantI S_ 32 32128#32
  let main_v2 : IVec S2048x512 32 := broadcastInDim S2048x512 ![] bcast_S_S2048x512 main_c_0
  let main_v3 : IVec S2048x512 1 := cmpi .slt main_arg0 main_v2
  let main_v4 : IVec S2048x512 1 := andi main_v1 main_v3
  main_v4
-- ==== Kernel.lean ====
abbrev S2048x512 : Shape := ⟨2, ![2048, 512]⟩
abbrev S16x32128 : Shape := ⟨2, ![16, 32128]⟩
abbrev S16 : Shape := ⟨1, ![16]⟩
abbrev S16x16 : Shape := ⟨2, ![16, 16]⟩
abbrev S32128x16 : Shape := ⟨2, ![32128, 16]⟩
abbrev S32128x1x16 : Shape := ⟨3, ![32128, 1, 16]⟩
abbrev S2048x1x16 : Shape := ⟨3, ![2048, 1, 16]⟩
abbrev S32x512 : Shape := ⟨2, ![32, 512]⟩
abbrev S32x1x16 : Shape := ⟨3, ![32, 1, 16]⟩
abbrev S_ : Shape := ⟨0, ![]⟩
abbrev S1x1 : Shape := ⟨2, ![1, 1]⟩
abbrev S1x1x16 : Shape := ⟨3, ![1, 1, 16]⟩
abbrev S2048x16 : Shape := ⟨2, ![2048, 16]⟩
abbrev S1x16 : Shape := ⟨2, ![1, 16]⟩
abbrev S1024x16 : Shape := ⟨2, ![1024, 16]⟩

abbrev nBuf : Space → Nat
  | .hbm => 18
  | .vmem => 16
  | .smem => 1
  | _ => 0

abbrev bufTy : (tb : Table) → Fin (tcTables nBuf tb) → BufTy
  | .hbm, ⟨0, _⟩ => ⟨S2048x512, .i32⟩
  | .hbm, ⟨1, _⟩ => ⟨S16x32128, .f32⟩
  | .hbm, ⟨2, _⟩ => ⟨S16, .f32⟩
  | .hbm, ⟨3, _⟩ => ⟨S16x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S32128x16, .f32⟩
  | .hbm, ⟨8, _⟩ => ⟨S32128x1x16, .f32⟩
  | .hbm, ⟨9, _⟩ => ⟨S2048x1x16, .f32⟩
  | .hbm, ⟨10, _⟩ => ⟨S2048x16, .f32⟩
  | .hbm, ⟨11, _⟩ => ⟨S1x16, .f32⟩
  | .hbm, ⟨12, _⟩ => ⟨S16x16, .f32⟩
  | .hbm, ⟨13, _⟩ => ⟨S1x16, .f32⟩
  | .hbm, ⟨14, _⟩ => ⟨S16x16, .f32⟩
  | .hbm, ⟨15, _⟩ => ⟨S1x16, .f32⟩
  | .hbm, ⟨16, _⟩ => ⟨S2048x16, .f32⟩
  | .hbm, ⟨17, _⟩ => ⟨S2048x16, .f32⟩
  | .local _ .vmem, ⟨0, _⟩ => ⟨S32x512, .i32⟩
  | .local _ .vmem, ⟨1, _⟩ => ⟨S32x512, .i32⟩
  | .local _ .vmem, ⟨2, _⟩ => ⟨S32128x1x16, .f32⟩
  | .local _ .vmem, ⟨3, _⟩ => ⟨S32x1x16, .f32⟩
  | .local _ .vmem, ⟨4, _⟩ => ⟨S32x1x16, .f32⟩
  | .local _ .vmem, ⟨5, _⟩ => ⟨S1024x16, .f32⟩
  | .local _ .vmem, ⟨6, _⟩ => ⟨S1024x16, .f32⟩
  | .local _ .vmem, ⟨7, _⟩ => ⟨S1x16, .f32⟩
  | .local _ .vmem, ⟨8, _⟩ => ⟨S16x16, .f32⟩
  | .local _ .vmem, ⟨9, _⟩ => ⟨S1x16, .f32⟩
  | .local _ .vmem, ⟨10, _⟩ => ⟨S16x16, .f32⟩
  | .local _ .vmem, ⟨11, _⟩ => ⟨S1x16, .f32⟩
  | .local _ .vmem, ⟨12, _⟩ => ⟨S1024x16, .f32⟩
  | .local _ .vmem, ⟨13, _⟩ => ⟨S1024x16, .f32⟩
  | .local _ .vmem, ⟨14, _⟩ => ⟨S1024x16, .f32⟩
  | .local _ .vmem, ⟨15, _⟩ => ⟨S1024x16, .f32⟩
  | .local _ .smem, ⟨0, _⟩ => ⟨S32x512, .i32⟩
  | _, _ => ⟨S2048x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc1_stg7_0 : Ref sig .tc := ⟨.vmem, 14, rfl⟩
abbrev cc1_stg7_1 : Ref sig .tc := ⟨.vmem, 15, rfl⟩
abbrev cc0_scratch0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc1_sem7_0 : DmaSem sig := 15
abbrev cc1_sem7_1 : DmaSem sig := 16

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c32_i32 : BitVec 32 := 32#32
  let v0 : BitVec 32 := Scalar.addi c0_i32 c32_i32
  let c1_i32 : BitVec 32 := 1#32
  ⟨c0_i32, v0, c1_i32⟩
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let v5 : Index := Scalar.indexCast arg6
  let c0 : Index := 0#32
  ![v5.toNat, 0]
def k0_off2 (v6 : BitVec 32) : Fin 3 → Nat :=
  let v7 : Index := Scalar.indexCast v6
  let c0_4 : Index := 0#32
  let c0_5 : Index := 0#32
  ![v7.toNat, 0, 0]

def k0_chk1 (v6 : BitVec 32) : Prop :=
  (∀ a, (k0_off2 v6) a + S1x1x16.size a ≤ S32128x1x16.size a)
theorem k0_off2_inb : ∀ (v6 : BitVec 32) (k0_hw1 : k0_chk1 v6), ∀ a, (k0_off2 v6) a + S1x1x16.size a ≤ S32128x1x16.size a := fun v6 k0_hw1 => k0_hw1

def k0_off3 (k0_t1 : Fin k0_t1_loop.trips) : Fin 2 → Nat :=
  let c0_i32 : BitVec 32 := 0#32
  let c1_i32 : BitVec 32 := 1#32
  let arg6 : BitVec 32 := Scf.iv c0_i32 c1_i32 k0_t1
  let v11 : Index := Scalar.indexCast arg6
  let c1 : Index := 1#32
  ![v11.toNat, 1]
def k0_off4 (v12 : BitVec 32) : Fin 3 → Nat :=
  let v13 : Index := Scalar.indexCast v12
  let c0_6 : Index := 0#32
  let c0_7 : Index := 0#32
  ![v13.toNat, 0, 0]

def k0_chk2 (v12 : BitVec 32) : Prop :=
  (∀ a, (k0_off4 v12) a + S1x1x16.size a ≤ S32128x1x16.size a)
theorem k0_off4_inb : ∀ (v12 : BitVec 32) (k0_hw2 : k0_chk2 v12), ∀ a, (k0_off4 v12) a + S1x1x16.size a ≤ S32128x1x16.size a := fun v12 k0_hw2 => k0_hw2

def k0_off5 (k0_t1 : Fin k0_t1_loop.trips) : Fin 2 → Nat :=
  let c0_i32 : BitVec 32 := 0#32
  let c1_i32 : BitVec 32 := 1#32
  let arg6 : BitVec 32 := Scf.iv c0_i32 c1_i32 k0_t1
  let v17 : Index := Scalar.indexCast arg6
  let c2 : Index := 2#32
  ![v17.toNat, 2]
def k0_off6 (v18 : BitVec 32) : Fin 3 → Nat :=
  let v19 : Index := Scalar.indexCast v18
  let c0_8 : Index := 0#32
  let c0_9 : Index := 0#32
  ![v19.toNat, 0, 0]

def k0_chk3 (v18 : BitVec 32) : Prop :=
  (∀ a, (k0_off6 v18) a + S1x1x16.size a ≤ S32128x1x16.size a)
theorem k0_off6_inb : ∀ (v18 : BitVec 32) (k0_hw3 : k0_chk3 v18), ∀ a, (k0_off6 v18) a + S1x1x16.size a ≤ S32128x1x16.size a := fun v18 k0_hw3 => k0_hw3

def k0_off7 (k0_t1 : Fin k0_t1_loop.trips) : Fin 2 → Nat :=
  let c0_i32 : BitVec 32 := 0#32
  let c1_i32 : BitVec 32 := 1#32
  let arg6 : BitVec 32 := Scf.iv c0_i32 c1_i32 k0_t1
  let v23 : Index := Scalar.indexCast arg6
  let c3 : Index := 3#32
  ![v23.toNat, 3]
def k0_off8 (v24 : BitVec 32) : Fin 3 → Nat :=
  let v25 : Index := Scalar.indexCast v24
  let c0_10 : Index := 0#32
  let c0_11 : Index := 0#32
  ![v25.toNat, 0, 0]

def k0_chk4 (v24 : BitVec 32) : Prop :=
  (∀ a, (k0_off8 v24) a + S1x1x16.size a ≤ S32128x1x16.size a)
theorem k0_off8_inb : ∀ (v24 : BitVec 32) (k0_hw4 : k0_chk4 v24), ∀ a, (k0_off8 v24) a + S1x1x16.size a ≤ S32128x1x16.size a := fun v24 k0_hw4 => k0_hw4

def k0_off9 (k0_t1 : Fin k0_t1_loop.trips) : Fin 2 → Nat :=
  let c0_i32 : BitVec 32 := 0#32
  let c1_i32 : BitVec 32 := 1#32
  let arg6 : BitVec 32 := Scf.iv c0_i32 c1_i32 k0_t1
  let v29 : Index := Scalar.indexCast arg6
  let c4 : Index := 4#32
  ![v29.toNat, 4]
def k0_off10 (v30 : BitVec 32) : Fin 3 → Nat :=
  let v31 : Index := Scalar.indexCast v30
  let c0_12 : Index := 0#32
  let c0_13 : Index := 0#32
  ![v31.toNat, 0, 0]

def k0_chk5 (v30 : BitVec 32) : Prop :=
  (∀ a, (k0_off10 v30) a + S1x1x16.size a ≤ S32128x1x16.size a)
theorem k0_off10_inb : ∀ (v30 : BitVec 32) (k0_hw5 : k0_chk5 v30), ∀ a, (k0_off10 v30) a + S1x1x16.size a ≤ S32128x1x16.size a := fun v30 k0_hw5 => k0_hw5

def k0_off11 (k0_t1 : Fin k0_t1_loop.trips) : Fin 2 → Nat :=
  let c0_i32 : BitVec 32 := 0#32
  let c1_i32 : BitVec 32 := 1#32
  let arg6 : BitVec 32 := Scf.iv c0_i32 c1_i32 k0_t1
  let v35 : Index := Scalar.indexCast arg6
  let c5 : Index := 5#32
  ![v35.toNat, 5]
def k0_off12 (v36 : BitVec 32) : Fin 3 → Nat :=
  let v37 : Index := Scalar.indexCast v36
  let c0_14 : Index := 0#32
  let c0_15 : Index := 0#32
  ![v37.toNat, 0, 0]

def k0_chk6 (v36 : BitVec 32) : Prop :=
  (∀ a, (k0_off12 v36) a + S1x1x16.size a ≤ S32128x1x16.size a)
theorem k0_off12_inb : ∀ (v36 : BitVec 32) (k0_hw6 : k0_chk6 v36), ∀ a, (k0_off12 v36) a + S1x1x16.size a ≤ S32128x1x16.size a := fun v36 k0_hw6 => k0_hw6

def k0_off13 (k0_t1 : Fin k0_t1_loop.trips) : Fin 2 → Nat :=
  let c0_i32 : BitVec 32 := 0#32
  let c1_i32 : BitVec 32 := 1#32
  let arg6 : BitVec 32 := Scf.iv c0_i32 c1_i32 k0_t1
  let v41 : Index := Scalar.indexCast arg6
  let c6 : Index := 6#32
  ![v41.toNat, 6]
def k0_off14 (v42 : BitVec 32) : Fin 3 → Nat :=
  let v43 : Index := Scalar.indexCast v42
  let c0_16 : Index := 0#32
  let c0_17 : Index := 0#32
  ![v43.toNat, 0, 0]

def k0_chk7 (v42 : BitVec 32) : Prop :=
  (∀ a, (k0_off14 v42) a + S1x1x16.size a ≤ S32128x1x16.size a)
theorem k0_off14_inb : ∀ (v42 : BitVec 32) (k0_hw7 : k0_chk7 v42), ∀ a, (k0_off14 v42) a + S1x1x16.size a ≤ S32128x1x16.size a := fun v42 k0_hw7 => k0_hw7

def k0_off15 (k0_t1 : Fin k0_t1_loop.trips) : Fin 2 → Nat :=
  let c0_i32 : BitVec 32 := 0#32
  let c1_i32 : BitVec 32 := 1#32
  let arg6 : BitVec 32 := Scf.iv c0_i32 c1_i32 k0_t1
  let v47 : Index := Scalar.indexCast arg6
  let c7 : Index := 7#32
  ![v47.toNat, 7]
def k0_off16 (v48 : BitVec 32) : Fin 3 → Nat :=
  let v49 : Index := Scalar.indexCast v48
  let c0_18 : Index := 0#32
  let c0_19 : Index := 0#32
  ![v49.toNat, 0, 0]

def k0_chk8 (v48 : BitVec 32) : Prop :=
  (∀ a, (k0_off16 v48) a + S1x1x16.size a ≤ S32128x1x16.size a)
theorem k0_off16_inb : ∀ (v48 : BitVec 32) (k0_hw8 : k0_chk8 v48), ∀ a, (k0_off16 v48) a + S1x1x16.size a ≤ S32128x1x16.size a := fun v48 k0_hw8 => k0_hw8

def k0_off17 (k0_t1 : Fin k0_t1_loop.trips) : Fin 2 → Nat :=
  let c0_i32 : BitVec 32 := 0#32
  let c1_i32 : BitVec 32 := 1#32
  let arg6 : BitVec 32 := Scf.iv c0_i32 c1_i32 k0_t1
  let v53 : Index := Scalar.indexCast arg6
  let c8 : Index := 8#32
  ![v53.toNat, 8]
def k0_off18 (v54 : BitVec 32) : Fin 3 → Nat :=
  let v55 : Index := Scalar.indexCast v54
  let c0_20 : Index := 0#32
  let c0_21 : Index := 0#32
  ![v55.toNat, 0, 0]

def k0_chk9 (v54 : BitVec 32) : Prop :=
  (∀ a, (k0_off18 v54) a + S1x1x16.size a ≤ S32128x1x16.size a)
theorem k0_off18_inb : ∀ (v54 : BitVec 32) (k0_hw9 : k0_chk9 v54), ∀ a, (k0_off18 v54) a + S1x1x16.size a ≤ S32128x1x16.size a := fun v54 k0_hw9 => k0_hw9

def k0_off19 (k0_t1 : Fin k0_t1_loop.trips) : Fin 2 → Nat :=
  let c0_i32 : BitVec 32 := 0#32
  let c1_i32 : BitVec 32 := 1#32
  let arg6 : BitVec 32 := Scf.iv c0_i32 c1_i32 k0_t1
  let v59 : Index := Scalar.indexCast arg6
  let c9 : Index := 9#32
  ![v59.toNat, 9]
def k0_off20 (v60 : BitVec 32) : Fin 3 → Nat :=
  let v61 : Index := Scalar.indexCast v60
  let c0_22 : Index := 0#32
  let c0_23 : Index := 0#32
  ![v61.toNat, 0, 0]

def k0_chk10 (v60 : BitVec 32) : Prop :=
  (∀ a, (k0_off20 v60) a + S1x1x16.size a ≤ S32128x1x16.size a)
theorem k0_off20_inb : ∀ (v60 : BitVec 32) (k0_hw10 : k0_chk10 v60), ∀ a, (k0_off20 v60) a + S1x1x16.size a ≤ S32128x1x16.size a := fun v60 k0_hw10 => k0_hw10

def k0_off21 (k0_t1 : Fin k0_t1_loop.trips) : Fin 2 → Nat :=
  let c0_i32 : BitVec 32 := 0#32
  let c1_i32 : BitVec 32 := 1#32
  let arg6 : BitVec 32 := Scf.iv c0_i32 c1_i32 k0_t1
  let v65 : Index := Scalar.indexCast arg6
  let c10 : Index := 10#32
  ![v65.toNat, 10]
def k0_off22 (v66 : BitVec 32) : Fin 3 → Nat :=
  let v67 : Index := Scalar.indexCast v66
  let c0_24 : Index := 0#32
  let c0_25 : Index := 0#32
  ![v67.toNat, 0, 0]

def k0_chk11 (v66 : BitVec 32) : Prop :=
  (∀ a, (k0_off22 v66) a + S1x1x16.size a ≤ S32128x1x16.size a)
theorem k0_off22_inb : ∀ (v66 : BitVec 32) (k0_hw11 : k0_chk11 v66), ∀ a, (k0_off22 v66) a + S1x1x16.size a ≤ S32128x1x16.size a := fun v66 k0_hw11 => k0_hw11

def k0_off23 (k0_t1 : Fin k0_t1_loop.trips) : Fin 2 → Nat :=
  let c0_i32 : BitVec 32 := 0#32
  let c1_i32 : BitVec 32 := 1#32
  let arg6 : BitVec 32 := Scf.iv c0_i32 c1_i32 k0_t1
  let v71 : Index := Scalar.indexCast arg6
  let c11 : Index := 11#32
  ![v71.toNat, 11]
def k0_off24 (v72 : BitVec 32) : Fin 3 → Nat :=
  let v73 : Index := Scalar.indexCast v72
  let c0_26 : Index := 0#32
  let c0_27 : Index := 0#32
  ![v73.toNat, 0, 0]

def k0_chk12 (v72 : BitVec 32) : Prop :=
  (∀ a, (k0_off24 v72) a + S1x1x16.size a ≤ S32128x1x16.size a)
theorem k0_off24_inb : ∀ (v72 : BitVec 32) (k0_hw12 : k0_chk12 v72), ∀ a, (k0_off24 v72) a + S1x1x16.size a ≤ S32128x1x16.size a := fun v72 k0_hw12 => k0_hw12

def k0_off25 (k0_t1 : Fin k0_t1_loop.trips) : Fin 2 → Nat :=
  let c0_i32 : BitVec 32 := 0#32
  let c1_i32 : BitVec 32 := 1#32
  let arg6 : BitVec 32 := Scf.iv c0_i32 c1_i32 k0_t1
  let v77 : Index := Scalar.indexCast arg6
  let c12 : Index := 12#32
  ![v77.toNat, 12]
def k0_off26 (v78 : BitVec 32) : Fin 3 → Nat :=
  let v79 : Index := Scalar.indexCast v78
  let c0_28 : Index := 0#32
  let c0_29 : Index := 0#32
  ![v79.toNat, 0, 0]

def k0_chk13 (v78 : BitVec 32) : Prop :=
  (∀ a, (k0_off26 v78) a + S1x1x16.size a ≤ S32128x1x16.size a)
theorem k0_off26_inb : ∀ (v78 : BitVec 32) (k0_hw13 : k0_chk13 v78), ∀ a, (k0_off26 v78) a + S1x1x16.size a ≤ S32128x1x16.size a := fun v78 k0_hw13 => k0_hw13

def k0_off27 (k0_t1 : Fin k0_t1_loop.trips) : Fin 2 → Nat :=
  let c0_i32 : BitVec 32 := 0#32
  let c1_i32 : BitVec 32 := 1#32
  let arg6 : BitVec 32 := Scf.iv c0_i32 c1_i32 k0_t1
  let v83 : Index := Scalar.indexCast arg6
  let c13 : Index := 13#32
  ![v83.toNat, 13]
def k0_off28 (v84 : BitVec 32) : Fin 3 → Nat :=
  let v85 : Index := Scalar.indexCast v84
  let c0_30 : Index := 0#32
  let c0_31 : Index := 0#32
  ![v85.toNat, 0, 0]

def k0_chk14 (v84 : BitVec 32) : Prop :=
  (∀ a, (k0_off28 v84) a + S1x1x16.size a ≤ S32128x1x16.size a)
theorem k0_off28_inb : ∀ (v84 : BitVec 32) (k0_hw14 : k0_chk14 v84), ∀ a, (k0_off28 v84) a + S1x1x16.size a ≤ S32128x1x16.size a := fun v84 k0_hw14 => k0_hw14

def k0_off29 (k0_t1 : Fin k0_t1_loop.trips) : Fin 2 → Nat :=
  let c0_i32 : BitVec 32 := 0#32
  let c1_i32 : BitVec 32 := 1#32
  let arg6 : BitVec 32 := Scf.iv c0_i32 c1_i32 k0_t1
  let v89 : Index := Scalar.indexCast arg6
  let c14 : Index := 14#32
  ![v89.toNat, 14]
def k0_off30 (v90 : BitVec 32) : Fin 3 → Nat :=
  let v91 : Index := Scalar.indexCast v90
  let c0_32 : Index := 0#32
  let c0_33 : Index := 0#32
  ![v91.toNat, 0, 0]

def k0_chk15 (v90 : BitVec 32) : Prop :=
  (∀ a, (k0_off30 v90) a + S1x1x16.size a ≤ S32128x1x16.size a)
theorem k0_off30_inb : ∀ (v90 : BitVec 32) (k0_hw15 : k0_chk15 v90), ∀ a, (k0_off30 v90) a + S1x1x16.size a ≤ S32128x1x16.size a := fun v90 k0_hw15 => k0_hw15

def k0_off31 (k0_t1 : Fin k0_t1_loop.trips) : Fin 2 → Nat :=
  let c0_i32 : BitVec 32 := 0#32
  let c1_i32 : BitVec 32 := 1#32
  let arg6 : BitVec 32 := Scf.iv c0_i32 c1_i32 k0_t1
  let v95 : Index := Scalar.indexCast arg6
  let c15 : Index := 15#32
  ![v95.toNat, 15]
def k0_off32 (v96 : BitVec 32) : Fin 3 → Nat :=
  let v97 : Index := Scalar.indexCast v96
  let c0_34 : Index := 0#32
  let c0_35 : Index := 0#32
  ![v97.toNat, 0, 0]

def k0_chk16 (v96 : BitVec 32) : Prop :=
  (∀ a, (k0_off32 v96) a + S1x1x16.size a ≤ S32128x1x16.size a)
theorem k0_off32_inb : ∀ (v96 : BitVec 32) (k0_hw16 : k0_chk16 v96), ∀ a, (k0_off32 v96) a + S1x1x16.size a ≤ S32128x1x16.size a := fun v96 k0_hw16 => k0_hw16

def k0_off33 (k0_t1 : Fin k0_t1_loop.trips) : Fin 2 → Nat :=
  let c0_i32 : BitVec 32 := 0#32
  let c1_i32 : BitVec 32 := 1#32
  let arg6 : BitVec 32 := Scf.iv c0_i32 c1_i32 k0_t1
  let v101 : Index := Scalar.indexCast arg6
  let c16 : Index := 16#32
  ![v101.toNat, 16]
def k0_off34 (v102 : BitVec 32) : Fin 3 → Nat :=
  let v103 : Index := Scalar.indexCast v102
  let c0_36 : Index := 0#32
  let c0_37 : Index := 0#32
  ![v103.toNat, 0, 0]

def k0_chk17 (v102 : BitVec 32) : Prop :=
  (∀ a, (k0_off34 v102) a + S1x1x16.size a ≤ S32128x1x16.size a)
theorem k0_off34_inb : ∀ (v102 : BitVec 32) (k0_hw17 : k0_chk17 v102), ∀ a, (k0_off34 v102) a + S1x1x16.size a ≤ S32128x1x16.size a := fun v102 k0_hw17 => k0_hw17

def k0_off35 (k0_t1 : Fin k0_t1_loop.trips) : Fin 2 → Nat :=
  let c0_i32 : BitVec 32 := 0#32
  let c1_i32 : BitVec 32 := 1#32
  let arg6 : BitVec 32 := Scf.iv c0_i32 c1_i32 k0_t1
  let v107 : Index := Scalar.indexCast arg6
  let c17 : Index := 17#32
  ![v107.toNat, 17]
def k0_off36 (v108 : BitVec 32) : Fin 3 → Nat :=
  let v109 : Index := Scalar.indexCast v108
  let c0_38 : Index := 0#32
  let c0_39 : Index := 0#32
  ![v109.toNat, 0, 0]

def k0_chk18 (v108 : BitVec 32) : Prop :=
  (∀ a, (k0_off36 v108) a + S1x1x16.size a ≤ S32128x1x16.size a)
theorem k0_off36_inb : ∀ (v108 : BitVec 32) (k0_hw18 : k0_chk18 v108), ∀ a, (k0_off36 v108) a + S1x1x16.size a ≤ S32128x1x16.size a := fun v108 k0_hw18 => k0_hw18

def k0_off37 (k0_t1 : Fin k0_t1_loop.trips) : Fin 2 → Nat :=
  let c0_i32 : BitVec 32 := 0#32
  let c1_i32 : BitVec 32 := 1#32
  let arg6 : BitVec 32 := Scf.iv c0_i32 c1_i32 k0_t1
  let v113 : Index := Scalar.indexCast arg6
  let c18 : Index := 18#32
  ![v113.toNat, 18]
def k0_off38 (v114 : BitVec 32) : Fin 3 → Nat :=
  let v115 : Index := Scalar.indexCast v114
  let c0_40 : Index := 0#32
  let c0_41 : Index := 0#32
  ![v115.toNat, 0, 0]

def k0_chk19 (v114 : BitVec 32) : Prop :=
  (∀ a, (k0_off38 v114) a + S1x1x16.size a ≤ S32128x1x16.size a)
theorem k0_off38_inb : ∀ (v114 : BitVec 32) (k0_hw19 : k0_chk19 v114), ∀ a, (k0_off38 v114) a + S1x1x16.size a ≤ S32128x1x16.size a := fun v114 k0_hw19 => k0_hw19

def k0_off39 (k0_t1 : Fin k0_t1_loop.trips) : Fin 2 → Nat :=
  let c0_i32 : BitVec 32 := 0#32
  let c1_i32 : BitVec 32 := 1#32
  let arg6 : BitVec 32 := Scf.iv c0_i32 c1_i32 k0_t1
  let v119 : Index := Scalar.indexCast arg6
  let c19 : Index := 19#32
  ![v119.toNat, 19]
def k0_off40 (v120 : BitVec 32) : Fin 3 → Nat :=
  let v121 : Index := Scalar.indexCast v120
  let c0_42 : Index := 0#32
  let c0_43 : Index := 0#32
  ![v121.toNat, 0, 0]

def k0_chk20 (v120 : BitVec 32) : Prop :=
  (∀ a, (k0_off40 v120) a + S1x1x16.size a ≤ S32128x1x16.size a)
theorem k0_off40_inb : ∀ (v120 : BitVec 32) (k0_hw20 : k0_chk20 v120), ∀ a, (k0_off40 v120) a + S1x1x16.size a ≤ S32128x1x16.size a := fun v120 k0_hw20 => k0_hw20

def k0_off41 (k0_t1 : Fin k0_t1_loop.trips) : Fin 2 → Nat :=
  let c0_i32 : BitVec 32 := 0#32
  let c1_i32 : BitVec 32 := 1#32
  let arg6 : BitVec 32 := Scf.iv c0_i32 c1_i32 k0_t1
  let v125 : Index := Scalar.indexCast arg6
  let c20 : Index := 20#32
  ![v125.toNat, 20]
def k0_off42 (v126 : BitVec 32) : Fin 3 → Nat :=
  let v127 : Index := Scalar.indexCast v126
  let c0_44 : Index := 0#32
  let c0_45 : Index := 0#32
  ![v127.toNat, 0, 0]

def k0_chk21 (v126 : BitVec 32) : Prop :=
  (∀ a, (k0_off42 v126) a + S1x1x16.size a ≤ S32128x1x16.size a)
theorem k0_off42_inb : ∀ (v126 : BitVec 32) (k0_hw21 : k0_chk21 v126), ∀ a, (k0_off42 v126) a + S1x1x16.size a ≤ S32128x1x16.size a := fun v126 k0_hw21 => k0_hw21

def k0_off43 (k0_t1 : Fin k0_t1_loop.trips) : Fin 2 → Nat :=
  let c0_i32 : BitVec 32 := 0#32
  let c1_i32 : BitVec 32 := 1#32
  let arg6 : BitVec 32 := Scf.iv c0_i32 c1_i32 k0_t1
  let v131 : Index := Scalar.indexCast arg6
  let c21 : Index := 21#32
  ![v131.toNat, 21]
def k0_off44 (v132 : BitVec 32) : Fin 3 → Nat :=
  let v133 : Index := Scalar.indexCast v132
  let c0_46 : Index := 0#32
  let c0_47 : Index := 0#32
  ![v133.toNat, 0, 0]

def k0_chk22 (v132 : BitVec 32) : Prop :=
  (∀ a, (k0_off44 v132) a + S1x1x16.size a ≤ S32128x1x16.size a)
theorem k0_off44_inb : ∀ (v132 : BitVec 32) (k0_hw22 : k0_chk22 v132), ∀ a, (k0_off44 v132) a + S1x1x16.size a ≤ S32128x1x16.size a := fun v132 k0_hw22 => k0_hw22

def k0_off45 (k0_t1 : Fin k0_t1_loop.trips) : Fin 2 → Nat :=
  let c0_i32 : BitVec 32 := 0#32
  let c1_i32 : BitVec 32 := 1#32
  let arg6 : BitVec 32 := Scf.iv c0_i32 c1_i32 k0_t1
  let v137 : Index := Scalar.indexCast arg6
  let c22 : Index := 22#32
  ![v137.toNat, 22]
def k0_off46 (v138 : BitVec 32) : Fin 3 → Nat :=
  let v139 : Index := Scalar.indexCast v138
  let c0_48 : Index := 0#32
  let c0_49 : Index := 0#32
  ![v139.toNat, 0, 0]

def k0_chk23 (v138 : BitVec 32) : Prop :=
  (∀ a, (k0_off46 v138) a + S1x1x16.size a ≤ S32128x1x16.size a)
theorem k0_off46_inb : ∀ (v138 : BitVec 32) (k0_hw23 : k0_chk23 v138), ∀ a, (k0_off46 v138) a + S1x1x16.size a ≤ S32128x1x16.size a := fun v138 k0_hw23 => k0_hw23

def k0_off47 (k0_t1 : Fin k0_t1_loop.trips) : Fin 2 → Nat :=
  let c0_i32 : BitVec 32 := 0#32
  let c1_i32 : BitVec 32 := 1#32
  let arg6 : BitVec 32 := Scf.iv c0_i32 c1_i32 k0_t1
  let v143 : Index := Scalar.indexCast arg6
  let c23 : Index := 23#32
  ![v143.toNat, 23]
def k0_off48 (v144 : BitVec 32) : Fin 3 → Nat :=
  let v145 : Index := Scalar.indexCast v144
  let c0_50 : Index := 0#32
  let c0_51 : Index := 0#32
  ![v145.toNat, 0, 0]

def k0_chk24 (v144 : BitVec 32) : Prop :=
  (∀ a, (k0_off48 v144) a + S1x1x16.size a ≤ S32128x1x16.size a)
theorem k0_off48_inb : ∀ (v144 : BitVec 32) (k0_hw24 : k0_chk24 v144), ∀ a, (k0_off48 v144) a + S1x1x16.size a ≤ S32128x1x16.size a := fun v144 k0_hw24 => k0_hw24

def k0_off49 (k0_t1 : Fin k0_t1_loop.trips) : Fin 2 → Nat :=
  let c0_i32 : BitVec 32 := 0#32
  let c1_i32 : BitVec 32 := 1#32
  let arg6 : BitVec 32 := Scf.iv c0_i32 c1_i32 k0_t1
  let v149 : Index := Scalar.indexCast arg6
  let c24 : Index := 24#32
  ![v149.toNat, 24]
def k0_off50 (v150 : BitVec 32) : Fin 3 → Nat :=
  let v151 : Index := Scalar.indexCast v150
  let c0_52 : Index := 0#32
  let c0_53 : Index := 0#32
  ![v151.toNat, 0, 0]

def k0_chk25 (v150 : BitVec 32) : Prop :=
  (∀ a, (k0_off50 v150) a + S1x1x16.size a ≤ S32128x1x16.size a)
theorem k0_off50_inb : ∀ (v150 : BitVec 32) (k0_hw25 : k0_chk25 v150), ∀ a, (k0_off50 v150) a + S1x1x16.size a ≤ S32128x1x16.size a := fun v150 k0_hw25 => k0_hw25

def k0_off51 (k0_t1 : Fin k0_t1_loop.trips) : Fin 2 → Nat :=
  let c0_i32 : BitVec 32 := 0#32
  let c1_i32 : BitVec 32 := 1#32
  let arg6 : BitVec 32 := Scf.iv c0_i32 c1_i32 k0_t1
  let v155 : Index := Scalar.indexCast arg6
  let c25 : Index := 25#32
  ![v155.toNat, 25]
def k0_off52 (v156 : BitVec 32) : Fin 3 → Nat :=
  let v157 : Index := Scalar.indexCast v156
  let c0_54 : Index := 0#32
  let c0_55 : Index := 0#32
  ![v157.toNat, 0, 0]

def k0_chk26 (v156 : BitVec 32) : Prop :=
  (∀ a, (k0_off52 v156) a + S1x1x16.size a ≤ S32128x1x16.size a)
theorem k0_off52_inb : ∀ (v156 : BitVec 32) (k0_hw26 : k0_chk26 v156), ∀ a, (k0_off52 v156) a + S1x1x16.size a ≤ S32128x1x16.size a := fun v156 k0_hw26 => k0_hw26

def k0_off53 (k0_t1 : Fin k0_t1_loop.trips) : Fin 2 → Nat :=
  let c0_i32 : BitVec 32 := 0#32
  let c1_i32 : BitVec 32 := 1#32
  let arg6 : BitVec 32 := Scf.iv c0_i32 c1_i32 k0_t1
  let v161 : Index := Scalar.indexCast arg6
  let c26 : Index := 26#32
  ![v161.toNat, 26]
def k0_off54 (v162 : BitVec 32) : Fin 3 → Nat :=
  let v163 : Index := Scalar.indexCast v162
  let c0_56 : Index := 0#32
  let c0_57 : Index := 0#32
  ![v163.toNat, 0, 0]

def k0_chk27 (v162 : BitVec 32) : Prop :=
  (∀ a, (k0_off54 v162) a + S1x1x16.size a ≤ S32128x1x16.size a)
theorem k0_off54_inb : ∀ (v162 : BitVec 32) (k0_hw27 : k0_chk27 v162), ∀ a, (k0_off54 v162) a + S1x1x16.size a ≤ S32128x1x16.size a := fun v162 k0_hw27 => k0_hw27

def k0_off55 (k0_t1 : Fin k0_t1_loop.trips) : Fin 2 → Nat :=
  let c0_i32 : BitVec 32 := 0#32
  let c1_i32 : BitVec 32 := 1#32
  let arg6 : BitVec 32 := Scf.iv c0_i32 c1_i32 k0_t1
  let v167 : Index := Scalar.indexCast arg6
  let c27 : Index := 27#32
  ![v167.toNat, 27]
def k0_off56 (v168 : BitVec 32) : Fin 3 → Nat :=
  let v169 : Index := Scalar.indexCast v168
  let c0_58 : Index := 0#32
  let c0_59 : Index := 0#32
  ![v169.toNat, 0, 0]

def k0_chk28 (v168 : BitVec 32) : Prop :=
  (∀ a, (k0_off56 v168) a + S1x1x16.size a ≤ S32128x1x16.size a)
theorem k0_off56_inb : ∀ (v168 : BitVec 32) (k0_hw28 : k0_chk28 v168), ∀ a, (k0_off56 v168) a + S1x1x16.size a ≤ S32128x1x16.size a := fun v168 k0_hw28 => k0_hw28

def k0_off57 (k0_t1 : Fin k0_t1_loop.trips) : Fin 2 → Nat :=
  let c0_i32 : BitVec 32 := 0#32
  let c1_i32 : BitVec 32 := 1#32
  let arg6 : BitVec 32 := Scf.iv c0_i32 c1_i32 k0_t1
  let v173 : Index := Scalar.indexCast arg6
  let c28 : Index := 28#32
  ![v173.toNat, 28]
def k0_off58 (v174 : BitVec 32) : Fin 3 → Nat :=
  let v175 : Index := Scalar.indexCast v174
  let c0_60 : Index := 0#32
  let c0_61 : Index := 0#32
  ![v175.toNat, 0, 0]

def k0_chk29 (v174 : BitVec 32) : Prop :=
  (∀ a, (k0_off58 v174) a + S1x1x16.size a ≤ S32128x1x16.size a)
theorem k0_off58_inb : ∀ (v174 : BitVec 32) (k0_hw29 : k0_chk29 v174), ∀ a, (k0_off58 v174) a + S1x1x16.size a ≤ S32128x1x16.size a := fun v174 k0_hw29 => k0_hw29

def k0_off59 (k0_t1 : Fin k0_t1_loop.trips) : Fin 2 → Nat :=
  let c0_i32 : BitVec 32 := 0#32
  let c1_i32 : BitVec 32 := 1#32
  let arg6 : BitVec 32 := Scf.iv c0_i32 c1_i32 k0_t1
  let v179 : Index := Scalar.indexCast arg6
  let c29 : Index := 29#32
  ![v179.toNat, 29]
def k0_off60 (v180 : BitVec 32) : Fin 3 → Nat :=
  let v181 : Index := Scalar.indexCast v180
  let c0_62 : Index := 0#32
  let c0_63 : Index := 0#32
  ![v181.toNat, 0, 0]

def k0_chk30 (v180 : BitVec 32) : Prop :=
  (∀ a, (k0_off60 v180) a + S1x1x16.size a ≤ S32128x1x16.size a)
theorem k0_off60_inb : ∀ (v180 : BitVec 32) (k0_hw30 : k0_chk30 v180), ∀ a, (k0_off60 v180) a + S1x1x16.size a ≤ S32128x1x16.size a := fun v180 k0_hw30 => k0_hw30

def k0_off61 (k0_t1 : Fin k0_t1_loop.trips) : Fin 2 → Nat :=
  let c0_i32 : BitVec 32 := 0#32
  let c1_i32 : BitVec 32 := 1#32
  let arg6 : BitVec 32 := Scf.iv c0_i32 c1_i32 k0_t1
  let v185 : Index := Scalar.indexCast arg6
  let c30 : Index := 30#32
  ![v185.toNat, 30]
def k0_off62 (v186 : BitVec 32) : Fin 3 → Nat :=
  let v187 : Index := Scalar.indexCast v186
  let c0_64 : Index := 0#32
  let c0_65 : Index := 0#32
  ![v187.toNat, 0, 0]

def k0_chk31 (v186 : BitVec 32) : Prop :=
  (∀ a, (k0_off62 v186) a + S1x1x16.size a ≤ S32128x1x16.size a)
theorem k0_off62_inb : ∀ (v186 : BitVec 32) (k0_hw31 : k0_chk31 v186), ∀ a, (k0_off62 v186) a + S1x1x16.size a ≤ S32128x1x16.size a := fun v186 k0_hw31 => k0_hw31

def k0_off63 (k0_t1 : Fin k0_t1_loop.trips) : Fin 2 → Nat :=
  let c0_i32 : BitVec 32 := 0#32
  let c1_i32 : BitVec 32 := 1#32
  let arg6 : BitVec 32 := Scf.iv c0_i32 c1_i32 k0_t1
  let v191 : Index := Scalar.indexCast arg6
  let c31 : Index := 31#32
  ![v191.toNat, 31]
def k0_off64 (v192 : BitVec 32) : Fin 3 → Nat :=
  let v193 : Index := Scalar.indexCast v192
  let c0_66 : Index := 0#32
  let c0_67 : Index := 0#32
  ![v193.toNat, 0, 0]

def k0_chk32 (v192 : BitVec 32) : Prop :=
  (∀ a, (k0_off64 v192) a + S1x1x16.size a ≤ S32128x1x16.size a)
theorem k0_off64_inb : ∀ (v192 : BitVec 32) (k0_hw32 : k0_chk32 v192), ∀ a, (k0_off64 v192) a + S1x1x16.size a ≤ S32128x1x16.size a := fun v192 k0_hw32 => k0_hw32

def k0_off65 (k0_t1 : Fin k0_t1_loop.trips) : Fin 2 → Nat :=
  let c0_i32 : BitVec 32 := 0#32
  let c1_i32 : BitVec 32 := 1#32
  let arg6 : BitVec 32 := Scf.iv c0_i32 c1_i32 k0_t1
  let v197 : Index := Scalar.indexCast arg6
  let c32 : Index := 32#32
  ![v197.toNat, 32]
def k0_off66 (v198 : BitVec 32) : Fin 3 → Nat :=
  let v199 : Index := Scalar.indexCast v198
  let c0_68 : Index := 0#32
  let c0_69 : Index := 0#32
  ![v199.toNat, 0, 0]

def k0_chk33 (v198 : BitVec 32) : Prop :=
  (∀ a, (k0_off66 v198) a + S1x1x16.size a ≤ S32128x1x16.size a)
theorem k0_off66_inb : ∀ (v198 : BitVec 32) (k0_hw33 : k0_chk33 v198), ∀ a, (k0_off66 v198) a + S1x1x16.size a ≤ S32128x1x16.size a := fun v198 k0_hw33 => k0_hw33

def k0_off67 (k0_t1 : Fin k0_t1_loop.trips) : Fin 2 → Nat :=
  let c0_i32 : BitVec 32 := 0#32
  let c1_i32 : BitVec 32 := 1#32
  let arg6 : BitVec 32 := Scf.iv c0_i32 c1_i32 k0_t1
  let v203 : Index := Scalar.indexCast arg6
  let c33 : Index := 33#32
  ![v203.toNat, 33]
def k0_off68 (v204 : BitVec 32) : Fin 3 → Nat :=
  let v205 : Index := Scalar.indexCast v204
  let c0_70 : Index := 0#32
  let c0_71 : Index := 0#32
  ![v205.toNat, 0, 0]

def k0_chk34 (v204 : BitVec 32) : Prop :=
  (∀ a, (k0_off68 v204) a + S1x1x16.size a ≤ S32128x1x16.size a)
theorem k0_off68_inb : ∀ (v204 : BitVec 32) (k0_hw34 : k0_chk34 v204), ∀ a, (k0_off68 v204) a + S1x1x16.size a ≤ S32128x1x16.size a := fun v204 k0_hw34 => k0_hw34

def k0_off69 (k0_t1 : Fin k0_t1_loop.trips) : Fin 2 → Nat :=
  let c0_i32 : BitVec 32 := 0#32
  let c1_i32 : BitVec 32 := 1#32
  let arg6 : BitVec 32 := Scf.iv c0_i32 c1_i32 k0_t1
  let v209 : Index := Scalar.indexCast arg6
  let c34 : Index := 34#32
  ![v209.toNat, 34]
def k0_off70 (v210 : BitVec 32) : Fin 3 → Nat :=
  let v211 : Index := Scalar.indexCast v210
  let c0_72 : Index := 0#32
  let c0_73 : Index := 0#32
  ![v211.toNat, 0, 0]

def k0_chk35 (v210 : BitVec 32) : Prop :=
  (∀ a, (k0_off70 v210) a + S1x1x16.size a ≤ S32128x1x16.size a)
theorem k0_off70_inb : ∀ (v210 : BitVec 32) (k0_hw35 : k0_chk35 v210), ∀ a, (k0_off70 v210) a + S1x1x16.size a ≤ S32128x1x16.size a := fun v210 k0_hw35 => k0_hw35

def k0_off71 (k0_t1 : Fin k0_t1_loop.trips) : Fin 2 → Nat :=
  let c0_i32 : BitVec 32 := 0#32
  let c1_i32 : BitVec 32 := 1#32
  let arg6 : BitVec 32 := Scf.iv c0_i32 c1_i32 k0_t1
  let v215 : Index := Scalar.indexCast arg6
  let c35 : Index := 35#32
  ![v215.toNat, 35]
def k0_off72 (v216 : BitVec 32) : Fin 3 → Nat :=
  let v217 : Index := Scalar.indexCast v216
  let c0_74 : Index := 0#32
  let c0_75 : Index := 0#32
  ![v217.toNat, 0, 0]

def k0_chk36 (v216 : BitVec 32) : Prop :=
  (∀ a, (k0_off72 v216) a + S1x1x16.size a ≤ S32128x1x16.size a)
theorem k0_off72_inb : ∀ (v216 : BitVec 32) (k0_hw36 : k0_chk36 v216), ∀ a, (k0_off72 v216) a + S1x1x16.size a ≤ S32128x1x16.size a := fun v216 k0_hw36 => k0_hw36

def k0_off73 (k0_t1 : Fin k0_t1_loop.trips) : Fin 2 → Nat :=
  let c0_i32 : BitVec 32 := 0#32
  let c1_i32 : BitVec 32 := 1#32
  let arg6 : BitVec 32 := Scf.iv c0_i32 c1_i32 k0_t1
  let v221 : Index := Scalar.indexCast arg6
  let c36 : Index := 36#32
  ![v221.toNat, 36]
def k0_off74 (v222 : BitVec 32) : Fin 3 → Nat :=
  let v223 : Index := Scalar.indexCast v222
  let c0_76 : Index := 0#32
  let c0_77 : Index := 0#32
  ![v223.toNat, 0, 0]

def k0_chk37 (v222 : BitVec 32) : Prop :=
  (∀ a, (k0_off74 v222) a + S1x1x16.size a ≤ S32128x1x16.size a)
theorem k0_off74_inb : ∀ (v222 : BitVec 32) (k0_hw37 : k0_chk37 v222), ∀ a, (k0_off74 v222) a + S1x1x16.size a ≤ S32128x1x16.size a := fun v222 k0_hw37 => k0_hw37

def k0_off75 (k0_t1 : Fin k0_t1_loop.trips) : Fin 2 → Nat :=
  let c0_i32 : BitVec 32 := 0#32
  let c1_i32 : BitVec 32 := 1#32
  let arg6 : BitVec 32 := Scf.iv c0_i32 c1_i32 k0_t1
  let v227 : Index := Scalar.indexCast arg6
  let c37 : Index := 37#32
  ![v227.toNat, 37]
def k0_off76 (v228 : BitVec 32) : Fin 3 → Nat :=
  let v229 : Index := Scalar.indexCast v228
  let c0_78 : Index := 0#32
  let c0_79 : Index := 0#32
  ![v229.toNat, 0, 0]

def k0_chk38 (v228 : BitVec 32) : Prop :=
  (∀ a, (k0_off76 v228) a + S1x1x16.size a ≤ S32128x1x16.size a)
theorem k0_off76_inb : ∀ (v228 : BitVec 32) (k0_hw38 : k0_chk38 v228), ∀ a, (k0_off76 v228) a + S1x1x16.size a ≤ S32128x1x16.size a := fun v228 k0_hw38 => k0_hw38

def k0_off77 (k0_t1 : Fin k0_t1_loop.trips) : Fin 2 → Nat :=
  let c0_i32 : BitVec 32 := 0#32
  let c1_i32 : BitVec 32 := 1#32
  let arg6 : BitVec 32 := Scf.iv c0_i32 c1_i32 k0_t1
  let v233 : Index := Scalar.indexCast arg6
  let c38 : Index := 38#32
  ![v233.toNat, 38]
def k0_off78 (v234 : BitVec 32) : Fin 3 → Nat :=
  let v235 : Index := Scalar.indexCast v234
  let c0_80 : Index := 0#32
  let c0_81 : Index := 0#32
  ![v235.toNat, 0, 0]

def k0_chk39 (v234 : BitVec 32) : Prop :=
  (∀ a, (k0_off78 v234) a + S1x1x16.size a ≤ S32128x1x16.size a)
theorem k0_off78_inb : ∀ (v234 : BitVec 32) (k0_hw39 : k0_chk39 v234), ∀ a, (k0_off78 v234) a + S1x1x16.size a ≤ S32128x1x16.size a := fun v234 k0_hw39 => k0_hw39

def k0_off79 (k0_t1 : Fin k0_t1_loop.trips) : Fin 2 → Nat :=
  let c0_i32 : BitVec 32 := 0#32
  let c1_i32 : BitVec 32 := 1#32
  let arg6 : BitVec 32 := Scf.iv c0_i32 c1_i32 k0_t1
  let v239 : Index := Scalar.indexCast arg6
  let c39 : Index := 39#32
  ![v239.toNat, 39]
def k0_off80 (v240 : BitVec 32) : Fin 3 → Nat :=
  let v241 : Index := Scalar.indexCast v240
  let c0_82 : Index := 0#32
  let c0_83 : Index := 0#32
  ![v241.toNat, 0, 0]

def k0_chk40 (v240 : BitVec 32) : Prop :=
  (∀ a, (k0_off80 v240) a + S1x1x16.size a ≤ S32128x1x16.size a)
theorem k0_off80_inb : ∀ (v240 : BitVec 32) (k0_hw40 : k0_chk40 v240), ∀ a, (k0_off80 v240) a + S1x1x16.size a ≤ S32128x1x16.size a := fun v240 k0_hw40 => k0_hw40

def k0_off81 (k0_t1 : Fin k0_t1_loop.trips) : Fin 2 → Nat :=
  let c0_i32 : BitVec 32 := 0#32
  let c1_i32 : BitVec 32 := 1#32
  let arg6 : BitVec 32 := Scf.iv c0_i32 c1_i32 k0_t1
  let v245 : Index := Scalar.indexCast arg6
  let c40 : Index := 40#32
  ![v245.toNat, 40]
def k0_off82 (v246 : BitVec 32) : Fin 3 → Nat :=
  let v247 : Index := Scalar.indexCast v246
  let c0_84 : Index := 0#32
  let c0_85 : Index := 0#32
  ![v247.toNat, 0, 0]

def k0_chk41 (v246 : BitVec 32) : Prop :=
  (∀ a, (k0_off82 v246) a + S1x1x16.size a ≤ S32128x1x16.size a)
theorem k0_off82_inb : ∀ (v246 : BitVec 32) (k0_hw41 : k0_chk41 v246), ∀ a, (k0_off82 v246) a + S1x1x16.size a ≤ S32128x1x16.size a := fun v246 k0_hw41 => k0_hw41

def k0_off83 (k0_t1 : Fin k0_t1_loop.trips) : Fin 2 → Nat :=
  let c0_i32 : BitVec 32 := 0#32
  let c1_i32 : BitVec 32 := 1#32
  let arg6 : BitVec 32 := Scf.iv c0_i32 c1_i32 k0_t1
  let v251 : Index := Scalar.indexCast arg6
  let c41 : Index := 41#32
  ![v251.toNat, 41]
def k0_off84 (v252 : BitVec 32) : Fin 3 → Nat :=
  let v253 : Index := Scalar.indexCast v252
  let c0_86 : Index := 0#32
  let c0_87 : Index := 0#32
  ![v253.toNat, 0, 0]

def k0_chk42 (v252 : BitVec 32) : Prop :=
  (∀ a, (k0_off84 v252) a + S1x1x16.size a ≤ S32128x1x16.size a)
theorem k0_off84_inb : ∀ (v252 : BitVec 32) (k0_hw42 : k0_chk42 v252), ∀ a, (k0_off84 v252) a + S1x1x16.size a ≤ S32128x1x16.size a := fun v252 k0_hw42 => k0_hw42

def k0_off85 (k0_t1 : Fin k0_t1_loop.trips) : Fin 2 → Nat :=
  let c0_i32 : BitVec 32 := 0#32
  let c1_i32 : BitVec 32 := 1#32
  let arg6 : BitVec 32 := Scf.iv c0_i32 c1_i32 k0_t1
  let v257 : Index := Scalar.indexCast arg6
  let c42 : Index := 42#32
  ![v257.toNat, 42]
def k0_off86 (v258 : BitVec 32) : Fin 3 → Nat :=
  let v259 : Index := Scalar.indexCast v258
  let c0_88 : Index := 0#32
  let c0_89 : Index := 0#32
  ![v259.toNat, 0, 0]

def k0_chk43 (v258 : BitVec 32) : Prop :=
  (∀ a, (k0_off86 v258) a + S1x1x16.size a ≤ S32128x1x16.size a)
theorem k0_off86_inb : ∀ (v258 : BitVec 32) (k0_hw43 : k0_chk43 v258), ∀ a, (k0_off86 v258) a + S1x1x16.size a ≤ S32128x1x16.size a := fun v258 k0_hw43 => k0_hw43

def k0_off87 (k0_t1 : Fin k0_t1_loop.trips) : Fin 2 → Nat :=
  let c0_i32 : BitVec 32 := 0#32
  let c1_i32 : BitVec 32 := 1#32
  let arg6 : BitVec 32 := Scf.iv c0_i32 c1_i32 k0_t1
  let v263 : Index := Scalar.indexCast arg6
  let c43 : Index := 43#32
  ![v263.toNat, 43]
def k0_off88 (v264 : BitVec 32) : Fin 3 → Nat :=
  let v265 : Index := Scalar.indexCast v264
  let c0_90 : Index := 0#32
  let c0_91 : Index := 0#32
  ![v265.toNat, 0, 0]

def k0_chk44 (v264 : BitVec 32) : Prop :=
  (∀ a, (k0_off88 v264) a + S1x1x16.size a ≤ S32128x1x16.size a)
theorem k0_off88_inb : ∀ (v264 : BitVec 32) (k0_hw44 : k0_chk44 v264), ∀ a, (k0_off88 v264) a + S1x1x16.size a ≤ S32128x1x16.size a := fun v264 k0_hw44 => k0_hw44

def k0_off89 (k0_t1 : Fin k0_t1_loop.trips) : Fin 2 → Nat :=
  let c0_i32 : BitVec 32 := 0#32
  let c1_i32 : BitVec 32 := 1#32
  let arg6 : BitVec 32 := Scf.iv c0_i32 c1_i32 k0_t1
  let v269 : Index := Scalar.indexCast arg6
  let c44 : Index := 44#32
  ![v269.toNat, 44]
def k0_off90 (v270 : BitVec 32) : Fin 3 → Nat :=
  let v271 : Index := Scalar.indexCast v270
  let c0_92 : Index := 0#32
  let c0_93 : Index := 0#32
  ![v271.toNat, 0, 0]

def k0_chk45 (v270 : BitVec 32) : Prop :=
  (∀ a, (k0_off90 v270) a + S1x1x16.size a ≤ S32128x1x16.size a)
theorem k0_off90_inb : ∀ (v270 : BitVec 32) (k0_hw45 : k0_chk45 v270), ∀ a, (k0_off90 v270) a + S1x1x16.size a ≤ S32128x1x16.size a := fun v270 k0_hw45 => k0_hw45

def k0_off91 (k0_t1 : Fin k0_t1_loop.trips) : Fin 2 → Nat :=
  let c0_i32 : BitVec 32 := 0#32
  let c1_i32 : BitVec 32 := 1#32
  let arg6 : BitVec 32 := Scf.iv c0_i32 c1_i32 k0_t1
  let v275 : Index := Scalar.indexCast arg6
  let c45 : Index := 45#32
  ![v275.toNat, 45]
def k0_off92 (v276 : BitVec 32) : Fin 3 → Nat :=
  let v277 : Index := Scalar.indexCast v276
  let c0_94 : Index := 0#32
  let c0_95 : Index := 0#32
  ![v277.toNat, 0, 0]

def k0_chk46 (v276 : BitVec 32) : Prop :=
  (∀ a, (k0_off92 v276) a + S1x1x16.size a ≤ S32128x1x16.size a)
theorem k0_off92_inb : ∀ (v276 : BitVec 32) (k0_hw46 : k0_chk46 v276), ∀ a, (k0_off92 v276) a + S1x1x16.size a ≤ S32128x1x16.size a := fun v276 k0_hw46 => k0_hw46

def k0_off93 (k0_t1 : Fin k0_t1_loop.trips) : Fin 2 → Nat :=
  let c0_i32 : BitVec 32 := 0#32
  let c1_i32 : BitVec 32 := 1#32
  let arg6 : BitVec 32 := Scf.iv c0_i32 c1_i32 k0_t1
  let v281 : Index := Scalar.indexCast arg6
  let c46 : Index := 46#32
  ![v281.toNat, 46]
def k0_off94 (v282 : BitVec 32) : Fin 3 → Nat :=
  let v283 : Index := Scalar.indexCast v282
  let c0_96 : Index := 0#32
  let c0_97 : Index := 0#32
  ![v283.toNat, 0, 0]

def k0_chk47 (v282 : BitVec 32) : Prop :=
  (∀ a, (k0_off94 v282) a + S1x1x16.size a ≤ S32128x1x16.size a)
theorem k0_off94_inb : ∀ (v282 : BitVec 32) (k0_hw47 : k0_chk47 v282), ∀ a, (k0_off94 v282) a + S1x1x16.size a ≤ S32128x1x16.size a := fun v282 k0_hw47 => k0_hw47

def k0_off95 (k0_t1 : Fin k0_t1_loop.trips) : Fin 2 → Nat :=
  let c0_i32 : BitVec 32 := 0#32
  let c1_i32 : BitVec 32 := 1#32
  let arg6 : BitVec 32 := Scf.iv c0_i32 c1_i32 k0_t1
  let v287 : Index := Scalar.indexCast arg6
  let c47 : Index := 47#32
  ![v287.toNat, 47]
def k0_off96 (v288 : BitVec 32) : Fin 3 → Nat :=
  let v289 : Index := Scalar.indexCast v288
  let c0_98 : Index := 0#32
  let c0_99 : Index := 0#32
  ![v289.toNat, 0, 0]

def k0_chk48 (v288 : BitVec 32) : Prop :=
  (∀ a, (k0_off96 v288) a + S1x1x16.size a ≤ S32128x1x16.size a)
theorem k0_off96_inb : ∀ (v288 : BitVec 32) (k0_hw48 : k0_chk48 v288), ∀ a, (k0_off96 v288) a + S1x1x16.size a ≤ S32128x1x16.size a := fun v288 k0_hw48 => k0_hw48

def k0_off97 (k0_t1 : Fin k0_t1_loop.trips) : Fin 2 → Nat :=
  let c0_i32 : BitVec 32 := 0#32
  let c1_i32 : BitVec 32 := 1#32
  let arg6 : BitVec 32 := Scf.iv c0_i32 c1_i32 k0_t1
  let v293 : Index := Scalar.indexCast arg6
  let c48 : Index := 48#32
  ![v293.toNat, 48]
def k0_off98 (v294 : BitVec 32) : Fin 3 → Nat :=
  let v295 : Index := Scalar.indexCast v294
  let c0_100 : Index := 0#32
  let c0_101 : Index := 0#32
  ![v295.toNat, 0, 0]

def k0_chk49 (v294 : BitVec 32) : Prop :=
  (∀ a, (k0_off98 v294) a + S1x1x16.size a ≤ S32128x1x16.size a)
theorem k0_off98_inb : ∀ (v294 : BitVec 32) (k0_hw49 : k0_chk49 v294), ∀ a, (k0_off98 v294) a + S1x1x16.size a ≤ S32128x1x16.size a := fun v294 k0_hw49 => k0_hw49

def k0_off99 (k0_t1 : Fin k0_t1_loop.trips) : Fin 2 → Nat :=
  let c0_i32 : BitVec 32 := 0#32
  let c1_i32 : BitVec 32 := 1#32
  let arg6 : BitVec 32 := Scf.iv c0_i32 c1_i32 k0_t1
  let v299 : Index := Scalar.indexCast arg6
  let c49 : Index := 49#32
  ![v299.toNat, 49]
def k0_off100 (v300 : BitVec 32) : Fin 3 → Nat :=
  let v301 : Index := Scalar.indexCast v300
  let c0_102 : Index := 0#32
  let c0_103 : Index := 0#32
  ![v301.toNat, 0, 0]

def k0_chk50 (v300 : BitVec 32) : Prop :=
  (∀ a, (k0_off100 v300) a + S1x1x16.size a ≤ S32128x1x16.size a)
theorem k0_off100_inb : ∀ (v300 : BitVec 32) (k0_hw50 : k0_chk50 v300), ∀ a, (k0_off100 v300) a + S1x1x16.size a ≤ S32128x1x16.size a := fun v300 k0_hw50 => k0_hw50

def k0_off101 (k0_t1 : Fin k0_t1_loop.trips) : Fin 2 → Nat :=
  let c0_i32 : BitVec 32 := 0#32
  let c1_i32 : BitVec 32 := 1#32
  let arg6 : BitVec 32 := Scf.iv c0_i32 c1_i32 k0_t1
  let v305 : Index := Scalar.indexCast arg6
  let c50 : Index := 50#32
  ![v305.toNat, 50]
def k0_off102 (v306 : BitVec 32) : Fin 3 → Nat :=
  let v307 : Index := Scalar.indexCast v306
  let c0_104 : Index := 0#32
  let c0_105 : Index := 0#32
  ![v307.toNat, 0, 0]

def k0_chk51 (v306 : BitVec 32) : Prop :=
  (∀ a, (k0_off102 v306) a + S1x1x16.size a ≤ S32128x1x16.size a)
theorem k0_off102_inb : ∀ (v306 : BitVec 32) (k0_hw51 : k0_chk51 v306), ∀ a, (k0_off102 v306) a + S1x1x16.size a ≤ S32128x1x16.size a := fun v306 k0_hw51 => k0_hw51

def k0_off103 (k0_t1 : Fin k0_t1_loop.trips) : Fin 2 → Nat :=
  let c0_i32 : BitVec 32 := 0#32
  let c1_i32 : BitVec 32 := 1#32
  let arg6 : BitVec 32 := Scf.iv c0_i32 c1_i32 k0_t1
  let v311 : Index := Scalar.indexCast arg6
  let c51 : Index := 51#32
  ![v311.toNat, 51]
def k0_off104 (v312 : BitVec 32) : Fin 3 → Nat :=
  let v313 : Index := Scalar.indexCast v312
  let c0_106 : Index := 0#32
  let c0_107 : Index := 0#32
  ![v313.toNat, 0, 0]

def k0_chk52 (v312 : BitVec 32) : Prop :=
  (∀ a, (k0_off104 v312) a + S1x1x16.size a ≤ S32128x1x16.size a)
theorem k0_off104_inb : ∀ (v312 : BitVec 32) (k0_hw52 : k0_chk52 v312), ∀ a, (k0_off104 v312) a + S1x1x16.size a ≤ S32128x1x16.size a := fun v312 k0_hw52 => k0_hw52

def k0_off105 (k0_t1 : Fin k0_t1_loop.trips) : Fin 2 → Nat :=
  let c0_i32 : BitVec 32 := 0#32
  let c1_i32 : BitVec 32 := 1#32
  let arg6 : BitVec 32 := Scf.iv c0_i32 c1_i32 k0_t1
  let v317 : Index := Scalar.indexCast arg6
  let c52 : Index := 52#32
  ![v317.toNat, 52]
def k0_off106 (v318 : BitVec 32) : Fin 3 → Nat :=
  let v319 : Index := Scalar.indexCast v318
  let c0_108 : Index := 0#32
  let c0_109 : Index := 0#32
  ![v319.toNat, 0, 0]

def k0_chk53 (v318 : BitVec 32) : Prop :=
  (∀ a, (k0_off106 v318) a + S1x1x16.size a ≤ S32128x1x16.size a)
theorem k0_off106_inb : ∀ (v318 : BitVec 32) (k0_hw53 : k0_chk53 v318), ∀ a, (k0_off106 v318) a + S1x1x16.size a ≤ S32128x1x16.size a := fun v318 k0_hw53 => k0_hw53

def k0_off107 (k0_t1 : Fin k0_t1_loop.trips) : Fin 2 → Nat :=
  let c0_i32 : BitVec 32 := 0#32
  let c1_i32 : BitVec 32 := 1#32
  let arg6 : BitVec 32 := Scf.iv c0_i32 c1_i32 k0_t1
  let v323 : Index := Scalar.indexCast arg6
  let c53 : Index := 53#32
  ![v323.toNat, 53]
def k0_off108 (v324 : BitVec 32) : Fin 3 → Nat :=
  let v325 : Index := Scalar.indexCast v324
  let c0_110 : Index := 0#32
  let c0_111 : Index := 0#32
  ![v325.toNat, 0, 0]

def k0_chk54 (v324 : BitVec 32) : Prop :=
  (∀ a, (k0_off108 v324) a + S1x1x16.size a ≤ S32128x1x16.size a)
theorem k0_off108_inb : ∀ (v324 : BitVec 32) (k0_hw54 : k0_chk54 v324), ∀ a, (k0_off108 v324) a + S1x1x16.size a ≤ S32128x1x16.size a := fun v324 k0_hw54 => k0_hw54

def k0_off109 (k0_t1 : Fin k0_t1_loop.trips) : Fin 2 → Nat :=
  let c0_i32 : BitVec 32 := 0#32
  let c1_i32 : BitVec 32 := 1#32
  let arg6 : BitVec 32 := Scf.iv c0_i32 c1_i32 k0_t1
  let v329 : Index := Scalar.indexCast arg6
  let c54 : Index := 54#32
  ![v329.toNat, 54]
def k0_off110 (v330 : BitVec 32) : Fin 3 → Nat :=
  let v331 : Index := Scalar.indexCast v330
  let c0_112 : Index := 0#32
  let c0_113 : Index := 0#32
  ![v331.toNat, 0, 0]

def k0_chk55 (v330 : BitVec 32) : Prop :=
  (∀ a, (k0_off110 v330) a + S1x1x16.size a ≤ S32128x1x16.size a)
theorem k0_off110_inb : ∀ (v330 : BitVec 32) (k0_hw55 : k0_chk55 v330), ∀ a, (k0_off110 v330) a + S1x1x16.size a ≤ S32128x1x16.size a := fun v330 k0_hw55 => k0_hw55

def k0_off111 (k0_t1 : Fin k0_t1_loop.trips) : Fin 2 → Nat :=
  let c0_i32 : BitVec 32 := 0#32
  let c1_i32 : BitVec 32 := 1#32
  let arg6 : BitVec 32 := Scf.iv c0_i32 c1_i32 k0_t1
  let v335 : Index := Scalar.indexCast arg6
  let c55 : Index := 55#32
  ![v335.toNat, 55]
def k0_off112 (v336 : BitVec 32) : Fin 3 → Nat :=
  let v337 : Index := Scalar.indexCast v336
  let c0_114 : Index := 0#32
  let c0_115 : Index := 0#32
  ![v337.toNat, 0, 0]

def k0_chk56 (v336 : BitVec 32) : Prop :=
  (∀ a, (k0_off112 v336) a + S1x1x16.size a ≤ S32128x1x16.size a)
theorem k0_off112_inb : ∀ (v336 : BitVec 32) (k0_hw56 : k0_chk56 v336), ∀ a, (k0_off112 v336) a + S1x1x16.size a ≤ S32128x1x16.size a := fun v336 k0_hw56 => k0_hw56

def k0_off113 (k0_t1 : Fin k0_t1_loop.trips) : Fin 2 → Nat :=
  let c0_i32 : BitVec 32 := 0#32
  let c1_i32 : BitVec 32 := 1#32
  let arg6 : BitVec 32 := Scf.iv c0_i32 c1_i32 k0_t1
  let v341 : Index := Scalar.indexCast arg6
  let c56 : Index := 56#32
  ![v341.toNat, 56]
def k0_off114 (v342 : BitVec 32) : Fin 3 → Nat :=
  let v343 : Index := Scalar.indexCast v342
  let c0_116 : Index := 0#32
  let c0_117 : Index := 0#32
  ![v343.toNat, 0, 0]

def k0_chk57 (v342 : BitVec 32) : Prop :=
  (∀ a, (k0_off114 v342) a + S1x1x16.size a ≤ S32128x1x16.size a)
theorem k0_off114_inb : ∀ (v342 : BitVec 32) (k0_hw57 : k0_chk57 v342), ∀ a, (k0_off114 v342) a + S1x1x16.size a ≤ S32128x1x16.size a := fun v342 k0_hw57 => k0_hw57

def k0_off115 (k0_t1 : Fin k0_t1_loop.trips) : Fin 2 → Nat :=
  let c0_i32 : BitVec 32 := 0#32
  let c1_i32 : BitVec 32 := 1#32
  let arg6 : BitVec 32 := Scf.iv c0_i32 c1_i32 k0_t1
  let v347 : Index := Scalar.indexCast arg6
  let c57 : Index := 57#32
  ![v347.toNat, 57]
def k0_off116 (v348 : BitVec 32) : Fin 3 → Nat :=
  let v349 : Index := Scalar.indexCast v348
  let c0_118 : Index := 0#32
  let c0_119 : Index := 0#32
  ![v349.toNat, 0, 0]

def k0_chk58 (v348 : BitVec 32) : Prop :=
  (∀ a, (k0_off116 v348) a + S1x1x16.size a ≤ S32128x1x16.size a)
theorem k0_off116_inb : ∀ (v348 : BitVec 32) (k0_hw58 : k0_chk58 v348), ∀ a, (k0_off116 v348) a + S1x1x16.size a ≤ S32128x1x16.size a := fun v348 k0_hw58 => k0_hw58

def k0_off117 (k0_t1 : Fin k0_t1_loop.trips) : Fin 2 → Nat :=
  let c0_i32 : BitVec 32 := 0#32
  let c1_i32 : BitVec 32 := 1#32
  let arg6 : BitVec 32 := Scf.iv c0_i32 c1_i32 k0_t1
  let v353 : Index := Scalar.indexCast arg6
  let c58 : Index := 58#32
  ![v353.toNat, 58]
def k0_off118 (v354 : BitVec 32) : Fin 3 → Nat :=
  let v355 : Index := Scalar.indexCast v354
  let c0_120 : Index := 0#32
  let c0_121 : Index := 0#32
  ![v355.toNat, 0, 0]

def k0_chk59 (v354 : BitVec 32) : Prop :=
  (∀ a, (k0_off118 v354) a + S1x1x16.size a ≤ S32128x1x16.size a)
theorem k0_off118_inb : ∀ (v354 : BitVec 32) (k0_hw59 : k0_chk59 v354), ∀ a, (k0_off118 v354) a + S1x1x16.size a ≤ S32128x1x16.size a := fun v354 k0_hw59 => k0_hw59

def k0_off119 (k0_t1 : Fin k0_t1_loop.trips) : Fin 2 → Nat :=
  let c0_i32 : BitVec 32 := 0#32
  let c1_i32 : BitVec 32 := 1#32
  let arg6 : BitVec 32 := Scf.iv c0_i32 c1_i32 k0_t1
  let v359 : Index := Scalar.indexCast arg6
  let c59 : Index := 59#32
  ![v359.toNat, 59]
def k0_off120 (v360 : BitVec 32) : Fin 3 → Nat :=
  let v361 : Index := Scalar.indexCast v360
  let c0_122 : Index := 0#32
  let c0_123 : Index := 0#32
  ![v361.toNat, 0, 0]

def k0_chk60 (v360 : BitVec 32) : Prop :=
  (∀ a, (k0_off120 v360) a + S1x1x16.size a ≤ S32128x1x16.size a)
theorem k0_off120_inb : ∀ (v360 : BitVec 32) (k0_hw60 : k0_chk60 v360), ∀ a, (k0_off120 v360) a + S1x1x16.size a ≤ S32128x1x16.size a := fun v360 k0_hw60 => k0_hw60

def k0_off121 (k0_t1 : Fin k0_t1_loop.trips) : Fin 2 → Nat :=
  let c0_i32 : BitVec 32 := 0#32
  let c1_i32 : BitVec 32 := 1#32
  let arg6 : BitVec 32 := Scf.iv c0_i32 c1_i32 k0_t1
  let v365 : Index := Scalar.indexCast arg6
  let c60 : Index := 60#32
  ![v365.toNat, 60]
def k0_off122 (v366 : BitVec 32) : Fin 3 → Nat :=
  let v367 : Index := Scalar.indexCast v366
  let c0_124 : Index := 0#32
  let c0_125 : Index := 0#32
  ![v367.toNat, 0, 0]

def k0_chk61 (v366 : BitVec 32) : Prop :=
  (∀ a, (k0_off122 v366) a + S1x1x16.size a ≤ S32128x1x16.size a)
theorem k0_off122_inb : ∀ (v366 : BitVec 32) (k0_hw61 : k0_chk61 v366), ∀ a, (k0_off122 v366) a + S1x1x16.size a ≤ S32128x1x16.size a := fun v366 k0_hw61 => k0_hw61

def k0_off123 (k0_t1 : Fin k0_t1_loop.trips) : Fin 2 → Nat :=
  let c0_i32 : BitVec 32 := 0#32
  let c1_i32 : BitVec 32 := 1#32
  let arg6 : BitVec 32 := Scf.iv c0_i32 c1_i32 k0_t1
  let v371 : Index := Scalar.indexCast arg6
  let c61 : Index := 61#32
  ![v371.toNat, 61]
def k0_off124 (v372 : BitVec 32) : Fin 3 → Nat :=
  let v373 : Index := Scalar.indexCast v372
  let c0_126 : Index := 0#32
  let c0_127 : Index := 0#32
  ![v373.toNat, 0, 0]

def k0_chk62 (v372 : BitVec 32) : Prop :=
  (∀ a, (k0_off124 v372) a + S1x1x16.size a ≤ S32128x1x16.size a)
theorem k0_off124_inb : ∀ (v372 : BitVec 32) (k0_hw62 : k0_chk62 v372), ∀ a, (k0_off124 v372) a + S1x1x16.size a ≤ S32128x1x16.size a := fun v372 k0_hw62 => k0_hw62

def k0_off125 (k0_t1 : Fin k0_t1_loop.trips) : Fin 2 → Nat :=
  let c0_i32 : BitVec 32 := 0#32
  let c1_i32 : BitVec 32 := 1#32
  let arg6 : BitVec 32 := Scf.iv c0_i32 c1_i32 k0_t1
  let v377 : Index := Scalar.indexCast arg6
  let c62 : Index := 62#32
  ![v377.toNat, 62]
def k0_off126 (v378 : BitVec 32) : Fin 3 → Nat :=
  let v379 : Index := Scalar.indexCast v378
  let c0_128 : Index := 0#32
  let c0_129 : Index := 0#32
  ![v379.toNat, 0, 0]

def k0_chk63 (v378 : BitVec 32) : Prop :=
  (∀ a, (k0_off126 v378) a + S1x1x16.size a ≤ S32128x1x16.size a)
theorem k0_off126_inb : ∀ (v378 : BitVec 32) (k0_hw63 : k0_chk63 v378), ∀ a, (k0_off126 v378) a + S1x1x16.size a ≤ S32128x1x16.size a := fun v378 k0_hw63 => k0_hw63

def k0_off127 (k0_t1 : Fin k0_t1_loop.trips) : Fin 2 → Nat :=
  let c0_i32 : BitVec 32 := 0#32
  let c1_i32 : BitVec 32 := 1#32
  let arg6 : BitVec 32 := Scf.iv c0_i32 c1_i32 k0_t1
  let v383 : Index := Scalar.indexCast arg6
  let c63 : Index := 63#32
  ![v383.toNat, 63]
def k0_off128 (v384 : BitVec 32) : Fin 3 → Nat :=
  let v385 : Index := Scalar.indexCast v384
  let c0_130 : Index := 0#32
  let c0_131 : Index := 0#32
  ![v385.toNat, 0, 0]

def k0_chk64 (v384 : BitVec 32) : Prop :=
  (∀ a, (k0_off128 v384) a + S1x1x16.size a ≤ S32128x1x16.size a)
theorem k0_off128_inb : ∀ (v384 : BitVec 32) (k0_hw64 : k0_chk64 v384), ∀ a, (k0_off128 v384) a + S1x1x16.size a ≤ S32128x1x16.size a := fun v384 k0_hw64 => k0_hw64

def k0_off129 (k0_t1 : Fin k0_t1_loop.trips) : Fin 2 → Nat :=
  let c0_i32 : BitVec 32 := 0#32
  let c1_i32 : BitVec 32 := 1#32
  let arg6 : BitVec 32 := Scf.iv c0_i32 c1_i32 k0_t1
  let v389 : Index := Scalar.indexCast arg6
  let c64 : Index := 64#32
  ![v389.toNat, 64]
def k0_off130 (v390 : BitVec 32) : Fin 3 → Nat :=
  let v391 : Index := Scalar.indexCast v390
  let c0_132 : Index := 0#32
  let c0_133 : Index := 0#32
  ![v391.toNat, 0, 0]

def k0_chk65 (v390 : BitVec 32) : Prop :=
  (∀ a, (k0_off130 v390) a + S1x1x16.size a ≤ S32128x1x16.size a)
theorem k0_off130_inb : ∀ (v390 : BitVec 32) (k0_hw65 : k0_chk65 v390), ∀ a, (k0_off130 v390) a + S1x1x16.size a ≤ S32128x1x16.size a := fun v390 k0_hw65 => k0_hw65

def k0_off131 (k0_t1 : Fin k0_t1_loop.trips) : Fin 2 → Nat :=
  let c0_i32 : BitVec 32 := 0#32
  let c1_i32 : BitVec 32 := 1#32
  let arg6 : BitVec 32 := Scf.iv c0_i32 c1_i32 k0_t1
  let v395 : Index := Scalar.indexCast arg6
  let c65 : Index := 65#32
  ![v395.toNat, 65]
def k0_off132 (v396 : BitVec 32) : Fin 3 → Nat :=
  let v397 : Index := Scalar.indexCast v396
  let c0_134 : Index := 0#32
  let c0_135 : Index := 0#32
  ![v397.toNat, 0, 0]

def k0_chk66 (v396 : BitVec 32) : Prop :=
  (∀ a, (k0_off132 v396) a + S1x1x16.size a ≤ S32128x1x16.size a)
theorem k0_off132_inb : ∀ (v396 : BitVec 32) (k0_hw66 : k0_chk66 v396), ∀ a, (k0_off132 v396) a + S1x1x16.size a ≤ S32128x1x16.size a := fun v396 k0_hw66 => k0_hw66

def k0_off133 (k0_t1 : Fin k0_t1_loop.trips) : Fin 2 → Nat :=
  let c0_i32 : BitVec 32 := 0#32
  let c1_i32 : BitVec 32 := 1#32
  let arg6 : BitVec 32 := Scf.iv c0_i32 c1_i32 k0_t1
  let v401 : Index := Scalar.indexCast arg6
  let c66 : Index := 66#32
  ![v401.toNat, 66]
def k0_off134 (v402 : BitVec 32) : Fin 3 → Nat :=
  let v403 : Index := Scalar.indexCast v402
  let c0_136 : Index := 0#32
  let c0_137 : Index := 0#32
  ![v403.toNat, 0, 0]

def k0_chk67 (v402 : BitVec 32) : Prop :=
  (∀ a, (k0_off134 v402) a + S1x1x16.size a ≤ S32128x1x16.size a)
theorem k0_off134_inb : ∀ (v402 : BitVec 32) (k0_hw67 : k0_chk67 v402), ∀ a, (k0_off134 v402) a + S1x1x16.size a ≤ S32128x1x16.size a := fun v402 k0_hw67 => k0_hw67

def k0_off135 (k0_t1 : Fin k0_t1_loop.trips) : Fin 2 → Nat :=
  let c0_i32 : BitVec 32 := 0#32
  let c1_i32 : BitVec 32 := 1#32
  let arg6 : BitVec 32 := Scf.iv c0_i32 c1_i32 k0_t1
  let v407 : Index := Scalar.indexCast arg6
  let c67 : Index := 67#32
  ![v407.toNat, 67]
def k0_off136 (v408 : BitVec 32) : Fin 3 → Nat :=
  let v409 : Index := Scalar.indexCast v408
  let c0_138 : Index := 0#32
  let c0_139 : Index := 0#32
  ![v409.toNat, 0, 0]

def k0_chk68 (v408 : BitVec 32) : Prop :=
  (∀ a, (k0_off136 v408) a + S1x1x16.size a ≤ S32128x1x16.size a)
theorem k0_off136_inb : ∀ (v408 : BitVec 32) (k0_hw68 : k0_chk68 v408), ∀ a, (k0_off136 v408) a + S1x1x16.size a ≤ S32128x1x16.size a := fun v408 k0_hw68 => k0_hw68

def k0_off137 (k0_t1 : Fin k0_t1_loop.trips) : Fin 2 → Nat :=
  let c0_i32 : BitVec 32 := 0#32
  let c1_i32 : BitVec 32 := 1#32
  let arg6 : BitVec 32 := Scf.iv c0_i32 c1_i32 k0_t1
  let v413 : Index := Scalar.indexCast arg6
  let c68 : Index := 68#32
  ![v413.toNat, 68]
def k0_off138 (v414 : BitVec 32) : Fin 3 → Nat :=
  let v415 : Index := Scalar.indexCast v414
  let c0_140 : Index := 0#32
  let c0_141 : Index := 0#32
  ![v415.toNat, 0, 0]

def k0_chk69 (v414 : BitVec 32) : Prop :=
  (∀ a, (k0_off138 v414) a + S1x1x16.size a ≤ S32128x1x16.size a)
theorem k0_off138_inb : ∀ (v414 : BitVec 32) (k0_hw69 : k0_chk69 v414), ∀ a, (k0_off138 v414) a + S1x1x16.size a ≤ S32128x1x16.size a := fun v414 k0_hw69 => k0_hw69

def k0_off139 (k0_t1 : Fin k0_t1_loop.trips) : Fin 2 → Nat :=
  let c0_i32 : BitVec 32 := 0#32
  let c1_i32 : BitVec 32 := 1#32
  let arg6 : BitVec 32 := Scf.iv c0_i32 c1_i32 k0_t1
  let v419 : Index := Scalar.indexCast arg6
  let c69 : Index := 69#32
  ![v419.toNat, 69]
def k0_off140 (v420 : BitVec 32) : Fin 3 → Nat :=
  let v421 : Index := Scalar.indexCast v420
  let c0_142 : Index := 0#32
  let c0_143 : Index := 0#32
  ![v421.toNat, 0, 0]

def k0_chk70 (v420 : BitVec 32) : Prop :=
  (∀ a, (k0_off140 v420) a + S1x1x16.size a ≤ S32128x1x16.size a)
theorem k0_off140_inb : ∀ (v420 : BitVec 32) (k0_hw70 : k0_chk70 v420), ∀ a, (k0_off140 v420) a + S1x1x16.size a ≤ S32128x1x16.size a := fun v420 k0_hw70 => k0_hw70

def k0_off141 (k0_t1 : Fin k0_t1_loop.trips) : Fin 2 → Nat :=
  let c0_i32 : BitVec 32 := 0#32
  let c1_i32 : BitVec 32 := 1#32
  let arg6 : BitVec 32 := Scf.iv c0_i32 c1_i32 k0_t1
  let v425 : Index := Scalar.indexCast arg6
  let c70 : Index := 70#32
  ![v425.toNat, 70]
def k0_off142 (v426 : BitVec 32) : Fin 3 → Nat :=
  let v427 : Index := Scalar.indexCast v426
  let c0_144 : Index := 0#32
  let c0_145 : Index := 0#32
  ![v427.toNat, 0, 0]

def k0_chk71 (v426 : BitVec 32) : Prop :=
  (∀ a, (k0_off142 v426) a + S1x1x16.size a ≤ S32128x1x16.size a)
theorem k0_off142_inb : ∀ (v426 : BitVec 32) (k0_hw71 : k0_chk71 v426), ∀ a, (k0_off142 v426) a + S1x1x16.size a ≤ S32128x1x16.size a := fun v426 k0_hw71 => k0_hw71

def k0_off143 (k0_t1 : Fin k0_t1_loop.trips) : Fin 2 → Nat :=
  let c0_i32 : BitVec 32 := 0#32
  let c1_i32 : BitVec 32 := 1#32
  let arg6 : BitVec 32 := Scf.iv c0_i32 c1_i32 k0_t1
  let v431 : Index := Scalar.indexCast arg6
  let c71 : Index := 71#32
  ![v431.toNat, 71]
def k0_off144 (v432 : BitVec 32) : Fin 3 → Nat :=
  let v433 : Index := Scalar.indexCast v432
  let c0_146 : Index := 0#32
  let c0_147 : Index := 0#32
  ![v433.toNat, 0, 0]

def k0_chk72 (v432 : BitVec 32) : Prop :=
  (∀ a, (k0_off144 v432) a + S1x1x16.size a ≤ S32128x1x16.size a)
theorem k0_off144_inb : ∀ (v432 : BitVec 32) (k0_hw72 : k0_chk72 v432), ∀ a, (k0_off144 v432) a + S1x1x16.size a ≤ S32128x1x16.size a := fun v432 k0_hw72 => k0_hw72

def k0_off145 (k0_t1 : Fin k0_t1_loop.trips) : Fin 2 → Nat :=
  let c0_i32 : BitVec 32 := 0#32
  let c1_i32 : BitVec 32 := 1#32
  let arg6 : BitVec 32 := Scf.iv c0_i32 c1_i32 k0_t1
  let v437 : Index := Scalar.indexCast arg6
  let c72 : Index := 72#32
  ![v437.toNat, 72]
def k0_off146 (v438 : BitVec 32) : Fin 3 → Nat :=
  let v439 : Index := Scalar.indexCast v438
  let c0_148 : Index := 0#32
  let c0_149 : Index := 0#32
  ![v439.toNat, 0, 0]

def k0_chk73 (v438 : BitVec 32) : Prop :=
  (∀ a, (k0_off146 v438) a + S1x1x16.size a ≤ S32128x1x16.size a)
theorem k0_off146_inb : ∀ (v438 : BitVec 32) (k0_hw73 : k0_chk73 v438), ∀ a, (k0_off146 v438) a + S1x1x16.size a ≤ S32128x1x16.size a := fun v438 k0_hw73 => k0_hw73

def k0_off147 (k0_t1 : Fin k0_t1_loop.trips) : Fin 2 → Nat :=
  let c0_i32 : BitVec 32 := 0#32
  let c1_i32 : BitVec 32 := 1#32
  let arg6 : BitVec 32 := Scf.iv c0_i32 c1_i32 k0_t1
  let v443 : Index := Scalar.indexCast arg6
  let c73 : Index := 73#32
  ![v443.toNat, 73]
def k0_off148 (v444 : BitVec 32) : Fin 3 → Nat :=
  let v445 : Index := Scalar.indexCast v444
  let c0_150 : Index := 0#32
  let c0_151 : Index := 0#32
  ![v445.toNat, 0, 0]

def k0_chk74 (v444 : BitVec 32) : Prop :=
  (∀ a, (k0_off148 v444) a + S1x1x16.size a ≤ S32128x1x16.size a)
theorem k0_off148_inb : ∀ (v444 : BitVec 32) (k0_hw74 : k0_chk74 v444), ∀ a, (k0_off148 v444) a + S1x1x16.size a ≤ S32128x1x16.size a := fun v444 k0_hw74 => k0_hw74

def k0_off149 (k0_t1 : Fin k0_t1_loop.trips) : Fin 2 → Nat :=
  let c0_i32 : BitVec 32 := 0#32
  let c1_i32 : BitVec 32 := 1#32
  let arg6 : BitVec 32 := Scf.iv c0_i32 c1_i32 k0_t1
  let v449 : Index := Scalar.indexCast arg6
  let c74 : Index := 74#32
  ![v449.toNat, 74]
def k0_off150 (v450 : BitVec 32) : Fin 3 → Nat :=
  let v451 : Index := Scalar.indexCast v450
  let c0_152 : Index := 0#32
  let c0_153 : Index := 0#32
  ![v451.toNat, 0, 0]

def k0_chk75 (v450 : BitVec 32) : Prop :=
  (∀ a, (k0_off150 v450) a + S1x1x16.size a ≤ S32128x1x16.size a)
theorem k0_off150_inb : ∀ (v450 : BitVec 32) (k0_hw75 : k0_chk75 v450), ∀ a, (k0_off150 v450) a + S1x1x16.size a ≤ S32128x1x16.size a := fun v450 k0_hw75 => k0_hw75

def k0_off151 (k0_t1 : Fin k0_t1_loop.trips) : Fin 2 → Nat :=
  let c0_i32 : BitVec 32 := 0#32
  let c1_i32 : BitVec 32 := 1#32
  let arg6 : BitVec 32 := Scf.iv c0_i32 c1_i32 k0_t1
  let v455 : Index := Scalar.indexCast arg6
  let c75 : Index := 75#32
  ![v455.toNat, 75]
def k0_off152 (v456 : BitVec 32) : Fin 3 → Nat :=
  let v457 : Index := Scalar.indexCast v456
  let c0_154 : Index := 0#32
  let c0_155 : Index := 0#32
  ![v457.toNat, 0, 0]

def k0_chk76 (v456 : BitVec 32) : Prop :=
  (∀ a, (k0_off152 v456) a + S1x1x16.size a ≤ S32128x1x16.size a)
theorem k0_off152_inb : ∀ (v456 : BitVec 32) (k0_hw76 : k0_chk76 v456), ∀ a, (k0_off152 v456) a + S1x1x16.size a ≤ S32128x1x16.size a := fun v456 k0_hw76 => k0_hw76

def k0_off153 (k0_t1 : Fin k0_t1_loop.trips) : Fin 2 → Nat :=
  let c0_i32 : BitVec 32 := 0#32
  let c1_i32 : BitVec 32 := 1#32
  let arg6 : BitVec 32 := Scf.iv c0_i32 c1_i32 k0_t1
  let v461 : Index := Scalar.indexCast arg6
  let c76 : Index := 76#32
  ![v461.toNat, 76]
def k0_off154 (v462 : BitVec 32) : Fin 3 → Nat :=
  let v463 : Index := Scalar.indexCast v462
  let c0_156 : Index := 0#32
  let c0_157 : Index := 0#32
  ![v463.toNat, 0, 0]

def k0_chk77 (v462 : BitVec 32) : Prop :=
  (∀ a, (k0_off154 v462) a + S1x1x16.size a ≤ S32128x1x16.size a)
theorem k0_off154_inb : ∀ (v462 : BitVec 32) (k0_hw77 : k0_chk77 v462), ∀ a, (k0_off154 v462) a + S1x1x16.size a ≤ S32128x1x16.size a := fun v462 k0_hw77 => k0_hw77

def k0_off155 (k0_t1 : Fin k0_t1_loop.trips) : Fin 2 → Nat :=
  let c0_i32 : BitVec 32 := 0#32
  let c1_i32 : BitVec 32 := 1#32
  let arg6 : BitVec 32 := Scf.iv c0_i32 c1_i32 k0_t1
  let v467 : Index := Scalar.indexCast arg6
  let c77 : Index := 77#32
  ![v467.toNat, 77]
def k0_off156 (v468 : BitVec 32) : Fin 3 → Nat :=
  let v469 : Index := Scalar.indexCast v468
  let c0_158 : Index := 0#32
  let c0_159 : Index := 0#32
  ![v469.toNat, 0, 0]

def k0_chk78 (v468 : BitVec 32) : Prop :=
  (∀ a, (k0_off156 v468) a + S1x1x16.size a ≤ S32128x1x16.size a)
theorem k0_off156_inb : ∀ (v468 : BitVec 32) (k0_hw78 : k0_chk78 v468), ∀ a, (k0_off156 v468) a + S1x1x16.size a ≤ S32128x1x16.size a := fun v468 k0_hw78 => k0_hw78

def k0_off157 (k0_t1 : Fin k0_t1_loop.trips) : Fin 2 → Nat :=
  let c0_i32 : BitVec 32 := 0#32
  let c1_i32 : BitVec 32 := 1#32
  let arg6 : BitVec 32 := Scf.iv c0_i32 c1_i32 k0_t1
  let v473 : Index := Scalar.indexCast arg6
  let c78 : Index := 78#32
  ![v473.toNat, 78]
def k0_off158 (v474 : BitVec 32) : Fin 3 → Nat :=
  let v475 : Index := Scalar.indexCast v474
  let c0_160 : Index := 0#32
  let c0_161 : Index := 0#32
  ![v475.toNat, 0, 0]

def k0_chk79 (v474 : BitVec 32) : Prop :=
  (∀ a, (k0_off158 v474) a + S1x1x16.size a ≤ S32128x1x16.size a)
theorem k0_off158_inb : ∀ (v474 : BitVec 32) (k0_hw79 : k0_chk79 v474), ∀ a, (k0_off158 v474) a + S1x1x16.size a ≤ S32128x1x16.size a := fun v474 k0_hw79 => k0_hw79

def k0_off159 (k0_t1 : Fin k0_t1_loop.trips) : Fin 2 → Nat :=
  let c0_i32 : BitVec 32 := 0#32
  let c1_i32 : BitVec 32 := 1#32
  let arg6 : BitVec 32 := Scf.iv c0_i32 c1_i32 k0_t1
  let v479 : Index := Scalar.indexCast arg6
  let c79 : Index := 79#32
  ![v479.toNat, 79]
def k0_off160 (v480 : BitVec 32) : Fin 3 → Nat :=
  let v481 : Index := Scalar.indexCast v480
  let c0_162 : Index := 0#32
  let c0_163 : Index := 0#32
  ![v481.toNat, 0, 0]

def k0_chk80 (v480 : BitVec 32) : Prop :=
  (∀ a, (k0_off160 v480) a + S1x1x16.size a ≤ S32128x1x16.size a)
theorem k0_off160_inb : ∀ (v480 : BitVec 32) (k0_hw80 : k0_chk80 v480), ∀ a, (k0_off160 v480) a + S1x1x16.size a ≤ S32128x1x16.size a := fun v480 k0_hw80 => k0_hw80

def k0_off161 (k0_t1 : Fin k0_t1_loop.trips) : Fin 2 → Nat :=
  let c0_i32 : BitVec 32 := 0#32
  let c1_i32 : BitVec 32 := 1#32
  let arg6 : BitVec 32 := Scf.iv c0_i32 c1_i32 k0_t1
  let v485 : Index := Scalar.indexCast arg6
  let c80 : Index := 80#32
  ![v485.toNat, 80]
def k0_off162 (v486 : BitVec 32) : Fin 3 → Nat :=
  let v487 : Index := Scalar.indexCast v486
  let c0_164 : Index := 0#32
  let c0_165 : Index := 0#32
  ![v487.toNat, 0, 0]

def k0_chk81 (v486 : BitVec 32) : Prop :=
  (∀ a, (k0_off162 v486) a + S1x1x16.size a ≤ S32128x1x16.size a)
theorem k0_off162_inb : ∀ (v486 : BitVec 32) (k0_hw81 : k0_chk81 v486), ∀ a, (k0_off162 v486) a + S1x1x16.size a ≤ S32128x1x16.size a := fun v486 k0_hw81 => k0_hw81

def k0_off163 (k0_t1 : Fin k0_t1_loop.trips) : Fin 2 → Nat :=
  let c0_i32 : BitVec 32 := 0#32
  let c1_i32 : BitVec 32 := 1#32
  let arg6 : BitVec 32 := Scf.iv c0_i32 c1_i32 k0_t1
  let v491 : Index := Scalar.indexCast arg6
  let c81 : Index := 81#32
  ![v491.toNat, 81]
def k0_off164 (v492 : BitVec 32) : Fin 3 → Nat :=
  let v493 : Index := Scalar.indexCast v492
  let c0_166 : Index := 0#32
  let c0_167 : Index := 0#32
  ![v493.toNat, 0, 0]

def k0_chk82 (v492 : BitVec 32) : Prop :=
  (∀ a, (k0_off164 v492) a + S1x1x16.size a ≤ S32128x1x16.size a)
theorem k0_off164_inb : ∀ (v492 : BitVec 32) (k0_hw82 : k0_chk82 v492), ∀ a, (k0_off164 v492) a + S1x1x16.size a ≤ S32128x1x16.size a := fun v492 k0_hw82 => k0_hw82

def k0_off165 (k0_t1 : Fin k0_t1_loop.trips) : Fin 2 → Nat :=
  let c0_i32 : BitVec 32 := 0#32
  let c1_i32 : BitVec 32 := 1#32
  let arg6 : BitVec 32 := Scf.iv c0_i32 c1_i32 k0_t1
  let v497 : Index := Scalar.indexCast arg6
  let c82 : Index := 82#32
  ![v497.toNat, 82]
def k0_off166 (v498 : BitVec 32) : Fin 3 → Nat :=
  let v499 : Index := Scalar.indexCast v498
  let c0_168 : Index := 0#32
  let c0_169 : Index := 0#32
  ![v499.toNat, 0, 0]

def k0_chk83 (v498 : BitVec 32) : Prop :=
  (∀ a, (k0_off166 v498) a + S1x1x16.size a ≤ S32128x1x16.size a)
theorem k0_off166_inb : ∀ (v498 : BitVec 32) (k0_hw83 : k0_chk83 v498), ∀ a, (k0_off166 v498) a + S1x1x16.size a ≤ S32128x1x16.size a := fun v498 k0_hw83 => k0_hw83

def k0_off167 (k0_t1 : Fin k0_t1_loop.trips) : Fin 2 → Nat :=
  let c0_i32 : BitVec 32 := 0#32
  let c1_i32 : BitVec 32 := 1#32
  let arg6 : BitVec 32 := Scf.iv c0_i32 c1_i32 k0_t1
  let v503 : Index := Scalar.indexCast arg6
  let c83 : Index := 83#32
  ![v503.toNat, 83]
def k0_off168 (v504 : BitVec 32) : Fin 3 → Nat :=
  let v505 : Index := Scalar.indexCast v504
  let c0_170 : Index := 0#32
  let c0_171 : Index := 0#32
  ![v505.toNat, 0, 0]

def k0_chk84 (v504 : BitVec 32) : Prop :=
  (∀ a, (k0_off168 v504) a + S1x1x16.size a ≤ S32128x1x16.size a)
theorem k0_off168_inb : ∀ (v504 : BitVec 32) (k0_hw84 : k0_chk84 v504), ∀ a, (k0_off168 v504) a + S1x1x16.size a ≤ S32128x1x16.size a := fun v504 k0_hw84 => k0_hw84

def k0_off169 (k0_t1 : Fin k0_t1_loop.trips) : Fin 2 → Nat :=
  let c0_i32 : BitVec 32 := 0#32
  let c1_i32 : BitVec 32 := 1#32
  let arg6 : BitVec 32 := Scf.iv c0_i32 c1_i32 k0_t1
  let v509 : Index := Scalar.indexCast arg6
  let c84 : Index := 84#32
  ![v509.toNat, 84]
def k0_off170 (v510 : BitVec 32) : Fin 3 → Nat :=
  let v511 : Index := Scalar.indexCast v510
  let c0_172 : Index := 0#32
  let c0_173 : Index := 0#32
  ![v511.toNat, 0, 0]

def k0_chk85 (v510 : BitVec 32) : Prop :=
  (∀ a, (k0_off170 v510) a + S1x1x16.size a ≤ S32128x1x16.size a)
theorem k0_off170_inb : ∀ (v510 : BitVec 32) (k0_hw85 : k0_chk85 v510), ∀ a, (k0_off170 v510) a + S1x1x16.size a ≤ S32128x1x16.size a := fun v510 k0_hw85 => k0_hw85

def k0_off171 (k0_t1 : Fin k0_t1_loop.trips) : Fin 2 → Nat :=
  let c0_i32 : BitVec 32 := 0#32
  let c1_i32 : BitVec 32 := 1#32
  let arg6 : BitVec 32 := Scf.iv c0_i32 c1_i32 k0_t1
  let v515 : Index := Scalar.indexCast arg6
  let c85 : Index := 85#32
  ![v515.toNat, 85]
def k0_off172 (v516 : BitVec 32) : Fin 3 → Nat :=
  let v517 : Index := Scalar.indexCast v516
  let c0_174 : Index := 0#32
  let c0_175 : Index := 0#32
  ![v517.toNat, 0, 0]

def k0_chk86 (v516 : BitVec 32) : Prop :=
  (∀ a, (k0_off172 v516) a + S1x1x16.size a ≤ S32128x1x16.size a)
theorem k0_off172_inb : ∀ (v516 : BitVec 32) (k0_hw86 : k0_chk86 v516), ∀ a, (k0_off172 v516) a + S1x1x16.size a ≤ S32128x1x16.size a := fun v516 k0_hw86 => k0_hw86

def k0_off173 (k0_t1 : Fin k0_t1_loop.trips) : Fin 2 → Nat :=
  let c0_i32 : BitVec 32 := 0#32
  let c1_i32 : BitVec 32 := 1#32
  let arg6 : BitVec 32 := Scf.iv c0_i32 c1_i32 k0_t1
  let v521 : Index := Scalar.indexCast arg6
  let c86 : Index := 86#32
  ![v521.toNat, 86]
def k0_off174 (v522 : BitVec 32) : Fin 3 → Nat :=
  let v523 : Index := Scalar.indexCast v522
  let c0_176 : Index := 0#32
  let c0_177 : Index := 0#32
  ![v523.toNat, 0, 0]

def k0_chk87 (v522 : BitVec 32) : Prop :=
  (∀ a, (k0_off174 v522) a + S1x1x16.size a ≤ S32128x1x16.size a)
theorem k0_off174_inb : ∀ (v522 : BitVec 32) (k0_hw87 : k0_chk87 v522), ∀ a, (k0_off174 v522) a + S1x1x16.size a ≤ S32128x1x16.size a := fun v522 k0_hw87 => k0_hw87

def k0_off175 (k0_t1 : Fin k0_t1_loop.trips) : Fin 2 → Nat :=
  let c0_i32 : BitVec 32 := 0#32
  let c1_i32 : BitVec 32 := 1#32
  let arg6 : BitVec 32 := Scf.iv c0_i32 c1_i32 k0_t1
  let v527 : Index := Scalar.indexCast arg6
  let c87 : Index := 87#32
  ![v527.toNat, 87]
def k0_off176 (v528 : BitVec 32) : Fin 3 → Nat :=
  let v529 : Index := Scalar.indexCast v528
  let c0_178 : Index := 0#32
  let c0_179 : Index := 0#32
  ![v529.toNat, 0, 0]

def k0_chk88 (v528 : BitVec 32) : Prop :=
  (∀ a, (k0_off176 v528) a + S1x1x16.size a ≤ S32128x1x16.size a)
theorem k0_off176_inb : ∀ (v528 : BitVec 32) (k0_hw88 : k0_chk88 v528), ∀ a, (k0_off176 v528) a + S1x1x16.size a ≤ S32128x1x16.size a := fun v528 k0_hw88 => k0_hw88

def k0_off177 (k0_t1 : Fin k0_t1_loop.trips) : Fin 2 → Nat :=
  let c0_i32 : BitVec 32 := 0#32
  let c1_i32 : BitVec 32 := 1#32
  let arg6 : BitVec 32 := Scf.iv c0_i32 c1_i32 k0_t1
  let v533 : Index := Scalar.indexCast arg6
  let c88 : Index := 88#32
  ![v533.toNat, 88]
def k0_off178 (v534 : BitVec 32) : Fin 3 → Nat :=
  let v535 : Index := Scalar.indexCast v534
  let c0_180 : Index := 0#32
  let c0_181 : Index := 0#32
  ![v535.toNat, 0, 0]

def k0_chk89 (v534 : BitVec 32) : Prop :=
  (∀ a, (k0_off178 v534) a + S1x1x16.size a ≤ S32128x1x16.size a)
theorem k0_off178_inb : ∀ (v534 : BitVec 32) (k0_hw89 : k0_chk89 v534), ∀ a, (k0_off178 v534) a + S1x1x16.size a ≤ S32128x1x16.size a := fun v534 k0_hw89 => k0_hw89

def k0_off179 (k0_t1 : Fin k0_t1_loop.trips) : Fin 2 → Nat :=
  let c0_i32 : BitVec 32 := 0#32
  let c1_i32 : BitVec 32 := 1#32
  let arg6 : BitVec 32 := Scf.iv c0_i32 c1_i32 k0_t1
  let v539 : Index := Scalar.indexCast arg6
  let c89 : Index := 89#32
  ![v539.toNat, 89]
def k0_off180 (v540 : BitVec 32) : Fin 3 → Nat :=
  let v541 : Index := Scalar.indexCast v540
  let c0_182 : Index := 0#32
  let c0_183 : Index := 0#32
  ![v541.toNat, 0, 0]

def k0_chk90 (v540 : BitVec 32) : Prop :=
  (∀ a, (k0_off180 v540) a + S1x1x16.size a ≤ S32128x1x16.size a)
theorem k0_off180_inb : ∀ (v540 : BitVec 32) (k0_hw90 : k0_chk90 v540), ∀ a, (k0_off180 v540) a + S1x1x16.size a ≤ S32128x1x16.size a := fun v540 k0_hw90 => k0_hw90

def k0_off181 (k0_t1 : Fin k0_t1_loop.trips) : Fin 2 → Nat :=
  let c0_i32 : BitVec 32 := 0#32
  let c1_i32 : BitVec 32 := 1#32
  let arg6 : BitVec 32 := Scf.iv c0_i32 c1_i32 k0_t1
  let v545 : Index := Scalar.indexCast arg6
  let c90 : Index := 90#32
  ![v545.toNat, 90]
def k0_off182 (v546 : BitVec 32) : Fin 3 → Nat :=
  let v547 : Index := Scalar.indexCast v546
  let c0_184 : Index := 0#32
  let c0_185 : Index := 0#32
  ![v547.toNat, 0, 0]

def k0_chk91 (v546 : BitVec 32) : Prop :=
  (∀ a, (k0_off182 v546) a + S1x1x16.size a ≤ S32128x1x16.size a)
theorem k0_off182_inb : ∀ (v546 : BitVec 32) (k0_hw91 : k0_chk91 v546), ∀ a, (k0_off182 v546) a + S1x1x16.size a ≤ S32128x1x16.size a := fun v546 k0_hw91 => k0_hw91

def k0_off183 (k0_t1 : Fin k0_t1_loop.trips) : Fin 2 → Nat :=
  let c0_i32 : BitVec 32 := 0#32
  let c1_i32 : BitVec 32 := 1#32
  let arg6 : BitVec 32 := Scf.iv c0_i32 c1_i32 k0_t1
  let v551 : Index := Scalar.indexCast arg6
  let c91 : Index := 91#32
  ![v551.toNat, 91]
def k0_off184 (v552 : BitVec 32) : Fin 3 → Nat :=
  let v553 : Index := Scalar.indexCast v552
  let c0_186 : Index := 0#32
  let c0_187 : Index := 0#32
  ![v553.toNat, 0, 0]

def k0_chk92 (v552 : BitVec 32) : Prop :=
  (∀ a, (k0_off184 v552) a + S1x1x16.size a ≤ S32128x1x16.size a)
theorem k0_off184_inb : ∀ (v552 : BitVec 32) (k0_hw92 : k0_chk92 v552), ∀ a, (k0_off184 v552) a + S1x1x16.size a ≤ S32128x1x16.size a := fun v552 k0_hw92 => k0_hw92

def k0_off185 (k0_t1 : Fin k0_t1_loop.trips) : Fin 2 → Nat :=
  let c0_i32 : BitVec 32 := 0#32
  let c1_i32 : BitVec 32 := 1#32
  let arg6 : BitVec 32 := Scf.iv c0_i32 c1_i32 k0_t1
  let v557 : Index := Scalar.indexCast arg6
  let c92 : Index := 92#32
  ![v557.toNat, 92]
def k0_off186 (v558 : BitVec 32) : Fin 3 → Nat :=
  let v559 : Index := Scalar.indexCast v558
  let c0_188 : Index := 0#32
  let c0_189 : Index := 0#32
  ![v559.toNat, 0, 0]

def k0_chk93 (v558 : BitVec 32) : Prop :=
  (∀ a, (k0_off186 v558) a + S1x1x16.size a ≤ S32128x1x16.size a)
theorem k0_off186_inb : ∀ (v558 : BitVec 32) (k0_hw93 : k0_chk93 v558), ∀ a, (k0_off186 v558) a + S1x1x16.size a ≤ S32128x1x16.size a := fun v558 k0_hw93 => k0_hw93

def k0_off187 (k0_t1 : Fin k0_t1_loop.trips) : Fin 2 → Nat :=
  let c0_i32 : BitVec 32 := 0#32
  let c1_i32 : BitVec 32 := 1#32
  let arg6 : BitVec 32 := Scf.iv c0_i32 c1_i32 k0_t1
  let v563 : Index := Scalar.indexCast arg6
  let c93 : Index := 93#32
  ![v563.toNat, 93]
def k0_off188 (v564 : BitVec 32) : Fin 3 → Nat :=
  let v565 : Index := Scalar.indexCast v564
  let c0_190 : Index := 0#32
  let c0_191 : Index := 0#32
  ![v565.toNat, 0, 0]

def k0_chk94 (v564 : BitVec 32) : Prop :=
  (∀ a, (k0_off188 v564) a + S1x1x16.size a ≤ S32128x1x16.size a)
theorem k0_off188_inb : ∀ (v564 : BitVec 32) (k0_hw94 : k0_chk94 v564), ∀ a, (k0_off188 v564) a + S1x1x16.size a ≤ S32128x1x16.size a := fun v564 k0_hw94 => k0_hw94

def k0_off189 (k0_t1 : Fin k0_t1_loop.trips) : Fin 2 → Nat :=
  let c0_i32 : BitVec 32 := 0#32
  let c1_i32 : BitVec 32 := 1#32
  let arg6 : BitVec 32 := Scf.iv c0_i32 c1_i32 k0_t1
  let v569 : Index := Scalar.indexCast arg6
  let c94 : Index := 94#32
  ![v569.toNat, 94]
def k0_off190 (v570 : BitVec 32) : Fin 3 → Nat :=
  let v571 : Index := Scalar.indexCast v570
  let c0_192 : Index := 0#32
  let c0_193 : Index := 0#32
  ![v571.toNat, 0, 0]

def k0_chk95 (v570 : BitVec 32) : Prop :=
  (∀ a, (k0_off190 v570) a + S1x1x16.size a ≤ S32128x1x16.size a)
theorem k0_off190_inb : ∀ (v570 : BitVec 32) (k0_hw95 : k0_chk95 v570), ∀ a, (k0_off190 v570) a + S1x1x16.size a ≤ S32128x1x16.size a := fun v570 k0_hw95 => k0_hw95

def k0_off191 (k0_t1 : Fin k0_t1_loop.trips) : Fin 2 → Nat :=
  let c0_i32 : BitVec 32 := 0#32
  let c1_i32 : BitVec 32 := 1#32
  let arg6 : BitVec 32 := Scf.iv c0_i32 c1_i32 k0_t1
  let v575 : Index := Scalar.indexCast arg6
  let c95 : Index := 95#32
  ![v575.toNat, 95]
def k0_off192 (v576 : BitVec 32) : Fin 3 → Nat :=
  let v577 : Index := Scalar.indexCast v576
  let c0_194 : Index := 0#32
  let c0_195 : Index := 0#32
  ![v577.toNat, 0, 0]

def k0_chk96 (v576 : BitVec 32) : Prop :=
  (∀ a, (k0_off192 v576) a + S1x1x16.size a ≤ S32128x1x16.size a)
theorem k0_off192_inb : ∀ (v576 : BitVec 32) (k0_hw96 : k0_chk96 v576), ∀ a, (k0_off192 v576) a + S1x1x16.size a ≤ S32128x1x16.size a := fun v576 k0_hw96 => k0_hw96

def k0_off193 (k0_t1 : Fin k0_t1_loop.trips) : Fin 2 → Nat :=
  let c0_i32 : BitVec 32 := 0#32
  let c1_i32 : BitVec 32 := 1#32
  let arg6 : BitVec 32 := Scf.iv c0_i32 c1_i32 k0_t1
  let v581 : Index := Scalar.indexCast arg6
  let c96 : Index := 96#32
  ![v581.toNat, 96]
def k0_off194 (v582 : BitVec 32) : Fin 3 → Nat :=
  let v583 : Index := Scalar.indexCast v582
  let c0_196 : Index := 0#32
  let c0_197 : Index := 0#32
  ![v583.toNat, 0, 0]

def k0_chk97 (v582 : BitVec 32) : Prop :=
  (∀ a, (k0_off194 v582) a + S1x1x16.size a ≤ S32128x1x16.size a)
theorem k0_off194_inb : ∀ (v582 : BitVec 32) (k0_hw97 : k0_chk97 v582), ∀ a, (k0_off194 v582) a + S1x1x16.size a ≤ S32128x1x16.size a := fun v582 k0_hw97 => k0_hw97

def k0_off195 (k0_t1 : Fin k0_t1_loop.trips) : Fin 2 → Nat :=
  let c0_i32 : BitVec 32 := 0#32
  let c1_i32 : BitVec 32 := 1#32
  let arg6 : BitVec 32 := Scf.iv c0_i32 c1_i32 k0_t1
  let v587 : Index := Scalar.indexCast arg6
  let c97 : Index := 97#32
  ![v587.toNat, 97]
def k0_off196 (v588 : BitVec 32) : Fin 3 → Nat :=
  let v589 : Index := Scalar.indexCast v588
  let c0_198 : Index := 0#32
  let c0_199 : Index := 0#32
  ![v589.toNat, 0, 0]

def k0_chk98 (v588 : BitVec 32) : Prop :=
  (∀ a, (k0_off196 v588) a + S1x1x16.size a ≤ S32128x1x16.size a)
theorem k0_off196_inb : ∀ (v588 : BitVec 32) (k0_hw98 : k0_chk98 v588), ∀ a, (k0_off196 v588) a + S1x1x16.size a ≤ S32128x1x16.size a := fun v588 k0_hw98 => k0_hw98

def k0_off197 (k0_t1 : Fin k0_t1_loop.trips) : Fin 2 → Nat :=
  let c0_i32 : BitVec 32 := 0#32
  let c1_i32 : BitVec 32 := 1#32
  let arg6 : BitVec 32 := Scf.iv c0_i32 c1_i32 k0_t1
  let v593 : Index := Scalar.indexCast arg6
  let c98 : Index := 98#32
  ![v593.toNat, 98]
def k0_off198 (v594 : BitVec 32) : Fin 3 → Nat :=
  let v595 : Index := Scalar.indexCast v594
  let c0_200 : Index := 0#32
  let c0_201 : Index := 0#32
  ![v595.toNat, 0, 0]

def k0_chk99 (v594 : BitVec 32) : Prop :=
  (∀ a, (k0_off198 v594) a + S1x1x16.size a ≤ S32128x1x16.size a)
theorem k0_off198_inb : ∀ (v594 : BitVec 32) (k0_hw99 : k0_chk99 v594), ∀ a, (k0_off198 v594) a + S1x1x16.size a ≤ S32128x1x16.size a := fun v594 k0_hw99 => k0_hw99

def k0_off199 (k0_t1 : Fin k0_t1_loop.trips) : Fin 2 → Nat :=
  let c0_i32 : BitVec 32 := 0#32
  let c1_i32 : BitVec 32 := 1#32
  let arg6 : BitVec 32 := Scf.iv c0_i32 c1_i32 k0_t1
  let v599 : Index := Scalar.indexCast arg6
  let c99 : Index := 99#32
  ![v599.toNat, 99]
def k0_off200 (v600 : BitVec 32) : Fin 3 → Nat :=
  let v601 : Index := Scalar.indexCast v600
  let c0_202 : Index := 0#32
  let c0_203 : Index := 0#32
  ![v601.toNat, 0, 0]

def k0_chk100 (v600 : BitVec 32) : Prop :=
  (∀ a, (k0_off200 v600) a + S1x1x16.size a ≤ S32128x1x16.size a)
theorem k0_off200_inb : ∀ (v600 : BitVec 32) (k0_hw100 : k0_chk100 v600), ∀ a, (k0_off200 v600) a + S1x1x16.size a ≤ S32128x1x16.size a := fun v600 k0_hw100 => k0_hw100

def k0_off201 (k0_t1 : Fin k0_t1_loop.trips) : Fin 2 → Nat :=
  let c0_i32 : BitVec 32 := 0#32
  let c1_i32 : BitVec 32 := 1#32
  let arg6 : BitVec 32 := Scf.iv c0_i32 c1_i32 k0_t1
  let v605 : Index := Scalar.indexCast arg6
  let c100 : Index := 100#32
  ![v605.toNat, 100]
def k0_off202 (v606 : BitVec 32) : Fin 3 → Nat :=
  let v607 : Index := Scalar.indexCast v606
  let c0_204 : Index := 0#32
  let c0_205 : Index := 0#32
  ![v607.toNat, 0, 0]

def k0_chk101 (v606 : BitVec 32) : Prop :=
  (∀ a, (k0_off202 v606) a + S1x1x16.size a ≤ S32128x1x16.size a)
theorem k0_off202_inb : ∀ (v606 : BitVec 32) (k0_hw101 : k0_chk101 v606), ∀ a, (k0_off202 v606) a + S1x1x16.size a ≤ S32128x1x16.size a := fun v606 k0_hw101 => k0_hw101

def k0_off203 (k0_t1 : Fin k0_t1_loop.trips) : Fin 2 → Nat :=
  let c0_i32 : BitVec 32 := 0#32
  let c1_i32 : BitVec 32 := 1#32
  let arg6 : BitVec 32 := Scf.iv c0_i32 c1_i32 k0_t1
  let v611 : Index := Scalar.indexCast arg6
  let c101 : Index := 101#32
  ![v611.toNat, 101]
def k0_off204 (v612 : BitVec 32) : Fin 3 → Nat :=
  let v613 : Index := Scalar.indexCast v612
  let c0_206 : Index := 0#32
  let c0_207 : Index := 0#32
  ![v613.toNat, 0, 0]

def k0_chk102 (v612 : BitVec 32) : Prop :=
  (∀ a, (k0_off204 v612) a + S1x1x16.size a ≤ S32128x1x16.size a)
theorem k0_off204_inb : ∀ (v612 : BitVec 32) (k0_hw102 : k0_chk102 v612), ∀ a, (k0_off204 v612) a + S1x1x16.size a ≤ S32128x1x16.size a := fun v612 k0_hw102 => k0_hw102

def k0_off205 (k0_t1 : Fin k0_t1_loop.trips) : Fin 2 → Nat :=
  let c0_i32 : BitVec 32 := 0#32
  let c1_i32 : BitVec 32 := 1#32
  let arg6 : BitVec 32 := Scf.iv c0_i32 c1_i32 k0_t1
  let v617 : Index := Scalar.indexCast arg6
  let c102 : Index := 102#32
  ![v617.toNat, 102]
def k0_off206 (v618 : BitVec 32) : Fin 3 → Nat :=
  let v619 : Index := Scalar.indexCast v618
  let c0_208 : Index := 0#32
  let c0_209 : Index := 0#32
  ![v619.toNat, 0, 0]

def k0_chk103 (v618 : BitVec 32) : Prop :=
  (∀ a, (k0_off206 v618) a + S1x1x16.size a ≤ S32128x1x16.size a)
theorem k0_off206_inb : ∀ (v618 : BitVec 32) (k0_hw103 : k0_chk103 v618), ∀ a, (k0_off206 v618) a + S1x1x16.size a ≤ S32128x1x16.size a := fun v618 k0_hw103 => k0_hw103

def k0_off207 (k0_t1 : Fin k0_t1_loop.trips) : Fin 2 → Nat :=
  let c0_i32 : BitVec 32 := 0#32
  let c1_i32 : BitVec 32 := 1#32
  let arg6 : BitVec 32 := Scf.iv c0_i32 c1_i32 k0_t1
  let v623 : Index := Scalar.indexCast arg6
  let c103 : Index := 103#32
  ![v623.toNat, 103]
def k0_off208 (v624 : BitVec 32) : Fin 3 → Nat :=
  let v625 : Index := Scalar.indexCast v624
  let c0_210 : Index := 0#32
  let c0_211 : Index := 0#32
  ![v625.toNat, 0, 0]

def k0_chk104 (v624 : BitVec 32) : Prop :=
  (∀ a, (k0_off208 v624) a + S1x1x16.size a ≤ S32128x1x16.size a)
theorem k0_off208_inb : ∀ (v624 : BitVec 32) (k0_hw104 : k0_chk104 v624), ∀ a, (k0_off208 v624) a + S1x1x16.size a ≤ S32128x1x16.size a := fun v624 k0_hw104 => k0_hw104

def k0_off209 (k0_t1 : Fin k0_t1_loop.trips) : Fin 2 → Nat :=
  let c0_i32 : BitVec 32 := 0#32
  let c1_i32 : BitVec 32 := 1#32
  let arg6 : BitVec 32 := Scf.iv c0_i32 c1_i32 k0_t1
  let v629 : Index := Scalar.indexCast arg6
  let c104 : Index := 104#32
  ![v629.toNat, 104]
def k0_off210 (v630 : BitVec 32) : Fin 3 → Nat :=
  let v631 : Index := Scalar.indexCast v630
  let c0_212 : Index := 0#32
  let c0_213 : Index := 0#32
  ![v631.toNat, 0, 0]

def k0_chk105 (v630 : BitVec 32) : Prop :=
  (∀ a, (k0_off210 v630) a + S1x1x16.size a ≤ S32128x1x16.size a)
theorem k0_off210_inb : ∀ (v630 : BitVec 32) (k0_hw105 : k0_chk105 v630), ∀ a, (k0_off210 v630) a + S1x1x16.size a ≤ S32128x1x16.size a := fun v630 k0_hw105 => k0_hw105

def k0_off211 (k0_t1 : Fin k0_t1_loop.trips) : Fin 2 → Nat :=
  let c0_i32 : BitVec 32 := 0#32
  let c1_i32 : BitVec 32 := 1#32
  let arg6 : BitVec 32 := Scf.iv c0_i32 c1_i32 k0_t1
  let v635 : Index := Scalar.indexCast arg6
  let c105 : Index := 105#32
  ![v635.toNat, 105]
def k0_off212 (v636 : BitVec 32) : Fin 3 → Nat :=
  let v637 : Index := Scalar.indexCast v636
  let c0_214 : Index := 0#32
  let c0_215 : Index := 0#32
  ![v637.toNat, 0, 0]

def k0_chk106 (v636 : BitVec 32) : Prop :=
  (∀ a, (k0_off212 v636) a + S1x1x16.size a ≤ S32128x1x16.size a)
theorem k0_off212_inb : ∀ (v636 : BitVec 32) (k0_hw106 : k0_chk106 v636), ∀ a, (k0_off212 v636) a + S1x1x16.size a ≤ S32128x1x16.size a := fun v636 k0_hw106 => k0_hw106

def k0_off213 (k0_t1 : Fin k0_t1_loop.trips) : Fin 2 → Nat :=
  let c0_i32 : BitVec 32 := 0#32
  let c1_i32 : BitVec 32 := 1#32
  let arg6 : BitVec 32 := Scf.iv c0_i32 c1_i32 k0_t1
  let v641 : Index := Scalar.indexCast arg6
  let c106 : Index := 106#32
  ![v641.toNat, 106]
def k0_off214 (v642 : BitVec 32) : Fin 3 → Nat :=
  let v643 : Index := Scalar.indexCast v642
  let c0_216 : Index := 0#32
  let c0_217 : Index := 0#32
  ![v643.toNat, 0, 0]

def k0_chk107 (v642 : BitVec 32) : Prop :=
  (∀ a, (k0_off214 v642) a + S1x1x16.size a ≤ S32128x1x16.size a)
theorem k0_off214_inb : ∀ (v642 : BitVec 32) (k0_hw107 : k0_chk107 v642), ∀ a, (k0_off214 v642) a + S1x1x16.size a ≤ S32128x1x16.size a := fun v642 k0_hw107 => k0_hw107

def k0_off215 (k0_t1 : Fin k0_t1_loop.trips) : Fin 2 → Nat :=
  let c0_i32 : BitVec 32 := 0#32
  let c1_i32 : BitVec 32 := 1#32
  let arg6 : BitVec 32 := Scf.iv c0_i32 c1_i32 k0_t1
  let v647 : Index := Scalar.indexCast arg6
  let c107 : Index := 107#32
  ![v647.toNat, 107]
def k0_off216 (v648 : BitVec 32) : Fin 3 → Nat :=
  let v649 : Index := Scalar.indexCast v648
  let c0_218 : Index := 0#32
  let c0_219 : Index := 0#32
  ![v649.toNat, 0, 0]

def k0_chk108 (v648 : BitVec 32) : Prop :=
  (∀ a, (k0_off216 v648) a + S1x1x16.size a ≤ S32128x1x16.size a)
theorem k0_off216_inb : ∀ (v648 : BitVec 32) (k0_hw108 : k0_chk108 v648), ∀ a, (k0_off216 v648) a + S1x1x16.size a ≤ S32128x1x16.size a := fun v648 k0_hw108 => k0_hw108

def k0_off217 (k0_t1 : Fin k0_t1_loop.trips) : Fin 2 → Nat :=
  let c0_i32 : BitVec 32 := 0#32
  let c1_i32 : BitVec 32 := 1#32
  let arg6 : BitVec 32 := Scf.iv c0_i32 c1_i32 k0_t1
  let v653 : Index := Scalar.indexCast arg6
  let c108 : Index := 108#32
  ![v653.toNat, 108]
def k0_off218 (v654 : BitVec 32) : Fin 3 → Nat :=
  let v655 : Index := Scalar.indexCast v654
  let c0_220 : Index := 0#32
  let c0_221 : Index := 0#32
  ![v655.toNat, 0, 0]

def k0_chk109 (v654 : BitVec 32) : Prop :=
  (∀ a, (k0_off218 v654) a + S1x1x16.size a ≤ S32128x1x16.size a)
theorem k0_off218_inb : ∀ (v654 : BitVec 32) (k0_hw109 : k0_chk109 v654), ∀ a, (k0_off218 v654) a + S1x1x16.size a ≤ S32128x1x16.size a := fun v654 k0_hw109 => k0_hw109

def k0_off219 (k0_t1 : Fin k0_t1_loop.trips) : Fin 2 → Nat :=
  let c0_i32 : BitVec 32 := 0#32
  let c1_i32 : BitVec 32 := 1#32
  let arg6 : BitVec 32 := Scf.iv c0_i32 c1_i32 k0_t1
  let v659 : Index := Scalar.indexCast arg6
  let c109 : Index := 109#32
  ![v659.toNat, 109]
def k0_off220 (v660 : BitVec 32) : Fin 3 → Nat :=
  let v661 : Index := Scalar.indexCast v660
  let c0_222 : Index := 0#32
  let c0_223 : Index := 0#32
  ![v661.toNat, 0, 0]

def k0_chk110 (v660 : BitVec 32) : Prop :=
  (∀ a, (k0_off220 v660) a + S1x1x16.size a ≤ S32128x1x16.size a)
theorem k0_off220_inb : ∀ (v660 : BitVec 32) (k0_hw110 : k0_chk110 v660), ∀ a, (k0_off220 v660) a + S1x1x16.size a ≤ S32128x1x16.size a := fun v660 k0_hw110 => k0_hw110

def k0_off221 (k0_t1 : Fin k0_t1_loop.trips) : Fin 2 → Nat :=
  let c0_i32 : BitVec 32 := 0#32
  let c1_i32 : BitVec 32 := 1#32
  let arg6 : BitVec 32 := Scf.iv c0_i32 c1_i32 k0_t1
  let v665 : Index := Scalar.indexCast arg6
  let c110 : Index := 110#32
  ![v665.toNat, 110]
def k0_off222 (v666 : BitVec 32) : Fin 3 → Nat :=
  let v667 : Index := Scalar.indexCast v666
  let c0_224 : Index := 0#32
  let c0_225 : Index := 0#32
  ![v667.toNat, 0, 0]

def k0_chk111 (v666 : BitVec 32) : Prop :=
  (∀ a, (k0_off222 v666) a + S1x1x16.size a ≤ S32128x1x16.size a)
theorem k0_off222_inb : ∀ (v666 : BitVec 32) (k0_hw111 : k0_chk111 v666), ∀ a, (k0_off222 v666) a + S1x1x16.size a ≤ S32128x1x16.size a := fun v666 k0_hw111 => k0_hw111

def k0_off223 (k0_t1 : Fin k0_t1_loop.trips) : Fin 2 → Nat :=
  let c0_i32 : BitVec 32 := 0#32
  let c1_i32 : BitVec 32 := 1#32
  let arg6 : BitVec 32 := Scf.iv c0_i32 c1_i32 k0_t1
  let v671 : Index := Scalar.indexCast arg6
  let c111 : Index := 111#32
  ![v671.toNat, 111]
def k0_off224 (v672 : BitVec 32) : Fin 3 → Nat :=
  let v673 : Index := Scalar.indexCast v672
  let c0_226 : Index := 0#32
  let c0_227 : Index := 0#32
  ![v673.toNat, 0, 0]

def k0_chk112 (v672 : BitVec 32) : Prop :=
  (∀ a, (k0_off224 v672) a + S1x1x16.size a ≤ S32128x1x16.size a)
theorem k0_off224_inb : ∀ (v672 : BitVec 32) (k0_hw112 : k0_chk112 v672), ∀ a, (k0_off224 v672) a + S1x1x16.size a ≤ S32128x1x16.size a := fun v672 k0_hw112 => k0_hw112

def k0_off225 (k0_t1 : Fin k0_t1_loop.trips) : Fin 2 → Nat :=
  let c0_i32 : BitVec 32 := 0#32
  let c1_i32 : BitVec 32 := 1#32
  let arg6 : BitVec 32 := Scf.iv c0_i32 c1_i32 k0_t1
  let v677 : Index := Scalar.indexCast arg6
  let c112 : Index := 112#32
  ![v677.toNat, 112]
def k0_off226 (v678 : BitVec 32) : Fin 3 → Nat :=
  let v679 : Index := Scalar.indexCast v678
  let c0_228 : Index := 0#32
  let c0_229 : Index := 0#32
  ![v679.toNat, 0, 0]

def k0_chk113 (v678 : BitVec 32) : Prop :=
  (∀ a, (k0_off226 v678) a + S1x1x16.size a ≤ S32128x1x16.size a)
theorem k0_off226_inb : ∀ (v678 : BitVec 32) (k0_hw113 : k0_chk113 v678), ∀ a, (k0_off226 v678) a + S1x1x16.size a ≤ S32128x1x16.size a := fun v678 k0_hw113 => k0_hw113

def k0_off227 (k0_t1 : Fin k0_t1_loop.trips) : Fin 2 → Nat :=
  let c0_i32 : BitVec 32 := 0#32
  let c1_i32 : BitVec 32 := 1#32
  let arg6 : BitVec 32 := Scf.iv c0_i32 c1_i32 k0_t1
  let v683 : Index := Scalar.indexCast arg6
  let c113 : Index := 113#32
  ![v683.toNat, 113]
def k0_off228 (v684 : BitVec 32) : Fin 3 → Nat :=
  let v685 : Index := Scalar.indexCast v684
  let c0_230 : Index := 0#32
  let c0_231 : Index := 0#32
  ![v685.toNat, 0, 0]

def k0_chk114 (v684 : BitVec 32) : Prop :=
  (∀ a, (k0_off228 v684) a + S1x1x16.size a ≤ S32128x1x16.size a)
theorem k0_off228_inb : ∀ (v684 : BitVec 32) (k0_hw114 : k0_chk114 v684), ∀ a, (k0_off228 v684) a + S1x1x16.size a ≤ S32128x1x16.size a := fun v684 k0_hw114 => k0_hw114

def k0_off229 (k0_t1 : Fin k0_t1_loop.trips) : Fin 2 → Nat :=
  let c0_i32 : BitVec 32 := 0#32
  let c1_i32 : BitVec 32 := 1#32
  let arg6 : BitVec 32 := Scf.iv c0_i32 c1_i32 k0_t1
  let v689 : Index := Scalar.indexCast arg6
  let c114 : Index := 114#32
  ![v689.toNat, 114]
def k0_off230 (v690 : BitVec 32) : Fin 3 → Nat :=
  let v691 : Index := Scalar.indexCast v690
  let c0_232 : Index := 0#32
  let c0_233 : Index := 0#32
  ![v691.toNat, 0, 0]

def k0_chk115 (v690 : BitVec 32) : Prop :=
  (∀ a, (k0_off230 v690) a + S1x1x16.size a ≤ S32128x1x16.size a)
theorem k0_off230_inb : ∀ (v690 : BitVec 32) (k0_hw115 : k0_chk115 v690), ∀ a, (k0_off230 v690) a + S1x1x16.size a ≤ S32128x1x16.size a := fun v690 k0_hw115 => k0_hw115

def k0_off231 (k0_t1 : Fin k0_t1_loop.trips) : Fin 2 → Nat :=
  let c0_i32 : BitVec 32 := 0#32
  let c1_i32 : BitVec 32 := 1#32
  let arg6 : BitVec 32 := Scf.iv c0_i32 c1_i32 k0_t1
  let v695 : Index := Scalar.indexCast arg6
  let c115 : Index := 115#32
  ![v695.toNat, 115]
def k0_off232 (v696 : BitVec 32) : Fin 3 → Nat :=
  let v697 : Index := Scalar.indexCast v696
  let c0_234 : Index := 0#32
  let c0_235 : Index := 0#32
  ![v697.toNat, 0, 0]

def k0_chk116 (v696 : BitVec 32) : Prop :=
  (∀ a, (k0_off232 v696) a + S1x1x16.size a ≤ S32128x1x16.size a)
theorem k0_off232_inb : ∀ (v696 : BitVec 32) (k0_hw116 : k0_chk116 v696), ∀ a, (k0_off232 v696) a + S1x1x16.size a ≤ S32128x1x16.size a := fun v696 k0_hw116 => k0_hw116

def k0_off233 (k0_t1 : Fin k0_t1_loop.trips) : Fin 2 → Nat :=
  let c0_i32 : BitVec 32 := 0#32
  let c1_i32 : BitVec 32 := 1#32
  let arg6 : BitVec 32 := Scf.iv c0_i32 c1_i32 k0_t1
  let v701 : Index := Scalar.indexCast arg6
  let c116 : Index := 116#32
  ![v701.toNat, 116]
def k0_off234 (v702 : BitVec 32) : Fin 3 → Nat :=
  let v703 : Index := Scalar.indexCast v702
  let c0_236 : Index := 0#32
  let c0_237 : Index := 0#32
  ![v703.toNat, 0, 0]

def k0_chk117 (v702 : BitVec 32) : Prop :=
  (∀ a, (k0_off234 v702) a + S1x1x16.size a ≤ S32128x1x16.size a)
theorem k0_off234_inb : ∀ (v702 : BitVec 32) (k0_hw117 : k0_chk117 v702), ∀ a, (k0_off234 v702) a + S1x1x16.size a ≤ S32128x1x16.size a := fun v702 k0_hw117 => k0_hw117

def k0_off235 (k0_t1 : Fin k0_t1_loop.trips) : Fin 2 → Nat :=
  let c0_i32 : BitVec 32 := 0#32
  let c1_i32 : BitVec 32 := 1#32
  let arg6 : BitVec 32 := Scf.iv c0_i32 c1_i32 k0_t1
  let v707 : Index := Scalar.indexCast arg6
  let c117 : Index := 117#32
  ![v707.toNat, 117]
def k0_off236 (v708 : BitVec 32) : Fin 3 → Nat :=
  let v709 : Index := Scalar.indexCast v708
  let c0_238 : Index := 0#32
  let c0_239 : Index := 0#32
  ![v709.toNat, 0, 0]

def k0_chk118 (v708 : BitVec 32) : Prop :=
  (∀ a, (k0_off236 v708) a + S1x1x16.size a ≤ S32128x1x16.size a)
theorem k0_off236_inb : ∀ (v708 : BitVec 32) (k0_hw118 : k0_chk118 v708), ∀ a, (k0_off236 v708) a + S1x1x16.size a ≤ S32128x1x16.size a := fun v708 k0_hw118 => k0_hw118

def k0_off237 (k0_t1 : Fin k0_t1_loop.trips) : Fin 2 → Nat :=
  let c0_i32 : BitVec 32 := 0#32
  let c1_i32 : BitVec 32 := 1#32
  let arg6 : BitVec 32 := Scf.iv c0_i32 c1_i32 k0_t1
  let v713 : Index := Scalar.indexCast arg6
  let c118 : Index := 118#32
  ![v713.toNat, 118]
def k0_off238 (v714 : BitVec 32) : Fin 3 → Nat :=
  let v715 : Index := Scalar.indexCast v714
  let c0_240 : Index := 0#32
  let c0_241 : Index := 0#32
  ![v715.toNat, 0, 0]

def k0_chk119 (v714 : BitVec 32) : Prop :=
  (∀ a, (k0_off238 v714) a + S1x1x16.size a ≤ S32128x1x16.size a)
theorem k0_off238_inb : ∀ (v714 : BitVec 32) (k0_hw119 : k0_chk119 v714), ∀ a, (k0_off238 v714) a + S1x1x16.size a ≤ S32128x1x16.size a := fun v714 k0_hw119 => k0_hw119

def k0_off239 (k0_t1 : Fin k0_t1_loop.trips) : Fin 2 → Nat :=
  let c0_i32 : BitVec 32 := 0#32
  let c1_i32 : BitVec 32 := 1#32
  let arg6 : BitVec 32 := Scf.iv c0_i32 c1_i32 k0_t1
  let v719 : Index := Scalar.indexCast arg6
  let c119 : Index := 119#32
  ![v719.toNat, 119]
def k0_off240 (v720 : BitVec 32) : Fin 3 → Nat :=
  let v721 : Index := Scalar.indexCast v720
  let c0_242 : Index := 0#32
  let c0_243 : Index := 0#32
  ![v721.toNat, 0, 0]

def k0_chk120 (v720 : BitVec 32) : Prop :=
  (∀ a, (k0_off240 v720) a + S1x1x16.size a ≤ S32128x1x16.size a)
theorem k0_off240_inb : ∀ (v720 : BitVec 32) (k0_hw120 : k0_chk120 v720), ∀ a, (k0_off240 v720) a + S1x1x16.size a ≤ S32128x1x16.size a := fun v720 k0_hw120 => k0_hw120

def k0_off241 (k0_t1 : Fin k0_t1_loop.trips) : Fin 2 → Nat :=
  let c0_i32 : BitVec 32 := 0#32
  let c1_i32 : BitVec 32 := 1#32
  let arg6 : BitVec 32 := Scf.iv c0_i32 c1_i32 k0_t1
  let v725 : Index := Scalar.indexCast arg6
  let c120 : Index := 120#32
  ![v725.toNat, 120]
def k0_off242 (v726 : BitVec 32) : Fin 3 → Nat :=
  let v727 : Index := Scalar.indexCast v726
  let c0_244 : Index := 0#32
  let c0_245 : Index := 0#32
  ![v727.toNat, 0, 0]

def k0_chk121 (v726 : BitVec 32) : Prop :=
  (∀ a, (k0_off242 v726) a + S1x1x16.size a ≤ S32128x1x16.size a)
theorem k0_off242_inb : ∀ (v726 : BitVec 32) (k0_hw121 : k0_chk121 v726), ∀ a, (k0_off242 v726) a + S1x1x16.size a ≤ S32128x1x16.size a := fun v726 k0_hw121 => k0_hw121

def k0_off243 (k0_t1 : Fin k0_t1_loop.trips) : Fin 2 → Nat :=
  let c0_i32 : BitVec 32 := 0#32
  let c1_i32 : BitVec 32 := 1#32
  let arg6 : BitVec 32 := Scf.iv c0_i32 c1_i32 k0_t1
  let v731 : Index := Scalar.indexCast arg6
  let c121 : Index := 121#32
  ![v731.toNat, 121]
def k0_off244 (v732 : BitVec 32) : Fin 3 → Nat :=
  let v733 : Index := Scalar.indexCast v732
  let c0_246 : Index := 0#32
  let c0_247 : Index := 0#32
  ![v733.toNat, 0, 0]

def k0_chk122 (v732 : BitVec 32) : Prop :=
  (∀ a, (k0_off244 v732) a + S1x1x16.size a ≤ S32128x1x16.size a)
theorem k0_off244_inb : ∀ (v732 : BitVec 32) (k0_hw122 : k0_chk122 v732), ∀ a, (k0_off244 v732) a + S1x1x16.size a ≤ S32128x1x16.size a := fun v732 k0_hw122 => k0_hw122

def k0_off245 (k0_t1 : Fin k0_t1_loop.trips) : Fin 2 → Nat :=
  let c0_i32 : BitVec 32 := 0#32
  let c1_i32 : BitVec 32 := 1#32
  let arg6 : BitVec 32 := Scf.iv c0_i32 c1_i32 k0_t1
  let v737 : Index := Scalar.indexCast arg6
  let c122 : Index := 122#32
  ![v737.toNat, 122]
def k0_off246 (v738 : BitVec 32) : Fin 3 → Nat :=
  let v739 : Index := Scalar.indexCast v738
  let c0_248 : Index := 0#32
  let c0_249 : Index := 0#32
  ![v739.toNat, 0, 0]

def k0_chk123 (v738 : BitVec 32) : Prop :=
  (∀ a, (k0_off246 v738) a + S1x1x16.size a ≤ S32128x1x16.size a)
theorem k0_off246_inb : ∀ (v738 : BitVec 32) (k0_hw123 : k0_chk123 v738), ∀ a, (k0_off246 v738) a + S1x1x16.size a ≤ S32128x1x16.size a := fun v738 k0_hw123 => k0_hw123

def k0_off247 (k0_t1 : Fin k0_t1_loop.trips) : Fin 2 → Nat :=
  let c0_i32 : BitVec 32 := 0#32
  let c1_i32 : BitVec 32 := 1#32
  let arg6 : BitVec 32 := Scf.iv c0_i32 c1_i32 k0_t1
  let v743 : Index := Scalar.indexCast arg6
  let c123 : Index := 123#32
  ![v743.toNat, 123]
def k0_off248 (v744 : BitVec 32) : Fin 3 → Nat :=
  let v745 : Index := Scalar.indexCast v744
  let c0_250 : Index := 0#32
  let c0_251 : Index := 0#32
  ![v745.toNat, 0, 0]

def k0_chk124 (v744 : BitVec 32) : Prop :=
  (∀ a, (k0_off248 v744) a + S1x1x16.size a ≤ S32128x1x16.size a)
theorem k0_off248_inb : ∀ (v744 : BitVec 32) (k0_hw124 : k0_chk124 v744), ∀ a, (k0_off248 v744) a + S1x1x16.size a ≤ S32128x1x16.size a := fun v744 k0_hw124 => k0_hw124

def k0_off249 (k0_t1 : Fin k0_t1_loop.trips) : Fin 2 → Nat :=
  let c0_i32 : BitVec 32 := 0#32
  let c1_i32 : BitVec 32 := 1#32
  let arg6 : BitVec 32 := Scf.iv c0_i32 c1_i32 k0_t1
  let v749 : Index := Scalar.indexCast arg6
  let c124 : Index := 124#32
  ![v749.toNat, 124]
def k0_off250 (v750 : BitVec 32) : Fin 3 → Nat :=
  let v751 : Index := Scalar.indexCast v750
  let c0_252 : Index := 0#32
  let c0_253 : Index := 0#32
  ![v751.toNat, 0, 0]

def k0_chk125 (v750 : BitVec 32) : Prop :=
  (∀ a, (k0_off250 v750) a + S1x1x16.size a ≤ S32128x1x16.size a)
theorem k0_off250_inb : ∀ (v750 : BitVec 32) (k0_hw125 : k0_chk125 v750), ∀ a, (k0_off250 v750) a + S1x1x16.size a ≤ S32128x1x16.size a := fun v750 k0_hw125 => k0_hw125

def k0_off251 (k0_t1 : Fin k0_t1_loop.trips) : Fin 2 → Nat :=
  let c0_i32 : BitVec 32 := 0#32
  let c1_i32 : BitVec 32 := 1#32
  let arg6 : BitVec 32 := Scf.iv c0_i32 c1_i32 k0_t1
  let v755 : Index := Scalar.indexCast arg6
  let c125 : Index := 125#32
  ![v755.toNat, 125]
def k0_off252 (v756 : BitVec 32) : Fin 3 → Nat :=
  let v757 : Index := Scalar.indexCast v756
  let c0_254 : Index := 0#32
  let c0_255 : Index := 0#32
  ![v757.toNat, 0, 0]

def k0_chk126 (v756 : BitVec 32) : Prop :=
  (∀ a, (k0_off252 v756) a + S1x1x16.size a ≤ S32128x1x16.size a)
theorem k0_off252_inb : ∀ (v756 : BitVec 32) (k0_hw126 : k0_chk126 v756), ∀ a, (k0_off252 v756) a + S1x1x16.size a ≤ S32128x1x16.size a := fun v756 k0_hw126 => k0_hw126

def k0_off253 (k0_t1 : Fin k0_t1_loop.trips) : Fin 2 → Nat :=
  let c0_i32 : BitVec 32 := 0#32
  let c1_i32 : BitVec 32 := 1#32
  let arg6 : BitVec 32 := Scf.iv c0_i32 c1_i32 k0_t1
  let v761 : Index := Scalar.indexCast arg6
  let c126 : Index := 126#32
  ![v761.toNat, 126]
def k0_off254 (v762 : BitVec 32) : Fin 3 → Nat :=
  let v763 : Index := Scalar.indexCast v762
  let c0_256 : Index := 0#32
  let c0_257 : Index := 0#32
  ![v763.toNat, 0, 0]

def k0_chk127 (v762 : BitVec 32) : Prop :=
  (∀ a, (k0_off254 v762) a + S1x1x16.size a ≤ S32128x1x16.size a)
theorem k0_off254_inb : ∀ (v762 : BitVec 32) (k0_hw127 : k0_chk127 v762), ∀ a, (k0_off254 v762) a + S1x1x16.size a ≤ S32128x1x16.size a := fun v762 k0_hw127 => k0_hw127

def k0_off255 (k0_t1 : Fin k0_t1_loop.trips) : Fin 2 → Nat :=
  let c0_i32 : BitVec 32 := 0#32
  let c1_i32 : BitVec 32 := 1#32
  let arg6 : BitVec 32 := Scf.iv c0_i32 c1_i32 k0_t1
  let v767 : Index := Scalar.indexCast arg6
  let c127 : Index := 127#32
  ![v767.toNat, 127]
def k0_off256 (v768 : BitVec 32) : Fin 3 → Nat :=
  let v769 : Index := Scalar.indexCast v768
  let c0_258 : Index := 0#32
  let c0_259 : Index := 0#32
  ![v769.toNat, 0, 0]

def k0_chk128 (v768 : BitVec 32) : Prop :=
  (∀ a, (k0_off256 v768) a + S1x1x16.size a ≤ S32128x1x16.size a)
theorem k0_off256_inb : ∀ (v768 : BitVec 32) (k0_hw128 : k0_chk128 v768), ∀ a, (k0_off256 v768) a + S1x1x16.size a ≤ S32128x1x16.size a := fun v768 k0_hw128 => k0_hw128

def k0_off257 (k0_t1 : Fin k0_t1_loop.trips) : Fin 2 → Nat :=
  let c0_i32 : BitVec 32 := 0#32
  let c1_i32 : BitVec 32 := 1#32
  let arg6 : BitVec 32 := Scf.iv c0_i32 c1_i32 k0_t1
  let v773 : Index := Scalar.indexCast arg6
  let c128 : Index := 128#32
  ![v773.toNat, 128]
def k0_off258 (v774 : BitVec 32) : Fin 3 → Nat :=
  let v775 : Index := Scalar.indexCast v774
  let c0_260 : Index := 0#32
  let c0_261 : Index := 0#32
  ![v775.toNat, 0, 0]

def k0_chk129 (v774 : BitVec 32) : Prop :=
  (∀ a, (k0_off258 v774) a + S1x1x16.size a ≤ S32128x1x16.size a)
theorem k0_off258_inb : ∀ (v774 : BitVec 32) (k0_hw129 : k0_chk129 v774), ∀ a, (k0_off258 v774) a + S1x1x16.size a ≤ S32128x1x16.size a := fun v774 k0_hw129 => k0_hw129

def k0_off259 (k0_t1 : Fin k0_t1_loop.trips) : Fin 2 → Nat :=
  let c0_i32 : BitVec 32 := 0#32
  let c1_i32 : BitVec 32 := 1#32
  let arg6 : BitVec 32 := Scf.iv c0_i32 c1_i32 k0_t1
  let v779 : Index := Scalar.indexCast arg6
  let c129 : Index := 129#32
  ![v779.toNat, 129]
def k0_off260 (v780 : BitVec 32) : Fin 3 → Nat :=
  let v781 : Index := Scalar.indexCast v780
  let c0_262 : Index := 0#32
  let c0_263 : Index := 0#32
  ![v781.toNat, 0, 0]

def k0_chk130 (v780 : BitVec 32) : Prop :=
  (∀ a, (k0_off260 v780) a + S1x1x16.size a ≤ S32128x1x16.size a)
theorem k0_off260_inb : ∀ (v780 : BitVec 32) (k0_hw130 : k0_chk130 v780), ∀ a, (k0_off260 v780) a + S1x1x16.size a ≤ S32128x1x16.size a := fun v780 k0_hw130 => k0_hw130

def k0_off261 (k0_t1 : Fin k0_t1_loop.trips) : Fin 2 → Nat :=
  let c0_i32 : BitVec 32 := 0#32
  let c1_i32 : BitVec 32 := 1#32
  let arg6 : BitVec 32 := Scf.iv c0_i32 c1_i32 k0_t1
  let v785 : Index := Scalar.indexCast arg6
  let c130 : Index := 130#32
  ![v785.toNat, 130]
def k0_off262 (v786 : BitVec 32) : Fin 3 → Nat :=
  let v787 : Index := Scalar.indexCast v786
  let c0_264 : Index := 0#32
  let c0_265 : Index := 0#32
  ![v787.toNat, 0, 0]

def k0_chk131 (v786 : BitVec 32) : Prop :=
  (∀ a, (k0_off262 v786) a + S1x1x16.size a ≤ S32128x1x16.size a)
theorem k0_off262_inb : ∀ (v786 : BitVec 32) (k0_hw131 : k0_chk131 v786), ∀ a, (k0_off262 v786) a + S1x1x16.size a ≤ S32128x1x16.size a := fun v786 k0_hw131 => k0_hw131

def k0_off263 (k0_t1 : Fin k0_t1_loop.trips) : Fin 2 → Nat :=
  let c0_i32 : BitVec 32 := 0#32
  let c1_i32 : BitVec 32 := 1#32
  let arg6 : BitVec 32 := Scf.iv c0_i32 c1_i32 k0_t1
  let v791 : Index := Scalar.indexCast arg6
  let c131 : Index := 131#32
  ![v791.toNat, 131]
def k0_off264 (v792 : BitVec 32) : Fin 3 → Nat :=
  let v793 : Index := Scalar.indexCast v792
  let c0_266 : Index := 0#32
  let c0_267 : Index := 0#32
  ![v793.toNat, 0, 0]

def k0_chk132 (v792 : BitVec 32) : Prop :=
  (∀ a, (k0_off264 v792) a + S1x1x16.size a ≤ S32128x1x16.size a)
theorem k0_off264_inb : ∀ (v792 : BitVec 32) (k0_hw132 : k0_chk132 v792), ∀ a, (k0_off264 v792) a + S1x1x16.size a ≤ S32128x1x16.size a := fun v792 k0_hw132 => k0_hw132

def k0_off265 (k0_t1 : Fin k0_t1_loop.trips) : Fin 2 → Nat :=
  let c0_i32 : BitVec 32 := 0#32
  let c1_i32 : BitVec 32 := 1#32
  let arg6 : BitVec 32 := Scf.iv c0_i32 c1_i32 k0_t1
  let v797 : Index := Scalar.indexCast arg6
  let c132 : Index := 132#32
  ![v797.toNat, 132]
def k0_off266 (v798 : BitVec 32) : Fin 3 → Nat :=
  let v799 : Index := Scalar.indexCast v798
  let c0_268 : Index := 0#32
  let c0_269 : Index := 0#32
  ![v799.toNat, 0, 0]

def k0_chk133 (v798 : BitVec 32) : Prop :=
  (∀ a, (k0_off266 v798) a + S1x1x16.size a ≤ S32128x1x16.size a)
theorem k0_off266_inb : ∀ (v798 : BitVec 32) (k0_hw133 : k0_chk133 v798), ∀ a, (k0_off266 v798) a + S1x1x16.size a ≤ S32128x1x16.size a := fun v798 k0_hw133 => k0_hw133

def k0_off267 (k0_t1 : Fin k0_t1_loop.trips) : Fin 2 → Nat :=
  let c0_i32 : BitVec 32 := 0#32
  let c1_i32 : BitVec 32 := 1#32
  let arg6 : BitVec 32 := Scf.iv c0_i32 c1_i32 k0_t1
  let v803 : Index := Scalar.indexCast arg6
  let c133 : Index := 133#32
  ![v803.toNat, 133]
def k0_off268 (v804 : BitVec 32) : Fin 3 → Nat :=
  let v805 : Index := Scalar.indexCast v804
  let c0_270 : Index := 0#32
  let c0_271 : Index := 0#32
  ![v805.toNat, 0, 0]

def k0_chk134 (v804 : BitVec 32) : Prop :=
  (∀ a, (k0_off268 v804) a + S1x1x16.size a ≤ S32128x1x16.size a)
theorem k0_off268_inb : ∀ (v804 : BitVec 32) (k0_hw134 : k0_chk134 v804), ∀ a, (k0_off268 v804) a + S1x1x16.size a ≤ S32128x1x16.size a := fun v804 k0_hw134 => k0_hw134

def k0_off269 (k0_t1 : Fin k0_t1_loop.trips) : Fin 2 → Nat :=
  let c0_i32 : BitVec 32 := 0#32
  let c1_i32 : BitVec 32 := 1#32
  let arg6 : BitVec 32 := Scf.iv c0_i32 c1_i32 k0_t1
  let v809 : Index := Scalar.indexCast arg6
  let c134 : Index := 134#32
  ![v809.toNat, 134]
def k0_off270 (v810 : BitVec 32) : Fin 3 → Nat :=
  let v811 : Index := Scalar.indexCast v810
  let c0_272 : Index := 0#32
  let c0_273 : Index := 0#32
  ![v811.toNat, 0, 0]

def k0_chk135 (v810 : BitVec 32) : Prop :=
  (∀ a, (k0_off270 v810) a + S1x1x16.size a ≤ S32128x1x16.size a)
theorem k0_off270_inb : ∀ (v810 : BitVec 32) (k0_hw135 : k0_chk135 v810), ∀ a, (k0_off270 v810) a + S1x1x16.size a ≤ S32128x1x16.size a := fun v810 k0_hw135 => k0_hw135

def k0_off271 (k0_t1 : Fin k0_t1_loop.trips) : Fin 2 → Nat :=
  let c0_i32 : BitVec 32 := 0#32
  let c1_i32 : BitVec 32 := 1#32
  let arg6 : BitVec 32 := Scf.iv c0_i32 c1_i32 k0_t1
  let v815 : Index := Scalar.indexCast arg6
  let c135 : Index := 135#32
  ![v815.toNat, 135]
def k0_off272 (v816 : BitVec 32) : Fin 3 → Nat :=
  let v817 : Index := Scalar.indexCast v816
  let c0_274 : Index := 0#32
  let c0_275 : Index := 0#32
  ![v817.toNat, 0, 0]

def k0_chk136 (v816 : BitVec 32) : Prop :=
  (∀ a, (k0_off272 v816) a + S1x1x16.size a ≤ S32128x1x16.size a)
theorem k0_off272_inb : ∀ (v816 : BitVec 32) (k0_hw136 : k0_chk136 v816), ∀ a, (k0_off272 v816) a + S1x1x16.size a ≤ S32128x1x16.size a := fun v816 k0_hw136 => k0_hw136

def k0_off273 (k0_t1 : Fin k0_t1_loop.trips) : Fin 2 → Nat :=
  let c0_i32 : BitVec 32 := 0#32
  let c1_i32 : BitVec 32 := 1#32
  let arg6 : BitVec 32 := Scf.iv c0_i32 c1_i32 k0_t1
  let v821 : Index := Scalar.indexCast arg6
  let c136 : Index := 136#32
  ![v821.toNat, 136]
def k0_off274 (v822 : BitVec 32) : Fin 3 → Nat :=
  let v823 : Index := Scalar.indexCast v822
  let c0_276 : Index := 0#32
  let c0_277 : Index := 0#32
  ![v823.toNat, 0, 0]

def k0_chk137 (v822 : BitVec 32) : Prop :=
  (∀ a, (k0_off274 v822) a + S1x1x16.size a ≤ S32128x1x16.size a)
theorem k0_off274_inb : ∀ (v822 : BitVec 32) (k0_hw137 : k0_chk137 v822), ∀ a, (k0_off274 v822) a + S1x1x16.size a ≤ S32128x1x16.size a := fun v822 k0_hw137 => k0_hw137

def k0_off275 (k0_t1 : Fin k0_t1_loop.trips) : Fin 2 → Nat :=
  let c0_i32 : BitVec 32 := 0#32
  let c1_i32 : BitVec 32 := 1#32
  let arg6 : BitVec 32 := Scf.iv c0_i32 c1_i32 k0_t1
  let v827 : Index := Scalar.indexCast arg6
  let c137 : Index := 137#32
  ![v827.toNat, 137]
def k0_off276 (v828 : BitVec 32) : Fin 3 → Nat :=
  let v829 : Index := Scalar.indexCast v828
  let c0_278 : Index := 0#32
  let c0_279 : Index := 0#32
  ![v829.toNat, 0, 0]

def k0_chk138 (v828 : BitVec 32) : Prop :=
  (∀ a, (k0_off276 v828) a + S1x1x16.size a ≤ S32128x1x16.size a)
theorem k0_off276_inb : ∀ (v828 : BitVec 32) (k0_hw138 : k0_chk138 v828), ∀ a, (k0_off276 v828) a + S1x1x16.size a ≤ S32128x1x16.size a := fun v828 k0_hw138 => k0_hw138

def k0_off277 (k0_t1 : Fin k0_t1_loop.trips) : Fin 2 → Nat :=
  let c0_i32 : BitVec 32 := 0#32
  let c1_i32 : BitVec 32 := 1#32
  let arg6 : BitVec 32 := Scf.iv c0_i32 c1_i32 k0_t1
  let v833 : Index := Scalar.indexCast arg6
  let c138 : Index := 138#32
  ![v833.toNat, 138]
def k0_off278 (v834 : BitVec 32) : Fin 3 → Nat :=
  let v835 : Index := Scalar.indexCast v834
  let c0_280 : Index := 0#32
  let c0_281 : Index := 0#32
  ![v835.toNat, 0, 0]

def k0_chk139 (v834 : BitVec 32) : Prop :=
  (∀ a, (k0_off278 v834) a + S1x1x16.size a ≤ S32128x1x16.size a)
theorem k0_off278_inb : ∀ (v834 : BitVec 32) (k0_hw139 : k0_chk139 v834), ∀ a, (k0_off278 v834) a + S1x1x16.size a ≤ S32128x1x16.size a := fun v834 k0_hw139 => k0_hw139

def k0_off279 (k0_t1 : Fin k0_t1_loop.trips) : Fin 2 → Nat :=
  let c0_i32 : BitVec 32 := 0#32
  let c1_i32 : BitVec 32 := 1#32
  let arg6 : BitVec 32 := Scf.iv c0_i32 c1_i32 k0_t1
  let v839 : Index := Scalar.indexCast arg6
  let c139 : Index := 139#32
  ![v839.toNat, 139]
def k0_off280 (v840 : BitVec 32) : Fin 3 → Nat :=
  let v841 : Index := Scalar.indexCast v840
  let c0_282 : Index := 0#32
  let c0_283 : Index := 0#32
  ![v841.toNat, 0, 0]

def k0_chk140 (v840 : BitVec 32) : Prop :=
  (∀ a, (k0_off280 v840) a + S1x1x16.size a ≤ S32128x1x16.size a)
theorem k0_off280_inb : ∀ (v840 : BitVec 32) (k0_hw140 : k0_chk140 v840), ∀ a, (k0_off280 v840) a + S1x1x16.size a ≤ S32128x1x16.size a := fun v840 k0_hw140 => k0_hw140

def k0_off281 (k0_t1 : Fin k0_t1_loop.trips) : Fin 2 → Nat :=
  let c0_i32 : BitVec 32 := 0#32
  let c1_i32 : BitVec 32 := 1#32
  let arg6 : BitVec 32 := Scf.iv c0_i32 c1_i32 k0_t1
  let v845 : Index := Scalar.indexCast arg6
  let c140 : Index := 140#32
  ![v845.toNat, 140]
def k0_off282 (v846 : BitVec 32) : Fin 3 → Nat :=
  let v847 : Index := Scalar.indexCast v846
  let c0_284 : Index := 0#32
  let c0_285 : Index := 0#32
  ![v847.toNat, 0, 0]

def k0_chk141 (v846 : BitVec 32) : Prop :=
  (∀ a, (k0_off282 v846) a + S1x1x16.size a ≤ S32128x1x16.size a)
theorem k0_off282_inb : ∀ (v846 : BitVec 32) (k0_hw141 : k0_chk141 v846), ∀ a, (k0_off282 v846) a + S1x1x16.size a ≤ S32128x1x16.size a := fun v846 k0_hw141 => k0_hw141

def k0_off283 (k0_t1 : Fin k0_t1_loop.trips) : Fin 2 → Nat :=
  let c0_i32 : BitVec 32 := 0#32
  let c1_i32 : BitVec 32 := 1#32
  let arg6 : BitVec 32 := Scf.iv c0_i32 c1_i32 k0_t1
  let v851 : Index := Scalar.indexCast arg6
  let c141 : Index := 141#32
  ![v851.toNat, 141]
def k0_off284 (v852 : BitVec 32) : Fin 3 → Nat :=
  let v853 : Index := Scalar.indexCast v852
  let c0_286 : Index := 0#32
  let c0_287 : Index := 0#32
  ![v853.toNat, 0, 0]

def k0_chk142 (v852 : BitVec 32) : Prop :=
  (∀ a, (k0_off284 v852) a + S1x1x16.size a ≤ S32128x1x16.size a)
theorem k0_off284_inb : ∀ (v852 : BitVec 32) (k0_hw142 : k0_chk142 v852), ∀ a, (k0_off284 v852) a + S1x1x16.size a ≤ S32128x1x16.size a := fun v852 k0_hw142 => k0_hw142

def k0_off285 (k0_t1 : Fin k0_t1_loop.trips) : Fin 2 → Nat :=
  let c0_i32 : BitVec 32 := 0#32
  let c1_i32 : BitVec 32 := 1#32
  let arg6 : BitVec 32 := Scf.iv c0_i32 c1_i32 k0_t1
  let v857 : Index := Scalar.indexCast arg6
  let c142 : Index := 142#32
  ![v857.toNat, 142]
def k0_off286 (v858 : BitVec 32) : Fin 3 → Nat :=
  let v859 : Index := Scalar.indexCast v858
  let c0_288 : Index := 0#32
  let c0_289 : Index := 0#32
  ![v859.toNat, 0, 0]

def k0_chk143 (v858 : BitVec 32) : Prop :=
  (∀ a, (k0_off286 v858) a + S1x1x16.size a ≤ S32128x1x16.size a)
theorem k0_off286_inb : ∀ (v858 : BitVec 32) (k0_hw143 : k0_chk143 v858), ∀ a, (k0_off286 v858) a + S1x1x16.size a ≤ S32128x1x16.size a := fun v858 k0_hw143 => k0_hw143

def k0_off287 (k0_t1 : Fin k0_t1_loop.trips) : Fin 2 → Nat :=
  let c0_i32 : BitVec 32 := 0#32
  let c1_i32 : BitVec 32 := 1#32
  let arg6 : BitVec 32 := Scf.iv c0_i32 c1_i32 k0_t1
  let v863 : Index := Scalar.indexCast arg6
  let c143 : Index := 143#32
  ![v863.toNat, 143]
def k0_off288 (v864 : BitVec 32) : Fin 3 → Nat :=
  let v865 : Index := Scalar.indexCast v864
  let c0_290 : Index := 0#32
  let c0_291 : Index := 0#32
  ![v865.toNat, 0, 0]

def k0_chk144 (v864 : BitVec 32) : Prop :=
  (∀ a, (k0_off288 v864) a + S1x1x16.size a ≤ S32128x1x16.size a)
theorem k0_off288_inb : ∀ (v864 : BitVec 32) (k0_hw144 : k0_chk144 v864), ∀ a, (k0_off288 v864) a + S1x1x16.size a ≤ S32128x1x16.size a := fun v864 k0_hw144 => k0_hw144

def k0_off289 (k0_t1 : Fin k0_t1_loop.trips) : Fin 2 → Nat :=
  let c0_i32 : BitVec 32 := 0#32
  let c1_i32 : BitVec 32 := 1#32
  let arg6 : BitVec 32 := Scf.iv c0_i32 c1_i32 k0_t1
  let v869 : Index := Scalar.indexCast arg6
  let c144 : Index := 144#32
  ![v869.toNat, 144]
def k0_off290 (v870 : BitVec 32) : Fin 3 → Nat :=
  let v871 : Index := Scalar.indexCast v870
  let c0_292 : Index := 0#32
  let c0_293 : Index := 0#32
  ![v871.toNat, 0, 0]

def k0_chk145 (v870 : BitVec 32) : Prop :=
  (∀ a, (k0_off290 v870) a + S1x1x16.size a ≤ S32128x1x16.size a)
theorem k0_off290_inb : ∀ (v870 : BitVec 32) (k0_hw145 : k0_chk145 v870), ∀ a, (k0_off290 v870) a + S1x1x16.size a ≤ S32128x1x16.size a := fun v870 k0_hw145 => k0_hw145

def k0_off291 (k0_t1 : Fin k0_t1_loop.trips) : Fin 2 → Nat :=
  let c0_i32 : BitVec 32 := 0#32
  let c1_i32 : BitVec 32 := 1#32
  let arg6 : BitVec 32 := Scf.iv c0_i32 c1_i32 k0_t1
  let v875 : Index := Scalar.indexCast arg6
  let c145 : Index := 145#32
  ![v875.toNat, 145]
def k0_off292 (v876 : BitVec 32) : Fin 3 → Nat :=
  let v877 : Index := Scalar.indexCast v876
  let c0_294 : Index := 0#32
  let c0_295 : Index := 0#32
  ![v877.toNat, 0, 0]

def k0_chk146 (v876 : BitVec 32) : Prop :=
  (∀ a, (k0_off292 v876) a + S1x1x16.size a ≤ S32128x1x16.size a)
theorem k0_off292_inb : ∀ (v876 : BitVec 32) (k0_hw146 : k0_chk146 v876), ∀ a, (k0_off292 v876) a + S1x1x16.size a ≤ S32128x1x16.size a := fun v876 k0_hw146 => k0_hw146

def k0_off293 (k0_t1 : Fin k0_t1_loop.trips) : Fin 2 → Nat :=
  let c0_i32 : BitVec 32 := 0#32
  let c1_i32 : BitVec 32 := 1#32
  let arg6 : BitVec 32 := Scf.iv c0_i32 c1_i32 k0_t1
  let v881 : Index := Scalar.indexCast arg6
  let c146 : Index := 146#32
  ![v881.toNat, 146]
def k0_off294 (v882 : BitVec 32) : Fin 3 → Nat :=
  let v883 : Index := Scalar.indexCast v882
  let c0_296 : Index := 0#32
  let c0_297 : Index := 0#32
  ![v883.toNat, 0, 0]

def k0_chk147 (v882 : BitVec 32) : Prop :=
  (∀ a, (k0_off294 v882) a + S1x1x16.size a ≤ S32128x1x16.size a)
theorem k0_off294_inb : ∀ (v882 : BitVec 32) (k0_hw147 : k0_chk147 v882), ∀ a, (k0_off294 v882) a + S1x1x16.size a ≤ S32128x1x16.size a := fun v882 k0_hw147 => k0_hw147

def k0_off295 (k0_t1 : Fin k0_t1_loop.trips) : Fin 2 → Nat :=
  let c0_i32 : BitVec 32 := 0#32
  let c1_i32 : BitVec 32 := 1#32
  let arg6 : BitVec 32 := Scf.iv c0_i32 c1_i32 k0_t1
  let v887 : Index := Scalar.indexCast arg6
  let c147 : Index := 147#32
  ![v887.toNat, 147]
def k0_off296 (v888 : BitVec 32) : Fin 3 → Nat :=
  let v889 : Index := Scalar.indexCast v888
  let c0_298 : Index := 0#32
  let c0_299 : Index := 0#32
  ![v889.toNat, 0, 0]

def k0_chk148 (v888 : BitVec 32) : Prop :=
  (∀ a, (k0_off296 v888) a + S1x1x16.size a ≤ S32128x1x16.size a)
theorem k0_off296_inb : ∀ (v888 : BitVec 32) (k0_hw148 : k0_chk148 v888), ∀ a, (k0_off296 v888) a + S1x1x16.size a ≤ S32128x1x16.size a := fun v888 k0_hw148 => k0_hw148

def k0_off297 (k0_t1 : Fin k0_t1_loop.trips) : Fin 2 → Nat :=
  let c0_i32 : BitVec 32 := 0#32
  let c1_i32 : BitVec 32 := 1#32
  let arg6 : BitVec 32 := Scf.iv c0_i32 c1_i32 k0_t1
  let v893 : Index := Scalar.indexCast arg6
  let c148 : Index := 148#32
  ![v893.toNat, 148]
def k0_off298 (v894 : BitVec 32) : Fin 3 → Nat :=
  let v895 : Index := Scalar.indexCast v894
  let c0_300 : Index := 0#32
  let c0_301 : Index := 0#32
  ![v895.toNat, 0, 0]

def k0_chk149 (v894 : BitVec 32) : Prop :=
  (∀ a, (k0_off298 v894) a + S1x1x16.size a ≤ S32128x1x16.size a)
theorem k0_off298_inb : ∀ (v894 : BitVec 32) (k0_hw149 : k0_chk149 v894), ∀ a, (k0_off298 v894) a + S1x1x16.size a ≤ S32128x1x16.size a := fun v894 k0_hw149 => k0_hw149

def k0_off299 (k0_t1 : Fin k0_t1_loop.trips) : Fin 2 → Nat :=
  let c0_i32 : BitVec 32 := 0#32
  let c1_i32 : BitVec 32 := 1#32
  let arg6 : BitVec 32 := Scf.iv c0_i32 c1_i32 k0_t1
  let v899 : Index := Scalar.indexCast arg6
  let c149 : Index := 149#32
  ![v899.toNat, 149]
def k0_off300 (v900 : BitVec 32) : Fin 3 → Nat :=
  let v901 : Index := Scalar.indexCast v900
  let c0_302 : Index := 0#32
  let c0_303 : Index := 0#32
  ![v901.toNat, 0, 0]

def k0_chk150 (v900 : BitVec 32) : Prop :=
  (∀ a, (k0_off300 v900) a + S1x1x16.size a ≤ S32128x1x16.size a)
theorem k0_off300_inb : ∀ (v900 : BitVec 32) (k0_hw150 : k0_chk150 v900), ∀ a, (k0_off300 v900) a + S1x1x16.size a ≤ S32128x1x16.size a := fun v900 k0_hw150 => k0_hw150

def k0_off301 (k0_t1 : Fin k0_t1_loop.trips) : Fin 2 → Nat :=
  let c0_i32 : BitVec 32 := 0#32
  let c1_i32 : BitVec 32 := 1#32
  let arg6 : BitVec 32 := Scf.iv c0_i32 c1_i32 k0_t1
  let v905 : Index := Scalar.indexCast arg6
  let c150 : Index := 150#32
  ![v905.toNat, 150]
def k0_off302 (v906 : BitVec 32) : Fin 3 → Nat :=
  let v907 : Index := Scalar.indexCast v906
  let c0_304 : Index := 0#32
  let c0_305 : Index := 0#32
  ![v907.toNat, 0, 0]

def k0_chk151 (v906 : BitVec 32) : Prop :=
  (∀ a, (k0_off302 v906) a + S1x1x16.size a ≤ S32128x1x16.size a)
theorem k0_off302_inb : ∀ (v906 : BitVec 32) (k0_hw151 : k0_chk151 v906), ∀ a, (k0_off302 v906) a + S1x1x16.size a ≤ S32128x1x16.size a := fun v906 k0_hw151 => k0_hw151

def k0_off303 (k0_t1 : Fin k0_t1_loop.trips) : Fin 2 → Nat :=
  let c0_i32 : BitVec 32 := 0#32
  let c1_i32 : BitVec 32 := 1#32
  let arg6 : BitVec 32 := Scf.iv c0_i32 c1_i32 k0_t1
  let v911 : Index := Scalar.indexCast arg6
  let c151 : Index := 151#32
  ![v911.toNat, 151]
def k0_off304 (v912 : BitVec 32) : Fin 3 → Nat :=
  let v913 : Index := Scalar.indexCast v912
  let c0_306 : Index := 0#32
  let c0_307 : Index := 0#32
  ![v913.toNat, 0, 0]

def k0_chk152 (v912 : BitVec 32) : Prop :=
  (∀ a, (k0_off304 v912) a + S1x1x16.size a ≤ S32128x1x16.size a)
theorem k0_off304_inb : ∀ (v912 : BitVec 32) (k0_hw152 : k0_chk152 v912), ∀ a, (k0_off304 v912) a + S1x1x16.size a ≤ S32128x1x16.size a := fun v912 k0_hw152 => k0_hw152

def k0_off305 (k0_t1 : Fin k0_t1_loop.trips) : Fin 2 → Nat :=
  let c0_i32 : BitVec 32 := 0#32
  let c1_i32 : BitVec 32 := 1#32
  let arg6 : BitVec 32 := Scf.iv c0_i32 c1_i32 k0_t1
  let v917 : Index := Scalar.indexCast arg6
  let c152 : Index := 152#32
  ![v917.toNat, 152]
def k0_off306 (v918 : BitVec 32) : Fin 3 → Nat :=
  let v919 : Index := Scalar.indexCast v918
  let c0_308 : Index := 0#32
  let c0_309 : Index := 0#32
  ![v919.toNat, 0, 0]

def k0_chk153 (v918 : BitVec 32) : Prop :=
  (∀ a, (k0_off306 v918) a + S1x1x16.size a ≤ S32128x1x16.size a)
theorem k0_off306_inb : ∀ (v918 : BitVec 32) (k0_hw153 : k0_chk153 v918), ∀ a, (k0_off306 v918) a + S1x1x16.size a ≤ S32128x1x16.size a := fun v918 k0_hw153 => k0_hw153

def k0_off307 (k0_t1 : Fin k0_t1_loop.trips) : Fin 2 → Nat :=
  let c0_i32 : BitVec 32 := 0#32
  let c1_i32 : BitVec 32 := 1#32
  let arg6 : BitVec 32 := Scf.iv c0_i32 c1_i32 k0_t1
  let v923 : Index := Scalar.indexCast arg6
  let c153 : Index := 153#32
  ![v923.toNat, 153]
def k0_off308 (v924 : BitVec 32) : Fin 3 → Nat :=
  let v925 : Index := Scalar.indexCast v924
  let c0_310 : Index := 0#32
  let c0_311 : Index := 0#32
  ![v925.toNat, 0, 0]

def k0_chk154 (v924 : BitVec 32) : Prop :=
  (∀ a, (k0_off308 v924) a + S1x1x16.size a ≤ S32128x1x16.size a)
theorem k0_off308_inb : ∀ (v924 : BitVec 32) (k0_hw154 : k0_chk154 v924), ∀ a, (k0_off308 v924) a + S1x1x16.size a ≤ S32128x1x16.size a := fun v924 k0_hw154 => k0_hw154

def k0_off309 (k0_t1 : Fin k0_t1_loop.trips) : Fin 2 → Nat :=
  let c0_i32 : BitVec 32 := 0#32
  let c1_i32 : BitVec 32 := 1#32
  let arg6 : BitVec 32 := Scf.iv c0_i32 c1_i32 k0_t1
  let v929 : Index := Scalar.indexCast arg6
  let c154 : Index := 154#32
  ![v929.toNat, 154]
def k0_off310 (v930 : BitVec 32) : Fin 3 → Nat :=
  let v931 : Index := Scalar.indexCast v930
  let c0_312 : Index := 0#32
  let c0_313 : Index := 0#32
  ![v931.toNat, 0, 0]

def k0_chk155 (v930 : BitVec 32) : Prop :=
  (∀ a, (k0_off310 v930) a + S1x1x16.size a ≤ S32128x1x16.size a)
theorem k0_off310_inb : ∀ (v930 : BitVec 32) (k0_hw155 : k0_chk155 v930), ∀ a, (k0_off310 v930) a + S1x1x16.size a ≤ S32128x1x16.size a := fun v930 k0_hw155 => k0_hw155

def k0_off311 (k0_t1 : Fin k0_t1_loop.trips) : Fin 2 → Nat :=
  let c0_i32 : BitVec 32 := 0#32
  let c1_i32 : BitVec 32 := 1#32
  let arg6 : BitVec 32 := Scf.iv c0_i32 c1_i32 k0_t1
  let v935 : Index := Scalar.indexCast arg6
  let c155 : Index := 155#32
  ![v935.toNat, 155]
def k0_off312 (v936 : BitVec 32) : Fin 3 → Nat :=
  let v937 : Index := Scalar.indexCast v936
  let c0_314 : Index := 0#32
  let c0_315 : Index := 0#32
  ![v937.toNat, 0, 0]

def k0_chk156 (v936 : BitVec 32) : Prop :=
  (∀ a, (k0_off312 v936) a + S1x1x16.size a ≤ S32128x1x16.size a)
theorem k0_off312_inb : ∀ (v936 : BitVec 32) (k0_hw156 : k0_chk156 v936), ∀ a, (k0_off312 v936) a + S1x1x16.size a ≤ S32128x1x16.size a := fun v936 k0_hw156 => k0_hw156

def k0_off313 (k0_t1 : Fin k0_t1_loop.trips) : Fin 2 → Nat :=
  let c0_i32 : BitVec 32 := 0#32
  let c1_i32 : BitVec 32 := 1#32
  let arg6 : BitVec 32 := Scf.iv c0_i32 c1_i32 k0_t1
  let v941 : Index := Scalar.indexCast arg6
  let c156 : Index := 156#32
  ![v941.toNat, 156]
def k0_off314 (v942 : BitVec 32) : Fin 3 → Nat :=
  let v943 : Index := Scalar.indexCast v942
  let c0_316 : Index := 0#32
  let c0_317 : Index := 0#32
  ![v943.toNat, 0, 0]

def k0_chk157 (v942 : BitVec 32) : Prop :=
  (∀ a, (k0_off314 v942) a + S1x1x16.size a ≤ S32128x1x16.size a)
theorem k0_off314_inb : ∀ (v942 : BitVec 32) (k0_hw157 : k0_chk157 v942), ∀ a, (k0_off314 v942) a + S1x1x16.size a ≤ S32128x1x16.size a := fun v942 k0_hw157 => k0_hw157

def k0_off315 (k0_t1 : Fin k0_t1_loop.trips) : Fin 2 → Nat :=
  let c0_i32 : BitVec 32 := 0#32
  let c1_i32 : BitVec 32 := 1#32
  let arg6 : BitVec 32 := Scf.iv c0_i32 c1_i32 k0_t1
  let v947 : Index := Scalar.indexCast arg6
  let c157 : Index := 157#32
  ![v947.toNat, 157]
def k0_off316 (v948 : BitVec 32) : Fin 3 → Nat :=
  let v949 : Index := Scalar.indexCast v948
  let c0_318 : Index := 0#32
  let c0_319 : Index := 0#32
  ![v949.toNat, 0, 0]

def k0_chk158 (v948 : BitVec 32) : Prop :=
  (∀ a, (k0_off316 v948) a + S1x1x16.size a ≤ S32128x1x16.size a)
theorem k0_off316_inb : ∀ (v948 : BitVec 32) (k0_hw158 : k0_chk158 v948), ∀ a, (k0_off316 v948) a + S1x1x16.size a ≤ S32128x1x16.size a := fun v948 k0_hw158 => k0_hw158

def k0_off317 (k0_t1 : Fin k0_t1_loop.trips) : Fin 2 → Nat :=
  let c0_i32 : BitVec 32 := 0#32
  let c1_i32 : BitVec 32 := 1#32
  let arg6 : BitVec 32 := Scf.iv c0_i32 c1_i32 k0_t1
  let v953 : Index := Scalar.indexCast arg6
  let c158 : Index := 158#32
  ![v953.toNat, 158]
def k0_off318 (v954 : BitVec 32) : Fin 3 → Nat :=
  let v955 : Index := Scalar.indexCast v954
  let c0_320 : Index := 0#32
  let c0_321 : Index := 0#32
  ![v955.toNat, 0, 0]

def k0_chk159 (v954 : BitVec 32) : Prop :=
  (∀ a, (k0_off318 v954) a + S1x1x16.size a ≤ S32128x1x16.size a)
theorem k0_off318_inb : ∀ (v954 : BitVec 32) (k0_hw159 : k0_chk159 v954), ∀ a, (k0_off318 v954) a + S1x1x16.size a ≤ S32128x1x16.size a := fun v954 k0_hw159 => k0_hw159

def k0_off319 (k0_t1 : Fin k0_t1_loop.trips) : Fin 2 → Nat :=
  let c0_i32 : BitVec 32 := 0#32
  let c1_i32 : BitVec 32 := 1#32
  let arg6 : BitVec 32 := Scf.iv c0_i32 c1_i32 k0_t1
  let v959 : Index := Scalar.indexCast arg6
  let c159 : Index := 159#32
  ![v959.toNat, 159]
def k0_off320 (v960 : BitVec 32) : Fin 3 → Nat :=
  let v961 : Index := Scalar.indexCast v960
  let c0_322 : Index := 0#32
  let c0_323 : Index := 0#32
  ![v961.toNat, 0, 0]

def k0_chk160 (v960 : BitVec 32) : Prop :=
  (∀ a, (k0_off320 v960) a + S1x1x16.size a ≤ S32128x1x16.size a)
theorem k0_off320_inb : ∀ (v960 : BitVec 32) (k0_hw160 : k0_chk160 v960), ∀ a, (k0_off320 v960) a + S1x1x16.size a ≤ S32128x1x16.size a := fun v960 k0_hw160 => k0_hw160

def k0_off321 (k0_t1 : Fin k0_t1_loop.trips) : Fin 2 → Nat :=
  let c0_i32 : BitVec 32 := 0#32
  let c1_i32 : BitVec 32 := 1#32
  let arg6 : BitVec 32 := Scf.iv c0_i32 c1_i32 k0_t1
  let v965 : Index := Scalar.indexCast arg6
  let c160 : Index := 160#32
  ![v965.toNat, 160]
def k0_off322 (v966 : BitVec 32) : Fin 3 → Nat :=
  let v967 : Index := Scalar.indexCast v966
  let c0_324 : Index := 0#32
  let c0_325 : Index := 0#32
  ![v967.toNat, 0, 0]

def k0_chk161 (v966 : BitVec 32) : Prop :=
  (∀ a, (k0_off322 v966) a + S1x1x16.size a ≤ S32128x1x16.size a)
theorem k0_off322_inb : ∀ (v966 : BitVec 32) (k0_hw161 : k0_chk161 v966), ∀ a, (k0_off322 v966) a + S1x1x16.size a ≤ S32128x1x16.size a := fun v966 k0_hw161 => k0_hw161

def k0_off323 (k0_t1 : Fin k0_t1_loop.trips) : Fin 2 → Nat :=
  let c0_i32 : BitVec 32 := 0#32
  let c1_i32 : BitVec 32 := 1#32
  let arg6 : BitVec 32 := Scf.iv c0_i32 c1_i32 k0_t1
  let v971 : Index := Scalar.indexCast arg6
  let c161 : Index := 161#32
  ![v971.toNat, 161]
def k0_off324 (v972 : BitVec 32) : Fin 3 → Nat :=
  let v973 : Index := Scalar.indexCast v972
  let c0_326 : Index := 0#32
  let c0_327 : Index := 0#32
  ![v973.toNat, 0, 0]

def k0_chk162 (v972 : BitVec 32) : Prop :=
  (∀ a, (k0_off324 v972) a + S1x1x16.size a ≤ S32128x1x16.size a)
theorem k0_off324_inb : ∀ (v972 : BitVec 32) (k0_hw162 : k0_chk162 v972), ∀ a, (k0_off324 v972) a + S1x1x16.size a ≤ S32128x1x16.size a := fun v972 k0_hw162 => k0_hw162

def k0_off325 (k0_t1 : Fin k0_t1_loop.trips) : Fin 2 → Nat :=
  let c0_i32 : BitVec 32 := 0#32
  let c1_i32 : BitVec 32 := 1#32
  let arg6 : BitVec 32 := Scf.iv c0_i32 c1_i32 k0_t1
  let v977 : Index := Scalar.indexCast arg6
  let c162 : Index := 162#32
  ![v977.toNat, 162]
def k0_off326 (v978 : BitVec 32) : Fin 3 → Nat :=
  let v979 : Index := Scalar.indexCast v978
  let c0_328 : Index := 0#32
  let c0_329 : Index := 0#32
  ![v979.toNat, 0, 0]

def k0_chk163 (v978 : BitVec 32) : Prop :=
  (∀ a, (k0_off326 v978) a + S1x1x16.size a ≤ S32128x1x16.size a)
theorem k0_off326_inb : ∀ (v978 : BitVec 32) (k0_hw163 : k0_chk163 v978), ∀ a, (k0_off326 v978) a + S1x1x16.size a ≤ S32128x1x16.size a := fun v978 k0_hw163 => k0_hw163

def k0_off327 (k0_t1 : Fin k0_t1_loop.trips) : Fin 2 → Nat :=
  let c0_i32 : BitVec 32 := 0#32
  let c1_i32 : BitVec 32 := 1#32
  let arg6 : BitVec 32 := Scf.iv c0_i32 c1_i32 k0_t1
  let v983 : Index := Scalar.indexCast arg6
  let c163 : Index := 163#32
  ![v983.toNat, 163]
def k0_off328 (v984 : BitVec 32) : Fin 3 → Nat :=
  let v985 : Index := Scalar.indexCast v984
  let c0_330 : Index := 0#32
  let c0_331 : Index := 0#32
  ![v985.toNat, 0, 0]

def k0_chk164 (v984 : BitVec 32) : Prop :=
  (∀ a, (k0_off328 v984) a + S1x1x16.size a ≤ S32128x1x16.size a)
theorem k0_off328_inb : ∀ (v984 : BitVec 32) (k0_hw164 : k0_chk164 v984), ∀ a, (k0_off328 v984) a + S1x1x16.size a ≤ S32128x1x16.size a := fun v984 k0_hw164 => k0_hw164

def k0_off329 (k0_t1 : Fin k0_t1_loop.trips) : Fin 2 → Nat :=
  let c0_i32 : BitVec 32 := 0#32
  let c1_i32 : BitVec 32 := 1#32
  let arg6 : BitVec 32 := Scf.iv c0_i32 c1_i32 k0_t1
  let v989 : Index := Scalar.indexCast arg6
  let c164 : Index := 164#32
  ![v989.toNat, 164]
def k0_off330 (v990 : BitVec 32) : Fin 3 → Nat :=
  let v991 : Index := Scalar.indexCast v990
  let c0_332 : Index := 0#32
  let c0_333 : Index := 0#32
  ![v991.toNat, 0, 0]

def k0_chk165 (v990 : BitVec 32) : Prop :=
  (∀ a, (k0_off330 v990) a + S1x1x16.size a ≤ S32128x1x16.size a)
theorem k0_off330_inb : ∀ (v990 : BitVec 32) (k0_hw165 : k0_chk165 v990), ∀ a, (k0_off330 v990) a + S1x1x16.size a ≤ S32128x1x16.size a := fun v990 k0_hw165 => k0_hw165

def k0_off331 (k0_t1 : Fin k0_t1_loop.trips) : Fin 2 → Nat :=
  let c0_i32 : BitVec 32 := 0#32
  let c1_i32 : BitVec 32 := 1#32
  let arg6 : BitVec 32 := Scf.iv c0_i32 c1_i32 k0_t1
  let v995 : Index := Scalar.indexCast arg6
  let c165 : Index := 165#32
  ![v995.toNat, 165]
def k0_off332 (v996 : BitVec 32) : Fin 3 → Nat :=
  let v997 : Index := Scalar.indexCast v996
  let c0_334 : Index := 0#32
  let c0_335 : Index := 0#32
  ![v997.toNat, 0, 0]

def k0_chk166 (v996 : BitVec 32) : Prop :=
  (∀ a, (k0_off332 v996) a + S1x1x16.size a ≤ S32128x1x16.size a)
theorem k0_off332_inb : ∀ (v996 : BitVec 32) (k0_hw166 : k0_chk166 v996), ∀ a, (k0_off332 v996) a + S1x1x16.size a ≤ S32128x1x16.size a := fun v996 k0_hw166 => k0_hw166

def k0_off333 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1001 : Index := Scalar.indexCast arg6
  let c166 : Index := 166#32
  ![v1001.toNat, 166]
def k0_off334 (v1002 : BitVec 32) : Fin 3 → Nat :=
  let v1003 : Index := Scalar.indexCast v1002
  let c0_336 : Index := 0#32
  let c0_337 : Index := 0#32
  ![v1003.toNat, 0, 0]

def k0_chk167 (v1002 : BitVec 32) : Prop :=
  (∀ a, (k0_off334 v1002) a + S1x1x16.size a ≤ S32128x1x16.size a)
theorem k0_off334_inb : ∀ (v1002 : BitVec 32) (k0_hw167 : k0_chk167 v1002), ∀ a, (k0_off334 v1002) a + S1x1x16.size a ≤ S32128x1x16.size a := fun v1002 k0_hw167 => k0_hw167

def k0_off335 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1007 : Index := Scalar.indexCast arg6
  let c167 : Index := 167#32
  ![v1007.toNat, 167]
def k0_off336 (v1008 : BitVec 32) : Fin 3 → Nat :=
  let v1009 : Index := Scalar.indexCast v1008
  let c0_338 : Index := 0#32
  let c0_339 : Index := 0#32
  ![v1009.toNat, 0, 0]

def k0_chk168 (v1008 : BitVec 32) : Prop :=
  (∀ a, (k0_off336 v1008) a + S1x1x16.size a ≤ S32128x1x16.size a)
theorem k0_off336_inb : ∀ (v1008 : BitVec 32) (k0_hw168 : k0_chk168 v1008), ∀ a, (k0_off336 v1008) a + S1x1x16.size a ≤ S32128x1x16.size a := fun v1008 k0_hw168 => k0_hw168

def k0_off337 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1013 : Index := Scalar.indexCast arg6
  let c168 : Index := 168#32
  ![v1013.toNat, 168]
def k0_off338 (v1014 : BitVec 32) : Fin 3 → Nat :=
  let v1015 : Index := Scalar.indexCast v1014
  let c0_340 : Index := 0#32
  let c0_341 : Index := 0#32
  ![v1015.toNat, 0, 0]

def k0_chk169 (v1014 : BitVec 32) : Prop :=
  (∀ a, (k0_off338 v1014) a + S1x1x16.size a ≤ S32128x1x16.size a)
theorem k0_off338_inb : ∀ (v1014 : BitVec 32) (k0_hw169 : k0_chk169 v1014), ∀ a, (k0_off338 v1014) a + S1x1x16.size a ≤ S32128x1x16.size a := fun v1014 k0_hw169 => k0_hw169

def k0_off339 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1019 : Index := Scalar.indexCast arg6
  let c169 : Index := 169#32
  ![v1019.toNat, 169]
def k0_off340 (v1020 : BitVec 32) : Fin 3 → Nat :=
  let v1021 : Index := Scalar.indexCast v1020
  let c0_342 : Index := 0#32
  let c0_343 : Index := 0#32
  ![v1021.toNat, 0, 0]

def k0_chk170 (v1020 : BitVec 32) : Prop :=
  (∀ a, (k0_off340 v1020) a + S1x1x16.size a ≤ S32128x1x16.size a)
theorem k0_off340_inb : ∀ (v1020 : BitVec 32) (k0_hw170 : k0_chk170 v1020), ∀ a, (k0_off340 v1020) a + S1x1x16.size a ≤ S32128x1x16.size a := fun v1020 k0_hw170 => k0_hw170

def k0_off341 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1025 : Index := Scalar.indexCast arg6
  let c170 : Index := 170#32
  ![v1025.toNat, 170]
def k0_off342 (v1026 : BitVec 32) : Fin 3 → Nat :=
  let v1027 : Index := Scalar.indexCast v1026
  let c0_344 : Index := 0#32
  let c0_345 : Index := 0#32
  ![v1027.toNat, 0, 0]

def k0_chk171 (v1026 : BitVec 32) : Prop :=
  (∀ a, (k0_off342 v1026) a + S1x1x16.size a ≤ S32128x1x16.size a)
theorem k0_off342_inb : ∀ (v1026 : BitVec 32) (k0_hw171 : k0_chk171 v1026), ∀ a, (k0_off342 v1026) a + S1x1x16.size a ≤ S32128x1x16.size a := fun v1026 k0_hw171 => k0_hw171

def k0_off343 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1031 : Index := Scalar.indexCast arg6
  let c171 : Index := 171#32
  ![v1031.toNat, 171]
def k0_off344 (v1032 : BitVec 32) : Fin 3 → Nat :=
  let v1033 : Index := Scalar.indexCast v1032
  let c0_346 : Index := 0#32
  let c0_347 : Index := 0#32
  ![v1033.toNat, 0, 0]

def k0_chk172 (v1032 : BitVec 32) : Prop :=
  (∀ a, (k0_off344 v1032) a + S1x1x16.size a ≤ S32128x1x16.size a)
theorem k0_off344_inb : ∀ (v1032 : BitVec 32) (k0_hw172 : k0_chk172 v1032), ∀ a, (k0_off344 v1032) a + S1x1x16.size a ≤ S32128x1x16.size a := fun v1032 k0_hw172 => k0_hw172

def k0_off345 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1037 : Index := Scalar.indexCast arg6
  let c172 : Index := 172#32
  ![v1037.toNat, 172]
def k0_off346 (v1038 : BitVec 32) : Fin 3 → Nat :=
  let v1039 : Index := Scalar.indexCast v1038
  let c0_348 : Index := 0#32
  let c0_349 : Index := 0#32
  ![v1039.toNat, 0, 0]

def k0_chk173 (v1038 : BitVec 32) : Prop :=
  (∀ a, (k0_off346 v1038) a + S1x1x16.size a ≤ S32128x1x16.size a)
theorem k0_off346_inb : ∀ (v1038 : BitVec 32) (k0_hw173 : k0_chk173 v1038), ∀ a, (k0_off346 v1038) a + S1x1x16.size a ≤ S32128x1x16.size a := fun v1038 k0_hw173 => k0_hw173

def k0_off347 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1043 : Index := Scalar.indexCast arg6
  let c173 : Index := 173#32
  ![v1043.toNat, 173]
def k0_off348 (v1044 : BitVec 32) : Fin 3 → Nat :=
  let v1045 : Index := Scalar.indexCast v1044
  let c0_350 : Index := 0#32
  let c0_351 : Index := 0#32
  ![v1045.toNat, 0, 0]

def k0_chk174 (v1044 : BitVec 32) : Prop :=
  (∀ a, (k0_off348 v1044) a + S1x1x16.size a ≤ S32128x1x16.size a)
theorem k0_off348_inb : ∀ (v1044 : BitVec 32) (k0_hw174 : k0_chk174 v1044), ∀ a, (k0_off348 v1044) a + S1x1x16.size a ≤ S32128x1x16.size a := fun v1044 k0_hw174 => k0_hw174

def k0_off349 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1049 : Index := Scalar.indexCast arg6
  let c174 : Index := 174#32
  ![v1049.toNat, 174]
def k0_off350 (v1050 : BitVec 32) : Fin 3 → Nat :=
  let v1051 : Index := Scalar.indexCast v1050
  let c0_352 : Index := 0#32
  let c0_353 : Index := 0#32
  ![v1051.toNat, 0, 0]

def k0_chk175 (v1050 : BitVec 32) : Prop :=
  (∀ a, (k0_off350 v1050) a + S1x1x16.size a ≤ S32128x1x16.size a)
theorem k0_off350_inb : ∀ (v1050 : BitVec 32) (k0_hw175 : k0_chk175 v1050), ∀ a, (k0_off350 v1050) a + S1x1x16.size a ≤ S32128x1x16.size a := fun v1050 k0_hw175 => k0_hw175

def k0_off351 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1055 : Index := Scalar.indexCast arg6
  let c175 : Index := 175#32
  ![v1055.toNat, 175]
def k0_off352 (v1056 : BitVec 32) : Fin 3 → Nat :=
  let v1057 : Index := Scalar.indexCast v1056
  let c0_354 : Index := 0#32
  let c0_355 : Index := 0#32
  ![v1057.toNat, 0, 0]

def k0_chk176 (v1056 : BitVec 32) : Prop :=
  (∀ a, (k0_off352 v1056) a + S1x1x16.size a ≤ S32128x1x16.size a)
theorem k0_off352_inb : ∀ (v1056 : BitVec 32) (k0_hw176 : k0_chk176 v1056), ∀ a, (k0_off352 v1056) a + S1x1x16.size a ≤ S32128x1x16.size a := fun v1056 k0_hw176 => k0_hw176

def k0_off353 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1061 : Index := Scalar.indexCast arg6
  let c176 : Index := 176#32
  ![v1061.toNat, 176]
def k0_off354 (v1062 : BitVec 32) : Fin 3 → Nat :=
  let v1063 : Index := Scalar.indexCast v1062
  let c0_356 : Index := 0#32
  let c0_357 : Index := 0#32
  ![v1063.toNat, 0, 0]

def k0_chk177 (v1062 : BitVec 32) : Prop :=
  (∀ a, (k0_off354 v1062) a + S1x1x16.size a ≤ S32128x1x16.size a)
theorem k0_off354_inb : ∀ (v1062 : BitVec 32) (k0_hw177 : k0_chk177 v1062), ∀ a, (k0_off354 v1062) a + S1x1x16.size a ≤ S32128x1x16.size a := fun v1062 k0_hw177 => k0_hw177

def k0_off355 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1067 : Index := Scalar.indexCast arg6
  let c177 : Index := 177#32
  ![v1067.toNat, 177]
def k0_off356 (v1068 : BitVec 32) : Fin 3 → Nat :=
  let v1069 : Index := Scalar.indexCast v1068
  let c0_358 : Index := 0#32
  let c0_359 : Index := 0#32
  ![v1069.toNat, 0, 0]

def k0_chk178 (v1068 : BitVec 32) : Prop :=
  (∀ a, (k0_off356 v1068) a + S1x1x16.size a ≤ S32128x1x16.size a)
theorem k0_off356_inb : ∀ (v1068 : BitVec 32) (k0_hw178 : k0_chk178 v1068), ∀ a, (k0_off356 v1068) a + S1x1x16.size a ≤ S32128x1x16.size a := fun v1068 k0_hw178 => k0_hw178

def k0_off357 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1073 : Index := Scalar.indexCast arg6
  let c178 : Index := 178#32
  ![v1073.toNat, 178]
def k0_off358 (v1074 : BitVec 32) : Fin 3 → Nat :=
  let v1075 : Index := Scalar.indexCast v1074
  let c0_360 : Index := 0#32
  let c0_361 : Index := 0#32
  ![v1075.toNat, 0, 0]

def k0_chk179 (v1074 : BitVec 32) : Prop :=
  (∀ a, (k0_off358 v1074) a + S1x1x16.size a ≤ S32128x1x16.size a)
theorem k0_off358_inb : ∀ (v1074 : BitVec 32) (k0_hw179 : k0_chk179 v1074), ∀ a, (k0_off358 v1074) a + S1x1x16.size a ≤ S32128x1x16.size a := fun v1074 k0_hw179 => k0_hw179

def k0_off359 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1079 : Index := Scalar.indexCast arg6
  let c179 : Index := 179#32
  ![v1079.toNat, 179]
def k0_off360 (v1080 : BitVec 32) : Fin 3 → Nat :=
  let v1081 : Index := Scalar.indexCast v1080
  let c0_362 : Index := 0#32
  let c0_363 : Index := 0#32
  ![v1081.toNat, 0, 0]

def k0_chk180 (v1080 : BitVec 32) : Prop :=
  (∀ a, (k0_off360 v1080) a + S1x1x16.size a ≤ S32128x1x16.size a)
theorem k0_off360_inb : ∀ (v1080 : BitVec 32) (k0_hw180 : k0_chk180 v1080), ∀ a, (k0_off360 v1080) a + S1x1x16.size a ≤ S32128x1x16.size a := fun v1080 k0_hw180 => k0_hw180

def k0_off361 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1085 : Index := Scalar.indexCast arg6
  let c180 : Index := 180#32
  ![v1085.toNat, 180]
def k0_off362 (v1086 : BitVec 32) : Fin 3 → Nat :=
  let v1087 : Index := Scalar.indexCast v1086
  let c0_364 : Index := 0#32
  let c0_365 : Index := 0#32
  ![v1087.toNat, 0, 0]

def k0_chk181 (v1086 : BitVec 32) : Prop :=
  (∀ a, (k0_off362 v1086) a + S1x1x16.size a ≤ S32128x1x16.size a)
theorem k0_off362_inb : ∀ (v1086 : BitVec 32) (k0_hw181 : k0_chk181 v1086), ∀ a, (k0_off362 v1086) a + S1x1x16.size a ≤ S32128x1x16.size a := fun v1086 k0_hw181 => k0_hw181

def k0_off363 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1091 : Index := Scalar.indexCast arg6
  let c181 : Index := 181#32
  ![v1091.toNat, 181]
def k0_off364 (v1092 : BitVec 32) : Fin 3 → Nat :=
  let v1093 : Index := Scalar.indexCast v1092
  let c0_366 : Index := 0#32
  let c0_367 : Index := 0#32
  ![v1093.toNat, 0, 0]

def k0_chk182 (v1092 : BitVec 32) : Prop :=
  (∀ a, (k0_off364 v1092) a + S1x1x16.size a ≤ S32128x1x16.size a)
theorem k0_off364_inb : ∀ (v1092 : BitVec 32) (k0_hw182 : k0_chk182 v1092), ∀ a, (k0_off364 v1092) a + S1x1x16.size a ≤ S32128x1x16.size a := fun v1092 k0_hw182 => k0_hw182

def k0_off365 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1097 : Index := Scalar.indexCast arg6
  let c182 : Index := 182#32
  ![v1097.toNat, 182]
def k0_off366 (v1098 : BitVec 32) : Fin 3 → Nat :=
  let v1099 : Index := Scalar.indexCast v1098
  let c0_368 : Index := 0#32
  let c0_369 : Index := 0#32
  ![v1099.toNat, 0, 0]

def k0_chk183 (v1098 : BitVec 32) : Prop :=
  (∀ a, (k0_off366 v1098) a + S1x1x16.size a ≤ S32128x1x16.size a)
theorem k0_off366_inb : ∀ (v1098 : BitVec 32) (k0_hw183 : k0_chk183 v1098), ∀ a, (k0_off366 v1098) a + S1x1x16.size a ≤ S32128x1x16.size a := fun v1098 k0_hw183 => k0_hw183

def k0_off367 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1103 : Index := Scalar.indexCast arg6
  let c183 : Index := 183#32
  ![v1103.toNat, 183]
def k0_off368 (v1104 : BitVec 32) : Fin 3 → Nat :=
  let v1105 : Index := Scalar.indexCast v1104
  let c0_370 : Index := 0#32
  let c0_371 : Index := 0#32
  ![v1105.toNat, 0, 0]

def k0_chk184 (v1104 : BitVec 32) : Prop :=
  (∀ a, (k0_off368 v1104) a + S1x1x16.size a ≤ S32128x1x16.size a)
theorem k0_off368_inb : ∀ (v1104 : BitVec 32) (k0_hw184 : k0_chk184 v1104), ∀ a, (k0_off368 v1104) a + S1x1x16.size a ≤ S32128x1x16.size a := fun v1104 k0_hw184 => k0_hw184

def k0_off369 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1109 : Index := Scalar.indexCast arg6
  let c184 : Index := 184#32
  ![v1109.toNat, 184]
def k0_off370 (v1110 : BitVec 32) : Fin 3 → Nat :=
  let v1111 : Index := Scalar.indexCast v1110
  let c0_372 : Index := 0#32
  let c0_373 : Index := 0#32
  ![v1111.toNat, 0, 0]

def k0_chk185 (v1110 : BitVec 32) : Prop :=
  (∀ a, (k0_off370 v1110) a + S1x1x16.size a ≤ S32128x1x16.size a)
theorem k0_off370_inb : ∀ (v1110 : BitVec 32) (k0_hw185 : k0_chk185 v1110), ∀ a, (k0_off370 v1110) a + S1x1x16.size a ≤ S32128x1x16.size a := fun v1110 k0_hw185 => k0_hw185

def k0_off371 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1115 : Index := Scalar.indexCast arg6
  let c185 : Index := 185#32
  ![v1115.toNat, 185]
def k0_off372 (v1116 : BitVec 32) : Fin 3 → Nat :=
  let v1117 : Index := Scalar.indexCast v1116
  let c0_374 : Index := 0#32
  let c0_375 : Index := 0#32
  ![v1117.toNat, 0, 0]

def k0_chk186 (v1116 : BitVec 32) : Prop :=
  (∀ a, (k0_off372 v1116) a + S1x1x16.size a ≤ S32128x1x16.size a)
theorem k0_off372_inb : ∀ (v1116 : BitVec 32) (k0_hw186 : k0_chk186 v1116), ∀ a, (k0_off372 v1116) a + S1x1x16.size a ≤ S32128x1x16.size a := fun v1116 k0_hw186 => k0_hw186

def k0_off373 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1121 : Index := Scalar.indexCast arg6
  let c186 : Index := 186#32
  ![v1121.toNat, 186]
def k0_off374 (v1122 : BitVec 32) : Fin 3 → Nat :=
  let v1123 : Index := Scalar.indexCast v1122
  let c0_376 : Index := 0#32
  let c0_377 : Index := 0#32
  ![v1123.toNat, 0, 0]

def k0_chk187 (v1122 : BitVec 32) : Prop :=
  (∀ a, (k0_off374 v1122) a + S1x1x16.size a ≤ S32128x1x16.size a)
theorem k0_off374_inb : ∀ (v1122 : BitVec 32) (k0_hw187 : k0_chk187 v1122), ∀ a, (k0_off374 v1122) a + S1x1x16.size a ≤ S32128x1x16.size a := fun v1122 k0_hw187 => k0_hw187

def k0_off375 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1127 : Index := Scalar.indexCast arg6
  let c187 : Index := 187#32
  ![v1127.toNat, 187]
def k0_off376 (v1128 : BitVec 32) : Fin 3 → Nat :=
  let v1129 : Index := Scalar.indexCast v1128
  let c0_378 : Index := 0#32
  let c0_379 : Index := 0#32
  ![v1129.toNat, 0, 0]

def k0_chk188 (v1128 : BitVec 32) : Prop :=
  (∀ a, (k0_off376 v1128) a + S1x1x16.size a ≤ S32128x1x16.size a)
theorem k0_off376_inb : ∀ (v1128 : BitVec 32) (k0_hw188 : k0_chk188 v1128), ∀ a, (k0_off376 v1128) a + S1x1x16.size a ≤ S32128x1x16.size a := fun v1128 k0_hw188 => k0_hw188

def k0_off377 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1133 : Index := Scalar.indexCast arg6
  let c188 : Index := 188#32
  ![v1133.toNat, 188]
def k0_off378 (v1134 : BitVec 32) : Fin 3 → Nat :=
  let v1135 : Index := Scalar.indexCast v1134
  let c0_380 : Index := 0#32
  let c0_381 : Index := 0#32
  ![v1135.toNat, 0, 0]

def k0_chk189 (v1134 : BitVec 32) : Prop :=
  (∀ a, (k0_off378 v1134) a + S1x1x16.size a ≤ S32128x1x16.size a)
theorem k0_off378_inb : ∀ (v1134 : BitVec 32) (k0_hw189 : k0_chk189 v1134), ∀ a, (k0_off378 v1134) a + S1x1x16.size a ≤ S32128x1x16.size a := fun v1134 k0_hw189 => k0_hw189

def k0_off379 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1139 : Index := Scalar.indexCast arg6
  let c189 : Index := 189#32
  ![v1139.toNat, 189]
def k0_off380 (v1140 : BitVec 32) : Fin 3 → Nat :=
  let v1141 : Index := Scalar.indexCast v1140
  let c0_382 : Index := 0#32
  let c0_383 : Index := 0#32
  ![v1141.toNat, 0, 0]

def k0_chk190 (v1140 : BitVec 32) : Prop :=
  (∀ a, (k0_off380 v1140) a + S1x1x16.size a ≤ S32128x1x16.size a)
theorem k0_off380_inb : ∀ (v1140 : BitVec 32) (k0_hw190 : k0_chk190 v1140), ∀ a, (k0_off380 v1140) a + S1x1x16.size a ≤ S32128x1x16.size a := fun v1140 k0_hw190 => k0_hw190

def k0_off381 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1145 : Index := Scalar.indexCast arg6
  let c190 : Index := 190#32
  ![v1145.toNat, 190]
def k0_off382 (v1146 : BitVec 32) : Fin 3 → Nat :=
  let v1147 : Index := Scalar.indexCast v1146
  let c0_384 : Index := 0#32
  let c0_385 : Index := 0#32
  ![v1147.toNat, 0, 0]

def k0_chk191 (v1146 : BitVec 32) : Prop :=
  (∀ a, (k0_off382 v1146) a + S1x1x16.size a ≤ S32128x1x16.size a)
theorem k0_off382_inb : ∀ (v1146 : BitVec 32) (k0_hw191 : k0_chk191 v1146), ∀ a, (k0_off382 v1146) a + S1x1x16.size a ≤ S32128x1x16.size a := fun v1146 k0_hw191 => k0_hw191

def k0_off383 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1151 : Index := Scalar.indexCast arg6
  let c191 : Index := 191#32
  ![v1151.toNat, 191]
def k0_off384 (v1152 : BitVec 32) : Fin 3 → Nat :=
  let v1153 : Index := Scalar.indexCast v1152
  let c0_386 : Index := 0#32
  let c0_387 : Index := 0#32
  ![v1153.toNat, 0, 0]

def k0_chk192 (v1152 : BitVec 32) : Prop :=
  (∀ a, (k0_off384 v1152) a + S1x1x16.size a ≤ S32128x1x16.size a)
theorem k0_off384_inb : ∀ (v1152 : BitVec 32) (k0_hw192 : k0_chk192 v1152), ∀ a, (k0_off384 v1152) a + S1x1x16.size a ≤ S32128x1x16.size a := fun v1152 k0_hw192 => k0_hw192

def k0_off385 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1157 : Index := Scalar.indexCast arg6
  let c192 : Index := 192#32
  ![v1157.toNat, 192]
def k0_off386 (v1158 : BitVec 32) : Fin 3 → Nat :=
  let v1159 : Index := Scalar.indexCast v1158
  let c0_388 : Index := 0#32
  let c0_389 : Index := 0#32
  ![v1159.toNat, 0, 0]

def k0_chk193 (v1158 : BitVec 32) : Prop :=
  (∀ a, (k0_off386 v1158) a + S1x1x16.size a ≤ S32128x1x16.size a)
theorem k0_off386_inb : ∀ (v1158 : BitVec 32) (k0_hw193 : k0_chk193 v1158), ∀ a, (k0_off386 v1158) a + S1x1x16.size a ≤ S32128x1x16.size a := fun v1158 k0_hw193 => k0_hw193

def k0_off387 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1163 : Index := Scalar.indexCast arg6
  let c193 : Index := 193#32
  ![v1163.toNat, 193]
def k0_off388 (v1164 : BitVec 32) : Fin 3 → Nat :=
  let v1165 : Index := Scalar.indexCast v1164
  let c0_390 : Index := 0#32
  let c0_391 : Index := 0#32
  ![v1165.toNat, 0, 0]

def k0_chk194 (v1164 : BitVec 32) : Prop :=
  (∀ a, (k0_off388 v1164) a + S1x1x16.size a ≤ S32128x1x16.size a)
theorem k0_off388_inb : ∀ (v1164 : BitVec 32) (k0_hw194 : k0_chk194 v1164), ∀ a, (k0_off388 v1164) a + S1x1x16.size a ≤ S32128x1x16.size a := fun v1164 k0_hw194 => k0_hw194

def k0_off389 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1169 : Index := Scalar.indexCast arg6
  let c194 : Index := 194#32
  ![v1169.toNat, 194]
def k0_off390 (v1170 : BitVec 32) : Fin 3 → Nat :=
  let v1171 : Index := Scalar.indexCast v1170
  let c0_392 : Index := 0#32
  let c0_393 : Index := 0#32
  ![v1171.toNat, 0, 0]

def k0_chk195 (v1170 : BitVec 32) : Prop :=
  (∀ a, (k0_off390 v1170) a + S1x1x16.size a ≤ S32128x1x16.size a)
theorem k0_off390_inb : ∀ (v1170 : BitVec 32) (k0_hw195 : k0_chk195 v1170), ∀ a, (k0_off390 v1170) a + S1x1x16.size a ≤ S32128x1x16.size a := fun v1170 k0_hw195 => k0_hw195

def k0_off391 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1175 : Index := Scalar.indexCast arg6
  let c195 : Index := 195#32
  ![v1175.toNat, 195]
def k0_off392 (v1176 : BitVec 32) : Fin 3 → Nat :=
  let v1177 : Index := Scalar.indexCast v1176
  let c0_394 : Index := 0#32
  let c0_395 : Index := 0#32
  ![v1177.toNat, 0, 0]

def k0_chk196 (v1176 : BitVec 32) : Prop :=
  (∀ a, (k0_off392 v1176) a + S1x1x16.size a ≤ S32128x1x16.size a)
theorem k0_off392_inb : ∀ (v1176 : BitVec 32) (k0_hw196 : k0_chk196 v1176), ∀ a, (k0_off392 v1176) a + S1x1x16.size a ≤ S32128x1x16.size a := fun v1176 k0_hw196 => k0_hw196

def k0_off393 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1181 : Index := Scalar.indexCast arg6
  let c196 : Index := 196#32
  ![v1181.toNat, 196]
def k0_off394 (v1182 : BitVec 32) : Fin 3 → Nat :=
  let v1183 : Index := Scalar.indexCast v1182
  let c0_396 : Index := 0#32
  let c0_397 : Index := 0#32
  ![v1183.toNat, 0, 0]

def k0_chk197 (v1182 : BitVec 32) : Prop :=
  (∀ a, (k0_off394 v1182) a + S1x1x16.size a ≤ S32128x1x16.size a)
theorem k0_off394_inb : ∀ (v1182 : BitVec 32) (k0_hw197 : k0_chk197 v1182), ∀ a, (k0_off394 v1182) a + S1x1x16.size a ≤ S32128x1x16.size a := fun v1182 k0_hw197 => k0_hw197

def k0_off395 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1187 : Index := Scalar.indexCast arg6
  let c197 : Index := 197#32
  ![v1187.toNat, 197]
def k0_off396 (v1188 : BitVec 32) : Fin 3 → Nat :=
  let v1189 : Index := Scalar.indexCast v1188
  let c0_398 : Index := 0#32
  let c0_399 : Index := 0#32
  ![v1189.toNat, 0, 0]

def k0_chk198 (v1188 : BitVec 32) : Prop :=
  (∀ a, (k0_off396 v1188) a + S1x1x16.size a ≤ S32128x1x16.size a)
theorem k0_off396_inb : ∀ (v1188 : BitVec 32) (k0_hw198 : k0_chk198 v1188), ∀ a, (k0_off396 v1188) a + S1x1x16.size a ≤ S32128x1x16.size a := fun v1188 k0_hw198 => k0_hw198

def k0_off397 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1193 : Index := Scalar.indexCast arg6
  let c198 : Index := 198#32
  ![v1193.toNat, 198]
def k0_off398 (v1194 : BitVec 32) : Fin 3 → Nat :=
  let v1195 : Index := Scalar.indexCast v1194
  let c0_400 : Index := 0#32
  let c0_401 : Index := 0#32
  ![v1195.toNat, 0, 0]

def k0_chk199 (v1194 : BitVec 32) : Prop :=
  (∀ a, (k0_off398 v1194) a + S1x1x16.size a ≤ S32128x1x16.size a)
theorem k0_off398_inb : ∀ (v1194 : BitVec 32) (k0_hw199 : k0_chk199 v1194), ∀ a, (k0_off398 v1194) a + S1x1x16.size a ≤ S32128x1x16.size a := fun v1194 k0_hw199 => k0_hw199

def k0_off399 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1199 : Index := Scalar.indexCast arg6
  let c199 : Index := 199#32
  ![v1199.toNat, 199]
def k0_off400 (v1200 : BitVec 32) : Fin 3 → Nat :=
  let v1201 : Index := Scalar.indexCast v1200
  let c0_402 : Index := 0#32
  let c0_403 : Index := 0#32
  ![v1201.toNat, 0, 0]

def k0_chk200 (v1200 : BitVec 32) : Prop :=
  (∀ a, (k0_off400 v1200) a + S1x1x16.size a ≤ S32128x1x16.size a)
theorem k0_off400_inb : ∀ (v1200 : BitVec 32) (k0_hw200 : k0_chk200 v1200), ∀ a, (k0_off400 v1200) a + S1x1x16.size a ≤ S32128x1x16.size a := fun v1200 k0_hw200 => k0_hw200

def k0_off401 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1205 : Index := Scalar.indexCast arg6
  let c200 : Index := 200#32
  ![v1205.toNat, 200]
def k0_off402 (v1206 : BitVec 32) : Fin 3 → Nat :=
  let v1207 : Index := Scalar.indexCast v1206
  let c0_404 : Index := 0#32
  let c0_405 : Index := 0#32
  ![v1207.toNat, 0, 0]

def k0_chk201 (v1206 : BitVec 32) : Prop :=
  (∀ a, (k0_off402 v1206) a + S1x1x16.size a ≤ S32128x1x16.size a)
theorem k0_off402_inb : ∀ (v1206 : BitVec 32) (k0_hw201 : k0_chk201 v1206), ∀ a, (k0_off402 v1206) a + S1x1x16.size a ≤ S32128x1x16.size a := fun v1206 k0_hw201 => k0_hw201

def k0_off403 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1211 : Index := Scalar.indexCast arg6
  let c201 : Index := 201#32
  ![v1211.toNat, 201]
def k0_off404 (v1212 : BitVec 32) : Fin 3 → Nat :=
  let v1213 : Index := Scalar.indexCast v1212
  let c0_406 : Index := 0#32
  let c0_407 : Index := 0#32
  ![v1213.toNat, 0, 0]

def k0_chk202 (v1212 : BitVec 32) : Prop :=
  (∀ a, (k0_off404 v1212) a + S1x1x16.size a ≤ S32128x1x16.size a)
theorem k0_off404_inb : ∀ (v1212 : BitVec 32) (k0_hw202 : k0_chk202 v1212), ∀ a, (k0_off404 v1212) a + S1x1x16.size a ≤ S32128x1x16.size a := fun v1212 k0_hw202 => k0_hw202

def k0_off405 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1217 : Index := Scalar.indexCast arg6
  let c202 : Index := 202#32
  ![v1217.toNat, 202]
def k0_off406 (v1218 : BitVec 32) : Fin 3 → Nat :=
  let v1219 : Index := Scalar.indexCast v1218
  let c0_408 : Index := 0#32
  let c0_409 : Index := 0#32
  ![v1219.toNat, 0, 0]

def k0_chk203 (v1218 : BitVec 32) : Prop :=
  (∀ a, (k0_off406 v1218) a + S1x1x16.size a ≤ S32128x1x16.size a)
theorem k0_off406_inb : ∀ (v1218 : BitVec 32) (k0_hw203 : k0_chk203 v1218), ∀ a, (k0_off406 v1218) a + S1x1x16.size a ≤ S32128x1x16.size a := fun v1218 k0_hw203 => k0_hw203

def k0_off407 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1223 : Index := Scalar.indexCast arg6
  let c203 : Index := 203#32
  ![v1223.toNat, 203]
def k0_off408 (v1224 : BitVec 32) : Fin 3 → Nat :=
  let v1225 : Index := Scalar.indexCast v1224
  let c0_410 : Index := 0#32
  let c0_411 : Index := 0#32
  ![v1225.toNat, 0, 0]

def k0_chk204 (v1224 : BitVec 32) : Prop :=
  (∀ a, (k0_off408 v1224) a + S1x1x16.size a ≤ S32128x1x16.size a)
theorem k0_off408_inb : ∀ (v1224 : BitVec 32) (k0_hw204 : k0_chk204 v1224), ∀ a, (k0_off408 v1224) a + S1x1x16.size a ≤ S32128x1x16.size a := fun v1224 k0_hw204 => k0_hw204

def k0_off409 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1229 : Index := Scalar.indexCast arg6
  let c204 : Index := 204#32
  ![v1229.toNat, 204]
def k0_off410 (v1230 : BitVec 32) : Fin 3 → Nat :=
  let v1231 : Index := Scalar.indexCast v1230
  let c0_412 : Index := 0#32
  let c0_413 : Index := 0#32
  ![v1231.toNat, 0, 0]

def k0_chk205 (v1230 : BitVec 32) : Prop :=
  (∀ a, (k0_off410 v1230) a + S1x1x16.size a ≤ S32128x1x16.size a)
theorem k0_off410_inb : ∀ (v1230 : BitVec 32) (k0_hw205 : k0_chk205 v1230), ∀ a, (k0_off410 v1230) a + S1x1x16.size a ≤ S32128x1x16.size a := fun v1230 k0_hw205 => k0_hw205

def k0_off411 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1235 : Index := Scalar.indexCast arg6
  let c205 : Index := 205#32
  ![v1235.toNat, 205]
def k0_off412 (v1236 : BitVec 32) : Fin 3 → Nat :=
  let v1237 : Index := Scalar.indexCast v1236
  let c0_414 : Index := 0#32
  let c0_415 : Index := 0#32
  ![v1237.toNat, 0, 0]

def k0_chk206 (v1236 : BitVec 32) : Prop :=
  (∀ a, (k0_off412 v1236) a + S1x1x16.size a ≤ S32128x1x16.size a)
theorem k0_off412_inb : ∀ (v1236 : BitVec 32) (k0_hw206 : k0_chk206 v1236), ∀ a, (k0_off412 v1236) a + S1x1x16.size a ≤ S32128x1x16.size a := fun v1236 k0_hw206 => k0_hw206

def k0_off413 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1241 : Index := Scalar.indexCast arg6
  let c206 : Index := 206#32
  ![v1241.toNat, 206]
def k0_off414 (v1242 : BitVec 32) : Fin 3 → Nat :=
  let v1243 : Index := Scalar.indexCast v1242
  let c0_416 : Index := 0#32
  let c0_417 : Index := 0#32
  ![v1243.toNat, 0, 0]

def k0_chk207 (v1242 : BitVec 32) : Prop :=
  (∀ a, (k0_off414 v1242) a + S1x1x16.size a ≤ S32128x1x16.size a)
theorem k0_off414_inb : ∀ (v1242 : BitVec 32) (k0_hw207 : k0_chk207 v1242), ∀ a, (k0_off414 v1242) a + S1x1x16.size a ≤ S32128x1x16.size a := fun v1242 k0_hw207 => k0_hw207

def k0_off415 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1247 : Index := Scalar.indexCast arg6
  let c207 : Index := 207#32
  ![v1247.toNat, 207]
def k0_off416 (v1248 : BitVec 32) : Fin 3 → Nat :=
  let v1249 : Index := Scalar.indexCast v1248
  let c0_418 : Index := 0#32
  let c0_419 : Index := 0#32
  ![v1249.toNat, 0, 0]

def k0_chk208 (v1248 : BitVec 32) : Prop :=
  (∀ a, (k0_off416 v1248) a + S1x1x16.size a ≤ S32128x1x16.size a)
theorem k0_off416_inb : ∀ (v1248 : BitVec 32) (k0_hw208 : k0_chk208 v1248), ∀ a, (k0_off416 v1248) a + S1x1x16.size a ≤ S32128x1x16.size a := fun v1248 k0_hw208 => k0_hw208

def k0_off417 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1253 : Index := Scalar.indexCast arg6
  let c208 : Index := 208#32
  ![v1253.toNat, 208]
def k0_off418 (v1254 : BitVec 32) : Fin 3 → Nat :=
  let v1255 : Index := Scalar.indexCast v1254
  let c0_420 : Index := 0#32
  let c0_421 : Index := 0#32
  ![v1255.toNat, 0, 0]

def k0_chk209 (v1254 : BitVec 32) : Prop :=
  (∀ a, (k0_off418 v1254) a + S1x1x16.size a ≤ S32128x1x16.size a)
theorem k0_off418_inb : ∀ (v1254 : BitVec 32) (k0_hw209 : k0_chk209 v1254), ∀ a, (k0_off418 v1254) a + S1x1x16.size a ≤ S32128x1x16.size a := fun v1254 k0_hw209 => k0_hw209

def k0_off419 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1259 : Index := Scalar.indexCast arg6
  let c209 : Index := 209#32
  ![v1259.toNat, 209]
def k0_off420 (v1260 : BitVec 32) : Fin 3 → Nat :=
  let v1261 : Index := Scalar.indexCast v1260
  let c0_422 : Index := 0#32
  let c0_423 : Index := 0#32
  ![v1261.toNat, 0, 0]

def k0_chk210 (v1260 : BitVec 32) : Prop :=
  (∀ a, (k0_off420 v1260) a + S1x1x16.size a ≤ S32128x1x16.size a)
theorem k0_off420_inb : ∀ (v1260 : BitVec 32) (k0_hw210 : k0_chk210 v1260), ∀ a, (k0_off420 v1260) a + S1x1x16.size a ≤ S32128x1x16.size a := fun v1260 k0_hw210 => k0_hw210

def k0_off421 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1265 : Index := Scalar.indexCast arg6
  let c210 : Index := 210#32
  ![v1265.toNat, 210]
def k0_off422 (v1266 : BitVec 32) : Fin 3 → Nat :=
  let v1267 : Index := Scalar.indexCast v1266
  let c0_424 : Index := 0#32
  let c0_425 : Index := 0#32
  ![v1267.toNat, 0, 0]

def k0_chk211 (v1266 : BitVec 32) : Prop :=
  (∀ a, (k0_off422 v1266) a + S1x1x16.size a ≤ S32128x1x16.size a)
theorem k0_off422_inb : ∀ (v1266 : BitVec 32) (k0_hw211 : k0_chk211 v1266), ∀ a, (k0_off422 v1266) a + S1x1x16.size a ≤ S32128x1x16.size a := fun v1266 k0_hw211 => k0_hw211

def k0_off423 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1271 : Index := Scalar.indexCast arg6
  let c211 : Index := 211#32
  ![v1271.toNat, 211]
def k0_off424 (v1272 : BitVec 32) : Fin 3 → Nat :=
  let v1273 : Index := Scalar.indexCast v1272
  let c0_426 : Index := 0#32
  let c0_427 : Index := 0#32
  ![v1273.toNat, 0, 0]

def k0_chk212 (v1272 : BitVec 32) : Prop :=
  (∀ a, (k0_off424 v1272) a + S1x1x16.size a ≤ S32128x1x16.size a)
theorem k0_off424_inb : ∀ (v1272 : BitVec 32) (k0_hw212 : k0_chk212 v1272), ∀ a, (k0_off424 v1272) a + S1x1x16.size a ≤ S32128x1x16.size a := fun v1272 k0_hw212 => k0_hw212

def k0_off425 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1277 : Index := Scalar.indexCast arg6
  let c212 : Index := 212#32
  ![v1277.toNat, 212]
def k0_off426 (v1278 : BitVec 32) : Fin 3 → Nat :=
  let v1279 : Index := Scalar.indexCast v1278
  let c0_428 : Index := 0#32
  let c0_429 : Index := 0#32
  ![v1279.toNat, 0, 0]

def k0_chk213 (v1278 : BitVec 32) : Prop :=
  (∀ a, (k0_off426 v1278) a + S1x1x16.size a ≤ S32128x1x16.size a)
theorem k0_off426_inb : ∀ (v1278 : BitVec 32) (k0_hw213 : k0_chk213 v1278), ∀ a, (k0_off426 v1278) a + S1x1x16.size a ≤ S32128x1x16.size a := fun v1278 k0_hw213 => k0_hw213

def k0_off427 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1283 : Index := Scalar.indexCast arg6
  let c213 : Index := 213#32
  ![v1283.toNat, 213]
def k0_off428 (v1284 : BitVec 32) : Fin 3 → Nat :=
  let v1285 : Index := Scalar.indexCast v1284
  let c0_430 : Index := 0#32
  let c0_431 : Index := 0#32
  ![v1285.toNat, 0, 0]

def k0_chk214 (v1284 : BitVec 32) : Prop :=
  (∀ a, (k0_off428 v1284) a + S1x1x16.size a ≤ S32128x1x16.size a)
theorem k0_off428_inb : ∀ (v1284 : BitVec 32) (k0_hw214 : k0_chk214 v1284), ∀ a, (k0_off428 v1284) a + S1x1x16.size a ≤ S32128x1x16.size a := fun v1284 k0_hw214 => k0_hw214

def k0_off429 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1289 : Index := Scalar.indexCast arg6
  let c214 : Index := 214#32
  ![v1289.toNat, 214]
def k0_off430 (v1290 : BitVec 32) : Fin 3 → Nat :=
  let v1291 : Index := Scalar.indexCast v1290
  let c0_432 : Index := 0#32
  let c0_433 : Index := 0#32
  ![v1291.toNat, 0, 0]

def k0_chk215 (v1290 : BitVec 32) : Prop :=
  (∀ a, (k0_off430 v1290) a + S1x1x16.size a ≤ S32128x1x16.size a)
theorem k0_off430_inb : ∀ (v1290 : BitVec 32) (k0_hw215 : k0_chk215 v1290), ∀ a, (k0_off430 v1290) a + S1x1x16.size a ≤ S32128x1x16.size a := fun v1290 k0_hw215 => k0_hw215

def k0_off431 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1295 : Index := Scalar.indexCast arg6
  let c215 : Index := 215#32
  ![v1295.toNat, 215]
def k0_off432 (v1296 : BitVec 32) : Fin 3 → Nat :=
  let v1297 : Index := Scalar.indexCast v1296
  let c0_434 : Index := 0#32
  let c0_435 : Index := 0#32
  ![v1297.toNat, 0, 0]

def k0_chk216 (v1296 : BitVec 32) : Prop :=
  (∀ a, (k0_off432 v1296) a + S1x1x16.size a ≤ S32128x1x16.size a)
theorem k0_off432_inb : ∀ (v1296 : BitVec 32) (k0_hw216 : k0_chk216 v1296), ∀ a, (k0_off432 v1296) a + S1x1x16.size a ≤ S32128x1x16.size a := fun v1296 k0_hw216 => k0_hw216

def k0_off433 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1301 : Index := Scalar.indexCast arg6
  let c216 : Index := 216#32
  ![v1301.toNat, 216]
def k0_off434 (v1302 : BitVec 32) : Fin 3 → Nat :=
  let v1303 : Index := Scalar.indexCast v1302
  let c0_436 : Index := 0#32
  let c0_437 : Index := 0#32
  ![v1303.toNat, 0, 0]

def k0_chk217 (v1302 : BitVec 32) : Prop :=
  (∀ a, (k0_off434 v1302) a + S1x1x16.size a ≤ S32128x1x16.size a)
theorem k0_off434_inb : ∀ (v1302 : BitVec 32) (k0_hw217 : k0_chk217 v1302), ∀ a, (k0_off434 v1302) a + S1x1x16.size a ≤ S32128x1x16.size a := fun v1302 k0_hw217 => k0_hw217

def k0_off435 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1307 : Index := Scalar.indexCast arg6
  let c217 : Index := 217#32
  ![v1307.toNat, 217]
def k0_off436 (v1308 : BitVec 32) : Fin 3 → Nat :=
  let v1309 : Index := Scalar.indexCast v1308
  let c0_438 : Index := 0#32
  let c0_439 : Index := 0#32
  ![v1309.toNat, 0, 0]

def k0_chk218 (v1308 : BitVec 32) : Prop :=
  (∀ a, (k0_off436 v1308) a + S1x1x16.size a ≤ S32128x1x16.size a)
theorem k0_off436_inb : ∀ (v1308 : BitVec 32) (k0_hw218 : k0_chk218 v1308), ∀ a, (k0_off436 v1308) a + S1x1x16.size a ≤ S32128x1x16.size a := fun v1308 k0_hw218 => k0_hw218

def k0_off437 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1313 : Index := Scalar.indexCast arg6
  let c218 : Index := 218#32
  ![v1313.toNat, 218]
def k0_off438 (v1314 : BitVec 32) : Fin 3 → Nat :=
  let v1315 : Index := Scalar.indexCast v1314
  let c0_440 : Index := 0#32
  let c0_441 : Index := 0#32
  ![v1315.toNat, 0, 0]

def k0_chk219 (v1314 : BitVec 32) : Prop :=
  (∀ a, (k0_off438 v1314) a + S1x1x16.size a ≤ S32128x1x16.size a)
theorem k0_off438_inb : ∀ (v1314 : BitVec 32) (k0_hw219 : k0_chk219 v1314), ∀ a, (k0_off438 v1314) a + S1x1x16.size a ≤ S32128x1x16.size a := fun v1314 k0_hw219 => k0_hw219

def k0_off439 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1319 : Index := Scalar.indexCast arg6
  let c219 : Index := 219#32
  ![v1319.toNat, 219]
def k0_off440 (v1320 : BitVec 32) : Fin 3 → Nat :=
  let v1321 : Index := Scalar.indexCast v1320
  let c0_442 : Index := 0#32
  let c0_443 : Index := 0#32
  ![v1321.toNat, 0, 0]

def k0_chk220 (v1320 : BitVec 32) : Prop :=
  (∀ a, (k0_off440 v1320) a + S1x1x16.size a ≤ S32128x1x16.size a)
theorem k0_off440_inb : ∀ (v1320 : BitVec 32) (k0_hw220 : k0_chk220 v1320), ∀ a, (k0_off440 v1320) a + S1x1x16.size a ≤ S32128x1x16.size a := fun v1320 k0_hw220 => k0_hw220

def k0_off441 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1325 : Index := Scalar.indexCast arg6
  let c220 : Index := 220#32
  ![v1325.toNat, 220]
def k0_off442 (v1326 : BitVec 32) : Fin 3 → Nat :=
  let v1327 : Index := Scalar.indexCast v1326
  let c0_444 : Index := 0#32
  let c0_445 : Index := 0#32
  ![v1327.toNat, 0, 0]

def k0_chk221 (v1326 : BitVec 32) : Prop :=
  (∀ a, (k0_off442 v1326) a + S1x1x16.size a ≤ S32128x1x16.size a)
theorem k0_off442_inb : ∀ (v1326 : BitVec 32) (k0_hw221 : k0_chk221 v1326), ∀ a, (k0_off442 v1326) a + S1x1x16.size a ≤ S32128x1x16.size a := fun v1326 k0_hw221 => k0_hw221

def k0_off443 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1331 : Index := Scalar.indexCast arg6
  let c221 : Index := 221#32
  ![v1331.toNat, 221]
def k0_off444 (v1332 : BitVec 32) : Fin 3 → Nat :=
  let v1333 : Index := Scalar.indexCast v1332
  let c0_446 : Index := 0#32
  let c0_447 : Index := 0#32
  ![v1333.toNat, 0, 0]

def k0_chk222 (v1332 : BitVec 32) : Prop :=
  (∀ a, (k0_off444 v1332) a + S1x1x16.size a ≤ S32128x1x16.size a)
theorem k0_off444_inb : ∀ (v1332 : BitVec 32) (k0_hw222 : k0_chk222 v1332), ∀ a, (k0_off444 v1332) a + S1x1x16.size a ≤ S32128x1x16.size a := fun v1332 k0_hw222 => k0_hw222

def k0_off445 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1337 : Index := Scalar.indexCast arg6
  let c222 : Index := 222#32
  ![v1337.toNat, 222]
def k0_off446 (v1338 : BitVec 32) : Fin 3 → Nat :=
  let v1339 : Index := Scalar.indexCast v1338
  let c0_448 : Index := 0#32
  let c0_449 : Index := 0#32
  ![v1339.toNat, 0, 0]

def k0_chk223 (v1338 : BitVec 32) : Prop :=
  (∀ a, (k0_off446 v1338) a + S1x1x16.size a ≤ S32128x1x16.size a)
theorem k0_off446_inb : ∀ (v1338 : BitVec 32) (k0_hw223 : k0_chk223 v1338), ∀ a, (k0_off446 v1338) a + S1x1x16.size a ≤ S32128x1x16.size a := fun v1338 k0_hw223 => k0_hw223

def k0_off447 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1343 : Index := Scalar.indexCast arg6
  let c223 : Index := 223#32
  ![v1343.toNat, 223]
def k0_off448 (v1344 : BitVec 32) : Fin 3 → Nat :=
  let v1345 : Index := Scalar.indexCast v1344
  let c0_450 : Index := 0#32
  let c0_451 : Index := 0#32
  ![v1345.toNat, 0, 0]

def k0_chk224 (v1344 : BitVec 32) : Prop :=
  (∀ a, (k0_off448 v1344) a + S1x1x16.size a ≤ S32128x1x16.size a)
theorem k0_off448_inb : ∀ (v1344 : BitVec 32) (k0_hw224 : k0_chk224 v1344), ∀ a, (k0_off448 v1344) a + S1x1x16.size a ≤ S32128x1x16.size a := fun v1344 k0_hw224 => k0_hw224

def k0_off449 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1349 : Index := Scalar.indexCast arg6
  let c224 : Index := 224#32
  ![v1349.toNat, 224]
def k0_off450 (v1350 : BitVec 32) : Fin 3 → Nat :=
  let v1351 : Index := Scalar.indexCast v1350
  let c0_452 : Index := 0#32
  let c0_453 : Index := 0#32
  ![v1351.toNat, 0, 0]

def k0_chk225 (v1350 : BitVec 32) : Prop :=
  (∀ a, (k0_off450 v1350) a + S1x1x16.size a ≤ S32128x1x16.size a)
theorem k0_off450_inb : ∀ (v1350 : BitVec 32) (k0_hw225 : k0_chk225 v1350), ∀ a, (k0_off450 v1350) a + S1x1x16.size a ≤ S32128x1x16.size a := fun v1350 k0_hw225 => k0_hw225

def k0_off451 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1355 : Index := Scalar.indexCast arg6
  let c225 : Index := 225#32
  ![v1355.toNat, 225]
def k0_off452 (v1356 : BitVec 32) : Fin 3 → Nat :=
  let v1357 : Index := Scalar.indexCast v1356
  let c0_454 : Index := 0#32
  let c0_455 : Index := 0#32
  ![v1357.toNat, 0, 0]

def k0_chk226 (v1356 : BitVec 32) : Prop :=
  (∀ a, (k0_off452 v1356) a + S1x1x16.size a ≤ S32128x1x16.size a)
theorem k0_off452_inb : ∀ (v1356 : BitVec 32) (k0_hw226 : k0_chk226 v1356), ∀ a, (k0_off452 v1356) a + S1x1x16.size a ≤ S32128x1x16.size a := fun v1356 k0_hw226 => k0_hw226

def k0_off453 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1361 : Index := Scalar.indexCast arg6
  let c226 : Index := 226#32
  ![v1361.toNat, 226]
def k0_off454 (v1362 : BitVec 32) : Fin 3 → Nat :=
  let v1363 : Index := Scalar.indexCast v1362
  let c0_456 : Index := 0#32
  let c0_457 : Index := 0#32
  ![v1363.toNat, 0, 0]

def k0_chk227 (v1362 : BitVec 32) : Prop :=
  (∀ a, (k0_off454 v1362) a + S1x1x16.size a ≤ S32128x1x16.size a)
theorem k0_off454_inb : ∀ (v1362 : BitVec 32) (k0_hw227 : k0_chk227 v1362), ∀ a, (k0_off454 v1362) a + S1x1x16.size a ≤ S32128x1x16.size a := fun v1362 k0_hw227 => k0_hw227

def k0_off455 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1367 : Index := Scalar.indexCast arg6
  let c227 : Index := 227#32
  ![v1367.toNat, 227]
def k0_off456 (v1368 : BitVec 32) : Fin 3 → Nat :=
  let v1369 : Index := Scalar.indexCast v1368
  let c0_458 : Index := 0#32
  let c0_459 : Index := 0#32
  ![v1369.toNat, 0, 0]

def k0_chk228 (v1368 : BitVec 32) : Prop :=
  (∀ a, (k0_off456 v1368) a + S1x1x16.size a ≤ S32128x1x16.size a)
theorem k0_off456_inb : ∀ (v1368 : BitVec 32) (k0_hw228 : k0_chk228 v1368), ∀ a, (k0_off456 v1368) a + S1x1x16.size a ≤ S32128x1x16.size a := fun v1368 k0_hw228 => k0_hw228

def k0_off457 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1373 : Index := Scalar.indexCast arg6
  let c228 : Index := 228#32
  ![v1373.toNat, 228]
def k0_off458 (v1374 : BitVec 32) : Fin 3 → Nat :=
  let v1375 : Index := Scalar.indexCast v1374
  let c0_460 : Index := 0#32
  let c0_461 : Index := 0#32
  ![v1375.toNat, 0, 0]

def k0_chk229 (v1374 : BitVec 32) : Prop :=
  (∀ a, (k0_off458 v1374) a + S1x1x16.size a ≤ S32128x1x16.size a)
theorem k0_off458_inb : ∀ (v1374 : BitVec 32) (k0_hw229 : k0_chk229 v1374), ∀ a, (k0_off458 v1374) a + S1x1x16.size a ≤ S32128x1x16.size a := fun v1374 k0_hw229 => k0_hw229

def k0_off459 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1379 : Index := Scalar.indexCast arg6
  let c229 : Index := 229#32
  ![v1379.toNat, 229]
def k0_off460 (v1380 : BitVec 32) : Fin 3 → Nat :=
  let v1381 : Index := Scalar.indexCast v1380
  let c0_462 : Index := 0#32
  let c0_463 : Index := 0#32
  ![v1381.toNat, 0, 0]

def k0_chk230 (v1380 : BitVec 32) : Prop :=
  (∀ a, (k0_off460 v1380) a + S1x1x16.size a ≤ S32128x1x16.size a)
theorem k0_off460_inb : ∀ (v1380 : BitVec 32) (k0_hw230 : k0_chk230 v1380), ∀ a, (k0_off460 v1380) a + S1x1x16.size a ≤ S32128x1x16.size a := fun v1380 k0_hw230 => k0_hw230

def k0_off461 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1385 : Index := Scalar.indexCast arg6
  let c230 : Index := 230#32
  ![v1385.toNat, 230]
def k0_off462 (v1386 : BitVec 32) : Fin 3 → Nat :=
  let v1387 : Index := Scalar.indexCast v1386
  let c0_464 : Index := 0#32
  let c0_465 : Index := 0#32
  ![v1387.toNat, 0, 0]

def k0_chk231 (v1386 : BitVec 32) : Prop :=
  (∀ a, (k0_off462 v1386) a + S1x1x16.size a ≤ S32128x1x16.size a)
theorem k0_off462_inb : ∀ (v1386 : BitVec 32) (k0_hw231 : k0_chk231 v1386), ∀ a, (k0_off462 v1386) a + S1x1x16.size a ≤ S32128x1x16.size a := fun v1386 k0_hw231 => k0_hw231

def k0_off463 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1391 : Index := Scalar.indexCast arg6
  let c231 : Index := 231#32
  ![v1391.toNat, 231]
def k0_off464 (v1392 : BitVec 32) : Fin 3 → Nat :=
  let v1393 : Index := Scalar.indexCast v1392
  let c0_466 : Index := 0#32
  let c0_467 : Index := 0#32
  ![v1393.toNat, 0, 0]

def k0_chk232 (v1392 : BitVec 32) : Prop :=
  (∀ a, (k0_off464 v1392) a + S1x1x16.size a ≤ S32128x1x16.size a)
theorem k0_off464_inb : ∀ (v1392 : BitVec 32) (k0_hw232 : k0_chk232 v1392), ∀ a, (k0_off464 v1392) a + S1x1x16.size a ≤ S32128x1x16.size a := fun v1392 k0_hw232 => k0_hw232

def k0_off465 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1397 : Index := Scalar.indexCast arg6
  let c232 : Index := 232#32
  ![v1397.toNat, 232]
def k0_off466 (v1398 : BitVec 32) : Fin 3 → Nat :=
  let v1399 : Index := Scalar.indexCast v1398
  let c0_468 : Index := 0#32
  let c0_469 : Index := 0#32
  ![v1399.toNat, 0, 0]

def k0_chk233 (v1398 : BitVec 32) : Prop :=
  (∀ a, (k0_off466 v1398) a + S1x1x16.size a ≤ S32128x1x16.size a)
theorem k0_off466_inb : ∀ (v1398 : BitVec 32) (k0_hw233 : k0_chk233 v1398), ∀ a, (k0_off466 v1398) a + S1x1x16.size a ≤ S32128x1x16.size a := fun v1398 k0_hw233 => k0_hw233

def k0_off467 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1403 : Index := Scalar.indexCast arg6
  let c233 : Index := 233#32
  ![v1403.toNat, 233]
def k0_off468 (v1404 : BitVec 32) : Fin 3 → Nat :=
  let v1405 : Index := Scalar.indexCast v1404
  let c0_470 : Index := 0#32
  let c0_471 : Index := 0#32
  ![v1405.toNat, 0, 0]

def k0_chk234 (v1404 : BitVec 32) : Prop :=
  (∀ a, (k0_off468 v1404) a + S1x1x16.size a ≤ S32128x1x16.size a)
theorem k0_off468_inb : ∀ (v1404 : BitVec 32) (k0_hw234 : k0_chk234 v1404), ∀ a, (k0_off468 v1404) a + S1x1x16.size a ≤ S32128x1x16.size a := fun v1404 k0_hw234 => k0_hw234

def k0_off469 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1409 : Index := Scalar.indexCast arg6
  let c234 : Index := 234#32
  ![v1409.toNat, 234]
def k0_off470 (v1410 : BitVec 32) : Fin 3 → Nat :=
  let v1411 : Index := Scalar.indexCast v1410
  let c0_472 : Index := 0#32
  let c0_473 : Index := 0#32
  ![v1411.toNat, 0, 0]

def k0_chk235 (v1410 : BitVec 32) : Prop :=
  (∀ a, (k0_off470 v1410) a + S1x1x16.size a ≤ S32128x1x16.size a)
theorem k0_off470_inb : ∀ (v1410 : BitVec 32) (k0_hw235 : k0_chk235 v1410), ∀ a, (k0_off470 v1410) a + S1x1x16.size a ≤ S32128x1x16.size a := fun v1410 k0_hw235 => k0_hw235

def k0_off471 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1415 : Index := Scalar.indexCast arg6
  let c235 : Index := 235#32
  ![v1415.toNat, 235]
def k0_off472 (v1416 : BitVec 32) : Fin 3 → Nat :=
  let v1417 : Index := Scalar.indexCast v1416
  let c0_474 : Index := 0#32
  let c0_475 : Index := 0#32
  ![v1417.toNat, 0, 0]

def k0_chk236 (v1416 : BitVec 32) : Prop :=
  (∀ a, (k0_off472 v1416) a + S1x1x16.size a ≤ S32128x1x16.size a)
theorem k0_off472_inb : ∀ (v1416 : BitVec 32) (k0_hw236 : k0_chk236 v1416), ∀ a, (k0_off472 v1416) a + S1x1x16.size a ≤ S32128x1x16.size a := fun v1416 k0_hw236 => k0_hw236

def k0_off473 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1421 : Index := Scalar.indexCast arg6
  let c236 : Index := 236#32
  ![v1421.toNat, 236]
def k0_off474 (v1422 : BitVec 32) : Fin 3 → Nat :=
  let v1423 : Index := Scalar.indexCast v1422
  let c0_476 : Index := 0#32
  let c0_477 : Index := 0#32
  ![v1423.toNat, 0, 0]

def k0_chk237 (v1422 : BitVec 32) : Prop :=
  (∀ a, (k0_off474 v1422) a + S1x1x16.size a ≤ S32128x1x16.size a)
theorem k0_off474_inb : ∀ (v1422 : BitVec 32) (k0_hw237 : k0_chk237 v1422), ∀ a, (k0_off474 v1422) a + S1x1x16.size a ≤ S32128x1x16.size a := fun v1422 k0_hw237 => k0_hw237

def k0_off475 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1427 : Index := Scalar.indexCast arg6
  let c237 : Index := 237#32
  ![v1427.toNat, 237]
def k0_off476 (v1428 : BitVec 32) : Fin 3 → Nat :=
  let v1429 : Index := Scalar.indexCast v1428
  let c0_478 : Index := 0#32
  let c0_479 : Index := 0#32
  ![v1429.toNat, 0, 0]

def k0_chk238 (v1428 : BitVec 32) : Prop :=
  (∀ a, (k0_off476 v1428) a + S1x1x16.size a ≤ S32128x1x16.size a)
theorem k0_off476_inb : ∀ (v1428 : BitVec 32) (k0_hw238 : k0_chk238 v1428), ∀ a, (k0_off476 v1428) a + S1x1x16.size a ≤ S32128x1x16.size a := fun v1428 k0_hw238 => k0_hw238

def k0_off477 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1433 : Index := Scalar.indexCast arg6
  let c238 : Index := 238#32
  ![v1433.toNat, 238]
def k0_off478 (v1434 : BitVec 32) : Fin 3 → Nat :=
  let v1435 : Index := Scalar.indexCast v1434
  let c0_480 : Index := 0#32
  let c0_481 : Index := 0#32
  ![v1435.toNat, 0, 0]

def k0_chk239 (v1434 : BitVec 32) : Prop :=
  (∀ a, (k0_off478 v1434) a + S1x1x16.size a ≤ S32128x1x16.size a)
theorem k0_off478_inb : ∀ (v1434 : BitVec 32) (k0_hw239 : k0_chk239 v1434), ∀ a, (k0_off478 v1434) a + S1x1x16.size a ≤ S32128x1x16.size a := fun v1434 k0_hw239 => k0_hw239

def k0_off479 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1439 : Index := Scalar.indexCast arg6
  let c239 : Index := 239#32
  ![v1439.toNat, 239]
def k0_off480 (v1440 : BitVec 32) : Fin 3 → Nat :=
  let v1441 : Index := Scalar.indexCast v1440
  let c0_482 : Index := 0#32
  let c0_483 : Index := 0#32
  ![v1441.toNat, 0, 0]

def k0_chk240 (v1440 : BitVec 32) : Prop :=
  (∀ a, (k0_off480 v1440) a + S1x1x16.size a ≤ S32128x1x16.size a)
theorem k0_off480_inb : ∀ (v1440 : BitVec 32) (k0_hw240 : k0_chk240 v1440), ∀ a, (k0_off480 v1440) a + S1x1x16.size a ≤ S32128x1x16.size a := fun v1440 k0_hw240 => k0_hw240

def k0_off481 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1445 : Index := Scalar.indexCast arg6
  let c240 : Index := 240#32
  ![v1445.toNat, 240]
def k0_off482 (v1446 : BitVec 32) : Fin 3 → Nat :=
  let v1447 : Index := Scalar.indexCast v1446
  let c0_484 : Index := 0#32
  let c0_485 : Index := 0#32
  ![v1447.toNat, 0, 0]

def k0_chk241 (v1446 : BitVec 32) : Prop :=
  (∀ a, (k0_off482 v1446) a + S1x1x16.size a ≤ S32128x1x16.size a)
theorem k0_off482_inb : ∀ (v1446 : BitVec 32) (k0_hw241 : k0_chk241 v1446), ∀ a, (k0_off482 v1446) a + S1x1x16.size a ≤ S32128x1x16.size a := fun v1446 k0_hw241 => k0_hw241

def k0_off483 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1451 : Index := Scalar.indexCast arg6
  let c241 : Index := 241#32
  ![v1451.toNat, 241]
def k0_off484 (v1452 : BitVec 32) : Fin 3 → Nat :=
  let v1453 : Index := Scalar.indexCast v1452
  let c0_486 : Index := 0#32
  let c0_487 : Index := 0#32
  ![v1453.toNat, 0, 0]

def k0_chk242 (v1452 : BitVec 32) : Prop :=
  (∀ a, (k0_off484 v1452) a + S1x1x16.size a ≤ S32128x1x16.size a)
theorem k0_off484_inb : ∀ (v1452 : BitVec 32) (k0_hw242 : k0_chk242 v1452), ∀ a, (k0_off484 v1452) a + S1x1x16.size a ≤ S32128x1x16.size a := fun v1452 k0_hw242 => k0_hw242

def k0_off485 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1457 : Index := Scalar.indexCast arg6
  let c242 : Index := 242#32
  ![v1457.toNat, 242]
def k0_off486 (v1458 : BitVec 32) : Fin 3 → Nat :=
  let v1459 : Index := Scalar.indexCast v1458
  let c0_488 : Index := 0#32
  let c0_489 : Index := 0#32
  ![v1459.toNat, 0, 0]

def k0_chk243 (v1458 : BitVec 32) : Prop :=
  (∀ a, (k0_off486 v1458) a + S1x1x16.size a ≤ S32128x1x16.size a)
theorem k0_off486_inb : ∀ (v1458 : BitVec 32) (k0_hw243 : k0_chk243 v1458), ∀ a, (k0_off486 v1458) a + S1x1x16.size a ≤ S32128x1x16.size a := fun v1458 k0_hw243 => k0_hw243

def k0_off487 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1463 : Index := Scalar.indexCast arg6
  let c243 : Index := 243#32
  ![v1463.toNat, 243]
def k0_off488 (v1464 : BitVec 32) : Fin 3 → Nat :=
  let v1465 : Index := Scalar.indexCast v1464
  let c0_490 : Index := 0#32
  let c0_491 : Index := 0#32
  ![v1465.toNat, 0, 0]

def k0_chk244 (v1464 : BitVec 32) : Prop :=
  (∀ a, (k0_off488 v1464) a + S1x1x16.size a ≤ S32128x1x16.size a)
theorem k0_off488_inb : ∀ (v1464 : BitVec 32) (k0_hw244 : k0_chk244 v1464), ∀ a, (k0_off488 v1464) a + S1x1x16.size a ≤ S32128x1x16.size a := fun v1464 k0_hw244 => k0_hw244

def k0_off489 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1469 : Index := Scalar.indexCast arg6
  let c244 : Index := 244#32
  ![v1469.toNat, 244]
def k0_off490 (v1470 : BitVec 32) : Fin 3 → Nat :=
  let v1471 : Index := Scalar.indexCast v1470
  let c0_492 : Index := 0#32
  let c0_493 : Index := 0#32
  ![v1471.toNat, 0, 0]

def k0_chk245 (v1470 : BitVec 32) : Prop :=
  (∀ a, (k0_off490 v1470) a + S1x1x16.size a ≤ S32128x1x16.size a)
theorem k0_off490_inb : ∀ (v1470 : BitVec 32) (k0_hw245 : k0_chk245 v1470), ∀ a, (k0_off490 v1470) a + S1x1x16.size a ≤ S32128x1x16.size a := fun v1470 k0_hw245 => k0_hw245

def k0_off491 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1475 : Index := Scalar.indexCast arg6
  let c245 : Index := 245#32
  ![v1475.toNat, 245]
def k0_off492 (v1476 : BitVec 32) : Fin 3 → Nat :=
  let v1477 : Index := Scalar.indexCast v1476
  let c0_494 : Index := 0#32
  let c0_495 : Index := 0#32
  ![v1477.toNat, 0, 0]

def k0_chk246 (v1476 : BitVec 32) : Prop :=
  (∀ a, (k0_off492 v1476) a + S1x1x16.size a ≤ S32128x1x16.size a)
theorem k0_off492_inb : ∀ (v1476 : BitVec 32) (k0_hw246 : k0_chk246 v1476), ∀ a, (k0_off492 v1476) a + S1x1x16.size a ≤ S32128x1x16.size a := fun v1476 k0_hw246 => k0_hw246

def k0_off493 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1481 : Index := Scalar.indexCast arg6
  let c246 : Index := 246#32
  ![v1481.toNat, 246]
def k0_off494 (v1482 : BitVec 32) : Fin 3 → Nat :=
  let v1483 : Index := Scalar.indexCast v1482
  let c0_496 : Index := 0#32
  let c0_497 : Index := 0#32
  ![v1483.toNat, 0, 0]

def k0_chk247 (v1482 : BitVec 32) : Prop :=
  (∀ a, (k0_off494 v1482) a + S1x1x16.size a ≤ S32128x1x16.size a)
theorem k0_off494_inb : ∀ (v1482 : BitVec 32) (k0_hw247 : k0_chk247 v1482), ∀ a, (k0_off494 v1482) a + S1x1x16.size a ≤ S32128x1x16.size a := fun v1482 k0_hw247 => k0_hw247

def k0_off495 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1487 : Index := Scalar.indexCast arg6
  let c247 : Index := 247#32
  ![v1487.toNat, 247]
def k0_off496 (v1488 : BitVec 32) : Fin 3 → Nat :=
  let v1489 : Index := Scalar.indexCast v1488
  let c0_498 : Index := 0#32
  let c0_499 : Index := 0#32
  ![v1489.toNat, 0, 0]

def k0_chk248 (v1488 : BitVec 32) : Prop :=
  (∀ a, (k0_off496 v1488) a + S1x1x16.size a ≤ S32128x1x16.size a)
theorem k0_off496_inb : ∀ (v1488 : BitVec 32) (k0_hw248 : k0_chk248 v1488), ∀ a, (k0_off496 v1488) a + S1x1x16.size a ≤ S32128x1x16.size a := fun v1488 k0_hw248 => k0_hw248

def k0_off497 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1493 : Index := Scalar.indexCast arg6
  let c248 : Index := 248#32
  ![v1493.toNat, 248]
def k0_off498 (v1494 : BitVec 32) : Fin 3 → Nat :=
  let v1495 : Index := Scalar.indexCast v1494
  let c0_500 : Index := 0#32
  let c0_501 : Index := 0#32
  ![v1495.toNat, 0, 0]

def k0_chk249 (v1494 : BitVec 32) : Prop :=
  (∀ a, (k0_off498 v1494) a + S1x1x16.size a ≤ S32128x1x16.size a)
theorem k0_off498_inb : ∀ (v1494 : BitVec 32) (k0_hw249 : k0_chk249 v1494), ∀ a, (k0_off498 v1494) a + S1x1x16.size a ≤ S32128x1x16.size a := fun v1494 k0_hw249 => k0_hw249

def k0_off499 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1499 : Index := Scalar.indexCast arg6
  let c249 : Index := 249#32
  ![v1499.toNat, 249]
def k0_off500 (v1500 : BitVec 32) : Fin 3 → Nat :=
  let v1501 : Index := Scalar.indexCast v1500
  let c0_502 : Index := 0#32
  let c0_503 : Index := 0#32
  ![v1501.toNat, 0, 0]

def k0_chk250 (v1500 : BitVec 32) : Prop :=
  (∀ a, (k0_off500 v1500) a + S1x1x16.size a ≤ S32128x1x16.size a)
theorem k0_off500_inb : ∀ (v1500 : BitVec 32) (k0_hw250 : k0_chk250 v1500), ∀ a, (k0_off500 v1500) a + S1x1x16.size a ≤ S32128x1x16.size a := fun v1500 k0_hw250 => k0_hw250

def k0_off501 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1505 : Index := Scalar.indexCast arg6
  let c250 : Index := 250#32
  ![v1505.toNat, 250]
def k0_off502 (v1506 : BitVec 32) : Fin 3 → Nat :=
  let v1507 : Index := Scalar.indexCast v1506
  let c0_504 : Index := 0#32
  let c0_505 : Index := 0#32
  ![v1507.toNat, 0, 0]

def k0_chk251 (v1506 : BitVec 32) : Prop :=
  (∀ a, (k0_off502 v1506) a + S1x1x16.size a ≤ S32128x1x16.size a)
theorem k0_off502_inb : ∀ (v1506 : BitVec 32) (k0_hw251 : k0_chk251 v1506), ∀ a, (k0_off502 v1506) a + S1x1x16.size a ≤ S32128x1x16.size a := fun v1506 k0_hw251 => k0_hw251

def k0_off503 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1511 : Index := Scalar.indexCast arg6
  let c251 : Index := 251#32
  ![v1511.toNat, 251]
def k0_off504 (v1512 : BitVec 32) : Fin 3 → Nat :=
  let v1513 : Index := Scalar.indexCast v1512
  let c0_506 : Index := 0#32
  let c0_507 : Index := 0#32
  ![v1513.toNat, 0, 0]

def k0_chk252 (v1512 : BitVec 32) : Prop :=
  (∀ a, (k0_off504 v1512) a + S1x1x16.size a ≤ S32128x1x16.size a)
theorem k0_off504_inb : ∀ (v1512 : BitVec 32) (k0_hw252 : k0_chk252 v1512), ∀ a, (k0_off504 v1512) a + S1x1x16.size a ≤ S32128x1x16.size a := fun v1512 k0_hw252 => k0_hw252

def k0_off505 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1517 : Index := Scalar.indexCast arg6
  let c252 : Index := 252#32
  ![v1517.toNat, 252]
def k0_off506 (v1518 : BitVec 32) : Fin 3 → Nat :=
  let v1519 : Index := Scalar.indexCast v1518
  let c0_508 : Index := 0#32
  let c0_509 : Index := 0#32
  ![v1519.toNat, 0, 0]

def k0_chk253 (v1518 : BitVec 32) : Prop :=
  (∀ a, (k0_off506 v1518) a + S1x1x16.size a ≤ S32128x1x16.size a)
theorem k0_off506_inb : ∀ (v1518 : BitVec 32) (k0_hw253 : k0_chk253 v1518), ∀ a, (k0_off506 v1518) a + S1x1x16.size a ≤ S32128x1x16.size a := fun v1518 k0_hw253 => k0_hw253

def k0_off507 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1523 : Index := Scalar.indexCast arg6
  let c253 : Index := 253#32
  ![v1523.toNat, 253]
def k0_off508 (v1524 : BitVec 32) : Fin 3 → Nat :=
  let v1525 : Index := Scalar.indexCast v1524
  let c0_510 : Index := 0#32
  let c0_511 : Index := 0#32
  ![v1525.toNat, 0, 0]

def k0_chk254 (v1524 : BitVec 32) : Prop :=
  (∀ a, (k0_off508 v1524) a + S1x1x16.size a ≤ S32128x1x16.size a)
theorem k0_off508_inb : ∀ (v1524 : BitVec 32) (k0_hw254 : k0_chk254 v1524), ∀ a, (k0_off508 v1524) a + S1x1x16.size a ≤ S32128x1x16.size a := fun v1524 k0_hw254 => k0_hw254

def k0_off509 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1529 : Index := Scalar.indexCast arg6
  let c254 : Index := 254#32
  ![v1529.toNat, 254]
def k0_off510 (v1530 : BitVec 32) : Fin 3 → Nat :=
  let v1531 : Index := Scalar.indexCast v1530
  let c0_512 : Index := 0#32
  let c0_513 : Index := 0#32
  ![v1531.toNat, 0, 0]

def k0_chk255 (v1530 : BitVec 32) : Prop :=
  (∀ a, (k0_off510 v1530) a + S1x1x16.size a ≤ S32128x1x16.size a)
theorem k0_off510_inb : ∀ (v1530 : BitVec 32) (k0_hw255 : k0_chk255 v1530), ∀ a, (k0_off510 v1530) a + S1x1x16.size a ≤ S32128x1x16.size a := fun v1530 k0_hw255 => k0_hw255

def k0_off511 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1535 : Index := Scalar.indexCast arg6
  let c255 : Index := 255#32
  ![v1535.toNat, 255]
def k0_off512 (v1536 : BitVec 32) : Fin 3 → Nat :=
  let v1537 : Index := Scalar.indexCast v1536
  let c0_514 : Index := 0#32
  let c0_515 : Index := 0#32
  ![v1537.toNat, 0, 0]

def k0_chk256 (v1536 : BitVec 32) : Prop :=
  (∀ a, (k0_off512 v1536) a + S1x1x16.size a ≤ S32128x1x16.size a)
theorem k0_off512_inb : ∀ (v1536 : BitVec 32) (k0_hw256 : k0_chk256 v1536), ∀ a, (k0_off512 v1536) a + S1x1x16.size a ≤ S32128x1x16.size a := fun v1536 k0_hw256 => k0_hw256

def k0_off513 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1541 : Index := Scalar.indexCast arg6
  let c256 : Index := 256#32
  ![v1541.toNat, 256]
def k0_off514 (v1542 : BitVec 32) : Fin 3 → Nat :=
  let v1543 : Index := Scalar.indexCast v1542
  let c0_516 : Index := 0#32
  let c0_517 : Index := 0#32
  ![v1543.toNat, 0, 0]

def k0_chk257 (v1542 : BitVec 32) : Prop :=
  (∀ a, (k0_off514 v1542) a + S1x1x16.size a ≤ S32128x1x16.size a)
theorem k0_off514_inb : ∀ (v1542 : BitVec 32) (k0_hw257 : k0_chk257 v1542), ∀ a, (k0_off514 v1542) a + S1x1x16.size a ≤ S32128x1x16.size a := fun v1542 k0_hw257 => k0_hw257

def k0_off515 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1547 : Index := Scalar.indexCast arg6
  let c257 : Index := 257#32
  ![v1547.toNat, 257]
def k0_off516 (v1548 : BitVec 32) : Fin 3 → Nat :=
  let v1549 : Index := Scalar.indexCast v1548
  let c0_518 : Index := 0#32
  let c0_519 : Index := 0#32
  ![v1549.toNat, 0, 0]

def k0_chk258 (v1548 : BitVec 32) : Prop :=
  (∀ a, (k0_off516 v1548) a + S1x1x16.size a ≤ S32128x1x16.size a)
theorem k0_off516_inb : ∀ (v1548 : BitVec 32) (k0_hw258 : k0_chk258 v1548), ∀ a, (k0_off516 v1548) a + S1x1x16.size a ≤ S32128x1x16.size a := fun v1548 k0_hw258 => k0_hw258

def k0_off517 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1553 : Index := Scalar.indexCast arg6
  let c258 : Index := 258#32
  ![v1553.toNat, 258]
def k0_off518 (v1554 : BitVec 32) : Fin 3 → Nat :=
  let v1555 : Index := Scalar.indexCast v1554
  let c0_520 : Index := 0#32
  let c0_521 : Index := 0#32
  ![v1555.toNat, 0, 0]

def k0_chk259 (v1554 : BitVec 32) : Prop :=
  (∀ a, (k0_off518 v1554) a + S1x1x16.size a ≤ S32128x1x16.size a)
theorem k0_off518_inb : ∀ (v1554 : BitVec 32) (k0_hw259 : k0_chk259 v1554), ∀ a, (k0_off518 v1554) a + S1x1x16.size a ≤ S32128x1x16.size a := fun v1554 k0_hw259 => k0_hw259

def k0_off519 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1559 : Index := Scalar.indexCast arg6
  let c259 : Index := 259#32
  ![v1559.toNat, 259]
def k0_off520 (v1560 : BitVec 32) : Fin 3 → Nat :=
  let v1561 : Index := Scalar.indexCast v1560
  let c0_522 : Index := 0#32
  let c0_523 : Index := 0#32
  ![v1561.toNat, 0, 0]

def k0_chk260 (v1560 : BitVec 32) : Prop :=
  (∀ a, (k0_off520 v1560) a + S1x1x16.size a ≤ S32128x1x16.size a)
theorem k0_off520_inb : ∀ (v1560 : BitVec 32) (k0_hw260 : k0_chk260 v1560), ∀ a, (k0_off520 v1560) a + S1x1x16.size a ≤ S32128x1x16.size a := fun v1560 k0_hw260 => k0_hw260

def k0_off521 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1565 : Index := Scalar.indexCast arg6
  let c260 : Index := 260#32
  ![v1565.toNat, 260]
def k0_off522 (v1566 : BitVec 32) : Fin 3 → Nat :=
  let v1567 : Index := Scalar.indexCast v1566
  let c0_524 : Index := 0#32
  let c0_525 : Index := 0#32
  ![v1567.toNat, 0, 0]

def k0_chk261 (v1566 : BitVec 32) : Prop :=
  (∀ a, (k0_off522 v1566) a + S1x1x16.size a ≤ S32128x1x16.size a)
theorem k0_off522_inb : ∀ (v1566 : BitVec 32) (k0_hw261 : k0_chk261 v1566), ∀ a, (k0_off522 v1566) a + S1x1x16.size a ≤ S32128x1x16.size a := fun v1566 k0_hw261 => k0_hw261

def k0_off523 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1571 : Index := Scalar.indexCast arg6
  let c261 : Index := 261#32
  ![v1571.toNat, 261]
def k0_off524 (v1572 : BitVec 32) : Fin 3 → Nat :=
  let v1573 : Index := Scalar.indexCast v1572
  let c0_526 : Index := 0#32
  let c0_527 : Index := 0#32
  ![v1573.toNat, 0, 0]

def k0_chk262 (v1572 : BitVec 32) : Prop :=
  (∀ a, (k0_off524 v1572) a + S1x1x16.size a ≤ S32128x1x16.size a)
theorem k0_off524_inb : ∀ (v1572 : BitVec 32) (k0_hw262 : k0_chk262 v1572), ∀ a, (k0_off524 v1572) a + S1x1x16.size a ≤ S32128x1x16.size a := fun v1572 k0_hw262 => k0_hw262

def k0_off525 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1577 : Index := Scalar.indexCast arg6
  let c262 : Index := 262#32
  ![v1577.toNat, 262]
def k0_off526 (v1578 : BitVec 32) : Fin 3 → Nat :=
  let v1579 : Index := Scalar.indexCast v1578
  let c0_528 : Index := 0#32
  let c0_529 : Index := 0#32
  ![v1579.toNat, 0, 0]

def k0_chk263 (v1578 : BitVec 32) : Prop :=
  (∀ a, (k0_off526 v1578) a + S1x1x16.size a ≤ S32128x1x16.size a)
theorem k0_off526_inb : ∀ (v1578 : BitVec 32) (k0_hw263 : k0_chk263 v1578), ∀ a, (k0_off526 v1578) a + S1x1x16.size a ≤ S32128x1x16.size a := fun v1578 k0_hw263 => k0_hw263

def k0_off527 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1583 : Index := Scalar.indexCast arg6
  let c263 : Index := 263#32
  ![v1583.toNat, 263]
def k0_off528 (v1584 : BitVec 32) : Fin 3 → Nat :=
  let v1585 : Index := Scalar.indexCast v1584
  let c0_530 : Index := 0#32
  let c0_531 : Index := 0#32
  ![v1585.toNat, 0, 0]

def k0_chk264 (v1584 : BitVec 32) : Prop :=
  (∀ a, (k0_off528 v1584) a + S1x1x16.size a ≤ S32128x1x16.size a)
theorem k0_off528_inb : ∀ (v1584 : BitVec 32) (k0_hw264 : k0_chk264 v1584), ∀ a, (k0_off528 v1584) a + S1x1x16.size a ≤ S32128x1x16.size a := fun v1584 k0_hw264 => k0_hw264

def k0_off529 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1589 : Index := Scalar.indexCast arg6
  let c264 : Index := 264#32
  ![v1589.toNat, 264]
def k0_off530 (v1590 : BitVec 32) : Fin 3 → Nat :=
  let v1591 : Index := Scalar.indexCast v1590
  let c0_532 : Index := 0#32
  let c0_533 : Index := 0#32
  ![v1591.toNat, 0, 0]

def k0_chk265 (v1590 : BitVec 32) : Prop :=
  (∀ a, (k0_off530 v1590) a + S1x1x16.size a ≤ S32128x1x16.size a)
theorem k0_off530_inb : ∀ (v1590 : BitVec 32) (k0_hw265 : k0_chk265 v1590), ∀ a, (k0_off530 v1590) a + S1x1x16.size a ≤ S32128x1x16.size a := fun v1590 k0_hw265 => k0_hw265

def k0_off531 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1595 : Index := Scalar.indexCast arg6
  let c265 : Index := 265#32
  ![v1595.toNat, 265]
def k0_off532 (v1596 : BitVec 32) : Fin 3 → Nat :=
  let v1597 : Index := Scalar.indexCast v1596
  let c0_534 : Index := 0#32
  let c0_535 : Index := 0#32
  ![v1597.toNat, 0, 0]

def k0_chk266 (v1596 : BitVec 32) : Prop :=
  (∀ a, (k0_off532 v1596) a + S1x1x16.size a ≤ S32128x1x16.size a)
theorem k0_off532_inb : ∀ (v1596 : BitVec 32) (k0_hw266 : k0_chk266 v1596), ∀ a, (k0_off532 v1596) a + S1x1x16.size a ≤ S32128x1x16.size a := fun v1596 k0_hw266 => k0_hw266

def k0_off533 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1601 : Index := Scalar.indexCast arg6
  let c266 : Index := 266#32
  ![v1601.toNat, 266]
def k0_off534 (v1602 : BitVec 32) : Fin 3 → Nat :=
  let v1603 : Index := Scalar.indexCast v1602
  let c0_536 : Index := 0#32
  let c0_537 : Index := 0#32
  ![v1603.toNat, 0, 0]

def k0_chk267 (v1602 : BitVec 32) : Prop :=
  (∀ a, (k0_off534 v1602) a + S1x1x16.size a ≤ S32128x1x16.size a)
theorem k0_off534_inb : ∀ (v1602 : BitVec 32) (k0_hw267 : k0_chk267 v1602), ∀ a, (k0_off534 v1602) a + S1x1x16.size a ≤ S32128x1x16.size a := fun v1602 k0_hw267 => k0_hw267

def k0_off535 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1607 : Index := Scalar.indexCast arg6
  let c267 : Index := 267#32
  ![v1607.toNat, 267]
def k0_off536 (v1608 : BitVec 32) : Fin 3 → Nat :=
  let v1609 : Index := Scalar.indexCast v1608
  let c0_538 : Index := 0#32
  let c0_539 : Index := 0#32
  ![v1609.toNat, 0, 0]

def k0_chk268 (v1608 : BitVec 32) : Prop :=
  (∀ a, (k0_off536 v1608) a + S1x1x16.size a ≤ S32128x1x16.size a)
theorem k0_off536_inb : ∀ (v1608 : BitVec 32) (k0_hw268 : k0_chk268 v1608), ∀ a, (k0_off536 v1608) a + S1x1x16.size a ≤ S32128x1x16.size a := fun v1608 k0_hw268 => k0_hw268

def k0_off537 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1613 : Index := Scalar.indexCast arg6
  let c268 : Index := 268#32
  ![v1613.toNat, 268]
def k0_off538 (v1614 : BitVec 32) : Fin 3 → Nat :=
  let v1615 : Index := Scalar.indexCast v1614
  let c0_540 : Index := 0#32
  let c0_541 : Index := 0#32
  ![v1615.toNat, 0, 0]

def k0_chk269 (v1614 : BitVec 32) : Prop :=
  (∀ a, (k0_off538 v1614) a + S1x1x16.size a ≤ S32128x1x16.size a)
theorem k0_off538_inb : ∀ (v1614 : BitVec 32) (k0_hw269 : k0_chk269 v1614), ∀ a, (k0_off538 v1614) a + S1x1x16.size a ≤ S32128x1x16.size a := fun v1614 k0_hw269 => k0_hw269

def k0_off539 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1619 : Index := Scalar.indexCast arg6
  let c269 : Index := 269#32
  ![v1619.toNat, 269]
def k0_off540 (v1620 : BitVec 32) : Fin 3 → Nat :=
  let v1621 : Index := Scalar.indexCast v1620
  let c0_542 : Index := 0#32
  let c0_543 : Index := 0#32
  ![v1621.toNat, 0, 0]

def k0_chk270 (v1620 : BitVec 32) : Prop :=
  (∀ a, (k0_off540 v1620) a + S1x1x16.size a ≤ S32128x1x16.size a)
theorem k0_off540_inb : ∀ (v1620 : BitVec 32) (k0_hw270 : k0_chk270 v1620), ∀ a, (k0_off540 v1620) a + S1x1x16.size a ≤ S32128x1x16.size a := fun v1620 k0_hw270 => k0_hw270

def k0_off541 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1625 : Index := Scalar.indexCast arg6
  let c270 : Index := 270#32
  ![v1625.toNat, 270]
def k0_off542 (v1626 : BitVec 32) : Fin 3 → Nat :=
  let v1627 : Index := Scalar.indexCast v1626
  let c0_544 : Index := 0#32
  let c0_545 : Index := 0#32
  ![v1627.toNat, 0, 0]

def k0_chk271 (v1626 : BitVec 32) : Prop :=
  (∀ a, (k0_off542 v1626) a + S1x1x16.size a ≤ S32128x1x16.size a)
theorem k0_off542_inb : ∀ (v1626 : BitVec 32) (k0_hw271 : k0_chk271 v1626), ∀ a, (k0_off542 v1626) a + S1x1x16.size a ≤ S32128x1x16.size a := fun v1626 k0_hw271 => k0_hw271

def k0_off543 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1631 : Index := Scalar.indexCast arg6
  let c271 : Index := 271#32
  ![v1631.toNat, 271]
def k0_off544 (v1632 : BitVec 32) : Fin 3 → Nat :=
  let v1633 : Index := Scalar.indexCast v1632
  let c0_546 : Index := 0#32
  let c0_547 : Index := 0#32
  ![v1633.toNat, 0, 0]

def k0_chk272 (v1632 : BitVec 32) : Prop :=
  (∀ a, (k0_off544 v1632) a + S1x1x16.size a ≤ S32128x1x16.size a)
theorem k0_off544_inb : ∀ (v1632 : BitVec 32) (k0_hw272 : k0_chk272 v1632), ∀ a, (k0_off544 v1632) a + S1x1x16.size a ≤ S32128x1x16.size a := fun v1632 k0_hw272 => k0_hw272

def k0_off545 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1637 : Index := Scalar.indexCast arg6
  let c272 : Index := 272#32
  ![v1637.toNat, 272]
def k0_off546 (v1638 : BitVec 32) : Fin 3 → Nat :=
  let v1639 : Index := Scalar.indexCast v1638
  let c0_548 : Index := 0#32
  let c0_549 : Index := 0#32
  ![v1639.toNat, 0, 0]

def k0_chk273 (v1638 : BitVec 32) : Prop :=
  (∀ a, (k0_off546 v1638) a + S1x1x16.size a ≤ S32128x1x16.size a)
theorem k0_off546_inb : ∀ (v1638 : BitVec 32) (k0_hw273 : k0_chk273 v1638), ∀ a, (k0_off546 v1638) a + S1x1x16.size a ≤ S32128x1x16.size a := fun v1638 k0_hw273 => k0_hw273

def k0_off547 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1643 : Index := Scalar.indexCast arg6
  let c273 : Index := 273#32
  ![v1643.toNat, 273]
def k0_off548 (v1644 : BitVec 32) : Fin 3 → Nat :=
  let v1645 : Index := Scalar.indexCast v1644
  let c0_550 : Index := 0#32
  let c0_551 : Index := 0#32
  ![v1645.toNat, 0, 0]

def k0_chk274 (v1644 : BitVec 32) : Prop :=
  (∀ a, (k0_off548 v1644) a + S1x1x16.size a ≤ S32128x1x16.size a)
theorem k0_off548_inb : ∀ (v1644 : BitVec 32) (k0_hw274 : k0_chk274 v1644), ∀ a, (k0_off548 v1644) a + S1x1x16.size a ≤ S32128x1x16.size a := fun v1644 k0_hw274 => k0_hw274

def k0_off549 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1649 : Index := Scalar.indexCast arg6
  let c274 : Index := 274#32
  ![v1649.toNat, 274]
def k0_off550 (v1650 : BitVec 32) : Fin 3 → Nat :=
  let v1651 : Index := Scalar.indexCast v1650
  let c0_552 : Index := 0#32
  let c0_553 : Index := 0#32
  ![v1651.toNat, 0, 0]

def k0_chk275 (v1650 : BitVec 32) : Prop :=
  (∀ a, (k0_off550 v1650) a + S1x1x16.size a ≤ S32128x1x16.size a)
theorem k0_off550_inb : ∀ (v1650 : BitVec 32) (k0_hw275 : k0_chk275 v1650), ∀ a, (k0_off550 v1650) a + S1x1x16.size a ≤ S32128x1x16.size a := fun v1650 k0_hw275 => k0_hw275

def k0_off551 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1655 : Index := Scalar.indexCast arg6
  let c275 : Index := 275#32
  ![v1655.toNat, 275]
def k0_off552 (v1656 : BitVec 32) : Fin 3 → Nat :=
  let v1657 : Index := Scalar.indexCast v1656
  let c0_554 : Index := 0#32
  let c0_555 : Index := 0#32
  ![v1657.toNat, 0, 0]

def k0_chk276 (v1656 : BitVec 32) : Prop :=
  (∀ a, (k0_off552 v1656) a + S1x1x16.size a ≤ S32128x1x16.size a)
theorem k0_off552_inb : ∀ (v1656 : BitVec 32) (k0_hw276 : k0_chk276 v1656), ∀ a, (k0_off552 v1656) a + S1x1x16.size a ≤ S32128x1x16.size a := fun v1656 k0_hw276 => k0_hw276

def k0_off553 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1661 : Index := Scalar.indexCast arg6
  let c276 : Index := 276#32
  ![v1661.toNat, 276]
def k0_off554 (v1662 : BitVec 32) : Fin 3 → Nat :=
  let v1663 : Index := Scalar.indexCast v1662
  let c0_556 : Index := 0#32
  let c0_557 : Index := 0#32
  ![v1663.toNat, 0, 0]

def k0_chk277 (v1662 : BitVec 32) : Prop :=
  (∀ a, (k0_off554 v1662) a + S1x1x16.size a ≤ S32128x1x16.size a)
theorem k0_off554_inb : ∀ (v1662 : BitVec 32) (k0_hw277 : k0_chk277 v1662), ∀ a, (k0_off554 v1662) a + S1x1x16.size a ≤ S32128x1x16.size a := fun v1662 k0_hw277 => k0_hw277

def k0_off555 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1667 : Index := Scalar.indexCast arg6
  let c277 : Index := 277#32
  ![v1667.toNat, 277]
def k0_off556 (v1668 : BitVec 32) : Fin 3 → Nat :=
  let v1669 : Index := Scalar.indexCast v1668
  let c0_558 : Index := 0#32
  let c0_559 : Index := 0#32
  ![v1669.toNat, 0, 0]

def k0_chk278 (v1668 : BitVec 32) : Prop :=
  (∀ a, (k0_off556 v1668) a + S1x1x16.size a ≤ S32128x1x16.size a)
theorem k0_off556_inb : ∀ (v1668 : BitVec 32) (k0_hw278 : k0_chk278 v1668), ∀ a, (k0_off556 v1668) a + S1x1x16.size a ≤ S32128x1x16.size a := fun v1668 k0_hw278 => k0_hw278

def k0_off557 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1673 : Index := Scalar.indexCast arg6
  let c278 : Index := 278#32
  ![v1673.toNat, 278]
def k0_off558 (v1674 : BitVec 32) : Fin 3 → Nat :=
  let v1675 : Index := Scalar.indexCast v1674
  let c0_560 : Index := 0#32
  let c0_561 : Index := 0#32
  ![v1675.toNat, 0, 0]

def k0_chk279 (v1674 : BitVec 32) : Prop :=
  (∀ a, (k0_off558 v1674) a + S1x1x16.size a ≤ S32128x1x16.size a)
theorem k0_off558_inb : ∀ (v1674 : BitVec 32) (k0_hw279 : k0_chk279 v1674), ∀ a, (k0_off558 v1674) a + S1x1x16.size a ≤ S32128x1x16.size a := fun v1674 k0_hw279 => k0_hw279

def k0_off559 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1679 : Index := Scalar.indexCast arg6
  let c279 : Index := 279#32
  ![v1679.toNat, 279]
def k0_off560 (v1680 : BitVec 32) : Fin 3 → Nat :=
  let v1681 : Index := Scalar.indexCast v1680
  let c0_562 : Index := 0#32
  let c0_563 : Index := 0#32
  ![v1681.toNat, 0, 0]

def k0_chk280 (v1680 : BitVec 32) : Prop :=
  (∀ a, (k0_off560 v1680) a + S1x1x16.size a ≤ S32128x1x16.size a)
theorem k0_off560_inb : ∀ (v1680 : BitVec 32) (k0_hw280 : k0_chk280 v1680), ∀ a, (k0_off560 v1680) a + S1x1x16.size a ≤ S32128x1x16.size a := fun v1680 k0_hw280 => k0_hw280

def k0_off561 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1685 : Index := Scalar.indexCast arg6
  let c280 : Index := 280#32
  ![v1685.toNat, 280]
def k0_off562 (v1686 : BitVec 32) : Fin 3 → Nat :=
  let v1687 : Index := Scalar.indexCast v1686
  let c0_564 : Index := 0#32
  let c0_565 : Index := 0#32
  ![v1687.toNat, 0, 0]

def k0_chk281 (v1686 : BitVec 32) : Prop :=
  (∀ a, (k0_off562 v1686) a + S1x1x16.size a ≤ S32128x1x16.size a)
theorem k0_off562_inb : ∀ (v1686 : BitVec 32) (k0_hw281 : k0_chk281 v1686), ∀ a, (k0_off562 v1686) a + S1x1x16.size a ≤ S32128x1x16.size a := fun v1686 k0_hw281 => k0_hw281

def k0_off563 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1691 : Index := Scalar.indexCast arg6
  let c281 : Index := 281#32
  ![v1691.toNat, 281]
def k0_off564 (v1692 : BitVec 32) : Fin 3 → Nat :=
  let v1693 : Index := Scalar.indexCast v1692
  let c0_566 : Index := 0#32
  let c0_567 : Index := 0#32
  ![v1693.toNat, 0, 0]

def k0_chk282 (v1692 : BitVec 32) : Prop :=
  (∀ a, (k0_off564 v1692) a + S1x1x16.size a ≤ S32128x1x16.size a)
theorem k0_off564_inb : ∀ (v1692 : BitVec 32) (k0_hw282 : k0_chk282 v1692), ∀ a, (k0_off564 v1692) a + S1x1x16.size a ≤ S32128x1x16.size a := fun v1692 k0_hw282 => k0_hw282

def k0_off565 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1697 : Index := Scalar.indexCast arg6
  let c282 : Index := 282#32
  ![v1697.toNat, 282]
def k0_off566 (v1698 : BitVec 32) : Fin 3 → Nat :=
  let v1699 : Index := Scalar.indexCast v1698
  let c0_568 : Index := 0#32
  let c0_569 : Index := 0#32
  ![v1699.toNat, 0, 0]

def k0_chk283 (v1698 : BitVec 32) : Prop :=
  (∀ a, (k0_off566 v1698) a + S1x1x16.size a ≤ S32128x1x16.size a)
theorem k0_off566_inb : ∀ (v1698 : BitVec 32) (k0_hw283 : k0_chk283 v1698), ∀ a, (k0_off566 v1698) a + S1x1x16.size a ≤ S32128x1x16.size a := fun v1698 k0_hw283 => k0_hw283

def k0_off567 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1703 : Index := Scalar.indexCast arg6
  let c283 : Index := 283#32
  ![v1703.toNat, 283]
def k0_off568 (v1704 : BitVec 32) : Fin 3 → Nat :=
  let v1705 : Index := Scalar.indexCast v1704
  let c0_570 : Index := 0#32
  let c0_571 : Index := 0#32
  ![v1705.toNat, 0, 0]

def k0_chk284 (v1704 : BitVec 32) : Prop :=
  (∀ a, (k0_off568 v1704) a + S1x1x16.size a ≤ S32128x1x16.size a)
theorem k0_off568_inb : ∀ (v1704 : BitVec 32) (k0_hw284 : k0_chk284 v1704), ∀ a, (k0_off568 v1704) a + S1x1x16.size a ≤ S32128x1x16.size a := fun v1704 k0_hw284 => k0_hw284

def k0_off569 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1709 : Index := Scalar.indexCast arg6
  let c284 : Index := 284#32
  ![v1709.toNat, 284]
def k0_off570 (v1710 : BitVec 32) : Fin 3 → Nat :=
  let v1711 : Index := Scalar.indexCast v1710
  let c0_572 : Index := 0#32
  let c0_573 : Index := 0#32
  ![v1711.toNat, 0, 0]

def k0_chk285 (v1710 : BitVec 32) : Prop :=
  (∀ a, (k0_off570 v1710) a + S1x1x16.size a ≤ S32128x1x16.size a)
theorem k0_off570_inb : ∀ (v1710 : BitVec 32) (k0_hw285 : k0_chk285 v1710), ∀ a, (k0_off570 v1710) a + S1x1x16.size a ≤ S32128x1x16.size a := fun v1710 k0_hw285 => k0_hw285

def k0_off571 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1715 : Index := Scalar.indexCast arg6
  let c285 : Index := 285#32
  ![v1715.toNat, 285]
def k0_off572 (v1716 : BitVec 32) : Fin 3 → Nat :=
  let v1717 : Index := Scalar.indexCast v1716
  let c0_574 : Index := 0#32
  let c0_575 : Index := 0#32
  ![v1717.toNat, 0, 0]

def k0_chk286 (v1716 : BitVec 32) : Prop :=
  (∀ a, (k0_off572 v1716) a + S1x1x16.size a ≤ S32128x1x16.size a)
theorem k0_off572_inb : ∀ (v1716 : BitVec 32) (k0_hw286 : k0_chk286 v1716), ∀ a, (k0_off572 v1716) a + S1x1x16.size a ≤ S32128x1x16.size a := fun v1716 k0_hw286 => k0_hw286

def k0_off573 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1721 : Index := Scalar.indexCast arg6
  let c286 : Index := 286#32
  ![v1721.toNat, 286]
def k0_off574 (v1722 : BitVec 32) : Fin 3 → Nat :=
  let v1723 : Index := Scalar.indexCast v1722
  let c0_576 : Index := 0#32
  let c0_577 : Index := 0#32
  ![v1723.toNat, 0, 0]

def k0_chk287 (v1722 : BitVec 32) : Prop :=
  (∀ a, (k0_off574 v1722) a + S1x1x16.size a ≤ S32128x1x16.size a)
theorem k0_off574_inb : ∀ (v1722 : BitVec 32) (k0_hw287 : k0_chk287 v1722), ∀ a, (k0_off574 v1722) a + S1x1x16.size a ≤ S32128x1x16.size a := fun v1722 k0_hw287 => k0_hw287

def k0_off575 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1727 : Index := Scalar.indexCast arg6
  let c287 : Index := 287#32
  ![v1727.toNat, 287]
def k0_off576 (v1728 : BitVec 32) : Fin 3 → Nat :=
  let v1729 : Index := Scalar.indexCast v1728
  let c0_578 : Index := 0#32
  let c0_579 : Index := 0#32
  ![v1729.toNat, 0, 0]

def k0_chk288 (v1728 : BitVec 32) : Prop :=
  (∀ a, (k0_off576 v1728) a + S1x1x16.size a ≤ S32128x1x16.size a)
theorem k0_off576_inb : ∀ (v1728 : BitVec 32) (k0_hw288 : k0_chk288 v1728), ∀ a, (k0_off576 v1728) a + S1x1x16.size a ≤ S32128x1x16.size a := fun v1728 k0_hw288 => k0_hw288

def k0_off577 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1733 : Index := Scalar.indexCast arg6
  let c288 : Index := 288#32
  ![v1733.toNat, 288]
def k0_off578 (v1734 : BitVec 32) : Fin 3 → Nat :=
  let v1735 : Index := Scalar.indexCast v1734
  let c0_580 : Index := 0#32
  let c0_581 : Index := 0#32
  ![v1735.toNat, 0, 0]

def k0_chk289 (v1734 : BitVec 32) : Prop :=
  (∀ a, (k0_off578 v1734) a + S1x1x16.size a ≤ S32128x1x16.size a)
theorem k0_off578_inb : ∀ (v1734 : BitVec 32) (k0_hw289 : k0_chk289 v1734), ∀ a, (k0_off578 v1734) a + S1x1x16.size a ≤ S32128x1x16.size a := fun v1734 k0_hw289 => k0_hw289

def k0_off579 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1739 : Index := Scalar.indexCast arg6
  let c289 : Index := 289#32
  ![v1739.toNat, 289]
def k0_off580 (v1740 : BitVec 32) : Fin 3 → Nat :=
  let v1741 : Index := Scalar.indexCast v1740
  let c0_582 : Index := 0#32
  let c0_583 : Index := 0#32
  ![v1741.toNat, 0, 0]

def k0_chk290 (v1740 : BitVec 32) : Prop :=
  (∀ a, (k0_off580 v1740) a + S1x1x16.size a ≤ S32128x1x16.size a)
theorem k0_off580_inb : ∀ (v1740 : BitVec 32) (k0_hw290 : k0_chk290 v1740), ∀ a, (k0_off580 v1740) a + S1x1x16.size a ≤ S32128x1x16.size a := fun v1740 k0_hw290 => k0_hw290

def k0_off581 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1745 : Index := Scalar.indexCast arg6
  let c290 : Index := 290#32
  ![v1745.toNat, 290]
def k0_off582 (v1746 : BitVec 32) : Fin 3 → Nat :=
  let v1747 : Index := Scalar.indexCast v1746
  let c0_584 : Index := 0#32
  let c0_585 : Index := 0#32
  ![v1747.toNat, 0, 0]

def k0_chk291 (v1746 : BitVec 32) : Prop :=
  (∀ a, (k0_off582 v1746) a + S1x1x16.size a ≤ S32128x1x16.size a)
theorem k0_off582_inb : ∀ (v1746 : BitVec 32) (k0_hw291 : k0_chk291 v1746), ∀ a, (k0_off582 v1746) a + S1x1x16.size a ≤ S32128x1x16.size a := fun v1746 k0_hw291 => k0_hw291

def k0_off583 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1751 : Index := Scalar.indexCast arg6
  let c291 : Index := 291#32
  ![v1751.toNat, 291]
def k0_off584 (v1752 : BitVec 32) : Fin 3 → Nat :=
  let v1753 : Index := Scalar.indexCast v1752
  let c0_586 : Index := 0#32
  let c0_587 : Index := 0#32
  ![v1753.toNat, 0, 0]

def k0_chk292 (v1752 : BitVec 32) : Prop :=
  (∀ a, (k0_off584 v1752) a + S1x1x16.size a ≤ S32128x1x16.size a)
theorem k0_off584_inb : ∀ (v1752 : BitVec 32) (k0_hw292 : k0_chk292 v1752), ∀ a, (k0_off584 v1752) a + S1x1x16.size a ≤ S32128x1x16.size a := fun v1752 k0_hw292 => k0_hw292

def k0_off585 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1757 : Index := Scalar.indexCast arg6
  let c292 : Index := 292#32
  ![v1757.toNat, 292]
def k0_off586 (v1758 : BitVec 32) : Fin 3 → Nat :=
  let v1759 : Index := Scalar.indexCast v1758
  let c0_588 : Index := 0#32
  let c0_589 : Index := 0#32
  ![v1759.toNat, 0, 0]

def k0_chk293 (v1758 : BitVec 32) : Prop :=
  (∀ a, (k0_off586 v1758) a + S1x1x16.size a ≤ S32128x1x16.size a)
theorem k0_off586_inb : ∀ (v1758 : BitVec 32) (k0_hw293 : k0_chk293 v1758), ∀ a, (k0_off586 v1758) a + S1x1x16.size a ≤ S32128x1x16.size a := fun v1758 k0_hw293 => k0_hw293

def k0_off587 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1763 : Index := Scalar.indexCast arg6
  let c293 : Index := 293#32
  ![v1763.toNat, 293]
def k0_off588 (v1764 : BitVec 32) : Fin 3 → Nat :=
  let v1765 : Index := Scalar.indexCast v1764
  let c0_590 : Index := 0#32
  let c0_591 : Index := 0#32
  ![v1765.toNat, 0, 0]

def k0_chk294 (v1764 : BitVec 32) : Prop :=
  (∀ a, (k0_off588 v1764) a + S1x1x16.size a ≤ S32128x1x16.size a)
theorem k0_off588_inb : ∀ (v1764 : BitVec 32) (k0_hw294 : k0_chk294 v1764), ∀ a, (k0_off588 v1764) a + S1x1x16.size a ≤ S32128x1x16.size a := fun v1764 k0_hw294 => k0_hw294

def k0_off589 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1769 : Index := Scalar.indexCast arg6
  let c294 : Index := 294#32
  ![v1769.toNat, 294]
def k0_off590 (v1770 : BitVec 32) : Fin 3 → Nat :=
  let v1771 : Index := Scalar.indexCast v1770
  let c0_592 : Index := 0#32
  let c0_593 : Index := 0#32
  ![v1771.toNat, 0, 0]

def k0_chk295 (v1770 : BitVec 32) : Prop :=
  (∀ a, (k0_off590 v1770) a + S1x1x16.size a ≤ S32128x1x16.size a)
theorem k0_off590_inb : ∀ (v1770 : BitVec 32) (k0_hw295 : k0_chk295 v1770), ∀ a, (k0_off590 v1770) a + S1x1x16.size a ≤ S32128x1x16.size a := fun v1770 k0_hw295 => k0_hw295

def k0_off591 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1775 : Index := Scalar.indexCast arg6
  let c295 : Index := 295#32
  ![v1775.toNat, 295]
def k0_off592 (v1776 : BitVec 32) : Fin 3 → Nat :=
  let v1777 : Index := Scalar.indexCast v1776
  let c0_594 : Index := 0#32
  let c0_595 : Index := 0#32
  ![v1777.toNat, 0, 0]

def k0_chk296 (v1776 : BitVec 32) : Prop :=
  (∀ a, (k0_off592 v1776) a + S1x1x16.size a ≤ S32128x1x16.size a)
theorem k0_off592_inb : ∀ (v1776 : BitVec 32) (k0_hw296 : k0_chk296 v1776), ∀ a, (k0_off592 v1776) a + S1x1x16.size a ≤ S32128x1x16.size a := fun v1776 k0_hw296 => k0_hw296

def k0_off593 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1781 : Index := Scalar.indexCast arg6
  let c296 : Index := 296#32
  ![v1781.toNat, 296]
def k0_off594 (v1782 : BitVec 32) : Fin 3 → Nat :=
  let v1783 : Index := Scalar.indexCast v1782
  let c0_596 : Index := 0#32
  let c0_597 : Index := 0#32
  ![v1783.toNat, 0, 0]

def k0_chk297 (v1782 : BitVec 32) : Prop :=
  (∀ a, (k0_off594 v1782) a + S1x1x16.size a ≤ S32128x1x16.size a)
theorem k0_off594_inb : ∀ (v1782 : BitVec 32) (k0_hw297 : k0_chk297 v1782), ∀ a, (k0_off594 v1782) a + S1x1x16.size a ≤ S32128x1x16.size a := fun v1782 k0_hw297 => k0_hw297

def k0_off595 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1787 : Index := Scalar.indexCast arg6
  let c297 : Index := 297#32
  ![v1787.toNat, 297]
def k0_off596 (v1788 : BitVec 32) : Fin 3 → Nat :=
  let v1789 : Index := Scalar.indexCast v1788
  let c0_598 : Index := 0#32
  let c0_599 : Index := 0#32
  ![v1789.toNat, 0, 0]

def k0_chk298 (v1788 : BitVec 32) : Prop :=
  (∀ a, (k0_off596 v1788) a + S1x1x16.size a ≤ S32128x1x16.size a)
theorem k0_off596_inb : ∀ (v1788 : BitVec 32) (k0_hw298 : k0_chk298 v1788), ∀ a, (k0_off596 v1788) a + S1x1x16.size a ≤ S32128x1x16.size a := fun v1788 k0_hw298 => k0_hw298

def k0_off597 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1793 : Index := Scalar.indexCast arg6
  let c298 : Index := 298#32
  ![v1793.toNat, 298]
def k0_off598 (v1794 : BitVec 32) : Fin 3 → Nat :=
  let v1795 : Index := Scalar.indexCast v1794
  let c0_600 : Index := 0#32
  let c0_601 : Index := 0#32
  ![v1795.toNat, 0, 0]

def k0_chk299 (v1794 : BitVec 32) : Prop :=
  (∀ a, (k0_off598 v1794) a + S1x1x16.size a ≤ S32128x1x16.size a)
theorem k0_off598_inb : ∀ (v1794 : BitVec 32) (k0_hw299 : k0_chk299 v1794), ∀ a, (k0_off598 v1794) a + S1x1x16.size a ≤ S32128x1x16.size a := fun v1794 k0_hw299 => k0_hw299

def k0_off599 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1799 : Index := Scalar.indexCast arg6
  let c299 : Index := 299#32
  ![v1799.toNat, 299]
def k0_off600 (v1800 : BitVec 32) : Fin 3 → Nat :=
  let v1801 : Index := Scalar.indexCast v1800
  let c0_602 : Index := 0#32
  let c0_603 : Index := 0#32
  ![v1801.toNat, 0, 0]

def k0_chk300 (v1800 : BitVec 32) : Prop :=
  (∀ a, (k0_off600 v1800) a + S1x1x16.size a ≤ S32128x1x16.size a)
theorem k0_off600_inb : ∀ (v1800 : BitVec 32) (k0_hw300 : k0_chk300 v1800), ∀ a, (k0_off600 v1800) a + S1x1x16.size a ≤ S32128x1x16.size a := fun v1800 k0_hw300 => k0_hw300

def k0_off601 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1805 : Index := Scalar.indexCast arg6
  let c300 : Index := 300#32
  ![v1805.toNat, 300]
def k0_off602 (v1806 : BitVec 32) : Fin 3 → Nat :=
  let v1807 : Index := Scalar.indexCast v1806
  let c0_604 : Index := 0#32
  let c0_605 : Index := 0#32
  ![v1807.toNat, 0, 0]

def k0_chk301 (v1806 : BitVec 32) : Prop :=
  (∀ a, (k0_off602 v1806) a + S1x1x16.size a ≤ S32128x1x16.size a)
theorem k0_off602_inb : ∀ (v1806 : BitVec 32) (k0_hw301 : k0_chk301 v1806), ∀ a, (k0_off602 v1806) a + S1x1x16.size a ≤ S32128x1x16.size a := fun v1806 k0_hw301 => k0_hw301

def k0_off603 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1811 : Index := Scalar.indexCast arg6
  let c301 : Index := 301#32
  ![v1811.toNat, 301]
def k0_off604 (v1812 : BitVec 32) : Fin 3 → Nat :=
  let v1813 : Index := Scalar.indexCast v1812
  let c0_606 : Index := 0#32
  let c0_607 : Index := 0#32
  ![v1813.toNat, 0, 0]

def k0_chk302 (v1812 : BitVec 32) : Prop :=
  (∀ a, (k0_off604 v1812) a + S1x1x16.size a ≤ S32128x1x16.size a)
theorem k0_off604_inb : ∀ (v1812 : BitVec 32) (k0_hw302 : k0_chk302 v1812), ∀ a, (k0_off604 v1812) a + S1x1x16.size a ≤ S32128x1x16.size a := fun v1812 k0_hw302 => k0_hw302

def k0_off605 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1817 : Index := Scalar.indexCast arg6
  let c302 : Index := 302#32
  ![v1817.toNat, 302]
def k0_off606 (v1818 : BitVec 32) : Fin 3 → Nat :=
  let v1819 : Index := Scalar.indexCast v1818
  let c0_608 : Index := 0#32
  let c0_609 : Index := 0#32
  ![v1819.toNat, 0, 0]

def k0_chk303 (v1818 : BitVec 32) : Prop :=
  (∀ a, (k0_off606 v1818) a + S1x1x16.size a ≤ S32128x1x16.size a)
theorem k0_off606_inb : ∀ (v1818 : BitVec 32) (k0_hw303 : k0_chk303 v1818), ∀ a, (k0_off606 v1818) a + S1x1x16.size a ≤ S32128x1x16.size a := fun v1818 k0_hw303 => k0_hw303

def k0_off607 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1823 : Index := Scalar.indexCast arg6
  let c303 : Index := 303#32
  ![v1823.toNat, 303]
def k0_off608 (v1824 : BitVec 32) : Fin 3 → Nat :=
  let v1825 : Index := Scalar.indexCast v1824
  let c0_610 : Index := 0#32
  let c0_611 : Index := 0#32
  ![v1825.toNat, 0, 0]

def k0_chk304 (v1824 : BitVec 32) : Prop :=
  (∀ a, (k0_off608 v1824) a + S1x1x16.size a ≤ S32128x1x16.size a)
theorem k0_off608_inb : ∀ (v1824 : BitVec 32) (k0_hw304 : k0_chk304 v1824), ∀ a, (k0_off608 v1824) a + S1x1x16.size a ≤ S32128x1x16.size a := fun v1824 k0_hw304 => k0_hw304

def k0_off609 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1829 : Index := Scalar.indexCast arg6
  let c304 : Index := 304#32
  ![v1829.toNat, 304]
def k0_off610 (v1830 : BitVec 32) : Fin 3 → Nat :=
  let v1831 : Index := Scalar.indexCast v1830
  let c0_612 : Index := 0#32
  let c0_613 : Index := 0#32
  ![v1831.toNat, 0, 0]

def k0_chk305 (v1830 : BitVec 32) : Prop :=
  (∀ a, (k0_off610 v1830) a + S1x1x16.size a ≤ S32128x1x16.size a)
theorem k0_off610_inb : ∀ (v1830 : BitVec 32) (k0_hw305 : k0_chk305 v1830), ∀ a, (k0_off610 v1830) a + S1x1x16.size a ≤ S32128x1x16.size a := fun v1830 k0_hw305 => k0_hw305

def k0_off611 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1835 : Index := Scalar.indexCast arg6
  let c305 : Index := 305#32
  ![v1835.toNat, 305]
def k0_off612 (v1836 : BitVec 32) : Fin 3 → Nat :=
  let v1837 : Index := Scalar.indexCast v1836
  let c0_614 : Index := 0#32
  let c0_615 : Index := 0#32
  ![v1837.toNat, 0, 0]

def k0_chk306 (v1836 : BitVec 32) : Prop :=
  (∀ a, (k0_off612 v1836) a + S1x1x16.size a ≤ S32128x1x16.size a)
theorem k0_off612_inb : ∀ (v1836 : BitVec 32) (k0_hw306 : k0_chk306 v1836), ∀ a, (k0_off612 v1836) a + S1x1x16.size a ≤ S32128x1x16.size a := fun v1836 k0_hw306 => k0_hw306

def k0_off613 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1841 : Index := Scalar.indexCast arg6
  let c306 : Index := 306#32
  ![v1841.toNat, 306]
def k0_off614 (v1842 : BitVec 32) : Fin 3 → Nat :=
  let v1843 : Index := Scalar.indexCast v1842
  let c0_616 : Index := 0#32
  let c0_617 : Index := 0#32
  ![v1843.toNat, 0, 0]

def k0_chk307 (v1842 : BitVec 32) : Prop :=
  (∀ a, (k0_off614 v1842) a + S1x1x16.size a ≤ S32128x1x16.size a)
theorem k0_off614_inb : ∀ (v1842 : BitVec 32) (k0_hw307 : k0_chk307 v1842), ∀ a, (k0_off614 v1842) a + S1x1x16.size a ≤ S32128x1x16.size a := fun v1842 k0_hw307 => k0_hw307

def k0_off615 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1847 : Index := Scalar.indexCast arg6
  let c307 : Index := 307#32
  ![v1847.toNat, 307]
def k0_off616 (v1848 : BitVec 32) : Fin 3 → Nat :=
  let v1849 : Index := Scalar.indexCast v1848
  let c0_618 : Index := 0#32
  let c0_619 : Index := 0#32
  ![v1849.toNat, 0, 0]

def k0_chk308 (v1848 : BitVec 32) : Prop :=
  (∀ a, (k0_off616 v1848) a + S1x1x16.size a ≤ S32128x1x16.size a)
theorem k0_off616_inb : ∀ (v1848 : BitVec 32) (k0_hw308 : k0_chk308 v1848), ∀ a, (k0_off616 v1848) a + S1x1x16.size a ≤ S32128x1x16.size a := fun v1848 k0_hw308 => k0_hw308

def k0_off617 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1853 : Index := Scalar.indexCast arg6
  let c308 : Index := 308#32
  ![v1853.toNat, 308]
def k0_off618 (v1854 : BitVec 32) : Fin 3 → Nat :=
  let v1855 : Index := Scalar.indexCast v1854
  let c0_620 : Index := 0#32
  let c0_621 : Index := 0#32
  ![v1855.toNat, 0, 0]

def k0_chk309 (v1854 : BitVec 32) : Prop :=
  (∀ a, (k0_off618 v1854) a + S1x1x16.size a ≤ S32128x1x16.size a)
theorem k0_off618_inb : ∀ (v1854 : BitVec 32) (k0_hw309 : k0_chk309 v1854), ∀ a, (k0_off618 v1854) a + S1x1x16.size a ≤ S32128x1x16.size a := fun v1854 k0_hw309 => k0_hw309

def k0_off619 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1859 : Index := Scalar.indexCast arg6
  let c309 : Index := 309#32
  ![v1859.toNat, 309]
def k0_off620 (v1860 : BitVec 32) : Fin 3 → Nat :=
  let v1861 : Index := Scalar.indexCast v1860
  let c0_622 : Index := 0#32
  let c0_623 : Index := 0#32
  ![v1861.toNat, 0, 0]

def k0_chk310 (v1860 : BitVec 32) : Prop :=
  (∀ a, (k0_off620 v1860) a + S1x1x16.size a ≤ S32128x1x16.size a)
theorem k0_off620_inb : ∀ (v1860 : BitVec 32) (k0_hw310 : k0_chk310 v1860), ∀ a, (k0_off620 v1860) a + S1x1x16.size a ≤ S32128x1x16.size a := fun v1860 k0_hw310 => k0_hw310

def k0_off621 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1865 : Index := Scalar.indexCast arg6
  let c310 : Index := 310#32
  ![v1865.toNat, 310]
def k0_off622 (v1866 : BitVec 32) : Fin 3 → Nat :=
  let v1867 : Index := Scalar.indexCast v1866
  let c0_624 : Index := 0#32
  let c0_625 : Index := 0#32
  ![v1867.toNat, 0, 0]

def k0_chk311 (v1866 : BitVec 32) : Prop :=
  (∀ a, (k0_off622 v1866) a + S1x1x16.size a ≤ S32128x1x16.size a)
theorem k0_off622_inb : ∀ (v1866 : BitVec 32) (k0_hw311 : k0_chk311 v1866), ∀ a, (k0_off622 v1866) a + S1x1x16.size a ≤ S32128x1x16.size a := fun v1866 k0_hw311 => k0_hw311

def k0_off623 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1871 : Index := Scalar.indexCast arg6
  let c311 : Index := 311#32
  ![v1871.toNat, 311]
def k0_off624 (v1872 : BitVec 32) : Fin 3 → Nat :=
  let v1873 : Index := Scalar.indexCast v1872
  let c0_626 : Index := 0#32
  let c0_627 : Index := 0#32
  ![v1873.toNat, 0, 0]

def k0_chk312 (v1872 : BitVec 32) : Prop :=
  (∀ a, (k0_off624 v1872) a + S1x1x16.size a ≤ S32128x1x16.size a)
theorem k0_off624_inb : ∀ (v1872 : BitVec 32) (k0_hw312 : k0_chk312 v1872), ∀ a, (k0_off624 v1872) a + S1x1x16.size a ≤ S32128x1x16.size a := fun v1872 k0_hw312 => k0_hw312

def k0_off625 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1877 : Index := Scalar.indexCast arg6
  let c312 : Index := 312#32
  ![v1877.toNat, 312]
def k0_off626 (v1878 : BitVec 32) : Fin 3 → Nat :=
  let v1879 : Index := Scalar.indexCast v1878
  let c0_628 : Index := 0#32
  let c0_629 : Index := 0#32
  ![v1879.toNat, 0, 0]

def k0_chk313 (v1878 : BitVec 32) : Prop :=
  (∀ a, (k0_off626 v1878) a + S1x1x16.size a ≤ S32128x1x16.size a)
theorem k0_off626_inb : ∀ (v1878 : BitVec 32) (k0_hw313 : k0_chk313 v1878), ∀ a, (k0_off626 v1878) a + S1x1x16.size a ≤ S32128x1x16.size a := fun v1878 k0_hw313 => k0_hw313

def k0_off627 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1883 : Index := Scalar.indexCast arg6
  let c313 : Index := 313#32
  ![v1883.toNat, 313]
def k0_off628 (v1884 : BitVec 32) : Fin 3 → Nat :=
  let v1885 : Index := Scalar.indexCast v1884
  let c0_630 : Index := 0#32
  let c0_631 : Index := 0#32
  ![v1885.toNat, 0, 0]

def k0_chk314 (v1884 : BitVec 32) : Prop :=
  (∀ a, (k0_off628 v1884) a + S1x1x16.size a ≤ S32128x1x16.size a)
theorem k0_off628_inb : ∀ (v1884 : BitVec 32) (k0_hw314 : k0_chk314 v1884), ∀ a, (k0_off628 v1884) a + S1x1x16.size a ≤ S32128x1x16.size a := fun v1884 k0_hw314 => k0_hw314

def k0_off629 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1889 : Index := Scalar.indexCast arg6
  let c314 : Index := 314#32
  ![v1889.toNat, 314]
def k0_off630 (v1890 : BitVec 32) : Fin 3 → Nat :=
  let v1891 : Index := Scalar.indexCast v1890
  let c0_632 : Index := 0#32
  let c0_633 : Index := 0#32
  ![v1891.toNat, 0, 0]

def k0_chk315 (v1890 : BitVec 32) : Prop :=
  (∀ a, (k0_off630 v1890) a + S1x1x16.size a ≤ S32128x1x16.size a)
theorem k0_off630_inb : ∀ (v1890 : BitVec 32) (k0_hw315 : k0_chk315 v1890), ∀ a, (k0_off630 v1890) a + S1x1x16.size a ≤ S32128x1x16.size a := fun v1890 k0_hw315 => k0_hw315

def k0_off631 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1895 : Index := Scalar.indexCast arg6
  let c315 : Index := 315#32
  ![v1895.toNat, 315]
def k0_off632 (v1896 : BitVec 32) : Fin 3 → Nat :=
  let v1897 : Index := Scalar.indexCast v1896
  let c0_634 : Index := 0#32
  let c0_635 : Index := 0#32
  ![v1897.toNat, 0, 0]

def k0_chk316 (v1896 : BitVec 32) : Prop :=
  (∀ a, (k0_off632 v1896) a + S1x1x16.size a ≤ S32128x1x16.size a)
theorem k0_off632_inb : ∀ (v1896 : BitVec 32) (k0_hw316 : k0_chk316 v1896), ∀ a, (k0_off632 v1896) a + S1x1x16.size a ≤ S32128x1x16.size a := fun v1896 k0_hw316 => k0_hw316

def k0_off633 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1901 : Index := Scalar.indexCast arg6
  let c316 : Index := 316#32
  ![v1901.toNat, 316]
def k0_off634 (v1902 : BitVec 32) : Fin 3 → Nat :=
  let v1903 : Index := Scalar.indexCast v1902
  let c0_636 : Index := 0#32
  let c0_637 : Index := 0#32
  ![v1903.toNat, 0, 0]

def k0_chk317 (v1902 : BitVec 32) : Prop :=
  (∀ a, (k0_off634 v1902) a + S1x1x16.size a ≤ S32128x1x16.size a)
theorem k0_off634_inb : ∀ (v1902 : BitVec 32) (k0_hw317 : k0_chk317 v1902), ∀ a, (k0_off634 v1902) a + S1x1x16.size a ≤ S32128x1x16.size a := fun v1902 k0_hw317 => k0_hw317

def k0_off635 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1907 : Index := Scalar.indexCast arg6
  let c317 : Index := 317#32
  ![v1907.toNat, 317]
def k0_off636 (v1908 : BitVec 32) : Fin 3 → Nat :=
  let v1909 : Index := Scalar.indexCast v1908
  let c0_638 : Index := 0#32
  let c0_639 : Index := 0#32
  ![v1909.toNat, 0, 0]

def k0_chk318 (v1908 : BitVec 32) : Prop :=
  (∀ a, (k0_off636 v1908) a + S1x1x16.size a ≤ S32128x1x16.size a)
theorem k0_off636_inb : ∀ (v1908 : BitVec 32) (k0_hw318 : k0_chk318 v1908), ∀ a, (k0_off636 v1908) a + S1x1x16.size a ≤ S32128x1x16.size a := fun v1908 k0_hw318 => k0_hw318

def k0_off637 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1913 : Index := Scalar.indexCast arg6
  let c318 : Index := 318#32
  ![v1913.toNat, 318]
def k0_off638 (v1914 : BitVec 32) : Fin 3 → Nat :=
  let v1915 : Index := Scalar.indexCast v1914
  let c0_640 : Index := 0#32
  let c0_641 : Index := 0#32
  ![v1915.toNat, 0, 0]

def k0_chk319 (v1914 : BitVec 32) : Prop :=
  (∀ a, (k0_off638 v1914) a + S1x1x16.size a ≤ S32128x1x16.size a)
theorem k0_off638_inb : ∀ (v1914 : BitVec 32) (k0_hw319 : k0_chk319 v1914), ∀ a, (k0_off638 v1914) a + S1x1x16.size a ≤ S32128x1x16.size a := fun v1914 k0_hw319 => k0_hw319

def k0_off639 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1919 : Index := Scalar.indexCast arg6
  let c319 : Index := 319#32
  ![v1919.toNat, 319]
def k0_off640 (v1920 : BitVec 32) : Fin 3 → Nat :=
  let v1921 : Index := Scalar.indexCast v1920
  let c0_642 : Index := 0#32
  let c0_643 : Index := 0#32
  ![v1921.toNat, 0, 0]

def k0_chk320 (v1920 : BitVec 32) : Prop :=
  (∀ a, (k0_off640 v1920) a + S1x1x16.size a ≤ S32128x1x16.size a)
theorem k0_off640_inb : ∀ (v1920 : BitVec 32) (k0_hw320 : k0_chk320 v1920), ∀ a, (k0_off640 v1920) a + S1x1x16.size a ≤ S32128x1x16.size a := fun v1920 k0_hw320 => k0_hw320

def k0_off641 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1925 : Index := Scalar.indexCast arg6
  let c320 : Index := 320#32
  ![v1925.toNat, 320]
def k0_off642 (v1926 : BitVec 32) : Fin 3 → Nat :=
  let v1927 : Index := Scalar.indexCast v1926
  let c0_644 : Index := 0#32
  let c0_645 : Index := 0#32
  ![v1927.toNat, 0, 0]

def k0_chk321 (v1926 : BitVec 32) : Prop :=
  (∀ a, (k0_off642 v1926) a + S1x1x16.size a ≤ S32128x1x16.size a)
theorem k0_off642_inb : ∀ (v1926 : BitVec 32) (k0_hw321 : k0_chk321 v1926), ∀ a, (k0_off642 v1926) a + S1x1x16.size a ≤ S32128x1x16.size a := fun v1926 k0_hw321 => k0_hw321

def k0_off643 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1931 : Index := Scalar.indexCast arg6
  let c321 : Index := 321#32
  ![v1931.toNat, 321]
def k0_off644 (v1932 : BitVec 32) : Fin 3 → Nat :=
  let v1933 : Index := Scalar.indexCast v1932
  let c0_646 : Index := 0#32
  let c0_647 : Index := 0#32
  ![v1933.toNat, 0, 0]

def k0_chk322 (v1932 : BitVec 32) : Prop :=
  (∀ a, (k0_off644 v1932) a + S1x1x16.size a ≤ S32128x1x16.size a)
theorem k0_off644_inb : ∀ (v1932 : BitVec 32) (k0_hw322 : k0_chk322 v1932), ∀ a, (k0_off644 v1932) a + S1x1x16.size a ≤ S32128x1x16.size a := fun v1932 k0_hw322 => k0_hw322

def k0_off645 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1937 : Index := Scalar.indexCast arg6
  let c322 : Index := 322#32
  ![v1937.toNat, 322]
def k0_off646 (v1938 : BitVec 32) : Fin 3 → Nat :=
  let v1939 : Index := Scalar.indexCast v1938
  let c0_648 : Index := 0#32
  let c0_649 : Index := 0#32
  ![v1939.toNat, 0, 0]

def k0_chk323 (v1938 : BitVec 32) : Prop :=
  (∀ a, (k0_off646 v1938) a + S1x1x16.size a ≤ S32128x1x16.size a)
theorem k0_off646_inb : ∀ (v1938 : BitVec 32) (k0_hw323 : k0_chk323 v1938), ∀ a, (k0_off646 v1938) a + S1x1x16.size a ≤ S32128x1x16.size a := fun v1938 k0_hw323 => k0_hw323

def k0_off647 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1943 : Index := Scalar.indexCast arg6
  let c323 : Index := 323#32
  ![v1943.toNat, 323]
def k0_off648 (v1944 : BitVec 32) : Fin 3 → Nat :=
  let v1945 : Index := Scalar.indexCast v1944
  let c0_650 : Index := 0#32
  let c0_651 : Index := 0#32
  ![v1945.toNat, 0, 0]

def k0_chk324 (v1944 : BitVec 32) : Prop :=
  (∀ a, (k0_off648 v1944) a + S1x1x16.size a ≤ S32128x1x16.size a)
theorem k0_off648_inb : ∀ (v1944 : BitVec 32) (k0_hw324 : k0_chk324 v1944), ∀ a, (k0_off648 v1944) a + S1x1x16.size a ≤ S32128x1x16.size a := fun v1944 k0_hw324 => k0_hw324

def k0_off649 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1949 : Index := Scalar.indexCast arg6
  let c324 : Index := 324#32
  ![v1949.toNat, 324]
def k0_off650 (v1950 : BitVec 32) : Fin 3 → Nat :=
  let v1951 : Index := Scalar.indexCast v1950
  let c0_652 : Index := 0#32
  let c0_653 : Index := 0#32
  ![v1951.toNat, 0, 0]

def k0_chk325 (v1950 : BitVec 32) : Prop :=
  (∀ a, (k0_off650 v1950) a + S1x1x16.size a ≤ S32128x1x16.size a)
theorem k0_off650_inb : ∀ (v1950 : BitVec 32) (k0_hw325 : k0_chk325 v1950), ∀ a, (k0_off650 v1950) a + S1x1x16.size a ≤ S32128x1x16.size a := fun v1950 k0_hw325 => k0_hw325

def k0_off651 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1955 : Index := Scalar.indexCast arg6
  let c325 : Index := 325#32
  ![v1955.toNat, 325]
def k0_off652 (v1956 : BitVec 32) : Fin 3 → Nat :=
  let v1957 : Index := Scalar.indexCast v1956
  let c0_654 : Index := 0#32
  let c0_655 : Index := 0#32
  ![v1957.toNat, 0, 0]

def k0_chk326 (v1956 : BitVec 32) : Prop :=
  (∀ a, (k0_off652 v1956) a + S1x1x16.size a ≤ S32128x1x16.size a)
theorem k0_off652_inb : ∀ (v1956 : BitVec 32) (k0_hw326 : k0_chk326 v1956), ∀ a, (k0_off652 v1956) a + S1x1x16.size a ≤ S32128x1x16.size a := fun v1956 k0_hw326 => k0_hw326

def k0_off653 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1961 : Index := Scalar.indexCast arg6
  let c326 : Index := 326#32
  ![v1961.toNat, 326]
def k0_off654 (v1962 : BitVec 32) : Fin 3 → Nat :=
  let v1963 : Index := Scalar.indexCast v1962
  let c0_656 : Index := 0#32
  let c0_657 : Index := 0#32
  ![v1963.toNat, 0, 0]

def k0_chk327 (v1962 : BitVec 32) : Prop :=
  (∀ a, (k0_off654 v1962) a + S1x1x16.size a ≤ S32128x1x16.size a)
theorem k0_off654_inb : ∀ (v1962 : BitVec 32) (k0_hw327 : k0_chk327 v1962), ∀ a, (k0_off654 v1962) a + S1x1x16.size a ≤ S32128x1x16.size a := fun v1962 k0_hw327 => k0_hw327

def k0_off655 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1967 : Index := Scalar.indexCast arg6
  let c327 : Index := 327#32
  ![v1967.toNat, 327]
def k0_off656 (v1968 : BitVec 32) : Fin 3 → Nat :=
  let v1969 : Index := Scalar.indexCast v1968
  let c0_658 : Index := 0#32
  let c0_659 : Index := 0#32
  ![v1969.toNat, 0, 0]

def k0_chk328 (v1968 : BitVec 32) : Prop :=
  (∀ a, (k0_off656 v1968) a + S1x1x16.size a ≤ S32128x1x16.size a)
theorem k0_off656_inb : ∀ (v1968 : BitVec 32) (k0_hw328 : k0_chk328 v1968), ∀ a, (k0_off656 v1968) a + S1x1x16.size a ≤ S32128x1x16.size a := fun v1968 k0_hw328 => k0_hw328

def k0_off657 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1973 : Index := Scalar.indexCast arg6
  let c328 : Index := 328#32
  ![v1973.toNat, 328]
def k0_off658 (v1974 : BitVec 32) : Fin 3 → Nat :=
  let v1975 : Index := Scalar.indexCast v1974
  let c0_660 : Index := 0#32
  let c0_661 : Index := 0#32
  ![v1975.toNat, 0, 0]

def k0_chk329 (v1974 : BitVec 32) : Prop :=
  (∀ a, (k0_off658 v1974) a + S1x1x16.size a ≤ S32128x1x16.size a)
theorem k0_off658_inb : ∀ (v1974 : BitVec 32) (k0_hw329 : k0_chk329 v1974), ∀ a, (k0_off658 v1974) a + S1x1x16.size a ≤ S32128x1x16.size a := fun v1974 k0_hw329 => k0_hw329

def k0_off659 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1979 : Index := Scalar.indexCast arg6
  let c329 : Index := 329#32
  ![v1979.toNat, 329]
def k0_off660 (v1980 : BitVec 32) : Fin 3 → Nat :=
  let v1981 : Index := Scalar.indexCast v1980
  let c0_662 : Index := 0#32
  let c0_663 : Index := 0#32
  ![v1981.toNat, 0, 0]

def k0_chk330 (v1980 : BitVec 32) : Prop :=
  (∀ a, (k0_off660 v1980) a + S1x1x16.size a ≤ S32128x1x16.size a)
theorem k0_off660_inb : ∀ (v1980 : BitVec 32) (k0_hw330 : k0_chk330 v1980), ∀ a, (k0_off660 v1980) a + S1x1x16.size a ≤ S32128x1x16.size a := fun v1980 k0_hw330 => k0_hw330

def k0_off661 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1985 : Index := Scalar.indexCast arg6
  let c330 : Index := 330#32
  ![v1985.toNat, 330]
def k0_off662 (v1986 : BitVec 32) : Fin 3 → Nat :=
  let v1987 : Index := Scalar.indexCast v1986
  let c0_664 : Index := 0#32
  let c0_665 : Index := 0#32
  ![v1987.toNat, 0, 0]

def k0_chk331 (v1986 : BitVec 32) : Prop :=
  (∀ a, (k0_off662 v1986) a + S1x1x16.size a ≤ S32128x1x16.size a)
theorem k0_off662_inb : ∀ (v1986 : BitVec 32) (k0_hw331 : k0_chk331 v1986), ∀ a, (k0_off662 v1986) a + S1x1x16.size a ≤ S32128x1x16.size a := fun v1986 k0_hw331 => k0_hw331

def k0_off663 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1991 : Index := Scalar.indexCast arg6
  let c331 : Index := 331#32
  ![v1991.toNat, 331]
def k0_off664 (v1992 : BitVec 32) : Fin 3 → Nat :=
  let v1993 : Index := Scalar.indexCast v1992
  let c0_666 : Index := 0#32
  let c0_667 : Index := 0#32
  ![v1993.toNat, 0, 0]

def k0_chk332 (v1992 : BitVec 32) : Prop :=
  (∀ a, (k0_off664 v1992) a + S1x1x16.size a ≤ S32128x1x16.size a)
theorem k0_off664_inb : ∀ (v1992 : BitVec 32) (k0_hw332 : k0_chk332 v1992), ∀ a, (k0_off664 v1992) a + S1x1x16.size a ≤ S32128x1x16.size a := fun v1992 k0_hw332 => k0_hw332

def k0_off665 (k0_t1 : Fin k0_t1_loop.trips) : Fin 2 → Nat :=
  let c0_i32 : BitVec 32 := 0#32
  let c1_i32 : BitVec 32 := 1#32
  let arg6 : BitVec 32 := Scf.iv c0_i32 c1_i32 k0_t1
  let v1997 : Index := Scalar.indexCast arg6
  let c332 : Index := 332#32
  ![v1997.toNat, 332]
def k0_off666 (v1998 : BitVec 32) : Fin 3 → Nat :=
  let v1999 : Index := Scalar.indexCast v1998
  let c0_668 : Index := 0#32
  let c0_669 : Index := 0#32
  ![v1999.toNat, 0, 0]

def k0_chk333 (v1998 : BitVec 32) : Prop :=
  (∀ a, (k0_off666 v1998) a + S1x1x16.size a ≤ S32128x1x16.size a)
theorem k0_off666_inb : ∀ (v1998 : BitVec 32) (k0_hw333 : k0_chk333 v1998), ∀ a, (k0_off666 v1998) a + S1x1x16.size a ≤ S32128x1x16.size a := fun v1998 k0_hw333 => k0_hw333

def k0_off667 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2003 : Index := Scalar.indexCast arg6
  let c333 : Index := 333#32
  ![v2003.toNat, 333]
def k0_off668 (v2004 : BitVec 32) : Fin 3 → Nat :=
  let v2005 : Index := Scalar.indexCast v2004
  let c0_670 : Index := 0#32
  let c0_671 : Index := 0#32
  ![v2005.toNat, 0, 0]

def k0_chk334 (v2004 : BitVec 32) : Prop :=
  (∀ a, (k0_off668 v2004) a + S1x1x16.size a ≤ S32128x1x16.size a)
theorem k0_off668_inb : ∀ (v2004 : BitVec 32) (k0_hw334 : k0_chk334 v2004), ∀ a, (k0_off668 v2004) a + S1x1x16.size a ≤ S32128x1x16.size a := fun v2004 k0_hw334 => k0_hw334

def k0_off669 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2009 : Index := Scalar.indexCast arg6
  let c334 : Index := 334#32
  ![v2009.toNat, 334]
def k0_off670 (v2010 : BitVec 32) : Fin 3 → Nat :=
  let v2011 : Index := Scalar.indexCast v2010
  let c0_672 : Index := 0#32
  let c0_673 : Index := 0#32
  ![v2011.toNat, 0, 0]

def k0_chk335 (v2010 : BitVec 32) : Prop :=
  (∀ a, (k0_off670 v2010) a + S1x1x16.size a ≤ S32128x1x16.size a)
theorem k0_off670_inb : ∀ (v2010 : BitVec 32) (k0_hw335 : k0_chk335 v2010), ∀ a, (k0_off670 v2010) a + S1x1x16.size a ≤ S32128x1x16.size a := fun v2010 k0_hw335 => k0_hw335

def k0_off671 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2015 : Index := Scalar.indexCast arg6
  let c335 : Index := 335#32
  ![v2015.toNat, 335]
def k0_off672 (v2016 : BitVec 32) : Fin 3 → Nat :=
  let v2017 : Index := Scalar.indexCast v2016
  let c0_674 : Index := 0#32
  let c0_675 : Index := 0#32
  ![v2017.toNat, 0, 0]

def k0_chk336 (v2016 : BitVec 32) : Prop :=
  (∀ a, (k0_off672 v2016) a + S1x1x16.size a ≤ S32128x1x16.size a)
theorem k0_off672_inb : ∀ (v2016 : BitVec 32) (k0_hw336 : k0_chk336 v2016), ∀ a, (k0_off672 v2016) a + S1x1x16.size a ≤ S32128x1x16.size a := fun v2016 k0_hw336 => k0_hw336

def k0_off673 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2021 : Index := Scalar.indexCast arg6
  let c336 : Index := 336#32
  ![v2021.toNat, 336]
def k0_off674 (v2022 : BitVec 32) : Fin 3 → Nat :=
  let v2023 : Index := Scalar.indexCast v2022
  let c0_676 : Index := 0#32
  let c0_677 : Index := 0#32
  ![v2023.toNat, 0, 0]

def k0_chk337 (v2022 : BitVec 32) : Prop :=
  (∀ a, (k0_off674 v2022) a + S1x1x16.size a ≤ S32128x1x16.size a)
theorem k0_off674_inb : ∀ (v2022 : BitVec 32) (k0_hw337 : k0_chk337 v2022), ∀ a, (k0_off674 v2022) a + S1x1x16.size a ≤ S32128x1x16.size a := fun v2022 k0_hw337 => k0_hw337

def k0_off675 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2027 : Index := Scalar.indexCast arg6
  let c337 : Index := 337#32
  ![v2027.toNat, 337]
def k0_off676 (v2028 : BitVec 32) : Fin 3 → Nat :=
  let v2029 : Index := Scalar.indexCast v2028
  let c0_678 : Index := 0#32
  let c0_679 : Index := 0#32
  ![v2029.toNat, 0, 0]

def k0_chk338 (v2028 : BitVec 32) : Prop :=
  (∀ a, (k0_off676 v2028) a + S1x1x16.size a ≤ S32128x1x16.size a)
theorem k0_off676_inb : ∀ (v2028 : BitVec 32) (k0_hw338 : k0_chk338 v2028), ∀ a, (k0_off676 v2028) a + S1x1x16.size a ≤ S32128x1x16.size a := fun v2028 k0_hw338 => k0_hw338

def k0_off677 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2033 : Index := Scalar.indexCast arg6
  let c338 : Index := 338#32
  ![v2033.toNat, 338]
def k0_off678 (v2034 : BitVec 32) : Fin 3 → Nat :=
  let v2035 : Index := Scalar.indexCast v2034
  let c0_680 : Index := 0#32
  let c0_681 : Index := 0#32
  ![v2035.toNat, 0, 0]

def k0_chk339 (v2034 : BitVec 32) : Prop :=
  (∀ a, (k0_off678 v2034) a + S1x1x16.size a ≤ S32128x1x16.size a)
theorem k0_off678_inb : ∀ (v2034 : BitVec 32) (k0_hw339 : k0_chk339 v2034), ∀ a, (k0_off678 v2034) a + S1x1x16.size a ≤ S32128x1x16.size a := fun v2034 k0_hw339 => k0_hw339

def k0_off679 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2039 : Index := Scalar.indexCast arg6
  let c339 : Index := 339#32
  ![v2039.toNat, 339]
def k0_off680 (v2040 : BitVec 32) : Fin 3 → Nat :=
  let v2041 : Index := Scalar.indexCast v2040
  let c0_682 : Index := 0#32
  let c0_683 : Index := 0#32
  ![v2041.toNat, 0, 0]

def k0_chk340 (v2040 : BitVec 32) : Prop :=
  (∀ a, (k0_off680 v2040) a + S1x1x16.size a ≤ S32128x1x16.size a)
theorem k0_off680_inb : ∀ (v2040 : BitVec 32) (k0_hw340 : k0_chk340 v2040), ∀ a, (k0_off680 v2040) a + S1x1x16.size a ≤ S32128x1x16.size a := fun v2040 k0_hw340 => k0_hw340

def k0_off681 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2045 : Index := Scalar.indexCast arg6
  let c340 : Index := 340#32
  ![v2045.toNat, 340]
def k0_off682 (v2046 : BitVec 32) : Fin 3 → Nat :=
  let v2047 : Index := Scalar.indexCast v2046
  let c0_684 : Index := 0#32
  let c0_685 : Index := 0#32
  ![v2047.toNat, 0, 0]

def k0_chk341 (v2046 : BitVec 32) : Prop :=
  (∀ a, (k0_off682 v2046) a + S1x1x16.size a ≤ S32128x1x16.size a)
theorem k0_off682_inb : ∀ (v2046 : BitVec 32) (k0_hw341 : k0_chk341 v2046), ∀ a, (k0_off682 v2046) a + S1x1x16.size a ≤ S32128x1x16.size a := fun v2046 k0_hw341 => k0_hw341

def k0_off683 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2051 : Index := Scalar.indexCast arg6
  let c341 : Index := 341#32
  ![v2051.toNat, 341]
def k0_off684 (v2052 : BitVec 32) : Fin 3 → Nat :=
  let v2053 : Index := Scalar.indexCast v2052
  let c0_686 : Index := 0#32
  let c0_687 : Index := 0#32
  ![v2053.toNat, 0, 0]

def k0_chk342 (v2052 : BitVec 32) : Prop :=
  (∀ a, (k0_off684 v2052) a + S1x1x16.size a ≤ S32128x1x16.size a)
theorem k0_off684_inb : ∀ (v2052 : BitVec 32) (k0_hw342 : k0_chk342 v2052), ∀ a, (k0_off684 v2052) a + S1x1x16.size a ≤ S32128x1x16.size a := fun v2052 k0_hw342 => k0_hw342

def k0_off685 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2057 : Index := Scalar.indexCast arg6
  let c342 : Index := 342#32
  ![v2057.toNat, 342]
def k0_off686 (v2058 : BitVec 32) : Fin 3 → Nat :=
  let v2059 : Index := Scalar.indexCast v2058
  let c0_688 : Index := 0#32
  let c0_689 : Index := 0#32
  ![v2059.toNat, 0, 0]

def k0_chk343 (v2058 : BitVec 32) : Prop :=
  (∀ a, (k0_off686 v2058) a + S1x1x16.size a ≤ S32128x1x16.size a)
theorem k0_off686_inb : ∀ (v2058 : BitVec 32) (k0_hw343 : k0_chk343 v2058), ∀ a, (k0_off686 v2058) a + S1x1x16.size a ≤ S32128x1x16.size a := fun v2058 k0_hw343 => k0_hw343

def k0_off687 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2063 : Index := Scalar.indexCast arg6
  let c343 : Index := 343#32
  ![v2063.toNat, 343]
def k0_off688 (v2064 : BitVec 32) : Fin 3 → Nat :=
  let v2065 : Index := Scalar.indexCast v2064
  let c0_690 : Index := 0#32
  let c0_691 : Index := 0#32
  ![v2065.toNat, 0, 0]

def k0_chk344 (v2064 : BitVec 32) : Prop :=
  (∀ a, (k0_off688 v2064) a + S1x1x16.size a ≤ S32128x1x16.size a)
theorem k0_off688_inb : ∀ (v2064 : BitVec 32) (k0_hw344 : k0_chk344 v2064), ∀ a, (k0_off688 v2064) a + S1x1x16.size a ≤ S32128x1x16.size a := fun v2064 k0_hw344 => k0_hw344

def k0_off689 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2069 : Index := Scalar.indexCast arg6
  let c344 : Index := 344#32
  ![v2069.toNat, 344]
def k0_off690 (v2070 : BitVec 32) : Fin 3 → Nat :=
  let v2071 : Index := Scalar.indexCast v2070
  let c0_692 : Index := 0#32
  let c0_693 : Index := 0#32
  ![v2071.toNat, 0, 0]

def k0_chk345 (v2070 : BitVec 32) : Prop :=
  (∀ a, (k0_off690 v2070) a + S1x1x16.size a ≤ S32128x1x16.size a)
theorem k0_off690_inb : ∀ (v2070 : BitVec 32) (k0_hw345 : k0_chk345 v2070), ∀ a, (k0_off690 v2070) a + S1x1x16.size a ≤ S32128x1x16.size a := fun v2070 k0_hw345 => k0_hw345

def k0_off691 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2075 : Index := Scalar.indexCast arg6
  let c345 : Index := 345#32
  ![v2075.toNat, 345]
def k0_off692 (v2076 : BitVec 32) : Fin 3 → Nat :=
  let v2077 : Index := Scalar.indexCast v2076
  let c0_694 : Index := 0#32
  let c0_695 : Index := 0#32
  ![v2077.toNat, 0, 0]

def k0_chk346 (v2076 : BitVec 32) : Prop :=
  (∀ a, (k0_off692 v2076) a + S1x1x16.size a ≤ S32128x1x16.size a)
theorem k0_off692_inb : ∀ (v2076 : BitVec 32) (k0_hw346 : k0_chk346 v2076), ∀ a, (k0_off692 v2076) a + S1x1x16.size a ≤ S32128x1x16.size a := fun v2076 k0_hw346 => k0_hw346

def k0_off693 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2081 : Index := Scalar.indexCast arg6
  let c346 : Index := 346#32
  ![v2081.toNat, 346]
def k0_off694 (v2082 : BitVec 32) : Fin 3 → Nat :=
  let v2083 : Index := Scalar.indexCast v2082
  let c0_696 : Index := 0#32
  let c0_697 : Index := 0#32
  ![v2083.toNat, 0, 0]

def k0_chk347 (v2082 : BitVec 32) : Prop :=
  (∀ a, (k0_off694 v2082) a + S1x1x16.size a ≤ S32128x1x16.size a)
theorem k0_off694_inb : ∀ (v2082 : BitVec 32) (k0_hw347 : k0_chk347 v2082), ∀ a, (k0_off694 v2082) a + S1x1x16.size a ≤ S32128x1x16.size a := fun v2082 k0_hw347 => k0_hw347

def k0_off695 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2087 : Index := Scalar.indexCast arg6
  let c347 : Index := 347#32
  ![v2087.toNat, 347]
def k0_off696 (v2088 : BitVec 32) : Fin 3 → Nat :=
  let v2089 : Index := Scalar.indexCast v2088
  let c0_698 : Index := 0#32
  let c0_699 : Index := 0#32
  ![v2089.toNat, 0, 0]

def k0_chk348 (v2088 : BitVec 32) : Prop :=
  (∀ a, (k0_off696 v2088) a + S1x1x16.size a ≤ S32128x1x16.size a)
theorem k0_off696_inb : ∀ (v2088 : BitVec 32) (k0_hw348 : k0_chk348 v2088), ∀ a, (k0_off696 v2088) a + S1x1x16.size a ≤ S32128x1x16.size a := fun v2088 k0_hw348 => k0_hw348

def k0_off697 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2093 : Index := Scalar.indexCast arg6
  let c348 : Index := 348#32
  ![v2093.toNat, 348]
def k0_off698 (v2094 : BitVec 32) : Fin 3 → Nat :=
  let v2095 : Index := Scalar.indexCast v2094
  let c0_700 : Index := 0#32
  let c0_701 : Index := 0#32
  ![v2095.toNat, 0, 0]

def k0_chk349 (v2094 : BitVec 32) : Prop :=
  (∀ a, (k0_off698 v2094) a + S1x1x16.size a ≤ S32128x1x16.size a)
theorem k0_off698_inb : ∀ (v2094 : BitVec 32) (k0_hw349 : k0_chk349 v2094), ∀ a, (k0_off698 v2094) a + S1x1x16.size a ≤ S32128x1x16.size a := fun v2094 k0_hw349 => k0_hw349

def k0_off699 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2099 : Index := Scalar.indexCast arg6
  let c349 : Index := 349#32
  ![v2099.toNat, 349]
def k0_off700 (v2100 : BitVec 32) : Fin 3 → Nat :=
  let v2101 : Index := Scalar.indexCast v2100
  let c0_702 : Index := 0#32
  let c0_703 : Index := 0#32
  ![v2101.toNat, 0, 0]

def k0_chk350 (v2100 : BitVec 32) : Prop :=
  (∀ a, (k0_off700 v2100) a + S1x1x16.size a ≤ S32128x1x16.size a)
theorem k0_off700_inb : ∀ (v2100 : BitVec 32) (k0_hw350 : k0_chk350 v2100), ∀ a, (k0_off700 v2100) a + S1x1x16.size a ≤ S32128x1x16.size a := fun v2100 k0_hw350 => k0_hw350

def k0_off701 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2105 : Index := Scalar.indexCast arg6
  let c350 : Index := 350#32
  ![v2105.toNat, 350]
def k0_off702 (v2106 : BitVec 32) : Fin 3 → Nat :=
  let v2107 : Index := Scalar.indexCast v2106
  let c0_704 : Index := 0#32
  let c0_705 : Index := 0#32
  ![v2107.toNat, 0, 0]

def k0_chk351 (v2106 : BitVec 32) : Prop :=
  (∀ a, (k0_off702 v2106) a + S1x1x16.size a ≤ S32128x1x16.size a)
theorem k0_off702_inb : ∀ (v2106 : BitVec 32) (k0_hw351 : k0_chk351 v2106), ∀ a, (k0_off702 v2106) a + S1x1x16.size a ≤ S32128x1x16.size a := fun v2106 k0_hw351 => k0_hw351

def k0_off703 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2111 : Index := Scalar.indexCast arg6
  let c351 : Index := 351#32
  ![v2111.toNat, 351]
def k0_off704 (v2112 : BitVec 32) : Fin 3 → Nat :=
  let v2113 : Index := Scalar.indexCast v2112
  let c0_706 : Index := 0#32
  let c0_707 : Index := 0#32
  ![v2113.toNat, 0, 0]

def k0_chk352 (v2112 : BitVec 32) : Prop :=
  (∀ a, (k0_off704 v2112) a + S1x1x16.size a ≤ S32128x1x16.size a)
theorem k0_off704_inb : ∀ (v2112 : BitVec 32) (k0_hw352 : k0_chk352 v2112), ∀ a, (k0_off704 v2112) a + S1x1x16.size a ≤ S32128x1x16.size a := fun v2112 k0_hw352 => k0_hw352

def k0_off705 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2117 : Index := Scalar.indexCast arg6
  let c352 : Index := 352#32
  ![v2117.toNat, 352]
def k0_off706 (v2118 : BitVec 32) : Fin 3 → Nat :=
  let v2119 : Index := Scalar.indexCast v2118
  let c0_708 : Index := 0#32
  let c0_709 : Index := 0#32
  ![v2119.toNat, 0, 0]

def k0_chk353 (v2118 : BitVec 32) : Prop :=
  (∀ a, (k0_off706 v2118) a + S1x1x16.size a ≤ S32128x1x16.size a)
theorem k0_off706_inb : ∀ (v2118 : BitVec 32) (k0_hw353 : k0_chk353 v2118), ∀ a, (k0_off706 v2118) a + S1x1x16.size a ≤ S32128x1x16.size a := fun v2118 k0_hw353 => k0_hw353

def k0_off707 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2123 : Index := Scalar.indexCast arg6
  let c353 : Index := 353#32
  ![v2123.toNat, 353]
def k0_off708 (v2124 : BitVec 32) : Fin 3 → Nat :=
  let v2125 : Index := Scalar.indexCast v2124
  let c0_710 : Index := 0#32
  let c0_711 : Index := 0#32
  ![v2125.toNat, 0, 0]

def k0_chk354 (v2124 : BitVec 32) : Prop :=
  (∀ a, (k0_off708 v2124) a + S1x1x16.size a ≤ S32128x1x16.size a)
theorem k0_off708_inb : ∀ (v2124 : BitVec 32) (k0_hw354 : k0_chk354 v2124), ∀ a, (k0_off708 v2124) a + S1x1x16.size a ≤ S32128x1x16.size a := fun v2124 k0_hw354 => k0_hw354

def k0_off709 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2129 : Index := Scalar.indexCast arg6
  let c354 : Index := 354#32
  ![v2129.toNat, 354]
def k0_off710 (v2130 : BitVec 32) : Fin 3 → Nat :=
  let v2131 : Index := Scalar.indexCast v2130
  let c0_712 : Index := 0#32
  let c0_713 : Index := 0#32
  ![v2131.toNat, 0, 0]

def k0_chk355 (v2130 : BitVec 32) : Prop :=
  (∀ a, (k0_off710 v2130) a + S1x1x16.size a ≤ S32128x1x16.size a)
theorem k0_off710_inb : ∀ (v2130 : BitVec 32) (k0_hw355 : k0_chk355 v2130), ∀ a, (k0_off710 v2130) a + S1x1x16.size a ≤ S32128x1x16.size a := fun v2130 k0_hw355 => k0_hw355

def k0_off711 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2135 : Index := Scalar.indexCast arg6
  let c355 : Index := 355#32
  ![v2135.toNat, 355]
def k0_off712 (v2136 : BitVec 32) : Fin 3 → Nat :=
  let v2137 : Index := Scalar.indexCast v2136
  let c0_714 : Index := 0#32
  let c0_715 : Index := 0#32
  ![v2137.toNat, 0, 0]

def k0_chk356 (v2136 : BitVec 32) : Prop :=
  (∀ a, (k0_off712 v2136) a + S1x1x16.size a ≤ S32128x1x16.size a)
theorem k0_off712_inb : ∀ (v2136 : BitVec 32) (k0_hw356 : k0_chk356 v2136), ∀ a, (k0_off712 v2136) a + S1x1x16.size a ≤ S32128x1x16.size a := fun v2136 k0_hw356 => k0_hw356

def k0_off713 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2141 : Index := Scalar.indexCast arg6
  let c356 : Index := 356#32
  ![v2141.toNat, 356]
def k0_off714 (v2142 : BitVec 32) : Fin 3 → Nat :=
  let v2143 : Index := Scalar.indexCast v2142
  let c0_716 : Index := 0#32
  let c0_717 : Index := 0#32
  ![v2143.toNat, 0, 0]

def k0_chk357 (v2142 : BitVec 32) : Prop :=
  (∀ a, (k0_off714 v2142) a + S1x1x16.size a ≤ S32128x1x16.size a)
theorem k0_off714_inb : ∀ (v2142 : BitVec 32) (k0_hw357 : k0_chk357 v2142), ∀ a, (k0_off714 v2142) a + S1x1x16.size a ≤ S32128x1x16.size a := fun v2142 k0_hw357 => k0_hw357

def k0_off715 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2147 : Index := Scalar.indexCast arg6
  let c357 : Index := 357#32
  ![v2147.toNat, 357]
def k0_off716 (v2148 : BitVec 32) : Fin 3 → Nat :=
  let v2149 : Index := Scalar.indexCast v2148
  let c0_718 : Index := 0#32
  let c0_719 : Index := 0#32
  ![v2149.toNat, 0, 0]

def k0_chk358 (v2148 : BitVec 32) : Prop :=
  (∀ a, (k0_off716 v2148) a + S1x1x16.size a ≤ S32128x1x16.size a)
theorem k0_off716_inb : ∀ (v2148 : BitVec 32) (k0_hw358 : k0_chk358 v2148), ∀ a, (k0_off716 v2148) a + S1x1x16.size a ≤ S32128x1x16.size a := fun v2148 k0_hw358 => k0_hw358

def k0_off717 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2153 : Index := Scalar.indexCast arg6
  let c358 : Index := 358#32
  ![v2153.toNat, 358]
def k0_off718 (v2154 : BitVec 32) : Fin 3 → Nat :=
  let v2155 : Index := Scalar.indexCast v2154
  let c0_720 : Index := 0#32
  let c0_721 : Index := 0#32
  ![v2155.toNat, 0, 0]

def k0_chk359 (v2154 : BitVec 32) : Prop :=
  (∀ a, (k0_off718 v2154) a + S1x1x16.size a ≤ S32128x1x16.size a)
theorem k0_off718_inb : ∀ (v2154 : BitVec 32) (k0_hw359 : k0_chk359 v2154), ∀ a, (k0_off718 v2154) a + S1x1x16.size a ≤ S32128x1x16.size a := fun v2154 k0_hw359 => k0_hw359

def k0_off719 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2159 : Index := Scalar.indexCast arg6
  let c359 : Index := 359#32
  ![v2159.toNat, 359]
def k0_off720 (v2160 : BitVec 32) : Fin 3 → Nat :=
  let v2161 : Index := Scalar.indexCast v2160
  let c0_722 : Index := 0#32
  let c0_723 : Index := 0#32
  ![v2161.toNat, 0, 0]

def k0_chk360 (v2160 : BitVec 32) : Prop :=
  (∀ a, (k0_off720 v2160) a + S1x1x16.size a ≤ S32128x1x16.size a)
theorem k0_off720_inb : ∀ (v2160 : BitVec 32) (k0_hw360 : k0_chk360 v2160), ∀ a, (k0_off720 v2160) a + S1x1x16.size a ≤ S32128x1x16.size a := fun v2160 k0_hw360 => k0_hw360

def k0_off721 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2165 : Index := Scalar.indexCast arg6
  let c360 : Index := 360#32
  ![v2165.toNat, 360]
def k0_off722 (v2166 : BitVec 32) : Fin 3 → Nat :=
  let v2167 : Index := Scalar.indexCast v2166
  let c0_724 : Index := 0#32
  let c0_725 : Index := 0#32
  ![v2167.toNat, 0, 0]

def k0_chk361 (v2166 : BitVec 32) : Prop :=
  (∀ a, (k0_off722 v2166) a + S1x1x16.size a ≤ S32128x1x16.size a)
theorem k0_off722_inb : ∀ (v2166 : BitVec 32) (k0_hw361 : k0_chk361 v2166), ∀ a, (k0_off722 v2166) a + S1x1x16.size a ≤ S32128x1x16.size a := fun v2166 k0_hw361 => k0_hw361

def k0_off723 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2171 : Index := Scalar.indexCast arg6
  let c361 : Index := 361#32
  ![v2171.toNat, 361]
def k0_off724 (v2172 : BitVec 32) : Fin 3 → Nat :=
  let v2173 : Index := Scalar.indexCast v2172
  let c0_726 : Index := 0#32
  let c0_727 : Index := 0#32
  ![v2173.toNat, 0, 0]

def k0_chk362 (v2172 : BitVec 32) : Prop :=
  (∀ a, (k0_off724 v2172) a + S1x1x16.size a ≤ S32128x1x16.size a)
theorem k0_off724_inb : ∀ (v2172 : BitVec 32) (k0_hw362 : k0_chk362 v2172), ∀ a, (k0_off724 v2172) a + S1x1x16.size a ≤ S32128x1x16.size a := fun v2172 k0_hw362 => k0_hw362

def k0_off725 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2177 : Index := Scalar.indexCast arg6
  let c362 : Index := 362#32
  ![v2177.toNat, 362]
def k0_off726 (v2178 : BitVec 32) : Fin 3 → Nat :=
  let v2179 : Index := Scalar.indexCast v2178
  let c0_728 : Index := 0#32
  let c0_729 : Index := 0#32
  ![v2179.toNat, 0, 0]

def k0_chk363 (v2178 : BitVec 32) : Prop :=
  (∀ a, (k0_off726 v2178) a + S1x1x16.size a ≤ S32128x1x16.size a)
theorem k0_off726_inb : ∀ (v2178 : BitVec 32) (k0_hw363 : k0_chk363 v2178), ∀ a, (k0_off726 v2178) a + S1x1x16.size a ≤ S32128x1x16.size a := fun v2178 k0_hw363 => k0_hw363

def k0_off727 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2183 : Index := Scalar.indexCast arg6
  let c363 : Index := 363#32
  ![v2183.toNat, 363]
def k0_off728 (v2184 : BitVec 32) : Fin 3 → Nat :=
  let v2185 : Index := Scalar.indexCast v2184
  let c0_730 : Index := 0#32
  let c0_731 : Index := 0#32
  ![v2185.toNat, 0, 0]

def k0_chk364 (v2184 : BitVec 32) : Prop :=
  (∀ a, (k0_off728 v2184) a + S1x1x16.size a ≤ S32128x1x16.size a)
theorem k0_off728_inb : ∀ (v2184 : BitVec 32) (k0_hw364 : k0_chk364 v2184), ∀ a, (k0_off728 v2184) a + S1x1x16.size a ≤ S32128x1x16.size a := fun v2184 k0_hw364 => k0_hw364

def k0_off729 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2189 : Index := Scalar.indexCast arg6
  let c364 : Index := 364#32
  ![v2189.toNat, 364]
def k0_off730 (v2190 : BitVec 32) : Fin 3 → Nat :=
  let v2191 : Index := Scalar.indexCast v2190
  let c0_732 : Index := 0#32
  let c0_733 : Index := 0#32
  ![v2191.toNat, 0, 0]

def k0_chk365 (v2190 : BitVec 32) : Prop :=
  (∀ a, (k0_off730 v2190) a + S1x1x16.size a ≤ S32128x1x16.size a)
theorem k0_off730_inb : ∀ (v2190 : BitVec 32) (k0_hw365 : k0_chk365 v2190), ∀ a, (k0_off730 v2190) a + S1x1x16.size a ≤ S32128x1x16.size a := fun v2190 k0_hw365 => k0_hw365

def k0_off731 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2195 : Index := Scalar.indexCast arg6
  let c365 : Index := 365#32
  ![v2195.toNat, 365]
def k0_off732 (v2196 : BitVec 32) : Fin 3 → Nat :=
  let v2197 : Index := Scalar.indexCast v2196
  let c0_734 : Index := 0#32
  let c0_735 : Index := 0#32
  ![v2197.toNat, 0, 0]

def k0_chk366 (v2196 : BitVec 32) : Prop :=
  (∀ a, (k0_off732 v2196) a + S1x1x16.size a ≤ S32128x1x16.size a)
theorem k0_off732_inb : ∀ (v2196 : BitVec 32) (k0_hw366 : k0_chk366 v2196), ∀ a, (k0_off732 v2196) a + S1x1x16.size a ≤ S32128x1x16.size a := fun v2196 k0_hw366 => k0_hw366

def k0_off733 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2201 : Index := Scalar.indexCast arg6
  let c366 : Index := 366#32
  ![v2201.toNat, 366]
def k0_off734 (v2202 : BitVec 32) : Fin 3 → Nat :=
  let v2203 : Index := Scalar.indexCast v2202
  let c0_736 : Index := 0#32
  let c0_737 : Index := 0#32
  ![v2203.toNat, 0, 0]

def k0_chk367 (v2202 : BitVec 32) : Prop :=
  (∀ a, (k0_off734 v2202) a + S1x1x16.size a ≤ S32128x1x16.size a)
theorem k0_off734_inb : ∀ (v2202 : BitVec 32) (k0_hw367 : k0_chk367 v2202), ∀ a, (k0_off734 v2202) a + S1x1x16.size a ≤ S32128x1x16.size a := fun v2202 k0_hw367 => k0_hw367

def k0_off735 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2207 : Index := Scalar.indexCast arg6
  let c367 : Index := 367#32
  ![v2207.toNat, 367]
def k0_off736 (v2208 : BitVec 32) : Fin 3 → Nat :=
  let v2209 : Index := Scalar.indexCast v2208
  let c0_738 : Index := 0#32
  let c0_739 : Index := 0#32
  ![v2209.toNat, 0, 0]

def k0_chk368 (v2208 : BitVec 32) : Prop :=
  (∀ a, (k0_off736 v2208) a + S1x1x16.size a ≤ S32128x1x16.size a)
theorem k0_off736_inb : ∀ (v2208 : BitVec 32) (k0_hw368 : k0_chk368 v2208), ∀ a, (k0_off736 v2208) a + S1x1x16.size a ≤ S32128x1x16.size a := fun v2208 k0_hw368 => k0_hw368

def k0_off737 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2213 : Index := Scalar.indexCast arg6
  let c368 : Index := 368#32
  ![v2213.toNat, 368]
def k0_off738 (v2214 : BitVec 32) : Fin 3 → Nat :=
  let v2215 : Index := Scalar.indexCast v2214
  let c0_740 : Index := 0#32
  let c0_741 : Index := 0#32
  ![v2215.toNat, 0, 0]

def k0_chk369 (v2214 : BitVec 32) : Prop :=
  (∀ a, (k0_off738 v2214) a + S1x1x16.size a ≤ S32128x1x16.size a)
theorem k0_off738_inb : ∀ (v2214 : BitVec 32) (k0_hw369 : k0_chk369 v2214), ∀ a, (k0_off738 v2214) a + S1x1x16.size a ≤ S32128x1x16.size a := fun v2214 k0_hw369 => k0_hw369

def k0_off739 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2219 : Index := Scalar.indexCast arg6
  let c369 : Index := 369#32
  ![v2219.toNat, 369]
def k0_off740 (v2220 : BitVec 32) : Fin 3 → Nat :=
  let v2221 : Index := Scalar.indexCast v2220
  let c0_742 : Index := 0#32
  let c0_743 : Index := 0#32
  ![v2221.toNat, 0, 0]

def k0_chk370 (v2220 : BitVec 32) : Prop :=
  (∀ a, (k0_off740 v2220) a + S1x1x16.size a ≤ S32128x1x16.size a)
theorem k0_off740_inb : ∀ (v2220 : BitVec 32) (k0_hw370 : k0_chk370 v2220), ∀ a, (k0_off740 v2220) a + S1x1x16.size a ≤ S32128x1x16.size a := fun v2220 k0_hw370 => k0_hw370

def k0_off741 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2225 : Index := Scalar.indexCast arg6
  let c370 : Index := 370#32
  ![v2225.toNat, 370]
def k0_off742 (v2226 : BitVec 32) : Fin 3 → Nat :=
  let v2227 : Index := Scalar.indexCast v2226
  let c0_744 : Index := 0#32
  let c0_745 : Index := 0#32
  ![v2227.toNat, 0, 0]

def k0_chk371 (v2226 : BitVec 32) : Prop :=
  (∀ a, (k0_off742 v2226) a + S1x1x16.size a ≤ S32128x1x16.size a)
theorem k0_off742_inb : ∀ (v2226 : BitVec 32) (k0_hw371 : k0_chk371 v2226), ∀ a, (k0_off742 v2226) a + S1x1x16.size a ≤ S32128x1x16.size a := fun v2226 k0_hw371 => k0_hw371

def k0_off743 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2231 : Index := Scalar.indexCast arg6
  let c371 : Index := 371#32
  ![v2231.toNat, 371]
def k0_off744 (v2232 : BitVec 32) : Fin 3 → Nat :=
  let v2233 : Index := Scalar.indexCast v2232
  let c0_746 : Index := 0#32
  let c0_747 : Index := 0#32
  ![v2233.toNat, 0, 0]

def k0_chk372 (v2232 : BitVec 32) : Prop :=
  (∀ a, (k0_off744 v2232) a + S1x1x16.size a ≤ S32128x1x16.size a)
theorem k0_off744_inb : ∀ (v2232 : BitVec 32) (k0_hw372 : k0_chk372 v2232), ∀ a, (k0_off744 v2232) a + S1x1x16.size a ≤ S32128x1x16.size a := fun v2232 k0_hw372 => k0_hw372

def k0_off745 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2237 : Index := Scalar.indexCast arg6
  let c372 : Index := 372#32
  ![v2237.toNat, 372]
def k0_off746 (v2238 : BitVec 32) : Fin 3 → Nat :=
  let v2239 : Index := Scalar.indexCast v2238
  let c0_748 : Index := 0#32
  let c0_749 : Index := 0#32
  ![v2239.toNat, 0, 0]

def k0_chk373 (v2238 : BitVec 32) : Prop :=
  (∀ a, (k0_off746 v2238) a + S1x1x16.size a ≤ S32128x1x16.size a)
theorem k0_off746_inb : ∀ (v2238 : BitVec 32) (k0_hw373 : k0_chk373 v2238), ∀ a, (k0_off746 v2238) a + S1x1x16.size a ≤ S32128x1x16.size a := fun v2238 k0_hw373 => k0_hw373

def k0_off747 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2243 : Index := Scalar.indexCast arg6
  let c373 : Index := 373#32
  ![v2243.toNat, 373]
def k0_off748 (v2244 : BitVec 32) : Fin 3 → Nat :=
  let v2245 : Index := Scalar.indexCast v2244
  let c0_750 : Index := 0#32
  let c0_751 : Index := 0#32
  ![v2245.toNat, 0, 0]

def k0_chk374 (v2244 : BitVec 32) : Prop :=
  (∀ a, (k0_off748 v2244) a + S1x1x16.size a ≤ S32128x1x16.size a)
theorem k0_off748_inb : ∀ (v2244 : BitVec 32) (k0_hw374 : k0_chk374 v2244), ∀ a, (k0_off748 v2244) a + S1x1x16.size a ≤ S32128x1x16.size a := fun v2244 k0_hw374 => k0_hw374

def k0_off749 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2249 : Index := Scalar.indexCast arg6
  let c374 : Index := 374#32
  ![v2249.toNat, 374]
def k0_off750 (v2250 : BitVec 32) : Fin 3 → Nat :=
  let v2251 : Index := Scalar.indexCast v2250
  let c0_752 : Index := 0#32
  let c0_753 : Index := 0#32
  ![v2251.toNat, 0, 0]

def k0_chk375 (v2250 : BitVec 32) : Prop :=
  (∀ a, (k0_off750 v2250) a + S1x1x16.size a ≤ S32128x1x16.size a)
theorem k0_off750_inb : ∀ (v2250 : BitVec 32) (k0_hw375 : k0_chk375 v2250), ∀ a, (k0_off750 v2250) a + S1x1x16.size a ≤ S32128x1x16.size a := fun v2250 k0_hw375 => k0_hw375

def k0_off751 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2255 : Index := Scalar.indexCast arg6
  let c375 : Index := 375#32
  ![v2255.toNat, 375]
def k0_off752 (v2256 : BitVec 32) : Fin 3 → Nat :=
  let v2257 : Index := Scalar.indexCast v2256
  let c0_754 : Index := 0#32
  let c0_755 : Index := 0#32
  ![v2257.toNat, 0, 0]

def k0_chk376 (v2256 : BitVec 32) : Prop :=
  (∀ a, (k0_off752 v2256) a + S1x1x16.size a ≤ S32128x1x16.size a)
theorem k0_off752_inb : ∀ (v2256 : BitVec 32) (k0_hw376 : k0_chk376 v2256), ∀ a, (k0_off752 v2256) a + S1x1x16.size a ≤ S32128x1x16.size a := fun v2256 k0_hw376 => k0_hw376

def k0_off753 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2261 : Index := Scalar.indexCast arg6
  let c376 : Index := 376#32
  ![v2261.toNat, 376]
def k0_off754 (v2262 : BitVec 32) : Fin 3 → Nat :=
  let v2263 : Index := Scalar.indexCast v2262
  let c0_756 : Index := 0#32
  let c0_757 : Index := 0#32
  ![v2263.toNat, 0, 0]

def k0_chk377 (v2262 : BitVec 32) : Prop :=
  (∀ a, (k0_off754 v2262) a + S1x1x16.size a ≤ S32128x1x16.size a)
theorem k0_off754_inb : ∀ (v2262 : BitVec 32) (k0_hw377 : k0_chk377 v2262), ∀ a, (k0_off754 v2262) a + S1x1x16.size a ≤ S32128x1x16.size a := fun v2262 k0_hw377 => k0_hw377

def k0_off755 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2267 : Index := Scalar.indexCast arg6
  let c377 : Index := 377#32
  ![v2267.toNat, 377]
def k0_off756 (v2268 : BitVec 32) : Fin 3 → Nat :=
  let v2269 : Index := Scalar.indexCast v2268
  let c0_758 : Index := 0#32
  let c0_759 : Index := 0#32
  ![v2269.toNat, 0, 0]

def k0_chk378 (v2268 : BitVec 32) : Prop :=
  (∀ a, (k0_off756 v2268) a + S1x1x16.size a ≤ S32128x1x16.size a)
theorem k0_off756_inb : ∀ (v2268 : BitVec 32) (k0_hw378 : k0_chk378 v2268), ∀ a, (k0_off756 v2268) a + S1x1x16.size a ≤ S32128x1x16.size a := fun v2268 k0_hw378 => k0_hw378

def k0_off757 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2273 : Index := Scalar.indexCast arg6
  let c378 : Index := 378#32
  ![v2273.toNat, 378]
def k0_off758 (v2274 : BitVec 32) : Fin 3 → Nat :=
  let v2275 : Index := Scalar.indexCast v2274
  let c0_760 : Index := 0#32
  let c0_761 : Index := 0#32
  ![v2275.toNat, 0, 0]

def k0_chk379 (v2274 : BitVec 32) : Prop :=
  (∀ a, (k0_off758 v2274) a + S1x1x16.size a ≤ S32128x1x16.size a)
theorem k0_off758_inb : ∀ (v2274 : BitVec 32) (k0_hw379 : k0_chk379 v2274), ∀ a, (k0_off758 v2274) a + S1x1x16.size a ≤ S32128x1x16.size a := fun v2274 k0_hw379 => k0_hw379

def k0_off759 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2279 : Index := Scalar.indexCast arg6
  let c379 : Index := 379#32
  ![v2279.toNat, 379]
def k0_off760 (v2280 : BitVec 32) : Fin 3 → Nat :=
  let v2281 : Index := Scalar.indexCast v2280
  let c0_762 : Index := 0#32
  let c0_763 : Index := 0#32
  ![v2281.toNat, 0, 0]

def k0_chk380 (v2280 : BitVec 32) : Prop :=
  (∀ a, (k0_off760 v2280) a + S1x1x16.size a ≤ S32128x1x16.size a)
theorem k0_off760_inb : ∀ (v2280 : BitVec 32) (k0_hw380 : k0_chk380 v2280), ∀ a, (k0_off760 v2280) a + S1x1x16.size a ≤ S32128x1x16.size a := fun v2280 k0_hw380 => k0_hw380

def k0_off761 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2285 : Index := Scalar.indexCast arg6
  let c380 : Index := 380#32
  ![v2285.toNat, 380]
def k0_off762 (v2286 : BitVec 32) : Fin 3 → Nat :=
  let v2287 : Index := Scalar.indexCast v2286
  let c0_764 : Index := 0#32
  let c0_765 : Index := 0#32
  ![v2287.toNat, 0, 0]

def k0_chk381 (v2286 : BitVec 32) : Prop :=
  (∀ a, (k0_off762 v2286) a + S1x1x16.size a ≤ S32128x1x16.size a)
theorem k0_off762_inb : ∀ (v2286 : BitVec 32) (k0_hw381 : k0_chk381 v2286), ∀ a, (k0_off762 v2286) a + S1x1x16.size a ≤ S32128x1x16.size a := fun v2286 k0_hw381 => k0_hw381

def k0_off763 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2291 : Index := Scalar.indexCast arg6
  let c381 : Index := 381#32
  ![v2291.toNat, 381]
def k0_off764 (v2292 : BitVec 32) : Fin 3 → Nat :=
  let v2293 : Index := Scalar.indexCast v2292
  let c0_766 : Index := 0#32
  let c0_767 : Index := 0#32
  ![v2293.toNat, 0, 0]

def k0_chk382 (v2292 : BitVec 32) : Prop :=
  (∀ a, (k0_off764 v2292) a + S1x1x16.size a ≤ S32128x1x16.size a)
theorem k0_off764_inb : ∀ (v2292 : BitVec 32) (k0_hw382 : k0_chk382 v2292), ∀ a, (k0_off764 v2292) a + S1x1x16.size a ≤ S32128x1x16.size a := fun v2292 k0_hw382 => k0_hw382

def k0_off765 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2297 : Index := Scalar.indexCast arg6
  let c382 : Index := 382#32
  ![v2297.toNat, 382]
def k0_off766 (v2298 : BitVec 32) : Fin 3 → Nat :=
  let v2299 : Index := Scalar.indexCast v2298
  let c0_768 : Index := 0#32
  let c0_769 : Index := 0#32
  ![v2299.toNat, 0, 0]

def k0_chk383 (v2298 : BitVec 32) : Prop :=
  (∀ a, (k0_off766 v2298) a + S1x1x16.size a ≤ S32128x1x16.size a)
theorem k0_off766_inb : ∀ (v2298 : BitVec 32) (k0_hw383 : k0_chk383 v2298), ∀ a, (k0_off766 v2298) a + S1x1x16.size a ≤ S32128x1x16.size a := fun v2298 k0_hw383 => k0_hw383

def k0_off767 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2303 : Index := Scalar.indexCast arg6
  let c383 : Index := 383#32
  ![v2303.toNat, 383]
def k0_off768 (v2304 : BitVec 32) : Fin 3 → Nat :=
  let v2305 : Index := Scalar.indexCast v2304
  let c0_770 : Index := 0#32
  let c0_771 : Index := 0#32
  ![v2305.toNat, 0, 0]

def k0_chk384 (v2304 : BitVec 32) : Prop :=
  (∀ a, (k0_off768 v2304) a + S1x1x16.size a ≤ S32128x1x16.size a)
theorem k0_off768_inb : ∀ (v2304 : BitVec 32) (k0_hw384 : k0_chk384 v2304), ∀ a, (k0_off768 v2304) a + S1x1x16.size a ≤ S32128x1x16.size a := fun v2304 k0_hw384 => k0_hw384

def k0_off769 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2309 : Index := Scalar.indexCast arg6
  let c384 : Index := 384#32
  ![v2309.toNat, 384]
def k0_off770 (v2310 : BitVec 32) : Fin 3 → Nat :=
  let v2311 : Index := Scalar.indexCast v2310
  let c0_772 : Index := 0#32
  let c0_773 : Index := 0#32
  ![v2311.toNat, 0, 0]

def k0_chk385 (v2310 : BitVec 32) : Prop :=
  (∀ a, (k0_off770 v2310) a + S1x1x16.size a ≤ S32128x1x16.size a)
theorem k0_off770_inb : ∀ (v2310 : BitVec 32) (k0_hw385 : k0_chk385 v2310), ∀ a, (k0_off770 v2310) a + S1x1x16.size a ≤ S32128x1x16.size a := fun v2310 k0_hw385 => k0_hw385

def k0_off771 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2315 : Index := Scalar.indexCast arg6
  let c385 : Index := 385#32
  ![v2315.toNat, 385]
def k0_off772 (v2316 : BitVec 32) : Fin 3 → Nat :=
  let v2317 : Index := Scalar.indexCast v2316
  let c0_774 : Index := 0#32
  let c0_775 : Index := 0#32
  ![v2317.toNat, 0, 0]

def k0_chk386 (v2316 : BitVec 32) : Prop :=
  (∀ a, (k0_off772 v2316) a + S1x1x16.size a ≤ S32128x1x16.size a)
theorem k0_off772_inb : ∀ (v2316 : BitVec 32) (k0_hw386 : k0_chk386 v2316), ∀ a, (k0_off772 v2316) a + S1x1x16.size a ≤ S32128x1x16.size a := fun v2316 k0_hw386 => k0_hw386

def k0_off773 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2321 : Index := Scalar.indexCast arg6
  let c386 : Index := 386#32
  ![v2321.toNat, 386]
def k0_off774 (v2322 : BitVec 32) : Fin 3 → Nat :=
  let v2323 : Index := Scalar.indexCast v2322
  let c0_776 : Index := 0#32
  let c0_777 : Index := 0#32
  ![v2323.toNat, 0, 0]

def k0_chk387 (v2322 : BitVec 32) : Prop :=
  (∀ a, (k0_off774 v2322) a + S1x1x16.size a ≤ S32128x1x16.size a)
theorem k0_off774_inb : ∀ (v2322 : BitVec 32) (k0_hw387 : k0_chk387 v2322), ∀ a, (k0_off774 v2322) a + S1x1x16.size a ≤ S32128x1x16.size a := fun v2322 k0_hw387 => k0_hw387

def k0_off775 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2327 : Index := Scalar.indexCast arg6
  let c387 : Index := 387#32
  ![v2327.toNat, 387]
def k0_off776 (v2328 : BitVec 32) : Fin 3 → Nat :=
  let v2329 : Index := Scalar.indexCast v2328
  let c0_778 : Index := 0#32
  let c0_779 : Index := 0#32
  ![v2329.toNat, 0, 0]

def k0_chk388 (v2328 : BitVec 32) : Prop :=
  (∀ a, (k0_off776 v2328) a + S1x1x16.size a ≤ S32128x1x16.size a)
theorem k0_off776_inb : ∀ (v2328 : BitVec 32) (k0_hw388 : k0_chk388 v2328), ∀ a, (k0_off776 v2328) a + S1x1x16.size a ≤ S32128x1x16.size a := fun v2328 k0_hw388 => k0_hw388

def k0_off777 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2333 : Index := Scalar.indexCast arg6
  let c388 : Index := 388#32
  ![v2333.toNat, 388]
def k0_off778 (v2334 : BitVec 32) : Fin 3 → Nat :=
  let v2335 : Index := Scalar.indexCast v2334
  let c0_780 : Index := 0#32
  let c0_781 : Index := 0#32
  ![v2335.toNat, 0, 0]

def k0_chk389 (v2334 : BitVec 32) : Prop :=
  (∀ a, (k0_off778 v2334) a + S1x1x16.size a ≤ S32128x1x16.size a)
theorem k0_off778_inb : ∀ (v2334 : BitVec 32) (k0_hw389 : k0_chk389 v2334), ∀ a, (k0_off778 v2334) a + S1x1x16.size a ≤ S32128x1x16.size a := fun v2334 k0_hw389 => k0_hw389

def k0_off779 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2339 : Index := Scalar.indexCast arg6
  let c389 : Index := 389#32
  ![v2339.toNat, 389]
def k0_off780 (v2340 : BitVec 32) : Fin 3 → Nat :=
  let v2341 : Index := Scalar.indexCast v2340
  let c0_782 : Index := 0#32
  let c0_783 : Index := 0#32
  ![v2341.toNat, 0, 0]

def k0_chk390 (v2340 : BitVec 32) : Prop :=
  (∀ a, (k0_off780 v2340) a + S1x1x16.size a ≤ S32128x1x16.size a)
theorem k0_off780_inb : ∀ (v2340 : BitVec 32) (k0_hw390 : k0_chk390 v2340), ∀ a, (k0_off780 v2340) a + S1x1x16.size a ≤ S32128x1x16.size a := fun v2340 k0_hw390 => k0_hw390

def k0_off781 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2345 : Index := Scalar.indexCast arg6
  let c390 : Index := 390#32
  ![v2345.toNat, 390]
def k0_off782 (v2346 : BitVec 32) : Fin 3 → Nat :=
  let v2347 : Index := Scalar.indexCast v2346
  let c0_784 : Index := 0#32
  let c0_785 : Index := 0#32
  ![v2347.toNat, 0, 0]

def k0_chk391 (v2346 : BitVec 32) : Prop :=
  (∀ a, (k0_off782 v2346) a + S1x1x16.size a ≤ S32128x1x16.size a)
theorem k0_off782_inb : ∀ (v2346 : BitVec 32) (k0_hw391 : k0_chk391 v2346), ∀ a, (k0_off782 v2346) a + S1x1x16.size a ≤ S32128x1x16.size a := fun v2346 k0_hw391 => k0_hw391

def k0_off783 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2351 : Index := Scalar.indexCast arg6
  let c391 : Index := 391#32
  ![v2351.toNat, 391]
def k0_off784 (v2352 : BitVec 32) : Fin 3 → Nat :=
  let v2353 : Index := Scalar.indexCast v2352
  let c0_786 : Index := 0#32
  let c0_787 : Index := 0#32
  ![v2353.toNat, 0, 0]

def k0_chk392 (v2352 : BitVec 32) : Prop :=
  (∀ a, (k0_off784 v2352) a + S1x1x16.size a ≤ S32128x1x16.size a)
theorem k0_off784_inb : ∀ (v2352 : BitVec 32) (k0_hw392 : k0_chk392 v2352), ∀ a, (k0_off784 v2352) a + S1x1x16.size a ≤ S32128x1x16.size a := fun v2352 k0_hw392 => k0_hw392

def k0_off785 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2357 : Index := Scalar.indexCast arg6
  let c392 : Index := 392#32
  ![v2357.toNat, 392]
def k0_off786 (v2358 : BitVec 32) : Fin 3 → Nat :=
  let v2359 : Index := Scalar.indexCast v2358
  let c0_788 : Index := 0#32
  let c0_789 : Index := 0#32
  ![v2359.toNat, 0, 0]

def k0_chk393 (v2358 : BitVec 32) : Prop :=
  (∀ a, (k0_off786 v2358) a + S1x1x16.size a ≤ S32128x1x16.size a)
theorem k0_off786_inb : ∀ (v2358 : BitVec 32) (k0_hw393 : k0_chk393 v2358), ∀ a, (k0_off786 v2358) a + S1x1x16.size a ≤ S32128x1x16.size a := fun v2358 k0_hw393 => k0_hw393

def k0_off787 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2363 : Index := Scalar.indexCast arg6
  let c393 : Index := 393#32
  ![v2363.toNat, 393]
def k0_off788 (v2364 : BitVec 32) : Fin 3 → Nat :=
  let v2365 : Index := Scalar.indexCast v2364
  let c0_790 : Index := 0#32
  let c0_791 : Index := 0#32
  ![v2365.toNat, 0, 0]

def k0_chk394 (v2364 : BitVec 32) : Prop :=
  (∀ a, (k0_off788 v2364) a + S1x1x16.size a ≤ S32128x1x16.size a)
theorem k0_off788_inb : ∀ (v2364 : BitVec 32) (k0_hw394 : k0_chk394 v2364), ∀ a, (k0_off788 v2364) a + S1x1x16.size a ≤ S32128x1x16.size a := fun v2364 k0_hw394 => k0_hw394

def k0_off789 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2369 : Index := Scalar.indexCast arg6
  let c394 : Index := 394#32
  ![v2369.toNat, 394]
def k0_off790 (v2370 : BitVec 32) : Fin 3 → Nat :=
  let v2371 : Index := Scalar.indexCast v2370
  let c0_792 : Index := 0#32
  let c0_793 : Index := 0#32
  ![v2371.toNat, 0, 0]

def k0_chk395 (v2370 : BitVec 32) : Prop :=
  (∀ a, (k0_off790 v2370) a + S1x1x16.size a ≤ S32128x1x16.size a)
theorem k0_off790_inb : ∀ (v2370 : BitVec 32) (k0_hw395 : k0_chk395 v2370), ∀ a, (k0_off790 v2370) a + S1x1x16.size a ≤ S32128x1x16.size a := fun v2370 k0_hw395 => k0_hw395

def k0_off791 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2375 : Index := Scalar.indexCast arg6
  let c395 : Index := 395#32
  ![v2375.toNat, 395]
def k0_off792 (v2376 : BitVec 32) : Fin 3 → Nat :=
  let v2377 : Index := Scalar.indexCast v2376
  let c0_794 : Index := 0#32
  let c0_795 : Index := 0#32
  ![v2377.toNat, 0, 0]

def k0_chk396 (v2376 : BitVec 32) : Prop :=
  (∀ a, (k0_off792 v2376) a + S1x1x16.size a ≤ S32128x1x16.size a)
theorem k0_off792_inb : ∀ (v2376 : BitVec 32) (k0_hw396 : k0_chk396 v2376), ∀ a, (k0_off792 v2376) a + S1x1x16.size a ≤ S32128x1x16.size a := fun v2376 k0_hw396 => k0_hw396

def k0_off793 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2381 : Index := Scalar.indexCast arg6
  let c396 : Index := 396#32
  ![v2381.toNat, 396]
def k0_off794 (v2382 : BitVec 32) : Fin 3 → Nat :=
  let v2383 : Index := Scalar.indexCast v2382
  let c0_796 : Index := 0#32
  let c0_797 : Index := 0#32
  ![v2383.toNat, 0, 0]

def k0_chk397 (v2382 : BitVec 32) : Prop :=
  (∀ a, (k0_off794 v2382) a + S1x1x16.size a ≤ S32128x1x16.size a)
theorem k0_off794_inb : ∀ (v2382 : BitVec 32) (k0_hw397 : k0_chk397 v2382), ∀ a, (k0_off794 v2382) a + S1x1x16.size a ≤ S32128x1x16.size a := fun v2382 k0_hw397 => k0_hw397

def k0_off795 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2387 : Index := Scalar.indexCast arg6
  let c397 : Index := 397#32
  ![v2387.toNat, 397]
def k0_off796 (v2388 : BitVec 32) : Fin 3 → Nat :=
  let v2389 : Index := Scalar.indexCast v2388
  let c0_798 : Index := 0#32
  let c0_799 : Index := 0#32
  ![v2389.toNat, 0, 0]

def k0_chk398 (v2388 : BitVec 32) : Prop :=
  (∀ a, (k0_off796 v2388) a + S1x1x16.size a ≤ S32128x1x16.size a)
theorem k0_off796_inb : ∀ (v2388 : BitVec 32) (k0_hw398 : k0_chk398 v2388), ∀ a, (k0_off796 v2388) a + S1x1x16.size a ≤ S32128x1x16.size a := fun v2388 k0_hw398 => k0_hw398

def k0_off797 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2393 : Index := Scalar.indexCast arg6
  let c398 : Index := 398#32
  ![v2393.toNat, 398]
def k0_off798 (v2394 : BitVec 32) : Fin 3 → Nat :=
  let v2395 : Index := Scalar.indexCast v2394
  let c0_800 : Index := 0#32
  let c0_801 : Index := 0#32
  ![v2395.toNat, 0, 0]

def k0_chk399 (v2394 : BitVec 32) : Prop :=
  (∀ a, (k0_off798 v2394) a + S1x1x16.size a ≤ S32128x1x16.size a)
theorem k0_off798_inb : ∀ (v2394 : BitVec 32) (k0_hw399 : k0_chk399 v2394), ∀ a, (k0_off798 v2394) a + S1x1x16.size a ≤ S32128x1x16.size a := fun v2394 k0_hw399 => k0_hw399

def k0_off799 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2399 : Index := Scalar.indexCast arg6
  let c399 : Index := 399#32
  ![v2399.toNat, 399]
def k0_off800 (v2400 : BitVec 32) : Fin 3 → Nat :=
  let v2401 : Index := Scalar.indexCast v2400
  let c0_802 : Index := 0#32
  let c0_803 : Index := 0#32
  ![v2401.toNat, 0, 0]

def k0_chk400 (v2400 : BitVec 32) : Prop :=
  (∀ a, (k0_off800 v2400) a + S1x1x16.size a ≤ S32128x1x16.size a)
theorem k0_off800_inb : ∀ (v2400 : BitVec 32) (k0_hw400 : k0_chk400 v2400), ∀ a, (k0_off800 v2400) a + S1x1x16.size a ≤ S32128x1x16.size a := fun v2400 k0_hw400 => k0_hw400

def k0_off801 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2405 : Index := Scalar.indexCast arg6
  let c400 : Index := 400#32
  ![v2405.toNat, 400]
def k0_off802 (v2406 : BitVec 32) : Fin 3 → Nat :=
  let v2407 : Index := Scalar.indexCast v2406
  let c0_804 : Index := 0#32
  let c0_805 : Index := 0#32
  ![v2407.toNat, 0, 0]

def k0_chk401 (v2406 : BitVec 32) : Prop :=
  (∀ a, (k0_off802 v2406) a + S1x1x16.size a ≤ S32128x1x16.size a)
theorem k0_off802_inb : ∀ (v2406 : BitVec 32) (k0_hw401 : k0_chk401 v2406), ∀ a, (k0_off802 v2406) a + S1x1x16.size a ≤ S32128x1x16.size a := fun v2406 k0_hw401 => k0_hw401

def k0_off803 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2411 : Index := Scalar.indexCast arg6
  let c401 : Index := 401#32
  ![v2411.toNat, 401]
def k0_off804 (v2412 : BitVec 32) : Fin 3 → Nat :=
  let v2413 : Index := Scalar.indexCast v2412
  let c0_806 : Index := 0#32
  let c0_807 : Index := 0#32
  ![v2413.toNat, 0, 0]

def k0_chk402 (v2412 : BitVec 32) : Prop :=
  (∀ a, (k0_off804 v2412) a + S1x1x16.size a ≤ S32128x1x16.size a)
theorem k0_off804_inb : ∀ (v2412 : BitVec 32) (k0_hw402 : k0_chk402 v2412), ∀ a, (k0_off804 v2412) a + S1x1x16.size a ≤ S32128x1x16.size a := fun v2412 k0_hw402 => k0_hw402

def k0_off805 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2417 : Index := Scalar.indexCast arg6
  let c402 : Index := 402#32
  ![v2417.toNat, 402]
def k0_off806 (v2418 : BitVec 32) : Fin 3 → Nat :=
  let v2419 : Index := Scalar.indexCast v2418
  let c0_808 : Index := 0#32
  let c0_809 : Index := 0#32
  ![v2419.toNat, 0, 0]

def k0_chk403 (v2418 : BitVec 32) : Prop :=
  (∀ a, (k0_off806 v2418) a + S1x1x16.size a ≤ S32128x1x16.size a)
theorem k0_off806_inb : ∀ (v2418 : BitVec 32) (k0_hw403 : k0_chk403 v2418), ∀ a, (k0_off806 v2418) a + S1x1x16.size a ≤ S32128x1x16.size a := fun v2418 k0_hw403 => k0_hw403

def k0_off807 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2423 : Index := Scalar.indexCast arg6
  let c403 : Index := 403#32
  ![v2423.toNat, 403]
def k0_off808 (v2424 : BitVec 32) : Fin 3 → Nat :=
  let v2425 : Index := Scalar.indexCast v2424
  let c0_810 : Index := 0#32
  let c0_811 : Index := 0#32
  ![v2425.toNat, 0, 0]

def k0_chk404 (v2424 : BitVec 32) : Prop :=
  (∀ a, (k0_off808 v2424) a + S1x1x16.size a ≤ S32128x1x16.size a)
theorem k0_off808_inb : ∀ (v2424 : BitVec 32) (k0_hw404 : k0_chk404 v2424), ∀ a, (k0_off808 v2424) a + S1x1x16.size a ≤ S32128x1x16.size a := fun v2424 k0_hw404 => k0_hw404

def k0_off809 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2429 : Index := Scalar.indexCast arg6
  let c404 : Index := 404#32
  ![v2429.toNat, 404]
def k0_off810 (v2430 : BitVec 32) : Fin 3 → Nat :=
  let v2431 : Index := Scalar.indexCast v2430
  let c0_812 : Index := 0#32
  let c0_813 : Index := 0#32
  ![v2431.toNat, 0, 0]

def k0_chk405 (v2430 : BitVec 32) : Prop :=
  (∀ a, (k0_off810 v2430) a + S1x1x16.size a ≤ S32128x1x16.size a)
theorem k0_off810_inb : ∀ (v2430 : BitVec 32) (k0_hw405 : k0_chk405 v2430), ∀ a, (k0_off810 v2430) a + S1x1x16.size a ≤ S32128x1x16.size a := fun v2430 k0_hw405 => k0_hw405

def k0_off811 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2435 : Index := Scalar.indexCast arg6
  let c405 : Index := 405#32
  ![v2435.toNat, 405]
def k0_off812 (v2436 : BitVec 32) : Fin 3 → Nat :=
  let v2437 : Index := Scalar.indexCast v2436
  let c0_814 : Index := 0#32
  let c0_815 : Index := 0#32
  ![v2437.toNat, 0, 0]

def k0_chk406 (v2436 : BitVec 32) : Prop :=
  (∀ a, (k0_off812 v2436) a + S1x1x16.size a ≤ S32128x1x16.size a)
theorem k0_off812_inb : ∀ (v2436 : BitVec 32) (k0_hw406 : k0_chk406 v2436), ∀ a, (k0_off812 v2436) a + S1x1x16.size a ≤ S32128x1x16.size a := fun v2436 k0_hw406 => k0_hw406

def k0_off813 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2441 : Index := Scalar.indexCast arg6
  let c406 : Index := 406#32
  ![v2441.toNat, 406]
def k0_off814 (v2442 : BitVec 32) : Fin 3 → Nat :=
  let v2443 : Index := Scalar.indexCast v2442
  let c0_816 : Index := 0#32
  let c0_817 : Index := 0#32
  ![v2443.toNat, 0, 0]

def k0_chk407 (v2442 : BitVec 32) : Prop :=
  (∀ a, (k0_off814 v2442) a + S1x1x16.size a ≤ S32128x1x16.size a)
theorem k0_off814_inb : ∀ (v2442 : BitVec 32) (k0_hw407 : k0_chk407 v2442), ∀ a, (k0_off814 v2442) a + S1x1x16.size a ≤ S32128x1x16.size a := fun v2442 k0_hw407 => k0_hw407

def k0_off815 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2447 : Index := Scalar.indexCast arg6
  let c407 : Index := 407#32
  ![v2447.toNat, 407]
def k0_off816 (v2448 : BitVec 32) : Fin 3 → Nat :=
  let v2449 : Index := Scalar.indexCast v2448
  let c0_818 : Index := 0#32
  let c0_819 : Index := 0#32
  ![v2449.toNat, 0, 0]

def k0_chk408 (v2448 : BitVec 32) : Prop :=
  (∀ a, (k0_off816 v2448) a + S1x1x16.size a ≤ S32128x1x16.size a)
theorem k0_off816_inb : ∀ (v2448 : BitVec 32) (k0_hw408 : k0_chk408 v2448), ∀ a, (k0_off816 v2448) a + S1x1x16.size a ≤ S32128x1x16.size a := fun v2448 k0_hw408 => k0_hw408

def k0_off817 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2453 : Index := Scalar.indexCast arg6
  let c408 : Index := 408#32
  ![v2453.toNat, 408]
def k0_off818 (v2454 : BitVec 32) : Fin 3 → Nat :=
  let v2455 : Index := Scalar.indexCast v2454
  let c0_820 : Index := 0#32
  let c0_821 : Index := 0#32
  ![v2455.toNat, 0, 0]

def k0_chk409 (v2454 : BitVec 32) : Prop :=
  (∀ a, (k0_off818 v2454) a + S1x1x16.size a ≤ S32128x1x16.size a)
theorem k0_off818_inb : ∀ (v2454 : BitVec 32) (k0_hw409 : k0_chk409 v2454), ∀ a, (k0_off818 v2454) a + S1x1x16.size a ≤ S32128x1x16.size a := fun v2454 k0_hw409 => k0_hw409

def k0_off819 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2459 : Index := Scalar.indexCast arg6
  let c409 : Index := 409#32
  ![v2459.toNat, 409]
def k0_off820 (v2460 : BitVec 32) : Fin 3 → Nat :=
  let v2461 : Index := Scalar.indexCast v2460
  let c0_822 : Index := 0#32
  let c0_823 : Index := 0#32
  ![v2461.toNat, 0, 0]

def k0_chk410 (v2460 : BitVec 32) : Prop :=
  (∀ a, (k0_off820 v2460) a + S1x1x16.size a ≤ S32128x1x16.size a)
theorem k0_off820_inb : ∀ (v2460 : BitVec 32) (k0_hw410 : k0_chk410 v2460), ∀ a, (k0_off820 v2460) a + S1x1x16.size a ≤ S32128x1x16.size a := fun v2460 k0_hw410 => k0_hw410

def k0_off821 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2465 : Index := Scalar.indexCast arg6
  let c410 : Index := 410#32
  ![v2465.toNat, 410]
def k0_off822 (v2466 : BitVec 32) : Fin 3 → Nat :=
  let v2467 : Index := Scalar.indexCast v2466
  let c0_824 : Index := 0#32
  let c0_825 : Index := 0#32
  ![v2467.toNat, 0, 0]

def k0_chk411 (v2466 : BitVec 32) : Prop :=
  (∀ a, (k0_off822 v2466) a + S1x1x16.size a ≤ S32128x1x16.size a)
theorem k0_off822_inb : ∀ (v2466 : BitVec 32) (k0_hw411 : k0_chk411 v2466), ∀ a, (k0_off822 v2466) a + S1x1x16.size a ≤ S32128x1x16.size a := fun v2466 k0_hw411 => k0_hw411

def k0_off823 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2471 : Index := Scalar.indexCast arg6
  let c411 : Index := 411#32
  ![v2471.toNat, 411]
def k0_off824 (v2472 : BitVec 32) : Fin 3 → Nat :=
  let v2473 : Index := Scalar.indexCast v2472
  let c0_826 : Index := 0#32
  let c0_827 : Index := 0#32
  ![v2473.toNat, 0, 0]

def k0_chk412 (v2472 : BitVec 32) : Prop :=
  (∀ a, (k0_off824 v2472) a + S1x1x16.size a ≤ S32128x1x16.size a)
theorem k0_off824_inb : ∀ (v2472 : BitVec 32) (k0_hw412 : k0_chk412 v2472), ∀ a, (k0_off824 v2472) a + S1x1x16.size a ≤ S32128x1x16.size a := fun v2472 k0_hw412 => k0_hw412

def k0_off825 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2477 : Index := Scalar.indexCast arg6
  let c412 : Index := 412#32
  ![v2477.toNat, 412]
def k0_off826 (v2478 : BitVec 32) : Fin 3 → Nat :=
  let v2479 : Index := Scalar.indexCast v2478
  let c0_828 : Index := 0#32
  let c0_829 : Index := 0#32
  ![v2479.toNat, 0, 0]

def k0_chk413 (v2478 : BitVec 32) : Prop :=
  (∀ a, (k0_off826 v2478) a + S1x1x16.size a ≤ S32128x1x16.size a)
theorem k0_off826_inb : ∀ (v2478 : BitVec 32) (k0_hw413 : k0_chk413 v2478), ∀ a, (k0_off826 v2478) a + S1x1x16.size a ≤ S32128x1x16.size a := fun v2478 k0_hw413 => k0_hw413

def k0_off827 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2483 : Index := Scalar.indexCast arg6
  let c413 : Index := 413#32
  ![v2483.toNat, 413]
def k0_off828 (v2484 : BitVec 32) : Fin 3 → Nat :=
  let v2485 : Index := Scalar.indexCast v2484
  let c0_830 : Index := 0#32
  let c0_831 : Index := 0#32
  ![v2485.toNat, 0, 0]

def k0_chk414 (v2484 : BitVec 32) : Prop :=
  (∀ a, (k0_off828 v2484) a + S1x1x16.size a ≤ S32128x1x16.size a)
theorem k0_off828_inb : ∀ (v2484 : BitVec 32) (k0_hw414 : k0_chk414 v2484), ∀ a, (k0_off828 v2484) a + S1x1x16.size a ≤ S32128x1x16.size a := fun v2484 k0_hw414 => k0_hw414

def k0_off829 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2489 : Index := Scalar.indexCast arg6
  let c414 : Index := 414#32
  ![v2489.toNat, 414]
def k0_off830 (v2490 : BitVec 32) : Fin 3 → Nat :=
  let v2491 : Index := Scalar.indexCast v2490
  let c0_832 : Index := 0#32
  let c0_833 : Index := 0#32
  ![v2491.toNat, 0, 0]

def k0_chk415 (v2490 : BitVec 32) : Prop :=
  (∀ a, (k0_off830 v2490) a + S1x1x16.size a ≤ S32128x1x16.size a)
theorem k0_off830_inb : ∀ (v2490 : BitVec 32) (k0_hw415 : k0_chk415 v2490), ∀ a, (k0_off830 v2490) a + S1x1x16.size a ≤ S32128x1x16.size a := fun v2490 k0_hw415 => k0_hw415

def k0_off831 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2495 : Index := Scalar.indexCast arg6
  let c415 : Index := 415#32
  ![v2495.toNat, 415]
def k0_off832 (v2496 : BitVec 32) : Fin 3 → Nat :=
  let v2497 : Index := Scalar.indexCast v2496
  let c0_834 : Index := 0#32
  let c0_835 : Index := 0#32
  ![v2497.toNat, 0, 0]

def k0_chk416 (v2496 : BitVec 32) : Prop :=
  (∀ a, (k0_off832 v2496) a + S1x1x16.size a ≤ S32128x1x16.size a)
theorem k0_off832_inb : ∀ (v2496 : BitVec 32) (k0_hw416 : k0_chk416 v2496), ∀ a, (k0_off832 v2496) a + S1x1x16.size a ≤ S32128x1x16.size a := fun v2496 k0_hw416 => k0_hw416

def k0_off833 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2501 : Index := Scalar.indexCast arg6
  let c416 : Index := 416#32
  ![v2501.toNat, 416]
def k0_off834 (v2502 : BitVec 32) : Fin 3 → Nat :=
  let v2503 : Index := Scalar.indexCast v2502
  let c0_836 : Index := 0#32
  let c0_837 : Index := 0#32
  ![v2503.toNat, 0, 0]

def k0_chk417 (v2502 : BitVec 32) : Prop :=
  (∀ a, (k0_off834 v2502) a + S1x1x16.size a ≤ S32128x1x16.size a)
theorem k0_off834_inb : ∀ (v2502 : BitVec 32) (k0_hw417 : k0_chk417 v2502), ∀ a, (k0_off834 v2502) a + S1x1x16.size a ≤ S32128x1x16.size a := fun v2502 k0_hw417 => k0_hw417

def k0_off835 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2507 : Index := Scalar.indexCast arg6
  let c417 : Index := 417#32
  ![v2507.toNat, 417]
def k0_off836 (v2508 : BitVec 32) : Fin 3 → Nat :=
  let v2509 : Index := Scalar.indexCast v2508
  let c0_838 : Index := 0#32
  let c0_839 : Index := 0#32
  ![v2509.toNat, 0, 0]

def k0_chk418 (v2508 : BitVec 32) : Prop :=
  (∀ a, (k0_off836 v2508) a + S1x1x16.size a ≤ S32128x1x16.size a)
theorem k0_off836_inb : ∀ (v2508 : BitVec 32) (k0_hw418 : k0_chk418 v2508), ∀ a, (k0_off836 v2508) a + S1x1x16.size a ≤ S32128x1x16.size a := fun v2508 k0_hw418 => k0_hw418

def k0_off837 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2513 : Index := Scalar.indexCast arg6
  let c418 : Index := 418#32
  ![v2513.toNat, 418]
def k0_off838 (v2514 : BitVec 32) : Fin 3 → Nat :=
  let v2515 : Index := Scalar.indexCast v2514
  let c0_840 : Index := 0#32
  let c0_841 : Index := 0#32
  ![v2515.toNat, 0, 0]

def k0_chk419 (v2514 : BitVec 32) : Prop :=
  (∀ a, (k0_off838 v2514) a + S1x1x16.size a ≤ S32128x1x16.size a)
theorem k0_off838_inb : ∀ (v2514 : BitVec 32) (k0_hw419 : k0_chk419 v2514), ∀ a, (k0_off838 v2514) a + S1x1x16.size a ≤ S32128x1x16.size a := fun v2514 k0_hw419 => k0_hw419

def k0_off839 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2519 : Index := Scalar.indexCast arg6
  let c419 : Index := 419#32
  ![v2519.toNat, 419]
def k0_off840 (v2520 : BitVec 32) : Fin 3 → Nat :=
  let v2521 : Index := Scalar.indexCast v2520
  let c0_842 : Index := 0#32
  let c0_843 : Index := 0#32
  ![v2521.toNat, 0, 0]

def k0_chk420 (v2520 : BitVec 32) : Prop :=
  (∀ a, (k0_off840 v2520) a + S1x1x16.size a ≤ S32128x1x16.size a)
theorem k0_off840_inb : ∀ (v2520 : BitVec 32) (k0_hw420 : k0_chk420 v2520), ∀ a, (k0_off840 v2520) a + S1x1x16.size a ≤ S32128x1x16.size a := fun v2520 k0_hw420 => k0_hw420

def k0_off841 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2525 : Index := Scalar.indexCast arg6
  let c420 : Index := 420#32
  ![v2525.toNat, 420]
def k0_off842 (v2526 : BitVec 32) : Fin 3 → Nat :=
  let v2527 : Index := Scalar.indexCast v2526
  let c0_844 : Index := 0#32
  let c0_845 : Index := 0#32
  ![v2527.toNat, 0, 0]

def k0_chk421 (v2526 : BitVec 32) : Prop :=
  (∀ a, (k0_off842 v2526) a + S1x1x16.size a ≤ S32128x1x16.size a)
theorem k0_off842_inb : ∀ (v2526 : BitVec 32) (k0_hw421 : k0_chk421 v2526), ∀ a, (k0_off842 v2526) a + S1x1x16.size a ≤ S32128x1x16.size a := fun v2526 k0_hw421 => k0_hw421

def k0_off843 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2531 : Index := Scalar.indexCast arg6
  let c421 : Index := 421#32
  ![v2531.toNat, 421]
def k0_off844 (v2532 : BitVec 32) : Fin 3 → Nat :=
  let v2533 : Index := Scalar.indexCast v2532
  let c0_846 : Index := 0#32
  let c0_847 : Index := 0#32
  ![v2533.toNat, 0, 0]

def k0_chk422 (v2532 : BitVec 32) : Prop :=
  (∀ a, (k0_off844 v2532) a + S1x1x16.size a ≤ S32128x1x16.size a)
theorem k0_off844_inb : ∀ (v2532 : BitVec 32) (k0_hw422 : k0_chk422 v2532), ∀ a, (k0_off844 v2532) a + S1x1x16.size a ≤ S32128x1x16.size a := fun v2532 k0_hw422 => k0_hw422

def k0_off845 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2537 : Index := Scalar.indexCast arg6
  let c422 : Index := 422#32
  ![v2537.toNat, 422]
def k0_off846 (v2538 : BitVec 32) : Fin 3 → Nat :=
  let v2539 : Index := Scalar.indexCast v2538
  let c0_848 : Index := 0#32
  let c0_849 : Index := 0#32
  ![v2539.toNat, 0, 0]

def k0_chk423 (v2538 : BitVec 32) : Prop :=
  (∀ a, (k0_off846 v2538) a + S1x1x16.size a ≤ S32128x1x16.size a)
theorem k0_off846_inb : ∀ (v2538 : BitVec 32) (k0_hw423 : k0_chk423 v2538), ∀ a, (k0_off846 v2538) a + S1x1x16.size a ≤ S32128x1x16.size a := fun v2538 k0_hw423 => k0_hw423

def k0_off847 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2543 : Index := Scalar.indexCast arg6
  let c423 : Index := 423#32
  ![v2543.toNat, 423]
def k0_off848 (v2544 : BitVec 32) : Fin 3 → Nat :=
  let v2545 : Index := Scalar.indexCast v2544
  let c0_850 : Index := 0#32
  let c0_851 : Index := 0#32
  ![v2545.toNat, 0, 0]

def k0_chk424 (v2544 : BitVec 32) : Prop :=
  (∀ a, (k0_off848 v2544) a + S1x1x16.size a ≤ S32128x1x16.size a)
theorem k0_off848_inb : ∀ (v2544 : BitVec 32) (k0_hw424 : k0_chk424 v2544), ∀ a, (k0_off848 v2544) a + S1x1x16.size a ≤ S32128x1x16.size a := fun v2544 k0_hw424 => k0_hw424

def k0_off849 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2549 : Index := Scalar.indexCast arg6
  let c424 : Index := 424#32
  ![v2549.toNat, 424]
def k0_off850 (v2550 : BitVec 32) : Fin 3 → Nat :=
  let v2551 : Index := Scalar.indexCast v2550
  let c0_852 : Index := 0#32
  let c0_853 : Index := 0#32
  ![v2551.toNat, 0, 0]

def k0_chk425 (v2550 : BitVec 32) : Prop :=
  (∀ a, (k0_off850 v2550) a + S1x1x16.size a ≤ S32128x1x16.size a)
theorem k0_off850_inb : ∀ (v2550 : BitVec 32) (k0_hw425 : k0_chk425 v2550), ∀ a, (k0_off850 v2550) a + S1x1x16.size a ≤ S32128x1x16.size a := fun v2550 k0_hw425 => k0_hw425

def k0_off851 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2555 : Index := Scalar.indexCast arg6
  let c425 : Index := 425#32
  ![v2555.toNat, 425]
def k0_off852 (v2556 : BitVec 32) : Fin 3 → Nat :=
  let v2557 : Index := Scalar.indexCast v2556
  let c0_854 : Index := 0#32
  let c0_855 : Index := 0#32
  ![v2557.toNat, 0, 0]

def k0_chk426 (v2556 : BitVec 32) : Prop :=
  (∀ a, (k0_off852 v2556) a + S1x1x16.size a ≤ S32128x1x16.size a)
theorem k0_off852_inb : ∀ (v2556 : BitVec 32) (k0_hw426 : k0_chk426 v2556), ∀ a, (k0_off852 v2556) a + S1x1x16.size a ≤ S32128x1x16.size a := fun v2556 k0_hw426 => k0_hw426

def k0_off853 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2561 : Index := Scalar.indexCast arg6
  let c426 : Index := 426#32
  ![v2561.toNat, 426]
def k0_off854 (v2562 : BitVec 32) : Fin 3 → Nat :=
  let v2563 : Index := Scalar.indexCast v2562
  let c0_856 : Index := 0#32
  let c0_857 : Index := 0#32
  ![v2563.toNat, 0, 0]

def k0_chk427 (v2562 : BitVec 32) : Prop :=
  (∀ a, (k0_off854 v2562) a + S1x1x16.size a ≤ S32128x1x16.size a)
theorem k0_off854_inb : ∀ (v2562 : BitVec 32) (k0_hw427 : k0_chk427 v2562), ∀ a, (k0_off854 v2562) a + S1x1x16.size a ≤ S32128x1x16.size a := fun v2562 k0_hw427 => k0_hw427

def k0_off855 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2567 : Index := Scalar.indexCast arg6
  let c427 : Index := 427#32
  ![v2567.toNat, 427]
def k0_off856 (v2568 : BitVec 32) : Fin 3 → Nat :=
  let v2569 : Index := Scalar.indexCast v2568
  let c0_858 : Index := 0#32
  let c0_859 : Index := 0#32
  ![v2569.toNat, 0, 0]

def k0_chk428 (v2568 : BitVec 32) : Prop :=
  (∀ a, (k0_off856 v2568) a + S1x1x16.size a ≤ S32128x1x16.size a)
theorem k0_off856_inb : ∀ (v2568 : BitVec 32) (k0_hw428 : k0_chk428 v2568), ∀ a, (k0_off856 v2568) a + S1x1x16.size a ≤ S32128x1x16.size a := fun v2568 k0_hw428 => k0_hw428

def k0_off857 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2573 : Index := Scalar.indexCast arg6
  let c428 : Index := 428#32
  ![v2573.toNat, 428]
def k0_off858 (v2574 : BitVec 32) : Fin 3 → Nat :=
  let v2575 : Index := Scalar.indexCast v2574
  let c0_860 : Index := 0#32
  let c0_861 : Index := 0#32
  ![v2575.toNat, 0, 0]

def k0_chk429 (v2574 : BitVec 32) : Prop :=
  (∀ a, (k0_off858 v2574) a + S1x1x16.size a ≤ S32128x1x16.size a)
theorem k0_off858_inb : ∀ (v2574 : BitVec 32) (k0_hw429 : k0_chk429 v2574), ∀ a, (k0_off858 v2574) a + S1x1x16.size a ≤ S32128x1x16.size a := fun v2574 k0_hw429 => k0_hw429

def k0_off859 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2579 : Index := Scalar.indexCast arg6
  let c429 : Index := 429#32
  ![v2579.toNat, 429]
def k0_off860 (v2580 : BitVec 32) : Fin 3 → Nat :=
  let v2581 : Index := Scalar.indexCast v2580
  let c0_862 : Index := 0#32
  let c0_863 : Index := 0#32
  ![v2581.toNat, 0, 0]

def k0_chk430 (v2580 : BitVec 32) : Prop :=
  (∀ a, (k0_off860 v2580) a + S1x1x16.size a ≤ S32128x1x16.size a)
theorem k0_off860_inb : ∀ (v2580 : BitVec 32) (k0_hw430 : k0_chk430 v2580), ∀ a, (k0_off860 v2580) a + S1x1x16.size a ≤ S32128x1x16.size a := fun v2580 k0_hw430 => k0_hw430

def k0_off861 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2585 : Index := Scalar.indexCast arg6
  let c430 : Index := 430#32
  ![v2585.toNat, 430]
def k0_off862 (v2586 : BitVec 32) : Fin 3 → Nat :=
  let v2587 : Index := Scalar.indexCast v2586
  let c0_864 : Index := 0#32
  let c0_865 : Index := 0#32
  ![v2587.toNat, 0, 0]

def k0_chk431 (v2586 : BitVec 32) : Prop :=
  (∀ a, (k0_off862 v2586) a + S1x1x16.size a ≤ S32128x1x16.size a)
theorem k0_off862_inb : ∀ (v2586 : BitVec 32) (k0_hw431 : k0_chk431 v2586), ∀ a, (k0_off862 v2586) a + S1x1x16.size a ≤ S32128x1x16.size a := fun v2586 k0_hw431 => k0_hw431

def k0_off863 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2591 : Index := Scalar.indexCast arg6
  let c431 : Index := 431#32
  ![v2591.toNat, 431]
def k0_off864 (v2592 : BitVec 32) : Fin 3 → Nat :=
  let v2593 : Index := Scalar.indexCast v2592
  let c0_866 : Index := 0#32
  let c0_867 : Index := 0#32
  ![v2593.toNat, 0, 0]

def k0_chk432 (v2592 : BitVec 32) : Prop :=
  (∀ a, (k0_off864 v2592) a + S1x1x16.size a ≤ S32128x1x16.size a)
theorem k0_off864_inb : ∀ (v2592 : BitVec 32) (k0_hw432 : k0_chk432 v2592), ∀ a, (k0_off864 v2592) a + S1x1x16.size a ≤ S32128x1x16.size a := fun v2592 k0_hw432 => k0_hw432

def k0_off865 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2597 : Index := Scalar.indexCast arg6
  let c432 : Index := 432#32
  ![v2597.toNat, 432]
def k0_off866 (v2598 : BitVec 32) : Fin 3 → Nat :=
  let v2599 : Index := Scalar.indexCast v2598
  let c0_868 : Index := 0#32
  let c0_869 : Index := 0#32
  ![v2599.toNat, 0, 0]

def k0_chk433 (v2598 : BitVec 32) : Prop :=
  (∀ a, (k0_off866 v2598) a + S1x1x16.size a ≤ S32128x1x16.size a)
theorem k0_off866_inb : ∀ (v2598 : BitVec 32) (k0_hw433 : k0_chk433 v2598), ∀ a, (k0_off866 v2598) a + S1x1x16.size a ≤ S32128x1x16.size a := fun v2598 k0_hw433 => k0_hw433

def k0_off867 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2603 : Index := Scalar.indexCast arg6
  let c433 : Index := 433#32
  ![v2603.toNat, 433]
def k0_off868 (v2604 : BitVec 32) : Fin 3 → Nat :=
  let v2605 : Index := Scalar.indexCast v2604
  let c0_870 : Index := 0#32
  let c0_871 : Index := 0#32
  ![v2605.toNat, 0, 0]

def k0_chk434 (v2604 : BitVec 32) : Prop :=
  (∀ a, (k0_off868 v2604) a + S1x1x16.size a ≤ S32128x1x16.size a)
theorem k0_off868_inb : ∀ (v2604 : BitVec 32) (k0_hw434 : k0_chk434 v2604), ∀ a, (k0_off868 v2604) a + S1x1x16.size a ≤ S32128x1x16.size a := fun v2604 k0_hw434 => k0_hw434

def k0_off869 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2609 : Index := Scalar.indexCast arg6
  let c434 : Index := 434#32
  ![v2609.toNat, 434]
def k0_off870 (v2610 : BitVec 32) : Fin 3 → Nat :=
  let v2611 : Index := Scalar.indexCast v2610
  let c0_872 : Index := 0#32
  let c0_873 : Index := 0#32
  ![v2611.toNat, 0, 0]

def k0_chk435 (v2610 : BitVec 32) : Prop :=
  (∀ a, (k0_off870 v2610) a + S1x1x16.size a ≤ S32128x1x16.size a)
theorem k0_off870_inb : ∀ (v2610 : BitVec 32) (k0_hw435 : k0_chk435 v2610), ∀ a, (k0_off870 v2610) a + S1x1x16.size a ≤ S32128x1x16.size a := fun v2610 k0_hw435 => k0_hw435

def k0_off871 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2615 : Index := Scalar.indexCast arg6
  let c435 : Index := 435#32
  ![v2615.toNat, 435]
def k0_off872 (v2616 : BitVec 32) : Fin 3 → Nat :=
  let v2617 : Index := Scalar.indexCast v2616
  let c0_874 : Index := 0#32
  let c0_875 : Index := 0#32
  ![v2617.toNat, 0, 0]

def k0_chk436 (v2616 : BitVec 32) : Prop :=
  (∀ a, (k0_off872 v2616) a + S1x1x16.size a ≤ S32128x1x16.size a)
theorem k0_off872_inb : ∀ (v2616 : BitVec 32) (k0_hw436 : k0_chk436 v2616), ∀ a, (k0_off872 v2616) a + S1x1x16.size a ≤ S32128x1x16.size a := fun v2616 k0_hw436 => k0_hw436

def k0_off873 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2621 : Index := Scalar.indexCast arg6
  let c436 : Index := 436#32
  ![v2621.toNat, 436]
def k0_off874 (v2622 : BitVec 32) : Fin 3 → Nat :=
  let v2623 : Index := Scalar.indexCast v2622
  let c0_876 : Index := 0#32
  let c0_877 : Index := 0#32
  ![v2623.toNat, 0, 0]

def k0_chk437 (v2622 : BitVec 32) : Prop :=
  (∀ a, (k0_off874 v2622) a + S1x1x16.size a ≤ S32128x1x16.size a)
theorem k0_off874_inb : ∀ (v2622 : BitVec 32) (k0_hw437 : k0_chk437 v2622), ∀ a, (k0_off874 v2622) a + S1x1x16.size a ≤ S32128x1x16.size a := fun v2622 k0_hw437 => k0_hw437

def k0_off875 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2627 : Index := Scalar.indexCast arg6
  let c437 : Index := 437#32
  ![v2627.toNat, 437]
def k0_off876 (v2628 : BitVec 32) : Fin 3 → Nat :=
  let v2629 : Index := Scalar.indexCast v2628
  let c0_878 : Index := 0#32
  let c0_879 : Index := 0#32
  ![v2629.toNat, 0, 0]

def k0_chk438 (v2628 : BitVec 32) : Prop :=
  (∀ a, (k0_off876 v2628) a + S1x1x16.size a ≤ S32128x1x16.size a)
theorem k0_off876_inb : ∀ (v2628 : BitVec 32) (k0_hw438 : k0_chk438 v2628), ∀ a, (k0_off876 v2628) a + S1x1x16.size a ≤ S32128x1x16.size a := fun v2628 k0_hw438 => k0_hw438

def k0_off877 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2633 : Index := Scalar.indexCast arg6
  let c438 : Index := 438#32
  ![v2633.toNat, 438]
def k0_off878 (v2634 : BitVec 32) : Fin 3 → Nat :=
  let v2635 : Index := Scalar.indexCast v2634
  let c0_880 : Index := 0#32
  let c0_881 : Index := 0#32
  ![v2635.toNat, 0, 0]

def k0_chk439 (v2634 : BitVec 32) : Prop :=
  (∀ a, (k0_off878 v2634) a + S1x1x16.size a ≤ S32128x1x16.size a)
theorem k0_off878_inb : ∀ (v2634 : BitVec 32) (k0_hw439 : k0_chk439 v2634), ∀ a, (k0_off878 v2634) a + S1x1x16.size a ≤ S32128x1x16.size a := fun v2634 k0_hw439 => k0_hw439

def k0_off879 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2639 : Index := Scalar.indexCast arg6
  let c439 : Index := 439#32
  ![v2639.toNat, 439]
def k0_off880 (v2640 : BitVec 32) : Fin 3 → Nat :=
  let v2641 : Index := Scalar.indexCast v2640
  let c0_882 : Index := 0#32
  let c0_883 : Index := 0#32
  ![v2641.toNat, 0, 0]

def k0_chk440 (v2640 : BitVec 32) : Prop :=
  (∀ a, (k0_off880 v2640) a + S1x1x16.size a ≤ S32128x1x16.size a)
theorem k0_off880_inb : ∀ (v2640 : BitVec 32) (k0_hw440 : k0_chk440 v2640), ∀ a, (k0_off880 v2640) a + S1x1x16.size a ≤ S32128x1x16.size a := fun v2640 k0_hw440 => k0_hw440

def k0_off881 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2645 : Index := Scalar.indexCast arg6
  let c440 : Index := 440#32
  ![v2645.toNat, 440]
def k0_off882 (v2646 : BitVec 32) : Fin 3 → Nat :=
  let v2647 : Index := Scalar.indexCast v2646
  let c0_884 : Index := 0#32
  let c0_885 : Index := 0#32
  ![v2647.toNat, 0, 0]

def k0_chk441 (v2646 : BitVec 32) : Prop :=
  (∀ a, (k0_off882 v2646) a + S1x1x16.size a ≤ S32128x1x16.size a)
theorem k0_off882_inb : ∀ (v2646 : BitVec 32) (k0_hw441 : k0_chk441 v2646), ∀ a, (k0_off882 v2646) a + S1x1x16.size a ≤ S32128x1x16.size a := fun v2646 k0_hw441 => k0_hw441

def k0_off883 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2651 : Index := Scalar.indexCast arg6
  let c441 : Index := 441#32
  ![v2651.toNat, 441]
def k0_off884 (v2652 : BitVec 32) : Fin 3 → Nat :=
  let v2653 : Index := Scalar.indexCast v2652
  let c0_886 : Index := 0#32
  let c0_887 : Index := 0#32
  ![v2653.toNat, 0, 0]

def k0_chk442 (v2652 : BitVec 32) : Prop :=
  (∀ a, (k0_off884 v2652) a + S1x1x16.size a ≤ S32128x1x16.size a)
theorem k0_off884_inb : ∀ (v2652 : BitVec 32) (k0_hw442 : k0_chk442 v2652), ∀ a, (k0_off884 v2652) a + S1x1x16.size a ≤ S32128x1x16.size a := fun v2652 k0_hw442 => k0_hw442

def k0_off885 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2657 : Index := Scalar.indexCast arg6
  let c442 : Index := 442#32
  ![v2657.toNat, 442]
def k0_off886 (v2658 : BitVec 32) : Fin 3 → Nat :=
  let v2659 : Index := Scalar.indexCast v2658
  let c0_888 : Index := 0#32
  let c0_889 : Index := 0#32
  ![v2659.toNat, 0, 0]

def k0_chk443 (v2658 : BitVec 32) : Prop :=
  (∀ a, (k0_off886 v2658) a + S1x1x16.size a ≤ S32128x1x16.size a)
theorem k0_off886_inb : ∀ (v2658 : BitVec 32) (k0_hw443 : k0_chk443 v2658), ∀ a, (k0_off886 v2658) a + S1x1x16.size a ≤ S32128x1x16.size a := fun v2658 k0_hw443 => k0_hw443

def k0_off887 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2663 : Index := Scalar.indexCast arg6
  let c443 : Index := 443#32
  ![v2663.toNat, 443]
def k0_off888 (v2664 : BitVec 32) : Fin 3 → Nat :=
  let v2665 : Index := Scalar.indexCast v2664
  let c0_890 : Index := 0#32
  let c0_891 : Index := 0#32
  ![v2665.toNat, 0, 0]

def k0_chk444 (v2664 : BitVec 32) : Prop :=
  (∀ a, (k0_off888 v2664) a + S1x1x16.size a ≤ S32128x1x16.size a)
theorem k0_off888_inb : ∀ (v2664 : BitVec 32) (k0_hw444 : k0_chk444 v2664), ∀ a, (k0_off888 v2664) a + S1x1x16.size a ≤ S32128x1x16.size a := fun v2664 k0_hw444 => k0_hw444

def k0_off889 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2669 : Index := Scalar.indexCast arg6
  let c444 : Index := 444#32
  ![v2669.toNat, 444]
def k0_off890 (v2670 : BitVec 32) : Fin 3 → Nat :=
  let v2671 : Index := Scalar.indexCast v2670
  let c0_892 : Index := 0#32
  let c0_893 : Index := 0#32
  ![v2671.toNat, 0, 0]

def k0_chk445 (v2670 : BitVec 32) : Prop :=
  (∀ a, (k0_off890 v2670) a + S1x1x16.size a ≤ S32128x1x16.size a)
theorem k0_off890_inb : ∀ (v2670 : BitVec 32) (k0_hw445 : k0_chk445 v2670), ∀ a, (k0_off890 v2670) a + S1x1x16.size a ≤ S32128x1x16.size a := fun v2670 k0_hw445 => k0_hw445

def k0_off891 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2675 : Index := Scalar.indexCast arg6
  let c445 : Index := 445#32
  ![v2675.toNat, 445]
def k0_off892 (v2676 : BitVec 32) : Fin 3 → Nat :=
  let v2677 : Index := Scalar.indexCast v2676
  let c0_894 : Index := 0#32
  let c0_895 : Index := 0#32
  ![v2677.toNat, 0, 0]

def k0_chk446 (v2676 : BitVec 32) : Prop :=
  (∀ a, (k0_off892 v2676) a + S1x1x16.size a ≤ S32128x1x16.size a)
theorem k0_off892_inb : ∀ (v2676 : BitVec 32) (k0_hw446 : k0_chk446 v2676), ∀ a, (k0_off892 v2676) a + S1x1x16.size a ≤ S32128x1x16.size a := fun v2676 k0_hw446 => k0_hw446

def k0_off893 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2681 : Index := Scalar.indexCast arg6
  let c446 : Index := 446#32
  ![v2681.toNat, 446]
def k0_off894 (v2682 : BitVec 32) : Fin 3 → Nat :=
  let v2683 : Index := Scalar.indexCast v2682
  let c0_896 : Index := 0#32
  let c0_897 : Index := 0#32
  ![v2683.toNat, 0, 0]

def k0_chk447 (v2682 : BitVec 32) : Prop :=
  (∀ a, (k0_off894 v2682) a + S1x1x16.size a ≤ S32128x1x16.size a)
theorem k0_off894_inb : ∀ (v2682 : BitVec 32) (k0_hw447 : k0_chk447 v2682), ∀ a, (k0_off894 v2682) a + S1x1x16.size a ≤ S32128x1x16.size a := fun v2682 k0_hw447 => k0_hw447

def k0_off895 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2687 : Index := Scalar.indexCast arg6
  let c447 : Index := 447#32
  ![v2687.toNat, 447]
def k0_off896 (v2688 : BitVec 32) : Fin 3 → Nat :=
  let v2689 : Index := Scalar.indexCast v2688
  let c0_898 : Index := 0#32
  let c0_899 : Index := 0#32
  ![v2689.toNat, 0, 0]

def k0_chk448 (v2688 : BitVec 32) : Prop :=
  (∀ a, (k0_off896 v2688) a + S1x1x16.size a ≤ S32128x1x16.size a)
theorem k0_off896_inb : ∀ (v2688 : BitVec 32) (k0_hw448 : k0_chk448 v2688), ∀ a, (k0_off896 v2688) a + S1x1x16.size a ≤ S32128x1x16.size a := fun v2688 k0_hw448 => k0_hw448

def k0_off897 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2693 : Index := Scalar.indexCast arg6
  let c448 : Index := 448#32
  ![v2693.toNat, 448]
def k0_off898 (v2694 : BitVec 32) : Fin 3 → Nat :=
  let v2695 : Index := Scalar.indexCast v2694
  let c0_900 : Index := 0#32
  let c0_901 : Index := 0#32
  ![v2695.toNat, 0, 0]

def k0_chk449 (v2694 : BitVec 32) : Prop :=
  (∀ a, (k0_off898 v2694) a + S1x1x16.size a ≤ S32128x1x16.size a)
theorem k0_off898_inb : ∀ (v2694 : BitVec 32) (k0_hw449 : k0_chk449 v2694), ∀ a, (k0_off898 v2694) a + S1x1x16.size a ≤ S32128x1x16.size a := fun v2694 k0_hw449 => k0_hw449

def k0_off899 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2699 : Index := Scalar.indexCast arg6
  let c449 : Index := 449#32
  ![v2699.toNat, 449]
def k0_off900 (v2700 : BitVec 32) : Fin 3 → Nat :=
  let v2701 : Index := Scalar.indexCast v2700
  let c0_902 : Index := 0#32
  let c0_903 : Index := 0#32
  ![v2701.toNat, 0, 0]

def k0_chk450 (v2700 : BitVec 32) : Prop :=
  (∀ a, (k0_off900 v2700) a + S1x1x16.size a ≤ S32128x1x16.size a)
theorem k0_off900_inb : ∀ (v2700 : BitVec 32) (k0_hw450 : k0_chk450 v2700), ∀ a, (k0_off900 v2700) a + S1x1x16.size a ≤ S32128x1x16.size a := fun v2700 k0_hw450 => k0_hw450

def k0_off901 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2705 : Index := Scalar.indexCast arg6
  let c450 : Index := 450#32
  ![v2705.toNat, 450]
def k0_off902 (v2706 : BitVec 32) : Fin 3 → Nat :=
  let v2707 : Index := Scalar.indexCast v2706
  let c0_904 : Index := 0#32
  let c0_905 : Index := 0#32
  ![v2707.toNat, 0, 0]

def k0_chk451 (v2706 : BitVec 32) : Prop :=
  (∀ a, (k0_off902 v2706) a + S1x1x16.size a ≤ S32128x1x16.size a)
theorem k0_off902_inb : ∀ (v2706 : BitVec 32) (k0_hw451 : k0_chk451 v2706), ∀ a, (k0_off902 v2706) a + S1x1x16.size a ≤ S32128x1x16.size a := fun v2706 k0_hw451 => k0_hw451

def k0_off903 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2711 : Index := Scalar.indexCast arg6
  let c451 : Index := 451#32
  ![v2711.toNat, 451]
def k0_off904 (v2712 : BitVec 32) : Fin 3 → Nat :=
  let v2713 : Index := Scalar.indexCast v2712
  let c0_906 : Index := 0#32
  let c0_907 : Index := 0#32
  ![v2713.toNat, 0, 0]

def k0_chk452 (v2712 : BitVec 32) : Prop :=
  (∀ a, (k0_off904 v2712) a + S1x1x16.size a ≤ S32128x1x16.size a)
theorem k0_off904_inb : ∀ (v2712 : BitVec 32) (k0_hw452 : k0_chk452 v2712), ∀ a, (k0_off904 v2712) a + S1x1x16.size a ≤ S32128x1x16.size a := fun v2712 k0_hw452 => k0_hw452

def k0_off905 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2717 : Index := Scalar.indexCast arg6
  let c452 : Index := 452#32
  ![v2717.toNat, 452]
def k0_off906 (v2718 : BitVec 32) : Fin 3 → Nat :=
  let v2719 : Index := Scalar.indexCast v2718
  let c0_908 : Index := 0#32
  let c0_909 : Index := 0#32
  ![v2719.toNat, 0, 0]

def k0_chk453 (v2718 : BitVec 32) : Prop :=
  (∀ a, (k0_off906 v2718) a + S1x1x16.size a ≤ S32128x1x16.size a)
theorem k0_off906_inb : ∀ (v2718 : BitVec 32) (k0_hw453 : k0_chk453 v2718), ∀ a, (k0_off906 v2718) a + S1x1x16.size a ≤ S32128x1x16.size a := fun v2718 k0_hw453 => k0_hw453

def k0_off907 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2723 : Index := Scalar.indexCast arg6
  let c453 : Index := 453#32
  ![v2723.toNat, 453]
def k0_off908 (v2724 : BitVec 32) : Fin 3 → Nat :=
  let v2725 : Index := Scalar.indexCast v2724
  let c0_910 : Index := 0#32
  let c0_911 : Index := 0#32
  ![v2725.toNat, 0, 0]

def k0_chk454 (v2724 : BitVec 32) : Prop :=
  (∀ a, (k0_off908 v2724) a + S1x1x16.size a ≤ S32128x1x16.size a)
theorem k0_off908_inb : ∀ (v2724 : BitVec 32) (k0_hw454 : k0_chk454 v2724), ∀ a, (k0_off908 v2724) a + S1x1x16.size a ≤ S32128x1x16.size a := fun v2724 k0_hw454 => k0_hw454

def k0_off909 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2729 : Index := Scalar.indexCast arg6
  let c454 : Index := 454#32
  ![v2729.toNat, 454]
def k0_off910 (v2730 : BitVec 32) : Fin 3 → Nat :=
  let v2731 : Index := Scalar.indexCast v2730
  let c0_912 : Index := 0#32
  let c0_913 : Index := 0#32
  ![v2731.toNat, 0, 0]

def k0_chk455 (v2730 : BitVec 32) : Prop :=
  (∀ a, (k0_off910 v2730) a + S1x1x16.size a ≤ S32128x1x16.size a)
theorem k0_off910_inb : ∀ (v2730 : BitVec 32) (k0_hw455 : k0_chk455 v2730), ∀ a, (k0_off910 v2730) a + S1x1x16.size a ≤ S32128x1x16.size a := fun v2730 k0_hw455 => k0_hw455

def k0_off911 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2735 : Index := Scalar.indexCast arg6
  let c455 : Index := 455#32
  ![v2735.toNat, 455]
def k0_off912 (v2736 : BitVec 32) : Fin 3 → Nat :=
  let v2737 : Index := Scalar.indexCast v2736
  let c0_914 : Index := 0#32
  let c0_915 : Index := 0#32
  ![v2737.toNat, 0, 0]

def k0_chk456 (v2736 : BitVec 32) : Prop :=
  (∀ a, (k0_off912 v2736) a + S1x1x16.size a ≤ S32128x1x16.size a)
theorem k0_off912_inb : ∀ (v2736 : BitVec 32) (k0_hw456 : k0_chk456 v2736), ∀ a, (k0_off912 v2736) a + S1x1x16.size a ≤ S32128x1x16.size a := fun v2736 k0_hw456 => k0_hw456

def k0_off913 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2741 : Index := Scalar.indexCast arg6
  let c456 : Index := 456#32
  ![v2741.toNat, 456]
def k0_off914 (v2742 : BitVec 32) : Fin 3 → Nat :=
  let v2743 : Index := Scalar.indexCast v2742
  let c0_916 : Index := 0#32
  let c0_917 : Index := 0#32
  ![v2743.toNat, 0, 0]

def k0_chk457 (v2742 : BitVec 32) : Prop :=
  (∀ a, (k0_off914 v2742) a + S1x1x16.size a ≤ S32128x1x16.size a)
theorem k0_off914_inb : ∀ (v2742 : BitVec 32) (k0_hw457 : k0_chk457 v2742), ∀ a, (k0_off914 v2742) a + S1x1x16.size a ≤ S32128x1x16.size a := fun v2742 k0_hw457 => k0_hw457

def k0_off915 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2747 : Index := Scalar.indexCast arg6
  let c457 : Index := 457#32
  ![v2747.toNat, 457]
def k0_off916 (v2748 : BitVec 32) : Fin 3 → Nat :=
  let v2749 : Index := Scalar.indexCast v2748
  let c0_918 : Index := 0#32
  let c0_919 : Index := 0#32
  ![v2749.toNat, 0, 0]

def k0_chk458 (v2748 : BitVec 32) : Prop :=
  (∀ a, (k0_off916 v2748) a + S1x1x16.size a ≤ S32128x1x16.size a)
theorem k0_off916_inb : ∀ (v2748 : BitVec 32) (k0_hw458 : k0_chk458 v2748), ∀ a, (k0_off916 v2748) a + S1x1x16.size a ≤ S32128x1x16.size a := fun v2748 k0_hw458 => k0_hw458

def k0_off917 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2753 : Index := Scalar.indexCast arg6
  let c458 : Index := 458#32
  ![v2753.toNat, 458]
def k0_off918 (v2754 : BitVec 32) : Fin 3 → Nat :=
  let v2755 : Index := Scalar.indexCast v2754
  let c0_920 : Index := 0#32
  let c0_921 : Index := 0#32
  ![v2755.toNat, 0, 0]

def k0_chk459 (v2754 : BitVec 32) : Prop :=
  (∀ a, (k0_off918 v2754) a + S1x1x16.size a ≤ S32128x1x16.size a)
theorem k0_off918_inb : ∀ (v2754 : BitVec 32) (k0_hw459 : k0_chk459 v2754), ∀ a, (k0_off918 v2754) a + S1x1x16.size a ≤ S32128x1x16.size a := fun v2754 k0_hw459 => k0_hw459

def k0_off919 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2759 : Index := Scalar.indexCast arg6
  let c459 : Index := 459#32
  ![v2759.toNat, 459]
def k0_off920 (v2760 : BitVec 32) : Fin 3 → Nat :=
  let v2761 : Index := Scalar.indexCast v2760
  let c0_922 : Index := 0#32
  let c0_923 : Index := 0#32
  ![v2761.toNat, 0, 0]

def k0_chk460 (v2760 : BitVec 32) : Prop :=
  (∀ a, (k0_off920 v2760) a + S1x1x16.size a ≤ S32128x1x16.size a)
theorem k0_off920_inb : ∀ (v2760 : BitVec 32) (k0_hw460 : k0_chk460 v2760), ∀ a, (k0_off920 v2760) a + S1x1x16.size a ≤ S32128x1x16.size a := fun v2760 k0_hw460 => k0_hw460

def k0_off921 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2765 : Index := Scalar.indexCast arg6
  let c460 : Index := 460#32
  ![v2765.toNat, 460]
def k0_off922 (v2766 : BitVec 32) : Fin 3 → Nat :=
  let v2767 : Index := Scalar.indexCast v2766
  let c0_924 : Index := 0#32
  let c0_925 : Index := 0#32
  ![v2767.toNat, 0, 0]

def k0_chk461 (v2766 : BitVec 32) : Prop :=
  (∀ a, (k0_off922 v2766) a + S1x1x16.size a ≤ S32128x1x16.size a)
theorem k0_off922_inb : ∀ (v2766 : BitVec 32) (k0_hw461 : k0_chk461 v2766), ∀ a, (k0_off922 v2766) a + S1x1x16.size a ≤ S32128x1x16.size a := fun v2766 k0_hw461 => k0_hw461

def k0_off923 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2771 : Index := Scalar.indexCast arg6
  let c461 : Index := 461#32
  ![v2771.toNat, 461]
def k0_off924 (v2772 : BitVec 32) : Fin 3 → Nat :=
  let v2773 : Index := Scalar.indexCast v2772
  let c0_926 : Index := 0#32
  let c0_927 : Index := 0#32
  ![v2773.toNat, 0, 0]

def k0_chk462 (v2772 : BitVec 32) : Prop :=
  (∀ a, (k0_off924 v2772) a + S1x1x16.size a ≤ S32128x1x16.size a)
theorem k0_off924_inb : ∀ (v2772 : BitVec 32) (k0_hw462 : k0_chk462 v2772), ∀ a, (k0_off924 v2772) a + S1x1x16.size a ≤ S32128x1x16.size a := fun v2772 k0_hw462 => k0_hw462

def k0_off925 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2777 : Index := Scalar.indexCast arg6
  let c462 : Index := 462#32
  ![v2777.toNat, 462]
def k0_off926 (v2778 : BitVec 32) : Fin 3 → Nat :=
  let v2779 : Index := Scalar.indexCast v2778
  let c0_928 : Index := 0#32
  let c0_929 : Index := 0#32
  ![v2779.toNat, 0, 0]

def k0_chk463 (v2778 : BitVec 32) : Prop :=
  (∀ a, (k0_off926 v2778) a + S1x1x16.size a ≤ S32128x1x16.size a)
theorem k0_off926_inb : ∀ (v2778 : BitVec 32) (k0_hw463 : k0_chk463 v2778), ∀ a, (k0_off926 v2778) a + S1x1x16.size a ≤ S32128x1x16.size a := fun v2778 k0_hw463 => k0_hw463

def k0_off927 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2783 : Index := Scalar.indexCast arg6
  let c463 : Index := 463#32
  ![v2783.toNat, 463]
def k0_off928 (v2784 : BitVec 32) : Fin 3 → Nat :=
  let v2785 : Index := Scalar.indexCast v2784
  let c0_930 : Index := 0#32
  let c0_931 : Index := 0#32
  ![v2785.toNat, 0, 0]

def k0_chk464 (v2784 : BitVec 32) : Prop :=
  (∀ a, (k0_off928 v2784) a + S1x1x16.size a ≤ S32128x1x16.size a)
theorem k0_off928_inb : ∀ (v2784 : BitVec 32) (k0_hw464 : k0_chk464 v2784), ∀ a, (k0_off928 v2784) a + S1x1x16.size a ≤ S32128x1x16.size a := fun v2784 k0_hw464 => k0_hw464

def k0_off929 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2789 : Index := Scalar.indexCast arg6
  let c464 : Index := 464#32
  ![v2789.toNat, 464]
def k0_off930 (v2790 : BitVec 32) : Fin 3 → Nat :=
  let v2791 : Index := Scalar.indexCast v2790
  let c0_932 : Index := 0#32
  let c0_933 : Index := 0#32
  ![v2791.toNat, 0, 0]

def k0_chk465 (v2790 : BitVec 32) : Prop :=
  (∀ a, (k0_off930 v2790) a + S1x1x16.size a ≤ S32128x1x16.size a)
theorem k0_off930_inb : ∀ (v2790 : BitVec 32) (k0_hw465 : k0_chk465 v2790), ∀ a, (k0_off930 v2790) a + S1x1x16.size a ≤ S32128x1x16.size a := fun v2790 k0_hw465 => k0_hw465

def k0_off931 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2795 : Index := Scalar.indexCast arg6
  let c465 : Index := 465#32
  ![v2795.toNat, 465]
def k0_off932 (v2796 : BitVec 32) : Fin 3 → Nat :=
  let v2797 : Index := Scalar.indexCast v2796
  let c0_934 : Index := 0#32
  let c0_935 : Index := 0#32
  ![v2797.toNat, 0, 0]

def k0_chk466 (v2796 : BitVec 32) : Prop :=
  (∀ a, (k0_off932 v2796) a + S1x1x16.size a ≤ S32128x1x16.size a)
theorem k0_off932_inb : ∀ (v2796 : BitVec 32) (k0_hw466 : k0_chk466 v2796), ∀ a, (k0_off932 v2796) a + S1x1x16.size a ≤ S32128x1x16.size a := fun v2796 k0_hw466 => k0_hw466

def k0_off933 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2801 : Index := Scalar.indexCast arg6
  let c466 : Index := 466#32
  ![v2801.toNat, 466]
def k0_off934 (v2802 : BitVec 32) : Fin 3 → Nat :=
  let v2803 : Index := Scalar.indexCast v2802
  let c0_936 : Index := 0#32
  let c0_937 : Index := 0#32
  ![v2803.toNat, 0, 0]

def k0_chk467 (v2802 : BitVec 32) : Prop :=
  (∀ a, (k0_off934 v2802) a + S1x1x16.size a ≤ S32128x1x16.size a)
theorem k0_off934_inb : ∀ (v2802 : BitVec 32) (k0_hw467 : k0_chk467 v2802), ∀ a, (k0_off934 v2802) a + S1x1x16.size a ≤ S32128x1x16.size a := fun v2802 k0_hw467 => k0_hw467

def k0_off935 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2807 : Index := Scalar.indexCast arg6
  let c467 : Index := 467#32
  ![v2807.toNat, 467]
def k0_off936 (v2808 : BitVec 32) : Fin 3 → Nat :=
  let v2809 : Index := Scalar.indexCast v2808
  let c0_938 : Index := 0#32
  let c0_939 : Index := 0#32
  ![v2809.toNat, 0, 0]

def k0_chk468 (v2808 : BitVec 32) : Prop :=
  (∀ a, (k0_off936 v2808) a + S1x1x16.size a ≤ S32128x1x16.size a)
theorem k0_off936_inb : ∀ (v2808 : BitVec 32) (k0_hw468 : k0_chk468 v2808), ∀ a, (k0_off936 v2808) a + S1x1x16.size a ≤ S32128x1x16.size a := fun v2808 k0_hw468 => k0_hw468

def k0_off937 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2813 : Index := Scalar.indexCast arg6
  let c468 : Index := 468#32
  ![v2813.toNat, 468]
def k0_off938 (v2814 : BitVec 32) : Fin 3 → Nat :=
  let v2815 : Index := Scalar.indexCast v2814
  let c0_940 : Index := 0#32
  let c0_941 : Index := 0#32
  ![v2815.toNat, 0, 0]

def k0_chk469 (v2814 : BitVec 32) : Prop :=
  (∀ a, (k0_off938 v2814) a + S1x1x16.size a ≤ S32128x1x16.size a)
theorem k0_off938_inb : ∀ (v2814 : BitVec 32) (k0_hw469 : k0_chk469 v2814), ∀ a, (k0_off938 v2814) a + S1x1x16.size a ≤ S32128x1x16.size a := fun v2814 k0_hw469 => k0_hw469

def k0_off939 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2819 : Index := Scalar.indexCast arg6
  let c469 : Index := 469#32
  ![v2819.toNat, 469]
def k0_off940 (v2820 : BitVec 32) : Fin 3 → Nat :=
  let v2821 : Index := Scalar.indexCast v2820
  let c0_942 : Index := 0#32
  let c0_943 : Index := 0#32
  ![v2821.toNat, 0, 0]

def k0_chk470 (v2820 : BitVec 32) : Prop :=
  (∀ a, (k0_off940 v2820) a + S1x1x16.size a ≤ S32128x1x16.size a)
theorem k0_off940_inb : ∀ (v2820 : BitVec 32) (k0_hw470 : k0_chk470 v2820), ∀ a, (k0_off940 v2820) a + S1x1x16.size a ≤ S32128x1x16.size a := fun v2820 k0_hw470 => k0_hw470

def k0_off941 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2825 : Index := Scalar.indexCast arg6
  let c470 : Index := 470#32
  ![v2825.toNat, 470]
def k0_off942 (v2826 : BitVec 32) : Fin 3 → Nat :=
  let v2827 : Index := Scalar.indexCast v2826
  let c0_944 : Index := 0#32
  let c0_945 : Index := 0#32
  ![v2827.toNat, 0, 0]

def k0_chk471 (v2826 : BitVec 32) : Prop :=
  (∀ a, (k0_off942 v2826) a + S1x1x16.size a ≤ S32128x1x16.size a)
theorem k0_off942_inb : ∀ (v2826 : BitVec 32) (k0_hw471 : k0_chk471 v2826), ∀ a, (k0_off942 v2826) a + S1x1x16.size a ≤ S32128x1x16.size a := fun v2826 k0_hw471 => k0_hw471

def k0_off943 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2831 : Index := Scalar.indexCast arg6
  let c471 : Index := 471#32
  ![v2831.toNat, 471]
def k0_off944 (v2832 : BitVec 32) : Fin 3 → Nat :=
  let v2833 : Index := Scalar.indexCast v2832
  let c0_946 : Index := 0#32
  let c0_947 : Index := 0#32
  ![v2833.toNat, 0, 0]

def k0_chk472 (v2832 : BitVec 32) : Prop :=
  (∀ a, (k0_off944 v2832) a + S1x1x16.size a ≤ S32128x1x16.size a)
theorem k0_off944_inb : ∀ (v2832 : BitVec 32) (k0_hw472 : k0_chk472 v2832), ∀ a, (k0_off944 v2832) a + S1x1x16.size a ≤ S32128x1x16.size a := fun v2832 k0_hw472 => k0_hw472

def k0_off945 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2837 : Index := Scalar.indexCast arg6
  let c472 : Index := 472#32
  ![v2837.toNat, 472]
def k0_off946 (v2838 : BitVec 32) : Fin 3 → Nat :=
  let v2839 : Index := Scalar.indexCast v2838
  let c0_948 : Index := 0#32
  let c0_949 : Index := 0#32
  ![v2839.toNat, 0, 0]

def k0_chk473 (v2838 : BitVec 32) : Prop :=
  (∀ a, (k0_off946 v2838) a + S1x1x16.size a ≤ S32128x1x16.size a)
theorem k0_off946_inb : ∀ (v2838 : BitVec 32) (k0_hw473 : k0_chk473 v2838), ∀ a, (k0_off946 v2838) a + S1x1x16.size a ≤ S32128x1x16.size a := fun v2838 k0_hw473 => k0_hw473

def k0_off947 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2843 : Index := Scalar.indexCast arg6
  let c473 : Index := 473#32
  ![v2843.toNat, 473]
def k0_off948 (v2844 : BitVec 32) : Fin 3 → Nat :=
  let v2845 : Index := Scalar.indexCast v2844
  let c0_950 : Index := 0#32
  let c0_951 : Index := 0#32
  ![v2845.toNat, 0, 0]

def k0_chk474 (v2844 : BitVec 32) : Prop :=
  (∀ a, (k0_off948 v2844) a + S1x1x16.size a ≤ S32128x1x16.size a)
theorem k0_off948_inb : ∀ (v2844 : BitVec 32) (k0_hw474 : k0_chk474 v2844), ∀ a, (k0_off948 v2844) a + S1x1x16.size a ≤ S32128x1x16.size a := fun v2844 k0_hw474 => k0_hw474

def k0_off949 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2849 : Index := Scalar.indexCast arg6
  let c474 : Index := 474#32
  ![v2849.toNat, 474]
def k0_off950 (v2850 : BitVec 32) : Fin 3 → Nat :=
  let v2851 : Index := Scalar.indexCast v2850
  let c0_952 : Index := 0#32
  let c0_953 : Index := 0#32
  ![v2851.toNat, 0, 0]

def k0_chk475 (v2850 : BitVec 32) : Prop :=
  (∀ a, (k0_off950 v2850) a + S1x1x16.size a ≤ S32128x1x16.size a)
theorem k0_off950_inb : ∀ (v2850 : BitVec 32) (k0_hw475 : k0_chk475 v2850), ∀ a, (k0_off950 v2850) a + S1x1x16.size a ≤ S32128x1x16.size a := fun v2850 k0_hw475 => k0_hw475

def k0_off951 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2855 : Index := Scalar.indexCast arg6
  let c475 : Index := 475#32
  ![v2855.toNat, 475]
def k0_off952 (v2856 : BitVec 32) : Fin 3 → Nat :=
  let v2857 : Index := Scalar.indexCast v2856
  let c0_954 : Index := 0#32
  let c0_955 : Index := 0#32
  ![v2857.toNat, 0, 0]

def k0_chk476 (v2856 : BitVec 32) : Prop :=
  (∀ a, (k0_off952 v2856) a + S1x1x16.size a ≤ S32128x1x16.size a)
theorem k0_off952_inb : ∀ (v2856 : BitVec 32) (k0_hw476 : k0_chk476 v2856), ∀ a, (k0_off952 v2856) a + S1x1x16.size a ≤ S32128x1x16.size a := fun v2856 k0_hw476 => k0_hw476

def k0_off953 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2861 : Index := Scalar.indexCast arg6
  let c476 : Index := 476#32
  ![v2861.toNat, 476]
def k0_off954 (v2862 : BitVec 32) : Fin 3 → Nat :=
  let v2863 : Index := Scalar.indexCast v2862
  let c0_956 : Index := 0#32
  let c0_957 : Index := 0#32
  ![v2863.toNat, 0, 0]

def k0_chk477 (v2862 : BitVec 32) : Prop :=
  (∀ a, (k0_off954 v2862) a + S1x1x16.size a ≤ S32128x1x16.size a)
theorem k0_off954_inb : ∀ (v2862 : BitVec 32) (k0_hw477 : k0_chk477 v2862), ∀ a, (k0_off954 v2862) a + S1x1x16.size a ≤ S32128x1x16.size a := fun v2862 k0_hw477 => k0_hw477

def k0_off955 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2867 : Index := Scalar.indexCast arg6
  let c477 : Index := 477#32
  ![v2867.toNat, 477]
def k0_off956 (v2868 : BitVec 32) : Fin 3 → Nat :=
  let v2869 : Index := Scalar.indexCast v2868
  let c0_958 : Index := 0#32
  let c0_959 : Index := 0#32
  ![v2869.toNat, 0, 0]

def k0_chk478 (v2868 : BitVec 32) : Prop :=
  (∀ a, (k0_off956 v2868) a + S1x1x16.size a ≤ S32128x1x16.size a)
theorem k0_off956_inb : ∀ (v2868 : BitVec 32) (k0_hw478 : k0_chk478 v2868), ∀ a, (k0_off956 v2868) a + S1x1x16.size a ≤ S32128x1x16.size a := fun v2868 k0_hw478 => k0_hw478

def k0_off957 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2873 : Index := Scalar.indexCast arg6
  let c478 : Index := 478#32
  ![v2873.toNat, 478]
def k0_off958 (v2874 : BitVec 32) : Fin 3 → Nat :=
  let v2875 : Index := Scalar.indexCast v2874
  let c0_960 : Index := 0#32
  let c0_961 : Index := 0#32
  ![v2875.toNat, 0, 0]

def k0_chk479 (v2874 : BitVec 32) : Prop :=
  (∀ a, (k0_off958 v2874) a + S1x1x16.size a ≤ S32128x1x16.size a)
theorem k0_off958_inb : ∀ (v2874 : BitVec 32) (k0_hw479 : k0_chk479 v2874), ∀ a, (k0_off958 v2874) a + S1x1x16.size a ≤ S32128x1x16.size a := fun v2874 k0_hw479 => k0_hw479

def k0_off959 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2879 : Index := Scalar.indexCast arg6
  let c479 : Index := 479#32
  ![v2879.toNat, 479]
def k0_off960 (v2880 : BitVec 32) : Fin 3 → Nat :=
  let v2881 : Index := Scalar.indexCast v2880
  let c0_962 : Index := 0#32
  let c0_963 : Index := 0#32
  ![v2881.toNat, 0, 0]

def k0_chk480 (v2880 : BitVec 32) : Prop :=
  (∀ a, (k0_off960 v2880) a + S1x1x16.size a ≤ S32128x1x16.size a)
theorem k0_off960_inb : ∀ (v2880 : BitVec 32) (k0_hw480 : k0_chk480 v2880), ∀ a, (k0_off960 v2880) a + S1x1x16.size a ≤ S32128x1x16.size a := fun v2880 k0_hw480 => k0_hw480

def k0_off961 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2885 : Index := Scalar.indexCast arg6
  let c480 : Index := 480#32
  ![v2885.toNat, 480]
def k0_off962 (v2886 : BitVec 32) : Fin 3 → Nat :=
  let v2887 : Index := Scalar.indexCast v2886
  let c0_964 : Index := 0#32
  let c0_965 : Index := 0#32
  ![v2887.toNat, 0, 0]

def k0_chk481 (v2886 : BitVec 32) : Prop :=
  (∀ a, (k0_off962 v2886) a + S1x1x16.size a ≤ S32128x1x16.size a)
theorem k0_off962_inb : ∀ (v2886 : BitVec 32) (k0_hw481 : k0_chk481 v2886), ∀ a, (k0_off962 v2886) a + S1x1x16.size a ≤ S32128x1x16.size a := fun v2886 k0_hw481 => k0_hw481

def k0_off963 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2891 : Index := Scalar.indexCast arg6
  let c481 : Index := 481#32
  ![v2891.toNat, 481]
def k0_off964 (v2892 : BitVec 32) : Fin 3 → Nat :=
  let v2893 : Index := Scalar.indexCast v2892
  let c0_966 : Index := 0#32
  let c0_967 : Index := 0#32
  ![v2893.toNat, 0, 0]

def k0_chk482 (v2892 : BitVec 32) : Prop :=
  (∀ a, (k0_off964 v2892) a + S1x1x16.size a ≤ S32128x1x16.size a)
theorem k0_off964_inb : ∀ (v2892 : BitVec 32) (k0_hw482 : k0_chk482 v2892), ∀ a, (k0_off964 v2892) a + S1x1x16.size a ≤ S32128x1x16.size a := fun v2892 k0_hw482 => k0_hw482

def k0_off965 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2897 : Index := Scalar.indexCast arg6
  let c482 : Index := 482#32
  ![v2897.toNat, 482]
def k0_off966 (v2898 : BitVec 32) : Fin 3 → Nat :=
  let v2899 : Index := Scalar.indexCast v2898
  let c0_968 : Index := 0#32
  let c0_969 : Index := 0#32
  ![v2899.toNat, 0, 0]

def k0_chk483 (v2898 : BitVec 32) : Prop :=
  (∀ a, (k0_off966 v2898) a + S1x1x16.size a ≤ S32128x1x16.size a)
theorem k0_off966_inb : ∀ (v2898 : BitVec 32) (k0_hw483 : k0_chk483 v2898), ∀ a, (k0_off966 v2898) a + S1x1x16.size a ≤ S32128x1x16.size a := fun v2898 k0_hw483 => k0_hw483

def k0_off967 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2903 : Index := Scalar.indexCast arg6
  let c483 : Index := 483#32
  ![v2903.toNat, 483]
def k0_off968 (v2904 : BitVec 32) : Fin 3 → Nat :=
  let v2905 : Index := Scalar.indexCast v2904
  let c0_970 : Index := 0#32
  let c0_971 : Index := 0#32
  ![v2905.toNat, 0, 0]

def k0_chk484 (v2904 : BitVec 32) : Prop :=
  (∀ a, (k0_off968 v2904) a + S1x1x16.size a ≤ S32128x1x16.size a)
theorem k0_off968_inb : ∀ (v2904 : BitVec 32) (k0_hw484 : k0_chk484 v2904), ∀ a, (k0_off968 v2904) a + S1x1x16.size a ≤ S32128x1x16.size a := fun v2904 k0_hw484 => k0_hw484

def k0_off969 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2909 : Index := Scalar.indexCast arg6
  let c484 : Index := 484#32
  ![v2909.toNat, 484]
def k0_off970 (v2910 : BitVec 32) : Fin 3 → Nat :=
  let v2911 : Index := Scalar.indexCast v2910
  let c0_972 : Index := 0#32
  let c0_973 : Index := 0#32
  ![v2911.toNat, 0, 0]

def k0_chk485 (v2910 : BitVec 32) : Prop :=
  (∀ a, (k0_off970 v2910) a + S1x1x16.size a ≤ S32128x1x16.size a)
theorem k0_off970_inb : ∀ (v2910 : BitVec 32) (k0_hw485 : k0_chk485 v2910), ∀ a, (k0_off970 v2910) a + S1x1x16.size a ≤ S32128x1x16.size a := fun v2910 k0_hw485 => k0_hw485

def k0_off971 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2915 : Index := Scalar.indexCast arg6
  let c485 : Index := 485#32
  ![v2915.toNat, 485]
def k0_off972 (v2916 : BitVec 32) : Fin 3 → Nat :=
  let v2917 : Index := Scalar.indexCast v2916
  let c0_974 : Index := 0#32
  let c0_975 : Index := 0#32
  ![v2917.toNat, 0, 0]

def k0_chk486 (v2916 : BitVec 32) : Prop :=
  (∀ a, (k0_off972 v2916) a + S1x1x16.size a ≤ S32128x1x16.size a)
theorem k0_off972_inb : ∀ (v2916 : BitVec 32) (k0_hw486 : k0_chk486 v2916), ∀ a, (k0_off972 v2916) a + S1x1x16.size a ≤ S32128x1x16.size a := fun v2916 k0_hw486 => k0_hw486

def k0_off973 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2921 : Index := Scalar.indexCast arg6
  let c486 : Index := 486#32
  ![v2921.toNat, 486]
def k0_off974 (v2922 : BitVec 32) : Fin 3 → Nat :=
  let v2923 : Index := Scalar.indexCast v2922
  let c0_976 : Index := 0#32
  let c0_977 : Index := 0#32
  ![v2923.toNat, 0, 0]

def k0_chk487 (v2922 : BitVec 32) : Prop :=
  (∀ a, (k0_off974 v2922) a + S1x1x16.size a ≤ S32128x1x16.size a)
theorem k0_off974_inb : ∀ (v2922 : BitVec 32) (k0_hw487 : k0_chk487 v2922), ∀ a, (k0_off974 v2922) a + S1x1x16.size a ≤ S32128x1x16.size a := fun v2922 k0_hw487 => k0_hw487

def k0_off975 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2927 : Index := Scalar.indexCast arg6
  let c487 : Index := 487#32
  ![v2927.toNat, 487]
def k0_off976 (v2928 : BitVec 32) : Fin 3 → Nat :=
  let v2929 : Index := Scalar.indexCast v2928
  let c0_978 : Index := 0#32
  let c0_979 : Index := 0#32
  ![v2929.toNat, 0, 0]

def k0_chk488 (v2928 : BitVec 32) : Prop :=
  (∀ a, (k0_off976 v2928) a + S1x1x16.size a ≤ S32128x1x16.size a)
theorem k0_off976_inb : ∀ (v2928 : BitVec 32) (k0_hw488 : k0_chk488 v2928), ∀ a, (k0_off976 v2928) a + S1x1x16.size a ≤ S32128x1x16.size a := fun v2928 k0_hw488 => k0_hw488

def k0_off977 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2933 : Index := Scalar.indexCast arg6
  let c488 : Index := 488#32
  ![v2933.toNat, 488]
def k0_off978 (v2934 : BitVec 32) : Fin 3 → Nat :=
  let v2935 : Index := Scalar.indexCast v2934
  let c0_980 : Index := 0#32
  let c0_981 : Index := 0#32
  ![v2935.toNat, 0, 0]

def k0_chk489 (v2934 : BitVec 32) : Prop :=
  (∀ a, (k0_off978 v2934) a + S1x1x16.size a ≤ S32128x1x16.size a)
theorem k0_off978_inb : ∀ (v2934 : BitVec 32) (k0_hw489 : k0_chk489 v2934), ∀ a, (k0_off978 v2934) a + S1x1x16.size a ≤ S32128x1x16.size a := fun v2934 k0_hw489 => k0_hw489

def k0_off979 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2939 : Index := Scalar.indexCast arg6
  let c489 : Index := 489#32
  ![v2939.toNat, 489]
def k0_off980 (v2940 : BitVec 32) : Fin 3 → Nat :=
  let v2941 : Index := Scalar.indexCast v2940
  let c0_982 : Index := 0#32
  let c0_983 : Index := 0#32
  ![v2941.toNat, 0, 0]

def k0_chk490 (v2940 : BitVec 32) : Prop :=
  (∀ a, (k0_off980 v2940) a + S1x1x16.size a ≤ S32128x1x16.size a)
theorem k0_off980_inb : ∀ (v2940 : BitVec 32) (k0_hw490 : k0_chk490 v2940), ∀ a, (k0_off980 v2940) a + S1x1x16.size a ≤ S32128x1x16.size a := fun v2940 k0_hw490 => k0_hw490

def k0_off981 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2945 : Index := Scalar.indexCast arg6
  let c490 : Index := 490#32
  ![v2945.toNat, 490]
def k0_off982 (v2946 : BitVec 32) : Fin 3 → Nat :=
  let v2947 : Index := Scalar.indexCast v2946
  let c0_984 : Index := 0#32
  let c0_985 : Index := 0#32
  ![v2947.toNat, 0, 0]

def k0_chk491 (v2946 : BitVec 32) : Prop :=
  (∀ a, (k0_off982 v2946) a + S1x1x16.size a ≤ S32128x1x16.size a)
theorem k0_off982_inb : ∀ (v2946 : BitVec 32) (k0_hw491 : k0_chk491 v2946), ∀ a, (k0_off982 v2946) a + S1x1x16.size a ≤ S32128x1x16.size a := fun v2946 k0_hw491 => k0_hw491

def k0_off983 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2951 : Index := Scalar.indexCast arg6
  let c491 : Index := 491#32
  ![v2951.toNat, 491]
def k0_off984 (v2952 : BitVec 32) : Fin 3 → Nat :=
  let v2953 : Index := Scalar.indexCast v2952
  let c0_986 : Index := 0#32
  let c0_987 : Index := 0#32
  ![v2953.toNat, 0, 0]

def k0_chk492 (v2952 : BitVec 32) : Prop :=
  (∀ a, (k0_off984 v2952) a + S1x1x16.size a ≤ S32128x1x16.size a)
theorem k0_off984_inb : ∀ (v2952 : BitVec 32) (k0_hw492 : k0_chk492 v2952), ∀ a, (k0_off984 v2952) a + S1x1x16.size a ≤ S32128x1x16.size a := fun v2952 k0_hw492 => k0_hw492

def k0_off985 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2957 : Index := Scalar.indexCast arg6
  let c492 : Index := 492#32
  ![v2957.toNat, 492]
def k0_off986 (v2958 : BitVec 32) : Fin 3 → Nat :=
  let v2959 : Index := Scalar.indexCast v2958
  let c0_988 : Index := 0#32
  let c0_989 : Index := 0#32
  ![v2959.toNat, 0, 0]

def k0_chk493 (v2958 : BitVec 32) : Prop :=
  (∀ a, (k0_off986 v2958) a + S1x1x16.size a ≤ S32128x1x16.size a)
theorem k0_off986_inb : ∀ (v2958 : BitVec 32) (k0_hw493 : k0_chk493 v2958), ∀ a, (k0_off986 v2958) a + S1x1x16.size a ≤ S32128x1x16.size a := fun v2958 k0_hw493 => k0_hw493

def k0_off987 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2963 : Index := Scalar.indexCast arg6
  let c493 : Index := 493#32
  ![v2963.toNat, 493]
def k0_off988 (v2964 : BitVec 32) : Fin 3 → Nat :=
  let v2965 : Index := Scalar.indexCast v2964
  let c0_990 : Index := 0#32
  let c0_991 : Index := 0#32
  ![v2965.toNat, 0, 0]

def k0_chk494 (v2964 : BitVec 32) : Prop :=
  (∀ a, (k0_off988 v2964) a + S1x1x16.size a ≤ S32128x1x16.size a)
theorem k0_off988_inb : ∀ (v2964 : BitVec 32) (k0_hw494 : k0_chk494 v2964), ∀ a, (k0_off988 v2964) a + S1x1x16.size a ≤ S32128x1x16.size a := fun v2964 k0_hw494 => k0_hw494

def k0_off989 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2969 : Index := Scalar.indexCast arg6
  let c494 : Index := 494#32
  ![v2969.toNat, 494]
def k0_off990 (v2970 : BitVec 32) : Fin 3 → Nat :=
  let v2971 : Index := Scalar.indexCast v2970
  let c0_992 : Index := 0#32
  let c0_993 : Index := 0#32
  ![v2971.toNat, 0, 0]

def k0_chk495 (v2970 : BitVec 32) : Prop :=
  (∀ a, (k0_off990 v2970) a + S1x1x16.size a ≤ S32128x1x16.size a)
theorem k0_off990_inb : ∀ (v2970 : BitVec 32) (k0_hw495 : k0_chk495 v2970), ∀ a, (k0_off990 v2970) a + S1x1x16.size a ≤ S32128x1x16.size a := fun v2970 k0_hw495 => k0_hw495

def k0_off991 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2975 : Index := Scalar.indexCast arg6
  let c495 : Index := 495#32
  ![v2975.toNat, 495]
def k0_off992 (v2976 : BitVec 32) : Fin 3 → Nat :=
  let v2977 : Index := Scalar.indexCast v2976
  let c0_994 : Index := 0#32
  let c0_995 : Index := 0#32
  ![v2977.toNat, 0, 0]

def k0_chk496 (v2976 : BitVec 32) : Prop :=
  (∀ a, (k0_off992 v2976) a + S1x1x16.size a ≤ S32128x1x16.size a)
theorem k0_off992_inb : ∀ (v2976 : BitVec 32) (k0_hw496 : k0_chk496 v2976), ∀ a, (k0_off992 v2976) a + S1x1x16.size a ≤ S32128x1x16.size a := fun v2976 k0_hw496 => k0_hw496

def k0_off993 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2981 : Index := Scalar.indexCast arg6
  let c496 : Index := 496#32
  ![v2981.toNat, 496]
def k0_off994 (v2982 : BitVec 32) : Fin 3 → Nat :=
  let v2983 : Index := Scalar.indexCast v2982
  let c0_996 : Index := 0#32
  let c0_997 : Index := 0#32
  ![v2983.toNat, 0, 0]

def k0_chk497 (v2982 : BitVec 32) : Prop :=
  (∀ a, (k0_off994 v2982) a + S1x1x16.size a ≤ S32128x1x16.size a)
theorem k0_off994_inb : ∀ (v2982 : BitVec 32) (k0_hw497 : k0_chk497 v2982), ∀ a, (k0_off994 v2982) a + S1x1x16.size a ≤ S32128x1x16.size a := fun v2982 k0_hw497 => k0_hw497

def k0_off995 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2987 : Index := Scalar.indexCast arg6
  let c497 : Index := 497#32
  ![v2987.toNat, 497]
def k0_off996 (v2988 : BitVec 32) : Fin 3 → Nat :=
  let v2989 : Index := Scalar.indexCast v2988
  let c0_998 : Index := 0#32
  let c0_999 : Index := 0#32
  ![v2989.toNat, 0, 0]

def k0_chk498 (v2988 : BitVec 32) : Prop :=
  (∀ a, (k0_off996 v2988) a + S1x1x16.size a ≤ S32128x1x16.size a)
theorem k0_off996_inb : ∀ (v2988 : BitVec 32) (k0_hw498 : k0_chk498 v2988), ∀ a, (k0_off996 v2988) a + S1x1x16.size a ≤ S32128x1x16.size a := fun v2988 k0_hw498 => k0_hw498

def k0_off997 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2993 : Index := Scalar.indexCast arg6
  let c498 : Index := 498#32
  ![v2993.toNat, 498]
def k0_off998 (v2994 : BitVec 32) : Fin 3 → Nat :=
  let v2995 : Index := Scalar.indexCast v2994
  let c0_1000 : Index := 0#32
  let c0_1001 : Index := 0#32
  ![v2995.toNat, 0, 0]

def k0_chk499 (v2994 : BitVec 32) : Prop :=
  (∀ a, (k0_off998 v2994) a + S1x1x16.size a ≤ S32128x1x16.size a)
theorem k0_off998_inb : ∀ (v2994 : BitVec 32) (k0_hw499 : k0_chk499 v2994), ∀ a, (k0_off998 v2994) a + S1x1x16.size a ≤ S32128x1x16.size a := fun v2994 k0_hw499 => k0_hw499

def k0_off999 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2999 : Index := Scalar.indexCast arg6
  let c499 : Index := 499#32
  ![v2999.toNat, 499]
def k0_off1000 (v3000 : BitVec 32) : Fin 3 → Nat :=
  let v3001 : Index := Scalar.indexCast v3000
  let c0_1002 : Index := 0#32
  let c0_1003 : Index := 0#32
  ![v3001.toNat, 0, 0]

def k0_chk500 (v3000 : BitVec 32) : Prop :=
  (∀ a, (k0_off1000 v3000) a + S1x1x16.size a ≤ S32128x1x16.size a)
theorem k0_off1000_inb : ∀ (v3000 : BitVec 32) (k0_hw500 : k0_chk500 v3000), ∀ a, (k0_off1000 v3000) a + S1x1x16.size a ≤ S32128x1x16.size a := fun v3000 k0_hw500 => k0_hw500

def k0_off1001 (k0_t1 : Fin k0_t1_loop.trips) : Fin 2 → Nat :=
  let c0_i32 : BitVec 32 := 0#32
  let c1_i32 : BitVec 32 := 1#32
  let arg6 : BitVec 32 := Scf.iv c0_i32 c1_i32 k0_t1
  let v3005 : Index := Scalar.indexCast arg6
  let c500 : Index := 500#32
  ![v3005.toNat, 500]
def k0_off1002 (v3006 : BitVec 32) : Fin 3 → Nat :=
  let v3007 : Index := Scalar.indexCast v3006
  let c0_1004 : Index := 0#32
  let c0_1005 : Index := 0#32
  ![v3007.toNat, 0, 0]

def k0_chk501 (v3006 : BitVec 32) : Prop :=
  (∀ a, (k0_off1002 v3006) a + S1x1x16.size a ≤ S32128x1x16.size a)
theorem k0_off1002_inb : ∀ (v3006 : BitVec 32) (k0_hw501 : k0_chk501 v3006), ∀ a, (k0_off1002 v3006) a + S1x1x16.size a ≤ S32128x1x16.size a := fun v3006 k0_hw501 => k0_hw501

def k0_off1003 (k0_t1 : Fin k0_t1_loop.trips) : Fin 2 → Nat :=
  let c0_i32 : BitVec 32 := 0#32
  let c1_i32 : BitVec 32 := 1#32
  let arg6 : BitVec 32 := Scf.iv c0_i32 c1_i32 k0_t1
  let v3011 : Index := Scalar.indexCast arg6
  let c501 : Index := 501#32
  ![v3011.toNat, 501]
def k0_off1004 (v3012 : BitVec 32) : Fin 3 → Nat :=
  let v3013 : Index := Scalar.indexCast v3012
  let c0_1006 : Index := 0#32
  let c0_1007 : Index := 0#32
  ![v3013.toNat, 0, 0]

def k0_chk502 (v3012 : BitVec 32) : Prop :=
  (∀ a, (k0_off1004 v3012) a + S1x1x16.size a ≤ S32128x1x16.size a)
theorem k0_off1004_inb : ∀ (v3012 : BitVec 32) (k0_hw502 : k0_chk502 v3012), ∀ a, (k0_off1004 v3012) a + S1x1x16.size a ≤ S32128x1x16.size a := fun v3012 k0_hw502 => k0_hw502

def k0_off1005 (k0_t1 : Fin k0_t1_loop.trips) : Fin 2 → Nat :=
  let c0_i32 : BitVec 32 := 0#32
  let c1_i32 : BitVec 32 := 1#32
  let arg6 : BitVec 32 := Scf.iv c0_i32 c1_i32 k0_t1
  let v3017 : Index := Scalar.indexCast arg6
  let c502 : Index := 502#32
  ![v3017.toNat, 502]
def k0_off1006 (v3018 : BitVec 32) : Fin 3 → Nat :=
  let v3019 : Index := Scalar.indexCast v3018
  let c0_1008 : Index := 0#32
  let c0_1009 : Index := 0#32
  ![v3019.toNat, 0, 0]

def k0_chk503 (v3018 : BitVec 32) : Prop :=
  (∀ a, (k0_off1006 v3018) a + S1x1x16.size a ≤ S32128x1x16.size a)
theorem k0_off1006_inb : ∀ (v3018 : BitVec 32) (k0_hw503 : k0_chk503 v3018), ∀ a, (k0_off1006 v3018) a + S1x1x16.size a ≤ S32128x1x16.size a := fun v3018 k0_hw503 => k0_hw503

def k0_off1007 (k0_t1 : Fin k0_t1_loop.trips) : Fin 2 → Nat :=
  let c0_i32 : BitVec 32 := 0#32
  let c1_i32 : BitVec 32 := 1#32
  let arg6 : BitVec 32 := Scf.iv c0_i32 c1_i32 k0_t1
  let v3023 : Index := Scalar.indexCast arg6
  let c503 : Index := 503#32
  ![v3023.toNat, 503]
def k0_off1008 (v3024 : BitVec 32) : Fin 3 → Nat :=
  let v3025 : Index := Scalar.indexCast v3024
  let c0_1010 : Index := 0#32
  let c0_1011 : Index := 0#32
  ![v3025.toNat, 0, 0]

def k0_chk504 (v3024 : BitVec 32) : Prop :=
  (∀ a, (k0_off1008 v3024) a + S1x1x16.size a ≤ S32128x1x16.size a)
theorem k0_off1008_inb : ∀ (v3024 : BitVec 32) (k0_hw504 : k0_chk504 v3024), ∀ a, (k0_off1008 v3024) a + S1x1x16.size a ≤ S32128x1x16.size a := fun v3024 k0_hw504 => k0_hw504

def k0_off1009 (k0_t1 : Fin k0_t1_loop.trips) : Fin 2 → Nat :=
  let c0_i32 : BitVec 32 := 0#32
  let c1_i32 : BitVec 32 := 1#32
  let arg6 : BitVec 32 := Scf.iv c0_i32 c1_i32 k0_t1
  let v3029 : Index := Scalar.indexCast arg6
  let c504 : Index := 504#32
  ![v3029.toNat, 504]
def k0_off1010 (v3030 : BitVec 32) : Fin 3 → Nat :=
  let v3031 : Index := Scalar.indexCast v3030
  let c0_1012 : Index := 0#32
  let c0_1013 : Index := 0#32
  ![v3031.toNat, 0, 0]

def k0_chk505 (v3030 : BitVec 32) : Prop :=
  (∀ a, (k0_off1010 v3030) a + S1x1x16.size a ≤ S32128x1x16.size a)
theorem k0_off1010_inb : ∀ (v3030 : BitVec 32) (k0_hw505 : k0_chk505 v3030), ∀ a, (k0_off1010 v3030) a + S1x1x16.size a ≤ S32128x1x16.size a := fun v3030 k0_hw505 => k0_hw505

def k0_off1011 (k0_t1 : Fin k0_t1_loop.trips) : Fin 2 → Nat :=
  let c0_i32 : BitVec 32 := 0#32
  let c1_i32 : BitVec 32 := 1#32
  let arg6 : BitVec 32 := Scf.iv c0_i32 c1_i32 k0_t1
  let v3035 : Index := Scalar.indexCast arg6
  let c505 : Index := 505#32
  ![v3035.toNat, 505]
def k0_off1012 (v3036 : BitVec 32) : Fin 3 → Nat :=
  let v3037 : Index := Scalar.indexCast v3036
  let c0_1014 : Index := 0#32
  let c0_1015 : Index := 0#32
  ![v3037.toNat, 0, 0]

def k0_chk506 (v3036 : BitVec 32) : Prop :=
  (∀ a, (k0_off1012 v3036) a + S1x1x16.size a ≤ S32128x1x16.size a)
theorem k0_off1012_inb : ∀ (v3036 : BitVec 32) (k0_hw506 : k0_chk506 v3036), ∀ a, (k0_off1012 v3036) a + S1x1x16.size a ≤ S32128x1x16.size a := fun v3036 k0_hw506 => k0_hw506

def k0_off1013 (k0_t1 : Fin k0_t1_loop.trips) : Fin 2 → Nat :=
  let c0_i32 : BitVec 32 := 0#32
  let c1_i32 : BitVec 32 := 1#32
  let arg6 : BitVec 32 := Scf.iv c0_i32 c1_i32 k0_t1
  let v3041 : Index := Scalar.indexCast arg6
  let c506 : Index := 506#32
  ![v3041.toNat, 506]
def k0_off1014 (v3042 : BitVec 32) : Fin 3 → Nat :=
  let v3043 : Index := Scalar.indexCast v3042
  let c0_1016 : Index := 0#32
  let c0_1017 : Index := 0#32
  ![v3043.toNat, 0, 0]

def k0_chk507 (v3042 : BitVec 32) : Prop :=
  (∀ a, (k0_off1014 v3042) a + S1x1x16.size a ≤ S32128x1x16.size a)
theorem k0_off1014_inb : ∀ (v3042 : BitVec 32) (k0_hw507 : k0_chk507 v3042), ∀ a, (k0_off1014 v3042) a + S1x1x16.size a ≤ S32128x1x16.size a := fun v3042 k0_hw507 => k0_hw507

def k0_off1015 (k0_t1 : Fin k0_t1_loop.trips) : Fin 2 → Nat :=
  let c0_i32 : BitVec 32 := 0#32
  let c1_i32 : BitVec 32 := 1#32
  let arg6 : BitVec 32 := Scf.iv c0_i32 c1_i32 k0_t1
  let v3047 : Index := Scalar.indexCast arg6
  let c507 : Index := 507#32
  ![v3047.toNat, 507]
def k0_off1016 (v3048 : BitVec 32) : Fin 3 → Nat :=
  let v3049 : Index := Scalar.indexCast v3048
  let c0_1018 : Index := 0#32
  let c0_1019 : Index := 0#32
  ![v3049.toNat, 0, 0]

def k0_chk508 (v3048 : BitVec 32) : Prop :=
  (∀ a, (k0_off1016 v3048) a + S1x1x16.size a ≤ S32128x1x16.size a)
theorem k0_off1016_inb : ∀ (v3048 : BitVec 32) (k0_hw508 : k0_chk508 v3048), ∀ a, (k0_off1016 v3048) a + S1x1x16.size a ≤ S32128x1x16.size a := fun v3048 k0_hw508 => k0_hw508

def k0_off1017 (k0_t1 : Fin k0_t1_loop.trips) : Fin 2 → Nat :=
  let c0_i32 : BitVec 32 := 0#32
  let c1_i32 : BitVec 32 := 1#32
  let arg6 : BitVec 32 := Scf.iv c0_i32 c1_i32 k0_t1
  let v3053 : Index := Scalar.indexCast arg6
  let c508 : Index := 508#32
  ![v3053.toNat, 508]
def k0_off1018 (v3054 : BitVec 32) : Fin 3 → Nat :=
  let v3055 : Index := Scalar.indexCast v3054
  let c0_1020 : Index := 0#32
  let c0_1021 : Index := 0#32
  ![v3055.toNat, 0, 0]

def k0_chk509 (v3054 : BitVec 32) : Prop :=
  (∀ a, (k0_off1018 v3054) a + S1x1x16.size a ≤ S32128x1x16.size a)
theorem k0_off1018_inb : ∀ (v3054 : BitVec 32) (k0_hw509 : k0_chk509 v3054), ∀ a, (k0_off1018 v3054) a + S1x1x16.size a ≤ S32128x1x16.size a := fun v3054 k0_hw509 => k0_hw509

def k0_off1019 (k0_t1 : Fin k0_t1_loop.trips) : Fin 2 → Nat :=
  let c0_i32 : BitVec 32 := 0#32
  let c1_i32 : BitVec 32 := 1#32
  let arg6 : BitVec 32 := Scf.iv c0_i32 c1_i32 k0_t1
  let v3059 : Index := Scalar.indexCast arg6
  let c509 : Index := 509#32
  ![v3059.toNat, 509]
def k0_off1020 (v3060 : BitVec 32) : Fin 3 → Nat :=
  let v3061 : Index := Scalar.indexCast v3060
  let c0_1022 : Index := 0#32
  let c0_1023 : Index := 0#32
  ![v3061.toNat, 0, 0]

def k0_chk510 (v3060 : BitVec 32) : Prop :=
  (∀ a, (k0_off1020 v3060) a + S1x1x16.size a ≤ S32128x1x16.size a)
theorem k0_off1020_inb : ∀ (v3060 : BitVec 32) (k0_hw510 : k0_chk510 v3060), ∀ a, (k0_off1020 v3060) a + S1x1x16.size a ≤ S32128x1x16.size a := fun v3060 k0_hw510 => k0_hw510

def k0_off1021 (k0_t1 : Fin k0_t1_loop.trips) : Fin 2 → Nat :=
  let c0_i32 : BitVec 32 := 0#32
  let c1_i32 : BitVec 32 := 1#32
  let arg6 : BitVec 32 := Scf.iv c0_i32 c1_i32 k0_t1
  let v3065 : Index := Scalar.indexCast arg6
  let c510 : Index := 510#32
  ![v3065.toNat, 510]
def k0_off1022 (v3066 : BitVec 32) : Fin 3 → Nat :=
  let v3067 : Index := Scalar.indexCast v3066
  let c0_1024 : Index := 0#32
  let c0_1025 : Index := 0#32
  ![v3067.toNat, 0, 0]

def k0_chk511 (v3066 : BitVec 32) : Prop :=
  (∀ a, (k0_off1022 v3066) a + S1x1x16.size a ≤ S32128x1x16.size a)
theorem k0_off1022_inb : ∀ (v3066 : BitVec 32) (k0_hw511 : k0_chk511 v3066), ∀ a, (k0_off1022 v3066) a + S1x1x16.size a ≤ S32128x1x16.size a := fun v3066 k0_hw511 => k0_hw511

def k0_off1023 (k0_t1 : Fin k0_t1_loop.trips) : Fin 2 → Nat :=
  let c0_i32 : BitVec 32 := 0#32
  let c1_i32 : BitVec 32 := 1#32
  let arg6 : BitVec 32 := Scf.iv c0_i32 c1_i32 k0_t1
  let v3071 : Index := Scalar.indexCast arg6
  let c511 : Index := 511#32
  ![v3071.toNat, 511]
def k0_off1024 (v3072 : BitVec 32) : Fin 3 → Nat :=
  let v3073 : Index := Scalar.indexCast v3072
  let c0_1026 : Index := 0#32
  let c0_1027 : Index := 0#32
  ![v3073.toNat, 0, 0]

def k0_chk512 (v3072 : BitVec 32) : Prop :=
  (∀ a, (k0_off1024 v3072) a + S1x1x16.size a ≤ S32128x1x16.size a)
theorem k0_off1024_inb : ∀ (v3072 : BitVec 32) (k0_hw512 : k0_chk512 v3072), ∀ a, (k0_off1024 v3072) a + S1x1x16.size a ≤ S32128x1x16.size a := fun v3072 k0_hw512 => k0_hw512

def k0_off1025 (k0_t1 : Fin k0_t1_loop.trips) : Fin 3 → Nat :=
  let c0_i32 : BitVec 32 := 0#32
  let c1_i32 : BitVec 32 := 1#32
  let arg6 : BitVec 32 := Scf.iv c0_i32 c1_i32 k0_t1
  let v3080 : Index := Scalar.indexCast arg6
  let c0_1028 : Index := 0#32
  let c0_1029 : Index := 0#32
  ![v3080.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32128x1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x1x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1024x16 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1024x16 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== ReferenceIdeal.lean ====
abbrev S2048x512 : Shape := ⟨2, ![2048, 512]⟩
abbrev S16x32128 : Shape := ⟨2, ![16, 32128]⟩
abbrev S16 : Shape := ⟨1, ![16]⟩
abbrev S16x16 : Shape := ⟨2, ![16, 16]⟩
abbrev S_ : Shape := ⟨0, ![]⟩
abbrev S2048x32128 : Shape := ⟨2, ![2048, 32128]⟩
abbrev S2048 : Shape := ⟨1, ![2048]⟩
abbrev S2048x1 : Shape := ⟨2, ![2048, 1]⟩
abbrev S2048x512x1 : Shape := ⟨3, ![2048, 512, 1]⟩
abbrev S2048x512x2 : Shape := ⟨3, ![2048, 512, 2]⟩
abbrev S32128x16 : Shape := ⟨2, ![32128, 16]⟩
abbrev S2048x16 : Shape := ⟨2, ![2048, 16]⟩
abbrev S1x16 : Shape := ⟨2, ![1, 16]⟩

abbrev nBuf : Space → Nat
  | .hbm => 50
  | .vmem => 0
  | .smem => 0
  | _ => 0

abbrev bufTy : (tb : Table) → Fin (tcTables nBuf tb) → BufTy
  | .hbm, ⟨0, _⟩ => ⟨S2048x512, .i32⟩
  | .hbm, ⟨1, _⟩ => ⟨S16x32128, .f32⟩
  | .hbm, ⟨2, _⟩ => ⟨S16, .f32⟩
  | .hbm, ⟨3, _⟩ => ⟨S16x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S_, .f32⟩
  | .hbm, ⟨8, _⟩ => ⟨S2048x32128, .f32⟩
  | .hbm, ⟨9, _⟩ => ⟨S2048, .i32⟩
  | .hbm, ⟨10, _⟩ => ⟨S2048x1, .i32⟩
  | .hbm, ⟨11, _⟩ => ⟨S_, .i32⟩
  | .hbm, ⟨12, _⟩ => ⟨S2048x1, .i32⟩
  | .hbm, ⟨13, _⟩ => ⟨S2048x1, .i1⟩
  | .hbm, ⟨14, _⟩ => ⟨S_, .i32⟩
  | .hbm, ⟨15, _⟩ => ⟨S2048x1, .i32⟩
  | .hbm, ⟨16, _⟩ => ⟨S2048x1, .i32⟩
  | .hbm, ⟨17, _⟩ => ⟨S2048x1, .i32⟩
  | .hbm, ⟨18, _⟩ => ⟨S_, .i32⟩
  | .hbm, ⟨19, _⟩ => ⟨S2048x512, .i32⟩
  | .hbm, ⟨20, _⟩ => ⟨S2048x512, .i1⟩
  | .hbm, ⟨21, _⟩ => ⟨S_, .i32⟩
  | .hbm, ⟨22, _⟩ => ⟨S2048x512, .i32⟩
  | .hbm, ⟨23, _⟩ => ⟨S2048x512, .i32⟩
  | .hbm, ⟨24, _⟩ => ⟨S2048x512, .i32⟩
  | .hbm, ⟨25, _⟩ => ⟨S2048x512, .i32⟩
  | .hbm, ⟨26, _⟩ => ⟨S2048x512x1, .i32⟩
  | .hbm, ⟨27, _⟩ => ⟨S2048x512x1, .i32⟩
  | .hbm, ⟨28, _⟩ => ⟨S2048x512x2, .i32⟩
  | .hbm, ⟨29, _⟩ => ⟨S_, .f32⟩
  | .hbm, ⟨30, _⟩ => ⟨S2048x512, .f32⟩
  | .hbm, ⟨31, _⟩ => ⟨S2048x32128, .f32⟩
  | .hbm, ⟨32, _⟩ => ⟨S32128x16, .f32⟩
  | .hbm, ⟨33, _⟩ => ⟨S2048x16, .f32⟩
  | .hbm, ⟨34, _⟩ => ⟨S1x16, .f32⟩
  | .hbm, ⟨35, _⟩ => ⟨S2048x16, .f32⟩
  | .hbm, ⟨36, _⟩ => ⟨S2048x16, .f32⟩
  | .hbm, ⟨37, _⟩ => ⟨S_, .f32⟩
  | .hbm, ⟨38, _⟩ => ⟨S2048x16, .f32⟩
  | .hbm, ⟨39, _⟩ => ⟨S2048x16, .f32⟩
  | .hbm, ⟨40, _⟩ => ⟨S16x16, .f32⟩
  | .hbm, ⟨41, _⟩ => ⟨S2048x16, .f32⟩
  | .hbm, ⟨42, _⟩ => ⟨S1x16, .f32⟩
  | .hbm, ⟨43, _⟩ => ⟨S2048x16, .f32⟩
  | .hbm, ⟨44, _⟩ => ⟨S2048x16, .f32⟩
  | .hbm, ⟨45, _⟩ => ⟨S16x16, .f32⟩
  | .hbm, ⟨46, _⟩ => ⟨S2048x16, .f32⟩
  | .hbm, ⟨47, _⟩ => ⟨S1x16, .f32⟩
  | .hbm, ⟨48, _⟩ => ⟨S2048x16, .f32⟩
  | .hbm, ⟨49, _⟩ => ⟨S2048x16, .f32⟩
  | _, _ => ⟨S2048x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_cst : Ref sig .tc := ⟨.hbm, 37, rfl⟩
abbrev main_call0_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]
-- ==== Proof.Turns.lean ====
module

public import Mathlib.Tactic.Common

/-!
# A step made many times

A program that makes one step again and again, on four running values that take turns, and how parts of six steps (the
first of five) make up one long run of it.
-/

@[expose] public section

namespace Cert.Turns

universe u

/-- Four running values, the next one to change first. -/
abbrev Four (V : Type) : Type := Σ' (_ : V) (_ : V) (_ : V), V

variable {V β : Type} {M : Type → Type u} [Monad M] {N : ℕ}

/-- Step `n` and the steps after it, `cnt` in all. -/
def run (step : (n : ℕ) → n < N → Four V → M (Four V)) : (cnt n : ℕ) → n + cnt ≤ N → Four V → M (Four V)
  | 0, _, _, s => pure s
  | cnt + 1, n, h, s => step n (by omega) s >>= run step cnt (n + 1) (by omega)

variable [LawfulMonad M] (step : (n : ℕ) → n < N → Four V → M (Four V))

/-- Six steps made by one part, then the rest: together the longer run. -/
theorem six {cnt n : ℕ} {h : n + (cnt + 6) ≤ N} {s : Four V} {p : M (Four V)} {K fin : Four V → M β}
    (hp : p = run step 6 n (by omega) s)
    (rest : ∀ a b c d, K ⟨a, b, c, d⟩ = run step cnt (n + 6) (by omega) ⟨a, b, c, d⟩ >>= fin) :
    p >>= K = run step (cnt + 6) n h s >>= fin := by
  have rest' : K = fun s => run step cnt (n + 6) (by omega) s >>= fin := funext fun ⟨a, b, c, d⟩ => rest a b c d
  rw [hp, rest']
  simp only [run, bind_assoc, pure_bind]

/-- The first five steps, made by a part that returns a number besides. -/
theorem start {W : Type} {cnt : ℕ} {h : 0 + (cnt + 5) ≤ N} {s : Four V} {w : W} {p : M (Σ' (_ : W), Four V)} {K : (Σ' (_ : W), Four V) → M β}
    {fin : Four V → M β}
    (hp : p = run step 5 0 (by omega) s >>= fun s => pure ⟨w, s⟩)
    (rest : ∀ a b c d, K ⟨w, a, b, c, d⟩ = run step cnt 5 (by omega) ⟨a, b, c, d⟩ >>= fin) :
    p >>= K = run step (cnt + 5) 0 h s >>= fin := by
  have rest' : (fun s => K ⟨w, s⟩) = fun s => run step cnt 5 (by omega) s >>= fin := funext fun ⟨a, b, c, d⟩ => rest a b c d
  rw [hp, bind_assoc]
  simp only [pure_bind]
  rw [rest']
  simp only [run, bind_assoc, pure_bind]

end Cert.Turns

end
-- ==== Proof.KernelIdeal.Steps.lean ====
module

public import proofs.«01_k».proof.Proof.Gen.KernelIdeal.Points
public import proofs.«01_k».proof.Proof.Turns

/-!
# One row of the bag kernel as a list of equal steps

The kernel's text handles the 512 tokens of a row one after the other, in numbered parts. Here one token is one step,
the row is the step repeated, and the parts are shown to be that repetition.
-/

@[expose] public section

set_option maxRecDepth 16384

noncomputable section

namespace Cert.KernelIdeal.Bag

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The four running sums of a row, the next one to be added to first. -/
abbrev Sums (F : FTy → Type) : Type := Turns.Four (FVec F S16 .f32)

/-- Where token `n` of row `k` lies in the block of token ids. -/
def rowOff (k : Fin k0_t1_loop.trips) (n : ℕ) : Fin 2 → ℕ :=
  ![(Scalar.indexCast (Scf.iv 0#32 1#32 k)).toNat, n]

/-- Every token of every row lies inside the block. -/
theorem rowOff_inb (k : Fin k0_t1_loop.trips) (n : ℕ) (h : n < 512) : ∀ a, rowOff k n a + S1x1.size a ≤ S32x512.size a := by
  intro a
  match a with
  | 0 => exact k0_off1_inb k 0
  | 1 => exact h

/-- One token: read its id, check that the id names a table row, read that row and add it to the next running sum; the
    sums take turns. -/
def tokenStep (arg2 : Memref sig .tc .vmem S32128x1x16 .f32) (arg4 : Memref sig .tc .smem S32x512 .i32)
    (k : Fin k0_t1_loop.trips) (n : ℕ) (h : n < 512) (s : Sums F) : Prog (TpuEff nD τ sig (Elt F) Λ₀ .tc) (Sums F) := do
  let w : Elt F .i32 ← smemLoad arg4 (Rect.unit (s := S32x512) (rowOff k n) S1x1.size (rowOff_inb k n h)) numel1_S1x1 rfl
  have hw : k0_chk1 w := (← Prog.lift (TpuEff.assume (k0_chk1 w) (k0_chk1.dec w))).down
  let v : Vec F S1x1x16 .f32 ← Prog.lift (.load arg2 (Rect.unit (s := S32128x1x16) (k0_off2 w) S1x1x16.size (k0_off2_inb w hw)).toLoadRect (View.loadsAt_vmem h_S1x1x16))
  pure ⟨s.2.1, s.2.2.1, s.2.2.2, addf s.1 (shapeCast S16 v shapeCasts_S1x1x16_S16)⟩

/-- `cnt` tokens of row `k` from token `n` on. -/
abbrev tokens (arg2 : Memref sig .tc .vmem S32128x1x16 .f32) (arg4 : Memref sig .tc .smem S32x512 .i32)
    (k : Fin k0_t1_loop.trips) : (cnt n : ℕ) → n + cnt ≤ 512 → Sums F → Prog (TpuEff nD τ sig (Elt F) Λ₀ .tc) (Sums F) :=
  Turns.run (tokenStep arg2 arg4 k)

variable (i : grid0.Coords) (arg1 : Memref sig .tc .vmem S32x512 .i32) (harg1 : arg1.IsWhole) (arg2 : Memref sig .tc .vmem S32128x1x16 .f32) (harg2 : arg2.IsWhole)
  (arg3 : Memref sig .tc .vmem S32x1x16 .f32) (harg3 : arg3.IsWhole) (arg4 : Memref sig .tc .smem S32x512 .i32) (harg4 : arg4.IsWhole) (arg5 : DmaSems sig S_)

/-- The four running sums at the start of a row. -/
def zeros : Sums F := ⟨broadcast S16 (Scalar.ofBits .f32 0x00000000#32), broadcast S16 (Scalar.ofBits .f32 0x00000000#32), broadcast S16 (Scalar.ofBits .f32 0x00000000#32), broadcast S16 (Scalar.ofBits .f32 0x00000000#32)⟩

/-- The first part of a row: its first 359 tokens, and the row number. -/
theorem part86 (k : Fin k0_t1_loop.trips) :
    k0_part86 i arg1 harg1 arg2 harg2 arg3 harg3 arg4 harg4 arg5 0#32 1#32 k = tokens arg2 arg4 k 359 0 (by decide) (zeros (F := F)) >>= fun s =>
      pure ⟨Scf.iv 0#32 1#32 k, s⟩ := by
  unfold k0_part86
  refine Turns.start _ rfl fun _ _ _ _ => ?_
  iterate 59 refine Turns.six _ rfl fun _ _ _ _ => ?_
  rfl

/-- The second part of a row: its other 153 tokens, and the four sums added. -/
theorem part87 (k : Fin k0_t1_loop.trips) (w : BitVec 32) (a b c d : FVec F S16 .f32) :
    k0_part87 i arg1 harg1 arg2 harg2 arg3 harg3 arg4 harg4 arg5 k w a b c d = tokens arg2 arg4 k 153 359 (by decide) ⟨a, b, c, d⟩ >>= fun s =>
      pure (addf (addf s.1 s.2.1) (addf s.2.2.1 s.2.2.2)) := by
  unfold k0_part87
  iterate 25 refine Turns.six _ rfl fun _ _ _ _ => ?_
  rfl

end Cert.KernelIdeal.Bag

end
-- ==== Proof.Kernel.Same.lean ====
module

public import proofs.«01_k».proof.Proof.KernelIdeal.Steps
public import proofs.«01_k».proof.Proof.Gen.Kernel

/-!
# The two printings of the bag kernel's row are one program

The kernel printed for its bits and the kernel printed for its ideal values are the same text over the same
operations. A row of the bag kernel is, in either printing, the same step made 512 times.
-/

@[expose] public section

set_option maxRecDepth 16384

noncomputable section

namespace Cert.Same

section Bits

open Cert.Kernel Cert.Kernel.Gen
open Cert.KernelIdeal.Bag (Sums rowOff rowOff_inb zeros)
open Idealize.ShloMosaic Idealize.ShloMosaic.TcCoe Idealize.SL.Sem

variable {F : FTy → Type} [FloatOps F]

/-- One token, in the printing for bits. -/
def tokenStep (arg2 : Memref sig .tc .vmem S32128x1x16 .f32) (arg4 : Memref sig .tc .smem S32x512 .i32)
    (k : Fin k0_t1_loop.trips) (n : ℕ) (h : n < 512) (s : Sums F) : Prog (TpuEff nD τ sig (Elt F) Λ₀ .tc) (Sums F) := do
  let w : Elt F .i32 ← smemLoad arg4 (Rect.unit (s := S32x512) (rowOff k n) S1x1.size (rowOff_inb k n h)) numel1_S1x1 rfl
  have hw : k0_chk1 w := (← Prog.lift (TpuEff.assume (k0_chk1 w) (k0_chk1.dec w))).down
  let v : Vec F S1x1x16 .f32 ← Prog.lift (.load arg2 (Rect.unit (s := S32128x1x16) (k0_off2 w) S1x1x16.size (k0_off2_inb w hw)).toLoadRect (View.loadsAt_vmem h_S1x1x16))
  pure ⟨s.2.1, s.2.2.1, s.2.2.2, addf s.1 (shapeCast S16 v shapeCasts_S1x1x16_S16)⟩

variable (i : grid0.Coords) (arg1 : Memref sig .tc .vmem S32x512 .i32) (harg1 : arg1.IsWhole) (arg2 : Memref sig .tc .vmem S32128x1x16 .f32) (harg2 : arg2.IsWhole)
  (arg3 : Memref sig .tc .vmem S32x1x16 .f32) (harg3 : arg3.IsWhole) (arg4 : Memref sig .tc .smem S32x512 .i32) (harg4 : arg4.IsWhole) (arg5 : DmaSems sig S_)

/-- The first part of a row, in the printing for bits. -/
theorem row86 (k : Fin k0_t1_loop.trips) :
    k0_part86 i arg1 harg1 arg2 harg2 arg3 harg3 arg4 harg4 arg5 0#32 1#32 k = Turns.run (tokenStep arg2 arg4 k) 359 0 (by decide) (zeros (F := F)) >>= fun s =>
      pure ⟨Scf.iv 0#32 1#32 k, s⟩ := by
  unfold k0_part86
  refine Turns.start _ rfl fun _ _ _ _ => ?_
  iterate 59 refine Turns.six _ rfl fun _ _ _ _ => ?_
  rfl

/-- The second part of a row, in the printing for bits. -/
theorem row87 (k : Fin k0_t1_loop.trips) (w : BitVec 32) (a b c d : FVec F S16 .f32) :
    k0_part87 i arg1 harg1 arg2 harg2 arg3 harg3 arg4 harg4 arg5 k w a b c d = Turns.run (tokenStep arg2 arg4 k) 153 359 (by decide) ⟨a, b, c, d⟩ >>= fun s =>
      pure (addf (addf s.1 s.2.1) (addf s.2.2.1 s.2.2.2)) := by
  unfold k0_part87
  iterate 25 refine Turns.six _ rfl fun _ _ _ _ => ?_
  rfl

end Bits

open Cert.KernelIdeal Cert.KernelIdeal.Gen
open Idealize.ShloMosaic Idealize.ShloMosaic.TcCoe Idealize.SL.Sem

variable {F : FTy → Type} [FloatOps F]

/-- Two programs that start alike and continue alike after every outcome are one program. -/
theorem next {α β : Type} {p q : Prog (TpuEff nD τ sig (Elt F) Λ₀ .tc) α} {K K' : α → Prog (TpuEff nD τ sig (Elt F) Λ₀ .tc) β}
    (hp : p = q) (rest : ∀ s, K s = K' s) : p >>= K = q >>= K' := by
  rw [hp, show K = K' from funext rest]

variable (i : grid0.Coords) (arg1 : Memref sig .tc .vmem S32x512 .i32) (harg1 : arg1.IsWhole) (arg2 : Memref sig .tc .vmem S32128x1x16 .f32) (harg2 : arg2.IsWhole)
  (arg3 : Memref sig .tc .vmem S32x1x16 .f32) (harg3 : arg3.IsWhole) (arg4 : Memref sig .tc .smem S32x512 .i32) (harg4 : arg4.IsWhole) (arg5 : DmaSems sig S_)

/-- A token is the same in both printings. -/
theorem token (k : Fin k0_t1_loop.trips) : tokenStep (F := F) arg2 arg4 k = Bag.tokenStep arg2 arg4 k := rfl

/-- The first part of a row is the same in both printings. -/
theorem part86 (k : Fin k0_t1_loop.trips) :
    Cert.Kernel.k0_part86 (F := F) i arg1 harg1 arg2 harg2 arg3 harg3 arg4 harg4 arg5 0#32 1#32 k
      = k0_part86 i arg1 harg1 arg2 harg2 arg3 harg3 arg4 harg4 arg5 0#32 1#32 k :=
  (row86 i arg1 harg1 arg2 harg2 arg3 harg3 arg4 harg4 arg5 k).trans
    ((next (congrArg (fun st => Turns.run st 359 0 (by decide) Bag.zeros) (token arg2 arg4 k)) fun _ => rfl).trans
      (Bag.part86 i arg1 harg1 arg2 harg2 arg3 harg3 arg4 harg4 arg5 k).symm)

/-- The second part of a row is the same in both printings. -/
theorem part87 (k : Fin k0_t1_loop.trips) (w : BitVec 32) (a b c d : FVec F S16 .f32) :
    Cert.Kernel.k0_part87 (F := F) i arg1 harg1 arg2 harg2 arg3 harg3 arg4 harg4 arg5 k w a b c d
      = k0_part87 i arg1 harg1 arg2 harg2 arg3 harg3 arg4 harg4 arg5 k w a b c d :=
  (row87 i arg1 harg1 arg2 harg2 arg3 harg3 arg4 harg4 arg5 k w a b c d).trans
    ((next (congrArg (fun st => Turns.run st 153 359 (by decide) ⟨a, b, c, d⟩) (token arg2 arg4 k)) fun _ => rfl).trans
      (Bag.part87 i arg1 harg1 arg2 harg2 arg3 harg3 arg4 harg4 arg5 k w a b c d).symm)

end Cert.Same

end
-- ==== Proof.KernelIdeal.BagRow.lean ====
module

public import proofs.«01_k».proof.Proof.KernelIdeal.Steps

/-!
# The sum of one row

The value `tokens` returns: every token's table row added to the running sums in turn.
-/

@[expose] public section

set_option maxRecDepth 16384

noncomputable section

namespace Cert.KernelIdeal.Bag

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra: the pipelines' beside the counters a transfer takes its token from. -/
abbrev UU : Type := UR sig nD τ × Counters

local notation "𝕄" => MT nD τ sig Unit (Elt F) ℕ UU ℕ

/-- Memref `M`'s buffer on core `c` held whole at `f`. -/
abbrev pt (c : Dev nD) {sp : Space} {S : Shape} {e : EltTy} (M : Memref sig .tc sp S e)
    (f : Buf (Elt F) (M.view.loc (c : Thread nD τ))) : sProp 𝕄 :=
  M.view.loc (c : Thread nD τ) ↦{fullShare} f

/-- The place of token `n` of row `k` in the block of token ids. -/
def cell (k : Fin k0_t1_loop.trips) (n : ℕ) (h : n < 512) : S32x512.Idx :=
  (Rect.unit (s := S32x512) (rowOff k n) S1x1.size (rowOff_inb k n h)).emb
    (Shape.Idx.first ((show (Rect.unit (s := S32x512) (rowOff k n) S1x1.size (rowOff_inb k n h)).shape.numel = 1 from numel1_S1x1).symm ▸ Nat.one_pos))

/-- The table row a token id names, as a vector; zeros where the id names no row. -/
def pick (T : S32128x1x16.Idx → Elt F .f32) (w : Elt F .i32) : FVec F S16 .f32 :=
  if hw : k0_chk1 w then
    shapeCast S16 (fun j => T ((Rect.unit (s := S32128x1x16) (k0_off2 w) S1x1x16.size (k0_off2_inb w hw)).emb j)) shapeCasts_S1x1x16_S16
  else broadcast S16 (Scalar.ofBits .f32 0x00000000#32)

/-- The sums after one token: its row added to the next sum, which goes to the end of the queue. -/
def add (T : S32128x1x16.Idx → Elt F .f32) (w : Elt F .i32) (s : Sums F) : Sums F :=
  ⟨s.2.1, s.2.2.1, s.2.2.2, addf s.1 (pick T w)⟩

/-- The sums after `cnt` tokens of row `k` from token `n`. -/
def sums (T : S32128x1x16.Idx → Elt F .f32) (X : S32x512.Idx → Elt F .i32) (k : Fin k0_t1_loop.trips) :
    (cnt n : ℕ) → n + cnt ≤ 512 → Sums F → Sums F
  | 0, _, _, s => s
  | cnt + 1, n, h, s => sums T X k cnt (n + 1) (by omega) (add T (X (cell k n (by omega))) s)

/-- The tokens' values in two runs, the second from where the first stops. -/
theorem sums_append (T : S32128x1x16.Idx → Elt F .f32) (X : S32x512.Idx → Elt F .i32) (k : Fin k0_t1_loop.trips) :
    ∀ (a b n n' : ℕ) (h : n + (a + b) ≤ 512) (h1 : n + a ≤ 512) (h2 : n' + b ≤ 512) (_ : n' = n + a) (s : Sums F),
      sums T X k b n' h2 (sums T X k a n h1 s) = sums T X k (a + b) n h s
  | 0, b, n, n', h, h1, h2, hn, s => by
      subst hn; simp only [Nat.zero_add]; rfl
  | a + 1, b, n, n', h, h1, h2, hn, s => by
      have h' : n + ((a + b) + 1) ≤ 512 := by omega
      have e : sums T X k (a + 1 + b) n h s = sums T X k ((a + b) + 1) n h' s := by
        congr 1; omega
      rw [e]
      exact sums_append T X k a b (n + 1) n' (by omega) (by omega) h2 (by omega) _

/-- What row `k` of the result holds: the four sums of its 512 tokens, added. -/
def row (T : S32128x1x16.Idx → Elt F .f32) (X : S32x512.Idx → Elt F .i32) (k : Fin k0_t1_loop.trips) : FVec F S16 .f32 :=
  let s := sums T X k 512 0 (by decide) (zeros (F := F))
  addf (addf s.1 s.2.1) (addf s.2.2.1 s.2.2.2)

/-- One word read from a block of ids held whole. -/
theorem wp_word (c : Dev nD) (M : Memref sig .tc .smem S32x512 .i32) (f : Buf (Elt F) (M.view.loc (c : Thread nD τ))) (r : Rect S32x512)
    (h : (M.access r).Loads) (x : r.shape.Idx) {β : Type} (K : Elt F .i32 → Prog (TpuEff nD τ sig (Elt F) Λ₀ .tc) β) (Q : β → sProp 𝕄) :
    iprop(pt c M f ∗ (pt c M f -∗ wp frame (wpE (defs₀ (F := F)) Variants.none c none) Set.univ (K (M.view.read (Elt F) f (r.emb x))) Q))
      ⊢ wp frame (wpE (defs₀ (F := F)) Variants.none c none) Set.univ (smemLoadElt M r h x K) Q := by
  have := wp_smemLoadElt (m := M) (r := r) (hw := h) (x := x) (k := K) (S := Finset.univ) (q := fullShare) (f := f)
    (defs := defs₀ (F := F)) (Γ := .empty) (Q := Q) (Ix := Unit) (U := UU) (Name := ℕ) (Lvl := ℕ) Variants.none (c : Thread nD τ) none Set.univ
    (Finset.subset_univ _)
  exact Idealize.SL.BI.wand_elim this

/-- A rectangle of a buffer held whole, read. -/
theorem wp_rect (c : Dev nD) {s : Shape} {e : EltTy} (M : Memref sig .tc .vmem s e) (f : Buf (Elt F) (M.view.loc (c : Thread nD τ)))
    (r : Rect s) (h : M.view.LoadsAt r) {β : Type} (K : (r.shape.Idx → Elt F e) → Prog (TpuEff nD τ sig (Elt F) Λ₀ .tc) β) (Q : β → sProp 𝕄) :
    iprop(pt c M f ∗ (pt c M f -∗ wp frame (wpE (defs₀ (F := F)) Variants.none c none) Set.univ (K fun j => M.view.read (Elt F) f (r.emb j)) Q))
      ⊢ wp frame (wpE (defs₀ (F := F)) Variants.none c none) Set.univ (.op (.load M r.toLoadRect h) K) Q := by
  have := wp_load_rect (m := M) (r := r) (hl := h) (k := K) (S := Finset.univ) (q := fullShare) (f := f)
    (defs := defs₀ (F := F)) (Γ := .empty) (Q := Q) (Ix := Unit) (U := UU) (Name := ℕ) (Lvl := ℕ) Variants.none (c : Thread nD τ) none Set.univ
    (Finset.subset_univ _)
  exact Idealize.SL.BI.wand_elim this

/-- A rectangle of a buffer held whole, written. -/
theorem wp_put (c : Dev nD) {s : Shape} {e : EltTy} (M : Memref sig .tc .vmem s e) (f : Buf (Elt F) (M.view.loc (c : Thread nD τ)))
    (r : Rect s) (w : r.shape.Idx → Elt F e) (h : (M.access r).Stores Finset.univ) (hm : Finset.univ = Finset.univ ∨ ∀ a, r.stride a = 1) {β : Type}
    (K : PUnit → Prog (TpuEff nD τ sig (Elt F) Λ₀ .tc) β) (Q : β → sProp 𝕄) :
    iprop(pt c M f ∗ (pt c M ((M.access r).write (Elt F) f w Finset.univ)
        -∗ wp frame (wpE (defs₀ (F := F)) Variants.none c none) Set.univ (K ⟨⟩) Q))
      ⊢ wp frame (wpE (defs₀ (F := F)) Variants.none c none) Set.univ (.op (.store M r w Finset.univ h hm) K) Q := by
  have := wp_store (m := M) (r := r) (w := w) (Mk := Finset.univ) (hx := h) (hm := hm) (k := K) (S := Finset.univ) (f := f)
    (defs := defs₀ (F := F)) (Γ := .empty) (Q := Q) (Ix := Unit) (U := UU) (Name := ℕ) (Lvl := ℕ) Variants.none (c : Thread nD τ) none Set.univ
    (Finset.subset_univ _)
  exact Idealize.SL.BI.wand_elim this

/-- One token and what follows it, as the four operations one after the other. -/
theorem tokenStep_bind (arg2 : Memref sig .tc .vmem S32128x1x16 .f32) (arg4 : Memref sig .tc .smem S32x512 .i32)
    (k : Fin k0_t1_loop.trips) (n : ℕ) (h : n < 512) (s : Sums F) {β : Type} (K : Sums F → Prog (TpuEff nD τ sig (Elt F) Λ₀ .tc) β) :
    tokenStep arg2 arg4 k n h s >>= K
      = smemLoadElt arg4 (Rect.unit (s := S32x512) (rowOff k n) S1x1.size (rowOff_inb k n h)) (View.loads_smem_one rfl numel1_S1x1)
          (Shape.Idx.first ((show (Rect.unit (s := S32x512) (rowOff k n) S1x1.size (rowOff_inb k n h)).shape.numel = 1 from numel1_S1x1).symm ▸ Nat.one_pos))
          fun w => .op (.assume (k0_chk1 w) (k0_chk1.dec w)) fun hw =>
            .op (.load arg2 (Rect.unit (s := S32128x1x16) (k0_off2 w) S1x1x16.size (k0_off2_inb w hw.down)).toLoadRect (View.loadsAt_vmem h_S1x1x16)) fun v =>
              K ⟨s.2.1, s.2.2.1, s.2.2.2, addf s.1 (shapeCast S16 v shapeCasts_S1x1x16_S16)⟩ := rfl

/-- One token: the program goes on with the sums its row was added to. -/
theorem wp_token (c : Dev nD) (arg2 : Memref sig .tc .vmem S32128x1x16 .f32) (arg4 : Memref sig .tc .smem S32x512 .i32)
    (f2 : Buf (Elt F) (arg2.view.loc (c : Thread nD τ))) (f4 : Buf (Elt F) (arg4.view.loc (c : Thread nD τ)))
    (hX : ∀ y, k0_chk1 (arg4.view.read (Elt F) f4 y)) (k : Fin k0_t1_loop.trips) (n : ℕ) (h : n < 512) (s : Sums F)
    {β : Type} (K : Sums F → Prog (TpuEff nD τ sig (Elt F) Λ₀ .tc) β) (Q : β → sProp 𝕄) :
      iprop(pt c arg2 f2 ∗ pt c arg4 f4
        ∗ (iprop(pt c arg2 f2 ∗ pt c arg4 f4)
            -∗ wp frame (wpE (defs₀ (F := F)) Variants.none c none) Set.univ
                (K (add (arg2.view.read (Elt F) f2) (arg4.view.read (Elt F) f4 (cell k n h)) s)) Q))
      ⊢ wp frame (wpE (defs₀ (F := F)) Variants.none c none) Set.univ (tokenStep arg2 arg4 k n h s >>= K) Q := by
  rw [tokenStep_bind]
  iintro ⟨H2, H4, HK⟩
  iapply (wp_word c arg4 f4)
  isplitl [H4]; · iexact H4
  iintro H4
  have hw := hX (cell k n h)
  iapply (wp_assume Variants.none (c : Thread nD τ) none Set.univ hw)
  iapply (wp_rect c arg2 f2)
  isplitl [H2]; · iexact H2
  iintro H2
  unfold add pick
  rw [dif_pos hw]
  iapply HK
  isplitl [H2] <;> iassumption

/-- A run of tokens: the program goes on with the sums after them. -/
theorem wp_tokens (c : Dev nD) (arg2 : Memref sig .tc .vmem S32128x1x16 .f32) (arg4 : Memref sig .tc .smem S32x512 .i32)
    (f2 : Buf (Elt F) (arg2.view.loc (c : Thread nD τ))) (f4 : Buf (Elt F) (arg4.view.loc (c : Thread nD τ)))
    (hX : ∀ y, k0_chk1 (arg4.view.read (Elt F) f4 y)) (k : Fin k0_t1_loop.trips)
    {β : Type} (K : Sums F → Prog (TpuEff nD τ sig (Elt F) Λ₀ .tc) β) (Q : β → sProp 𝕄) (cnt : ℕ) :
    ∀ (n : ℕ) (h : n + cnt ≤ 512) (s : Sums F),
      iprop(pt c arg2 f2 ∗ pt c arg4 f4
        ∗ (iprop(pt c arg2 f2 ∗ pt c arg4 f4)
            -∗ wp frame (wpE (defs₀ (F := F)) Variants.none c none) Set.univ
                (K (sums (arg2.view.read (Elt F) f2) (arg4.view.read (Elt F) f4) k cnt n h s)) Q))
      ⊢ wp frame (wpE (defs₀ (F := F)) Variants.none c none) Set.univ (tokens arg2 arg4 k cnt n h s >>= K) Q := by
  induction cnt with
  | zero =>
      intro n h s
      rw [tokens, Turns.run, pure_bind, sums]
      iintro ⟨H2, H4, HK⟩
      iapply HK
      isplitl [H2] <;> iassumption
  | succ cnt ih =>
      intro n h s
      rw [tokens, Turns.run, bind_assoc, sums]
      refine .trans ?_ (wp_token c arg2 arg4 f2 f4 hX k n (by omega) s _ Q)
      iintro ⟨H2, H4, HK⟩
      isplitl [H2]; · iexact H2
      isplitl [H4]; · iexact H4
      iintro ⟨H2, H4⟩
      have hn : n + 1 + cnt ≤ 512 := by omega
      iapply (ih (n + 1) hn _)
      isplitl [H2]; · iexact H2
      isplitl [H4]; · iexact H4
      iexact HK

/-- A whole block owned at a value is its buffer held at some contents that read as the value. -/
theorem owns_block (c : Dev nD) {sp : Space} {sh : Shape} {e : EltTy} (M : Memref sig .tc sp sh e) (h : M.IsWhole) (X : sh.Idx → Elt F e) :
    (owns (c : Thread nD τ) M fullShare X : sProp 𝕄) = iprop(∃ f, ⌜M.view.read (Elt F) f = X⌝ ∗ pt c M f) := by
  unfold owns; rw [h.set_eq_univ]

end Cert.KernelIdeal.Bag

end
-- ==== Proof.KernelIdeal.BagBody.lean ====
module

public import proofs.«01_k».proof.Proof.KernelIdeal.BagRow

/-!
# What one grid point of the bag kernel computes

The block of token ids is copied into scalar memory, then 32 rows are summed one after the other.
-/

@[expose] public section

set_option maxRecDepth 16384

noncomputable section

namespace Cert.KernelIdeal.Bag

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The row loop makes 32 trips. -/
theorem trips_eq : k0_t1_loop.trips = 32 := by decide

/-- The rectangle of the result that trip `k` writes. -/
abbrev outRect (k : Fin k0_t1_loop.trips) : Rect S32x1x16 := Rect.unit (s := S32x1x16) (k0_off1025 k) S1x1x16.size (k0_off1025_inb k)

/-- It starts at row `k`. -/
theorem off_zero : ∀ k : Fin k0_t1_loop.trips, k0_off1025 k 0 = k.val := by decide

/-- One trip of the row loop: the row's tokens, then its sum stored. -/
def trip (arg2 : Memref sig .tc .vmem S32128x1x16 .f32) (arg3 : Memref sig .tc .vmem S32x1x16 .f32) (arg4 : Memref sig .tc .smem S32x512 .i32)
    (k : Fin k0_t1_loop.trips) : Prog (TpuEff nD τ sig (Elt F) Λ₀ .tc) PUnit :=
  tokens arg2 arg4 k 359 0 (by decide) (zeros (F := F)) >>= fun s => tokens arg2 arg4 k 153 359 (by decide) s >>= fun s =>
    .op (.load arg3 (outRect k).toLoadRect (View.loadsAt_vmem h_S1x1x16)) fun _ =>
      .op (.store arg3 (outRect k) (shapeCast S1x1x16 (addf (addf s.1 s.2.1) (addf s.2.2.1 s.2.2.2)) shapeCasts_S16_S1x1x16) Finset.univ
        (View.stores_vmem_bits_univ h_S1x1x16 rfl) (.inl rfl)) fun _ => .ret ⟨⟩

/-- The kernel's text is the copy, its wait, and the loop of these trips. -/
theorem kernel_eq (i : grid0.Coords) (arg1 : Memref sig .tc .vmem S32x512 .i32) (harg1 : arg1.IsWhole) (arg2 : Memref sig .tc .vmem S32128x1x16 .f32) (harg2 : arg2.IsWhole)
    (arg3 : Memref sig .tc .vmem S32x1x16 .f32) (harg3 : arg3.IsWhole) (arg4 : Memref sig .tc .smem S32x512 .i32) (harg4 : arg4.IsWhole) (arg5 : DmaSems sig S_) :
    cc0__bag_kernel (F := F) i arg1 harg1 arg2 harg2 arg3 harg3 arg4 harg4 arg5 =
      (Prog.lift (.enqueueDma arg1 (.here arg4) (.dma arg5.sem) harg1.wordExact harg4.wordExact ⟨Or.inl rfl, trivial⟩) >>= fun _ =>
        Prog.lift (.waitDma2 arg5.sem arg1 arg4 harg1.wordExact harg4.wordExact) >>= fun _ =>
          (Scf.Loop.for k0_t1_loop k0_t1_ok ⟨⟩ fun k _ => trip (F := F) arg2 arg3 arg4 k) >>= fun _ => pure ⟨⟩) := by
  unfold cc0__bag_kernel
  simp only [part86, part87, bind_assoc, pure_bind]
  rfl

/-- The place within its row. -/
def inner (y : S32x1x16.Idx) : S1x1x16.Idx := fun
  | 0 => ⟨0, by decide⟩
  | 1 => ⟨0, by decide⟩
  | 2 => ⟨(y 2).val, (y 2).isLt⟩

/-- What a grid point leaves in the result's block: row by row, the sum of the row's table rows. -/
def bagOut (T : S32128x1x16.Idx → Elt F .f32) (X : S32x512.Idx → Elt F .i32) : S32x1x16.Idx → Elt F .f32 := fun y =>
  shapeCast S1x1x16 (row T X ⟨(y 0).val, by rw [trips_eq]; exact (y 0).isLt⟩) shapeCasts_S16_S1x1x16 (inner y)

/-- Trip `k` puts row `k` in place and leaves the rows before it. -/
theorem read_put (arg3 : Memref sig .tc .vmem S32x1x16 .f32) (f : arg3.view.ty.Contents (Elt F)) (T : S32128x1x16.Idx → Elt F .f32)
    (X : S32x512.Idx → Elt F .i32) (k : Fin k0_t1_loop.trips) (hf : ∀ y, (y 0).val < k.val → arg3.view.read (Elt F) f y = bagOut T X y)
    (y : S32x1x16.Idx) (hy : (y 0).val < k.val + 1) :
    arg3.view.read (Elt F) ((arg3.access (outRect k)).write (Elt F) f (shapeCast S1x1x16 (row T X k) shapeCasts_S16_S1x1x16) Finset.univ) y
      = bagOut T X y := by
  rcases Nat.lt_succ_iff_lt_or_eq.mp hy with h | h
  · rw [← hf y h]
    refine View.read_slice_write_of_not_mem _ _ _ _ ?_
    intro hm
    obtain ⟨x, -, hx⟩ := Finset.mem_map.mp hm
    have h0 : (y 0).val = k0_off1025 k 0 + 1 * (x 0).val := by rw [← hx]; rfl
    rw [off_zero] at h0
    omega
  · have hx : (outRect k).emb (inner y) = y := by
      funext a
      apply Fin.ext
      match a with
      | 0 => show k0_off1025 k 0 + 1 * 0 = _; rw [off_zero]; exact h.symm
      | 1 => show 0 + 1 * 0 = _; have := (y 1).isLt; change (y 1).val < 1 at this; omega
      | 2 => show 0 + 1 * (y 2).val = _; omega
    have e := View.read_slice_write_emb (v := arg3.view) (outRect k) f (shapeCast S1x1x16 (row T X k) shapeCasts_S16_S1x1x16)
      (Finset.mem_univ (inner y))
    rw [hx] at e
    refine e.trans ?_
    unfold bagOut
    congr 2
    exact Fin.ext h.symm

/-- What the loop keeps: the table, the token ids, and the result with its first `k` rows in place. -/
def inv (c : Dev nD) (arg2 : Memref sig .tc .vmem S32128x1x16 .f32) (arg3 : Memref sig .tc .vmem S32x1x16 .f32) (arg4 : Memref sig .tc .smem S32x512 .i32)
    (f2 : Buf (Elt F) (arg2.view.loc (c : Thread nD τ))) (f4 : Buf (Elt F) (arg4.view.loc (c : Thread nD τ))) (k : ℕ) : sProp 𝕄 :=
  iprop(pt c arg2 f2 ∗ pt c arg4 f4 ∗ ∃ f3, pt c arg3 f3
    ∗ ⌜∀ y : S32x1x16.Idx, (y 0).val < k → arg3.view.read (Elt F) f3 y = bagOut (arg2.view.read (Elt F) f2) (arg4.view.read (Elt F) f4) y⌝)

/-- One trip keeps it. -/
theorem wp_trip (c : Dev nD) (arg2 : Memref sig .tc .vmem S32128x1x16 .f32) (arg3 : Memref sig .tc .vmem S32x1x16 .f32) (arg4 : Memref sig .tc .smem S32x512 .i32)
    (f2 : Buf (Elt F) (arg2.view.loc (c : Thread nD τ))) (f4 : Buf (Elt F) (arg4.view.loc (c : Thread nD τ)))
    (hX : ∀ y, k0_chk1 (arg4.view.read (Elt F) f4 y)) (k : Fin k0_t1_loop.trips) :
    inv c arg2 arg3 arg4 f2 f4 k.val
      ⊢ wp frame (wpE (defs₀ (F := F)) Variants.none c none) Set.univ (trip arg2 arg3 arg4 k) (fun _ => inv c arg2 arg3 arg4 f2 f4 (k.val + 1)) := by
  unfold inv trip
  iintro ⟨H2, H4, ⟨%f3, H3, %hf⟩⟩
  iapply (wp_tokens c arg2 arg4 f2 f4 hX k)
  isplitl [H2]; · iexact H2
  isplitl [H4]; · iexact H4
  iintro ⟨H2, H4⟩
  iapply (wp_tokens c arg2 arg4 f2 f4 hX k)
  isplitl [H2]; · iexact H2
  isplitl [H4]; · iexact H4
  iintro ⟨H2, H4⟩
  rw [sums_append _ _ k 359 153 0 359 (by decide) (by decide) (by decide) rfl]
  iapply (wp_rect c arg3 f3)
  isplitl [H3]; · iexact H3
  iintro H3
  iapply (wp_put c arg3 f3)
  isplitl [H3]; · iexact H3
  iintro H3
  rw [wp_ret]
  imodintro
  isplitl [H2]; · iexact H2
  isplitl [H4]; · iexact H4
  iexists _
  isplitl [H3]; · iexact H3
  ipureintro
  exact read_put arg3 f3 _ _ k hf

/-- A counted loop that carries no value, by what each trip keeps. -/
theorem wp_loop (c : Dev nD) (l : Scf.Loop 32) (hok : l.OK) (body : Fin l.trips → PUnit → Prog (TpuEff nD τ sig (Elt F) Λ₀ .tc) PUnit) (I : ℕ → sProp 𝕄)
    (hb : ∀ (k : Fin l.trips) (x : PUnit), I k.val ⊢ wp frame (wpE (defs₀ (F := F)) Variants.none c none) Set.univ (body k x) (fun _ => I (k.val + 1)))
    (Q : PUnit → sProp 𝕄) :
    iprop(I 0 ∗ (I l.trips -∗ Q ⟨⟩))
      ⊢ wp frame (wpE (defs₀ (F := F)) Variants.none c none) Set.univ (Scf.Loop.for l hok ⟨⟩ body) Q := by
  refine .trans ?_ (Scf.wp_for frame (wpE (defs₀ (F := F)) Variants.none c none) Set.univ l.lb l.ub l.st hok PUnit.unit body (fun k _ => I k) hb (Q := Q))
  iintro ⟨H0, HK⟩
  isplitl [H0]; · iexact H0
  iintro %x H
  iapply HK
  iexact H

/-- All the trips: from the blocks held whole, the result's block ends with every row in place. -/
theorem wp_rows (c : Dev nD) (arg2 : Memref sig .tc .vmem S32128x1x16 .f32) (arg3 : Memref sig .tc .vmem S32x1x16 .f32) (arg4 : Memref sig .tc .smem S32x512 .i32)
    (f2 : Buf (Elt F) (arg2.view.loc (c : Thread nD τ))) (f3 : Buf (Elt F) (arg3.view.loc (c : Thread nD τ)))
    (f4 : Buf (Elt F) (arg4.view.loc (c : Thread nD τ)))
    (hX : ∀ y, k0_chk1 (arg4.view.read (Elt F) f4 y)) (Q : PUnit → sProp 𝕄) :
    iprop(pt c arg2 f2 ∗ pt c arg3 f3 ∗ pt c arg4 f4
        ∗ (iprop(pt c arg2 f2 ∗ pt c arg4 f4
            ∗ ∃ g3, pt c arg3 g3 ∗ ⌜arg3.view.read (Elt F) g3 = bagOut (arg2.view.read (Elt F) f2) (arg4.view.read (Elt F) f4)⌝) -∗ Q ⟨⟩))
      ⊢ wp frame (wpE (defs₀ (F := F)) Variants.none c none) Set.univ
          ((Scf.Loop.for k0_t1_loop k0_t1_ok ⟨⟩ fun k _ => trip (F := F) arg2 arg3 arg4 k) >>= fun _ => pure ⟨⟩) Q := by
  rw [wp_bind]
  have hb : ∀ (k : Fin k0_t1_loop.trips) (_ : PUnit), inv c arg2 arg3 arg4 f2 f4 k.val
      ⊢ wp frame (wpE (defs₀ (F := F)) Variants.none c none) Set.univ (trip arg2 arg3 arg4 k) (fun _ => inv c arg2 arg3 arg4 f2 f4 (k.val + 1)) :=
    fun k _ => by
      have := wp_trip c arg2 arg3 arg4 f2 f4 hX k
      exact this
  refine .trans ?_ (wp_loop c k0_t1_loop k0_t1_ok (fun k _ => trip (F := F) arg2 arg3 arg4 k) (fun k => inv c arg2 arg3 arg4 f2 f4 k) hb _)
  iintro ⟨H2, H3, H4, HK⟩
  isplitl [H2 H3 H4]
  · unfold inv
    isplitl [H2]; · iexact H2
    isplitl [H4]; · iexact H4
    iexists f3
    isplitl [H3]; · iexact H3
    ipureintro
    intro y hy
    exact absurd hy (Nat.not_lt_zero _)
  iintro Hi
  unfold inv
  icases Hi with ⟨H2, H4, ⟨%g3, H3, %hg⟩⟩
  rw [show (Pure.pure PUnit.unit : Prog (TpuEff nD τ sig (Elt F) Λ₀ .tc) PUnit) = .ret PUnit.unit from rfl, wp_ret]
  imodintro
  iapply HK
  isplitl [H2]; · iexact H2
  isplitl [H4]; · iexact H4
  iexists g3
  isplitl [H3]; · iexact H3
  ipureintro
  funext y
  exact hg y (by have := (y 0).isLt; exact lt_of_lt_of_eq this trips_eq.symm)

/-- A grid point, from the ids, the table and the result's block held whole, the copy's counter at zero: it hands back
    the ids and the table, the result's block holding the rows' sums, and the counter at zero. The ids must name rows. -/
theorem wp_bag (c : Dev nD) (i : grid0.Coords) (arg1 : Memref sig .tc .vmem S32x512 .i32) (harg1 : arg1.IsWhole) (arg2 : Memref sig .tc .vmem S32128x1x16 .f32) (harg2 : arg2.IsWhole)
    (arg3 : Memref sig .tc .vmem S32x1x16 .f32) (harg3 : arg3.IsWhole)
    (f1 : Buf (Elt F) (arg1.view.loc (c : Thread nD τ))) (f2 : Buf (Elt F) (arg2.view.loc (c : Thread nD τ)))
    (f3 : Buf (Elt F) (arg3.view.loc (c : Thread nD τ))) (f4 : Buf (Elt F) ((Memref.whole cc0_scratch0).view.loc (c : Thread nD τ)))
    (hX : ∀ y, k0_chk1 (arg1.view.read (Elt F) f1 y)) (W : Waits sig Unit) (Q : PUnit → sProp 𝕄) :
    iprop(pt c arg1 f1 ∗ pt c arg2 f2 ∗ pt c arg3 f3 ∗ pt c (Memref.whole cc0_scratch0) f4
        ∗ semVal ((c : Thread nD τ), .dma cc0_scratch1.sem) 0 ∗ owes (c : Thread nD τ) 0 W
        ∗ (iprop(pt c arg1 f1 ∗ pt c arg2 f2
            ∗ (∃ g3, pt c arg3 g3 ∗ ⌜arg3.view.read (Elt F) g3 = bagOut (arg2.view.read (Elt F) f2) (arg1.view.read (Elt F) f1)⌝)
            ∗ (∃ g4, pt c (Memref.whole cc0_scratch0) g4) ∗ semVal ((c : Thread nD τ), .dma cc0_scratch1.sem) 0
            ∗ ∃ W', owes (c : Thread nD τ) 0 W') -∗ Q ⟨⟩))
      ⊢ wp frame (wpE (defs₀ (F := F)) Variants.none c none) Set.univ
          (cc0__bag_kernel i arg1 harg1 arg2 harg2 arg3 harg3 (Memref.whole cc0_scratch0) (Memref.isWhole_whole _) cc0_scratch1) Q := by
  rw [kernel_eq]
  iintro ⟨H1, H2, H3, H4, Hs, HO, HK⟩
  sl_exec
  have hr : ∀ d, d = arg1.view.read (Elt F) f1 →
      (Memref.whole cc0_scratch0).view.read (Elt F) (View.write (Elt F) (Memref.whole cc0_scratch0).view f4 d Finset.univ)
        = arg1.view.read (Elt F) f1 := fun d hd => by
    rw [hd]; exact View.read_write_univ _ _
  have e4 := hr _ (show wp_bag.sl.dma0 c arg1 f1 = _ from rfl)
  generalize View.write (Elt F) (Memref.whole cc0_scratch0).view f4 (wp_bag.sl.dma0 c arg1 f1) Finset.univ = g4 at e4 ⊢
  iapply (wp_rows c arg2 arg3 (Memref.whole cc0_scratch0) f2 f3 g4 (fun y => by rw [e4]; exact hX y))
  isplitl [H2]; · iexact H2
  isplitl [H3]; · iexact H3
  isplitl [H4]; · iexact H4
  rw [e4]
  iintro ⟨H2, H4, H3⟩
  iapply HK
  isplitl [H1]; · iexact H1
  isplitl [H2]; · iexact H2
  isplitl [H3]; · iexact H3
  isplitl [H4]; · iexists _; iexact H4
  isplitl [Hs]; · iexact Hs
  iexists _; iexact HO

end Cert.KernelIdeal.Bag

end
-- ==== Proof.KernelIdeal.BagRegion.lean ====
module

public import proofs.«01_k».proof.Proof.KernelIdeal.BagBody
public import proofs.«01_k».proof.Proof.Gen.KernelIdeal.Launch

/-!
# The bag kernel over its grid

What each window's block holds before and after a grid point, and the array of sums the 64 points leave.
-/

@[expose] public section

set_option maxRecDepth 16384

noncomputable section

namespace Cert.KernelIdeal.Bag

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UU ℕ

/-- The bag kernel's own semaphore: the one its copy signals. -/
abbrev osem : Unit → SemLoc sig := fun _ => .dma cc0_scratch1.sem

/-- Its counter at zero, taken out of the region's. -/
theorem osem_eq (c : Dev nD) :
    (Pipeline.ownSems0 (Ix := Unit) (Name := ℕ) (U := UU) (Lvl := ℕ) (Val := Elt F) (τ := τ) osem c : sProp 𝕄)
      = semVal ((c : Thread nD τ), .dma cc0_scratch1.sem) 0 :=
  Pipeline.ownSems0_eq_of_list c osem [()] (by decide) (by decide)

variable (V : Dev nD → Valuation τ sig (Elt F))

/-- The first grid point. -/
abbrev t0_0 : Fin cfg0.N := ⟨0, by rw [show cfg0.N = 64 from N_0]; decide⟩

/-- The block of token ids at point `t`. -/
abbrev ids (c : Dev nD) (t : Fin cfg0.N) : S32x512.Idx → Elt F .i32 := ((cfg0.win 0).blk t).view.read (Elt F) (V c main_arg0)

/-- The table, staged once. -/
abbrev tab (c : Dev nD) : S32128x1x16.Idx → Elt F .f32 := ((cfg0.win 1).blk t0_0).view.read (Elt F) (V c main_v1)

/-- What the region holds besides its windows: the scratch buffers and the copy's counter at zero. -/
def keep (c : Dev nD) : sProp 𝕄 :=
  iprop(Pipeline.scopedRest (Ix := Unit) (Name := ℕ) (U := UU) (Lvl := ℕ) (Val := Elt F) spec0 c ∗ Pipeline.ownSems0 osem c)

/-- The pipeline's data: arrays as entered; the ids and the table left as fetched, the result's block holding the sums. -/
def dat (c : Dev nD) : Dat τ (Elt F) Unit ℕ UU ℕ cfg0 c where
  A w := V c (Pipeline.arrRef spec0 w)
  after w t := match w with
    | ⟨0, _⟩ => ids V c t
    | ⟨1, _⟩ => tab V c
    | ⟨2, _⟩ => bagOut (tab V c) (ids V c t)
  Φ _ := keep c
  q _ := fullShare
  owed _ := 0

/-- The ids' block holds the array's block when a point starts. -/
theorem before_ids (c : Dev nD) (t : Fin cfg0.N) (d : (cfg0.win 0).block.Idx → Elt F (cfg0.win 0).elt) : (dat V c).before 0 t d = ids V c t := by
  unfold Dat.before; rw [if_pos (fetch0_0 t)]; rfl

/-- The table's block holds the table when a point starts: fetched at the first point, kept since. -/
theorem before_tab (c : Dev nD) (t : Fin cfg0.N) (d : (cfg0.win 1).block.Idx → Elt F (cfg0.win 1).elt) : (dat V c).before 1 t d = tab V c := by
  by_cases h : t.val = 0
  · obtain rfl : t = t0_0 := Fin.ext h
    unfold Dat.before; rw [if_pos ((fetch0_1 t0_0).mpr (by decide))]; rfl
  · have hf : ¬ (cfg0.win 1).fetch t = true := fun hf => h (by have := (fetch0_1 t).mp hf; have := lt_of_lt_of_eq t.isLt (show cfg0.N = 64 from N_0); omega)
    rw [Dat.before_of_pos _ 1 t h (by simpa using hf)]
    rw [if_neg (by intro hh; exact Bool.false_ne_true hh)]
    rfl

/-- Every point's body meets the pipeline's obligation, when every token id names a row of the table. -/
theorem body_obligation (hx : ∀ c y, k0_chk1 (V c main_arg0 y)) (c : Dev nD) :
    BodyObligation (dat V c) (defs₀ (F := F)) Variants.none () Set.univ := fun t => by
  rw [bigSep_W0, bigSep_W0]
  have w0 := hstage0_0 ((cfg0.slots t 0).cast nbuf0_0)
  have w1 := hstage0_1 ((cfg0.slots t 1).cast nbuf0_1)
  have w2 := hstage0_2 ((cfg0.slots t 2).cast nbuf0_2)
  simp only [owns_block c (st0_0 t) w0, owns_block c (st0_1 t) w1, owns_block c (st0_2 t) w2]
  rw [show (dat V c).Φ t.castSucc = keep c from rfl, show (dat V c).Φ t.succ = keep c from rfl]
  unfold keep Dat.owesAt Pipeline.owesWithin
  rw [scopedRest0_eq, osem_eq]
  rw [show (dat V c).owed t.castSucc = 0 from rfl, show (dat V c).owed t.succ = 0 from rfl]
  iintro ⟨⟨⟨Ha, Hb, Hc, Hd, He, Hf, Hg, Hh, Hi, Hj, Hk, ⟨%fs, Hs⟩⟩, Hsem⟩, ⟨%W, %hW, HO⟩, ⟨%d0, %f0, %hf0, H0⟩, ⟨%d1, %f1, %hf1, H1⟩, ⟨%d2, %f2, -, H2⟩⟩
  rw [before_ids] at hf0
  rw [before_tab] at hf1
  have hX : ∀ y, k0_chk1 ((st0_0 t).view.read (Elt F) f0 y) := fun y => by rw [hf0]; exact hx c _
  iapply (wp_bag c (grid0.coords t) (st0_0 t) w0 (st0_1 t) w1 (st0_2 t) w2 f0 f1 f2 fs hX W _)
  isplitl [H0]; · iexact H0
  isplitl [H1]; · iexact H1
  isplitl [H2]; · iexact H2
  isplitl [Hs]; · iexact Hs
  isplitl [Hsem]; · iexact Hsem
  isplitl [HO]; · iexact HO
  iintro ⟨H0, H1, ⟨%g3, H2, %h2⟩, ⟨%g4, Hs⟩, Hsem, ⟨%W', HO⟩⟩
  isplitl [Ha Hb Hc Hd He Hf Hg Hh Hi Hj Hk Hs Hsem]
  · isplitl [Ha Hb Hc Hd He Hf Hg Hh Hi Hj Hk Hs]
    · iframe Ha Hb Hc Hd He Hf Hg Hh Hi Hj Hk
      iexists g4; iexact Hs
    · iexact Hsem
  isplitl [HO]
  · iexists W'; isplitr
    · ipureintro; exact fun _ _ => Or.inl trivial
    · iexact HO
  isplitl [H0]
  · iexists f0; isplitr
    · ipureintro; exact hf0
    · iexact H0
  isplitl [H1]
  · iexists f1; isplitr
    · ipureintro; exact hf1
    · iexact H1
  · iexists g3; isplitr
    · ipureintro; rw [h2, hf0, hf1]; rfl
    · iexact H2

end Cert.KernelIdeal.Bag

end
-- ==== Proof.KernelIdeal.HeadBody.lean ====
module

public import proofs.«01_k».proof.Proof.KernelIdeal.BagRow

/-!
# What one grid point of the head kernel computes

The hidden layer's bias and rectifier, then the two linear layers, each on a block of 1024 rows.
-/

@[expose] public section

set_option maxRecDepth 16384

noncomputable section

namespace Cert.KernelIdeal.Head

open Cert.KernelIdeal Cert.KernelIdeal.Gen Cert.KernelIdeal.Bag
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- A rectangle that is the whole block keeps every place. -/
theorem full_emb {s : Shape} (off : Fin s.rank → ℕ) (h0 : ∀ a, off a = 0) (inb : ∀ a, off a + s.size a ≤ s.size a) (j : s.Idx) :
    (Rect.unit (s := s) off s.size inb).emb j = j := by
  funext a
  apply Fin.ext
  show off a + 1 * (j a).val = _
  rw [h0]; omega

/-- A block held whole, read whole. -/
theorem wp_get (c : Dev nD) {s : Shape} {e : EltTy} (M : Memref sig .tc .vmem s e) (f : Buf (Elt F) (M.view.loc (c : Thread nD τ)))
    (off : Fin s.rank → ℕ) (h0 : ∀ a, off a = 0) (inb : ∀ a, off a + s.size a ≤ s.size a)
    (h : M.view.LoadsAt (Rect.unit (s := s) off s.size inb)) {β : Type} (K : (s.Idx → Elt F e) → Prog (TpuEff nD τ sig (Elt F) Λ₀ .tc) β) (Q : β → sProp 𝕄) :
    iprop(pt c M f ∗ (pt c M f -∗ wp frame (wpE (defs₀ (F := F)) Variants.none c none) Set.univ (K (M.view.read (Elt F) f)) Q))
      ⊢ wp frame (wpE (defs₀ (F := F)) Variants.none c none) Set.univ (.op (.load M (Rect.unit (s := s) off s.size inb).toLoadRect h) K) Q := by
  have e : (fun j => M.view.read (Elt F) f ((Rect.unit (s := s) off s.size inb).emb j)) = M.view.read (Elt F) f :=
    funext fun j => congrArg _ (full_emb off h0 inb j)
  have := wp_rect c M f (Rect.unit (s := s) off s.size inb) h K Q
  rw [e] at this
  exact this

/-- A block held whole, written whole. -/
theorem wp_set (c : Dev nD) {s : Shape} {e : EltTy} (M : Memref sig .tc .vmem s e) (f : Buf (Elt F) (M.view.loc (c : Thread nD τ)))
    (off : Fin s.rank → ℕ) (h0 : ∀ a, off a = 0) (inb : ∀ a, off a + s.size a ≤ s.size a) (w : s.Idx → Elt F e)
    (h : (M.access (Rect.unit (s := s) off s.size inb)).Stores Finset.univ)
    (hm : Finset.univ = Finset.univ ∨ ∀ a, (Rect.unit (s := s) off s.size inb).stride a = 1) {β : Type}
    (K : PUnit → Prog (TpuEff nD τ sig (Elt F) Λ₀ .tc) β) (Q : β → sProp 𝕄) :
    iprop(pt c M f ∗ ((∃ g, pt c M g ∗ ⌜M.view.read (Elt F) g = w⌝)
        -∗ wp frame (wpE (defs₀ (F := F)) Variants.none c none) Set.univ (K ⟨⟩) Q))
      ⊢ wp frame (wpE (defs₀ (F := F)) Variants.none c none) Set.univ (.op (.store M (Rect.unit (s := s) off s.size inb) w Finset.univ h hm) K) Q := by
  refine .trans ?_ (wp_put c M f (Rect.unit (s := s) off s.size inb) w h hm K Q)
  iintro ⟨H, HK⟩
  isplitl [H]; · iexact H
  iintro H
  iapply HK
  iexists _
  isplitl [H]; · iexact H
  ipureintro
  funext j
  have e := View.read_slice_write_emb (v := M.view) (Rect.unit (s := s) off s.size inb) f w (Finset.mem_univ j)
  rw [full_emb off h0 inb j] at e
  exact e

/-- A program that has ended. -/
theorem wp_end {c : Dev nD} {Q : PUnit → sProp 𝕄} (p : Prog (TpuEff nD τ sig (Elt F) Λ₀ .tc) PUnit) (hp : p = .ret ⟨⟩) :
    Q ⟨⟩ ⊢ wp frame (wpE (defs₀ (F := F)) Variants.none c none) Set.univ p Q := by
  subst hp
  rw [wp_ret]
  iintro H
  imodintro
  iexact H

/-- The hidden block: the sums plus the bias, cut at zero. -/
def hidden (P : S1024x16.Idx → Elt F .f32) (B : S1x16.Idx → Elt F .f32) : FVec F S1024x16 .f32 :=
  maximumf (addf (shapeCast S1024x16 P shapeCasts_S1024x16_S1024x16) (broadcastTo S1024x16 (shapeCast S1x16 B shapeCasts_S1x16_S1x16) broadcasts_S1x16_S1024x16))
    (broadcast S1024x16 (Scalar.ofBits .f32 0x00000000#32))

/-- A linear layer of the hidden block: times the weights, plus the bias. -/
def layer (P : S1024x16.Idx → Elt F .f32) (B : S1x16.Idx → Elt F .f32) (W : S16x16.Idx → Elt F .f32) (C : S1x16.Idx → Elt F .f32) : FVec F S1024x16 .f32 :=
  addf (matmul dot_S1024x16_S16x16_S1024x16_1_0_0_1_n_n none (hidden P B) (shapeCast S16x16 W shapeCasts_S16x16_S16x16) (constant S1024x16 .f32 0x00000000#32))
    (broadcastTo S1024x16 (shapeCast S1x16 C shapeCasts_S1x16_S1x16) broadcasts_S1x16_S1024x16)

/-- A grid point, from its eight blocks held whole: the six inputs come back as they were, each result's block holding
    its layer. -/
theorem wp_head (c : Dev nD) (i : grid1.Coords) (arg1 : Memref sig .tc .vmem S1024x16 .f32) (harg1 : arg1.IsWhole) (arg2 : Memref sig .tc .vmem S1x16 .f32) (harg2 : arg2.IsWhole)
    (arg3 : Memref sig .tc .vmem S16x16 .f32) (harg3 : arg3.IsWhole) (arg4 : Memref sig .tc .vmem S1x16 .f32) (harg4 : arg4.IsWhole)
    (arg5 : Memref sig .tc .vmem S16x16 .f32) (harg5 : arg5.IsWhole) (arg6 : Memref sig .tc .vmem S1x16 .f32) (harg6 : arg6.IsWhole)
    (arg7 : Memref sig .tc .vmem S1024x16 .f32) (harg7 : arg7.IsWhole) (arg8 : Memref sig .tc .vmem S1024x16 .f32) (harg8 : arg8.IsWhole)
    (f1 : Buf (Elt F) (arg1.view.loc (c : Thread nD τ))) (f2 : Buf (Elt F) (arg2.view.loc (c : Thread nD τ)))
    (f3 : Buf (Elt F) (arg3.view.loc (c : Thread nD τ))) (f4 : Buf (Elt F) (arg4.view.loc (c : Thread nD τ)))
    (f5 : Buf (Elt F) (arg5.view.loc (c : Thread nD τ))) (f6 : Buf (Elt F) (arg6.view.loc (c : Thread nD τ)))
    (f7 : Buf (Elt F) (arg7.view.loc (c : Thread nD τ))) (f8 : Buf (Elt F) (arg8.view.loc (c : Thread nD τ))) (Q : PUnit → sProp 𝕄) :
    iprop(pt c arg1 f1 ∗ pt c arg2 f2 ∗ pt c arg3 f3 ∗ pt c arg4 f4 ∗ pt c arg5 f5 ∗ pt c arg6 f6 ∗ pt c arg7 f7 ∗ pt c arg8 f8
        ∗ (iprop(pt c arg1 f1 ∗ pt c arg2 f2 ∗ pt c arg3 f3 ∗ pt c arg4 f4 ∗ pt c arg5 f5 ∗ pt c arg6 f6
            ∗ (∃ g, pt c arg7 g ∗ ⌜arg7.view.read (Elt F) g = layer (arg1.view.read (Elt F) f1) (arg2.view.read (Elt F) f2) (arg3.view.read (Elt F) f3) (arg4.view.read (Elt F) f4)⌝)
            ∗ (∃ g, pt c arg8 g ∗ ⌜arg8.view.read (Elt F) g = layer (arg1.view.read (Elt F) f1) (arg2.view.read (Elt F) f2) (arg5.view.read (Elt F) f5) (arg6.view.read (Elt F) f6)⌝))
          -∗ Q ⟨⟩))
      ⊢ wp frame (wpE (defs₀ (F := F)) Variants.none c none) Set.univ
          (cc1__head_kernel i arg1 harg1 arg2 harg2 arg3 harg3 arg4 harg4 arg5 harg5 arg6 harg6 arg7 harg7 arg8 harg8) Q := by
  unfold cc1__head_kernel
  have z : ∀ a : Fin 2, (![0, 0] : Fin 2 → ℕ) a = 0 := by decide
  iintro ⟨H1, H2, H3, H4, H5, H6, H7, H8, HK⟩
  iapply (wp_get c arg1 f1 _ z)
  isplitl [H1]; · iexact H1
  iintro H1
  iapply (wp_get c arg2 f2 _ z)
  isplitl [H2]; · iexact H2
  iintro H2
  iapply (wp_get c arg3 f3 _ z)
  isplitl [H3]; · iexact H3
  iintro H3
  iapply (wp_get c arg4 f4 _ z)
  isplitl [H4]; · iexact H4
  iintro H4
  iapply (wp_get c arg7 f7 _ z)
  isplitl [H7]; · iexact H7
  iintro H7
  iapply (wp_set c arg7 f7 _ z)
  isplitl [H7]; · iexact H7
  iintro H7
  iapply (wp_get c arg5 f5 _ z)
  isplitl [H5]; · iexact H5
  iintro H5
  iapply (wp_get c arg6 f6 _ z)
  isplitl [H6]; · iexact H6
  iintro H6
  iapply (wp_get c arg8 f8 _ z)
  isplitl [H8]; · iexact H8
  iintro H8
  iapply (wp_set c arg8 f8 _ z)
  isplitl [H8]; · iexact H8
  iintro H8
  iapply (wp_end _ rfl)
  iapply HK
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.KernelIdeal.Head

end
-- ==== Proof.KernelIdeal.HeadRegion.lean ====
module

public import proofs.«01_k».proof.Proof.KernelIdeal.HeadBody
public import proofs.«01_k».proof.Proof.Gen.KernelIdeal.Launch

/-!
# The head kernel over its grid

What each window's block holds before and after a grid point.
-/

@[expose] public section

set_option maxRecDepth 16384

noncomputable section

namespace Cert.KernelIdeal.Head

open Cert.KernelIdeal Cert.KernelIdeal.Gen
open Cert.KernelIdeal.Bag (UU pt owns_block)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UU ℕ

variable (V : Dev nD → Valuation τ sig (Elt F))

/-- The block of sums at point `t`. -/
abbrev sumsAt (c : Dev nD) (t : Fin cfg1.N) : S1024x16.Idx → Elt F .f32 := ((cfg1.win 0).blk t).view.read (Elt F) (V c main_v3)
/-- The hidden layer's bias, staged once. -/
abbrev bias (c : Dev nD) : S1x16.Idx → Elt F .f32 := ((cfg1.win 1).blk t1_0).view.read (Elt F) (V c main_v4)
/-- The first layer's weights, staged once. -/
abbrev w1 (c : Dev nD) : S16x16.Idx → Elt F .f32 := ((cfg1.win 2).blk t1_0).view.read (Elt F) (V c main_v5)
/-- The first layer's bias, staged once. -/
abbrev b1 (c : Dev nD) : S1x16.Idx → Elt F .f32 := ((cfg1.win 3).blk t1_0).view.read (Elt F) (V c main_v6)
/-- The second layer's weights, staged once. -/
abbrev w2 (c : Dev nD) : S16x16.Idx → Elt F .f32 := ((cfg1.win 4).blk t1_0).view.read (Elt F) (V c main_v7)
/-- The second layer's bias, staged once. -/
abbrev b2 (c : Dev nD) : S1x16.Idx → Elt F .f32 := ((cfg1.win 5).blk t1_0).view.read (Elt F) (V c main_v8)

/-- What the region holds besides its windows: the scratch buffers. -/
abbrev keep (c : Dev nD) : sProp 𝕄 :=
  Pipeline.scopedRest (Ix := Unit) (Name := ℕ) (U := UU) (Lvl := ℕ) (Val := Elt F) spec1 c

/-- The pipeline's data: arrays as entered; inputs left as fetched, each result's block holding its layer. -/
def dat (c : Dev nD) : Dat τ (Elt F) Unit ℕ UU ℕ cfg1 c where
  A w := V c (Pipeline.arrRef spec1 w)
  after w t := match w with
    | ⟨0, _⟩ => sumsAt V c t
    | ⟨1, _⟩ => bias V c
    | ⟨2, _⟩ => w1 V c
    | ⟨3, _⟩ => b1 V c
    | ⟨4, _⟩ => w2 V c
    | ⟨5, _⟩ => b2 V c
    | ⟨6, _⟩ => layer (sumsAt V c t) (bias V c) (w1 V c) (b1 V c)
    | ⟨7, _⟩ => layer (sumsAt V c t) (bias V c) (w2 V c) (b2 V c)
  Φ _ := keep c
  q _ := fullShare
  owed _ := 0

/-- The sums' block holds the array's block when a point starts. -/
theorem before_sums (c : Dev nD) (t : Fin cfg1.N) (d : (cfg1.win 0).block.Idx → Elt F (cfg1.win 0).elt) : (dat V c).before 0 t d = sumsAt V c t := by
  unfold Dat.before; rw [if_pos (fetch1_0 t)]; rfl

/-- A window fetched at the first point only, and left as it was by every point, holds what that fetch read. -/
theorem before_once (c : Dev nD) (w : Fin cfg1.W) (hf : ∀ t : Fin cfg1.N, (cfg1.win w).fetch t = true ↔ t.val % 2 = 0) (hl : ∀ t, (cfg1.win w).flush t = false)
    (G : (cfg1.win w).block.Idx → Elt F (cfg1.win w).elt) (h0 : ∀ d, (dat V c).fetched w t1_0 d = G) (hk : ∀ t d, (dat V c).left w t d = G)
    (t : Fin cfg1.N) (d : (cfg1.win w).block.Idx → Elt F (cfg1.win w).elt) : (dat V c).before w t d = G := by
  by_cases h : t.val = 0
  · obtain rfl : t = t1_0 := Fin.ext h
    unfold Dat.before; rw [if_pos ((hf t1_0).mpr (by decide))]; exact h0 d
  · have hn : ¬ (cfg1.win w).fetch t = true := fun hh => h (by have := (hf t).mp hh; have := lt_of_lt_of_eq t.isLt (show cfg1.N = 2 from N_1); omega)
    rw [Dat.before_of_pos _ w t h (by simpa using hn), hl, if_neg Bool.false_ne_true]
    exact hk _ _

/-- A block held at contents that read as `X` is held at `X`. -/
theorem give (c : Dev nD) {sh : Shape} {e : EltTy} (M : Memref sig .tc .vmem sh e) (f) (X : sh.Idx → Elt F e) (h : M.view.read (Elt F) f = X) :
    (pt c M f : sProp 𝕄) ⊢ iprop(∃ g, ⌜M.view.read (Elt F) g = X⌝ ∗ pt c M g) := by
  iintro H
  iexists f; isplitr
  · ipureintro; exact h
  · iexact H

/-- Every point's body meets the pipeline's obligation. -/
theorem body_obligation (c : Dev nD) : BodyObligation (dat V c) (defs₀ (F := F)) Variants.none () Set.univ := fun t => by
  rw [bigSep_W1, bigSep_W1]
  have s0 := hstage1_0 ((cfg1.slots t 0).cast nbuf1_0)
  have s1 := hstage1_1 ((cfg1.slots t 1).cast nbuf1_1)
  have s2 := hstage1_2 ((cfg1.slots t 2).cast nbuf1_2)
  have s3 := hstage1_3 ((cfg1.slots t 3).cast nbuf1_3)
  have s4 := hstage1_4 ((cfg1.slots t 4).cast nbuf1_4)
  have s5 := hstage1_5 ((cfg1.slots t 5).cast nbuf1_5)
  have s6 := hstage1_6 ((cfg1.slots t 6).cast nbuf1_6)
  have s7 := hstage1_7 ((cfg1.slots t 7).cast nbuf1_7)
  simp only [owns_block c (st1_0 t) s0, owns_block c (st1_1 t) s1, owns_block c (st1_2 t) s2, owns_block c (st1_3 t) s3, owns_block c (st1_4 t) s4, owns_block c (st1_5 t) s5, owns_block c (st1_6 t) s6, owns_block c (st1_7 t) s7]
  rw [show (dat V c).Φ t.castSucc = keep c from rfl, show (dat V c).Φ t.succ = keep c from rfl]
  rw [show (dat V c).owesAt () t.castSucc = (dat V c).owesAt () t.succ from rfl]
  iintro ⟨HΦ, HO, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩⟩
  rw [before_sums] at hf0
  rw [before_once V c 1 fetch1_1 (by decide) (bias V c) (fun _ => rfl) (fun _ _ => rfl)] at hf1
  rw [before_once V c 2 fetch1_2 (by decide) (w1 V c) (fun _ => rfl) (fun _ _ => rfl)] at hf2
  rw [before_once V c 3 fetch1_3 (by decide) (b1 V c) (fun _ => rfl) (fun _ _ => rfl)] at hf3
  rw [before_once V c 4 fetch1_4 (by decide) (w2 V c) (fun _ => rfl) (fun _ _ => rfl)] at hf4
  rw [before_once V c 5 fetch1_5 (by decide) (b2 V c) (fun _ => rfl) (fun _ _ => rfl)] at hf5
  iapply (wp_head c (grid1.coords t) (st1_0 t) s0 (st1_1 t) s1 (st1_2 t) s2 (st1_3 t) s3 (st1_4 t) s4 (st1_5 t) s5 (st1_6 t) s6 (st1_7 t) s7 f0 f1 f2 f3 f4 f5 f6 f7 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, ⟨%g6, H6, %h6⟩, ⟨%g7, H7, %h7⟩⟩
  rw [hf0, hf1, hf2, hf3] at h6
  rw [hf0, hf1, hf4, hf5] at h7
  isplitl [HΦ]; · iexact HΦ
  isplitl [HO]; · iexact HO
  isplitl [H0]; · iapply (give c (st1_0 t) f0 _ hf0); iexact H0
  isplitl [H1]; · iapply (give c (st1_1 t) f1 _ hf1); iexact H1
  isplitl [H2]; · iapply (give c (st1_2 t) f2 _ hf2); iexact H2
  isplitl [H3]; · iapply (give c (st1_3 t) f3 _ hf3); iexact H3
  isplitl [H4]; · iapply (give c (st1_4 t) f4 _ hf4); iexact H4
  isplitl [H5]; · iapply (give c (st1_5 t) f5 _ hf5); iexact H5
  isplitl [H6]; · iapply (give c (st1_6 t) g6 _ h6); iexact H6
  iapply (give c (st1_7 t) g7 _ h7); iexact H7

end Cert.KernelIdeal.Head

end
-- ==== Proof.KernelIdeal.Run.lean ====
module

public import proofs.«01_k».proof.Proof.KernelIdeal.BagRegion
public import proofs.«01_k».proof.Proof.KernelIdeal.HeadRegion
public import proofs.«01_k».proof.Proof.Gen.KernelIdeal.Regions
public import Idealize.ShloMosaic.Lib.Pipeline.RegionArraysD
public import Idealize.ShloMosaic.Lib.Pipeline.RegionArraysS

/-!
# The whole program's run

The two kernels' regions entered and left between the host's operations: every run terminates, every counter ends at
zero, and every buffer outside the kernels' scratch ends at the contents `V4` names.
-/

@[expose] public section

set_option maxRecDepth 16384

noncomputable section

namespace Cert.KernelIdeal.Run

open Cert.KernelIdeal Cert.KernelIdeal.Gen
open Cert.KernelIdeal.Bag (UU)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg RegionSeg LevelCut afterRegion arrRef arrRefs ucRefs)

variable {F : FTy → Type} [FloatOps F]

local notation "𝕄" => MT nD τ sig Unit (Elt F) ℕ UU ℕ

/-- One level index on every core's semaphores; none elsewhere. -/
def L (g : GSem nD τ sig) : Finset Unit := match g.1.2 with
  | .tc => {()}
  | _ => ∅

/-- Every level is zero: nothing is owed across a wait. -/
abbrev lv : GSem nD τ sig → Unit → ℕ := fun _ _ => 0

/-- Only the cores' own threads have a level index. -/
theorem L_off (g : GSem nD τ sig) (h : g.1.2 ≠ .tc) : L g = ∅ := by
  unfold L; split
  · exact absurd ‹_› h
  · rfl

variable (m : (ℓ : Loc nD τ sig) → Buf (Elt F) ℓ)

/-- What the bag's region leaves. -/
def bagOuts : Outs (F := F) := fun _ r c => afterRegion (Bag.dat (V1 m) c) (V1 m c) r

/-- What the two regions leave. -/
def outs : Outs (F := F) := fun j r c =>
  if j = 2 then bagOuts m j r c else afterRegion (Head.dat (V3 m (bagOuts m)) c) (V3 m (bagOuts m) c) r

/-- What precedes the head's region depends on the bag's alone. -/
theorem V3_outs : V3 m (outs m) = V3 m (bagOuts m) := rfl

/-- The two pipelines' data. -/
def pdats : (p : Fin 2) → (c : Dev nD) → Dat τ (Elt F) Unit ℕ UU ℕ (cfgs p) c
  | ⟨0, _⟩ => Bag.dat (V1 m)
  | ⟨1, _⟩ => Head.dat (V3 m (bagOuts m))

/-- A thread between items owes nothing. -/
abbrev rest (_ : Fin 3) (c : Dev nD) : sProp 𝕄 := iprop(∃ W, owes (c : Thread nD τ) (0 : CellTallies nD τ sig Unit) W)

/-- Nothing owed, nothing to cut. -/
theorem cut (p : Fin 2) : LevelCut (pcfgs (F := F)) adm () L lv p (fun _ : Dev nD => 0) (fun _ => 0) where
  hι _ _ _ := Finset.mem_singleton_self _
  hιb _ _ _ := Nat.le_refl _
  hD _ _ _ h := absurd h (Nat.lt_irrefl _)

/-- The token ids reach the bag's region as launched. -/
theorem hx1 (hx : ∀ (c : Dev nD) y, k0_chk1 (m ((c : Thread nD τ).loc main_arg0) y)) (c : Dev nD) (y) : k0_chk1 (V1 m c main_arg0 y) := by
  rw [V1_of m c main_arg0 (by decide)]; exact hx c y

/-- The bag's own semaphore is scoped and no window's. -/
theorem ownFacts : Pipeline.OwnSemFacts spec0 Bag.osem := by decide

/-- The bag's region: its own copy's counter rides inside. -/
def reg0 (hx : ∀ (c : Dev nD) y, k0_chk1 (m ((c : Thread nD τ).loc main_arg0) y)) :
    RegionSeg (pcfgs (F := F)) adm (pdats m) () (defs₀ (F := F)) Variants.none L lv 0 :=
  RegionSeg.ofHeldD (pcfgs (F := F)) adm (pdats m) () defs₀ Variants.none L lv 0 (fun _ => 0) () Bag.osem ownFacts
    (fun _ => iprop(emp)) (fun _ => iprop(emp)) launch0.toP rfl
    (fun c => (Bag.body_obligation (V1 m) (hx1 m hx) c).loose) (fun _ _ => rfl) (fun _ => rfl) (fun c w => (pdats m 0 c).share_full (fun _ => rfl) w)
    (fun c => by
      refine .trans ?_ (Transfers.MayWaits.zero (c : Thread nD τ) ())
      iintro -
      iempintro)
    (fun c => by
      show _ ⊢ Bag.keep c
      unfold Bag.keep
      iintro ⟨HS, -, Ho, -⟩
      isplitl [HS]; · iexact HS
      iexact Ho)
    (fun c => by
      show Bag.keep c ⊢ _
      unfold Bag.keep
      iintro ⟨HS, Ho⟩
      isplitl [HS]; · iexact HS
      isplitr [Ho]; · iempintro
      iexact Ho)
    (fun _ => 0) (cut 0) (fun c => StableHlo.held (c.tc : Thread nD τ) (ucRefs τ sig \ arrRefs spec0) (V1 m c)) (V1 m) (fun c => afterRegion (Bag.dat (V1 m) c) (V1 m c))
    (fun _ _ => rfl) (fun c w => (Pipeline.afterRegion_arr (Bag.dat (V1 m) c) (V1 m c) launch0.win.arr_inj w).symm)

/-- The head's region. -/
def reg1 : RegionSeg (pcfgs (F := F)) adm (pdats m) () (defs₀ (F := F)) Variants.none L lv 1 :=
  RegionSeg.ofHeldIn (pcfgs (F := F)) adm (pdats m) () defs₀ Variants.none L lv 1 (fun _ => 0) (ucRefs τ sig)
    (fun _ => iprop(emp)) (fun _ => iprop(emp)) launch1.toP rfl
    (fun c => (Head.body_obligation (V3 m (bagOuts m)) c).loose) (fun _ _ => rfl) (fun _ => rfl) (fun c w => (pdats m 1 c).share_full (fun _ => rfl) w)
    (fun c => by
      show _ ⊢ Head.keep c
      iintro ⟨HS, -⟩
      iexact HS)
    (fun c => by
      show Head.keep c ⊢ _
      iintro HS
      isplitl [HS]; · iexact HS
      iempintro)
    (fun _ => 0) (cut 1) (fun c => iprop(emp)) (V3 m (bagOuts m)) (fun _ _ => rfl)

/-- The bag's arrays are among the buffers held between items. -/
theorem arrs0 : arrRefs (τ := τ) spec0 ⊆ ucRefs τ sig := Pipeline.arrRefs_sub_ucRefs spec0 (by decide)
/-- So are the head's. -/
theorem arrs1 : arrRefs (τ := τ) spec1 ⊆ ucRefs τ sig := Pipeline.arrRefs_sub_ucRefs spec1 (by decide)

/-- The bag's region is entered from the buffers as the first host stretch leaves them. -/
theorem hpre0 (hx : ∀ (c : Dev nD) y, k0_chk1 (m ((c : Thread nD τ).loc main_arg0) y)) (c : Dev nD) :
    iprop(StableHlo.held (c : Thread nD τ) (ucRefs τ sig) (V1 m c) ∗ rest (F := F) 0 c) ⊢ (reg0 m hx).pre c := by
  show _ ⊢ iprop(StableHlo.held (c.tc : Thread nD τ) (arrRefs spec0) (V1 m c) ∗ emp
    ∗ StableHlo.held (c.tc : Thread nD τ) (ucRefs τ sig \ arrRefs spec0) (V1 m c) ∗ ∃ Wd, owes (c : Thread nD τ) (0 : CellTallies nD τ sig Unit) Wd)
  rw [StableHlo.held_sub_split (c.tc : Thread nD τ) arrs0 (V1 m c)]
  iintro ⟨⟨Ha, Hu⟩, HO⟩
  isplitl [Ha]; · iexact Ha
  isplitr [Hu HO]; · iempintro
  isplitl [Hu]; · iexact Hu
  iexact HO

/-- The bag's region changes its result's array only. -/
theorem left0 (c : Dev nD) (b) (hb : b ∈ ucRefs τ sig) : afterRegion (Bag.dat (V1 m) c) (V1 m c) b = V2 m (outs m) c b := by
  obtain ⟨r, -, rfl⟩ := Finset.mem_map.mp (Finset.mem_filter.mp hb).1
  show afterRegion (Bag.dat (V1 m) c) (V1 m c) (Proc.devRef .tc r) = V2 m (outs m) c r
  by_cases h : r = main_v2
  · subst h; simp only [V2, Function.update_self]; rfl
  · refine (Pipeline.afterRegion_keeps (Bag.dat (V1 m) c) (V1 m c) launch0.win.arr_inj (fun _ => rfl) r ?_).trans
      (V2_of m (outs m) c r (by simpa using h)).symm
    rintro w rfl
    exact (by decide : ∀ w, arrRef spec0 w ≠ main_v2 → (cfg0.win w).isOut = false) w h

/-- The bag's region leaves its result's array changed, the rest as it was. -/
theorem hpost0 (hx : ∀ (c : Dev nD) y, k0_chk1 (m ((c : Thread nD τ).loc main_arg0) y)) (c : Dev nD) :
    (reg0 m hx).post c ⊢ iprop(StableHlo.held (c : Thread nD τ) (ucRefs τ sig) (V2 m (outs m) c) ∗ rest 1 c) := by
  show iprop(StableHlo.held (c.tc : Thread nD τ) (arrRefs spec0) (afterRegion (Bag.dat (V1 m) c) (V1 m c)) ∗ emp
    ∗ StableHlo.held (c.tc : Thread nD τ) (ucRefs τ sig \ arrRefs spec0) (V1 m c) ∗ ∃ Wd, owes (c : Thread nD τ) (0 : CellTallies nD τ sig Unit) Wd) ⊢ _
  rw [← StableHlo.held_congr (c.tc : Thread nD τ) (left0 m c), StableHlo.held_sub_split (c.tc : Thread nD τ) arrs0 (afterRegion (Bag.dat (V1 m) c) (V1 m c)),
    StableHlo.held_congr (c.tc : Thread nD τ) (S := ucRefs τ sig \ arrRefs spec0) (Pipeline.afterRegion_off (Bag.dat (V1 m) c) (V1 m c) (ucRefs τ sig))]
  iintro ⟨Ha, -, Hu, HO⟩
  isplitl [Ha Hu]
  · isplitl [Ha]; · iexact Ha
    iexact Hu
  iexact HO

/-- The head's region is entered from the buffers as the second host stretch leaves them. -/
theorem hpre1 (c : Dev nD) : iprop(StableHlo.held (c : Thread nD τ) (ucRefs τ sig) (V3 m (outs m) c) ∗ rest 1 c) ⊢ (reg1 m).pre c := by
  show iprop(StableHlo.held (c.tc : Thread nD τ) (ucRefs τ sig) (V3 m (bagOuts m) c) ∗ rest 1 c)
    ⊢ iprop(StableHlo.held (c.tc : Thread nD τ) (arrRefs spec1) (V3 m (bagOuts m) c) ∗ emp
      ∗ (StableHlo.held (c.tc : Thread nD τ) (ucRefs τ sig \ arrRefs spec1) (V3 m (bagOuts m) c) ∗ emp) ∗ ∃ Wd, owes (c : Thread nD τ) (0 : CellTallies nD τ sig Unit) Wd)
  rw [StableHlo.held_sub_split (c.tc : Thread nD τ) arrs1 (V3 m (bagOuts m) c)]
  iintro ⟨⟨Ha, Hu⟩, HO⟩
  isplitl [Ha]; · iexact Ha
  isplitr [Hu HO]; · iempintro
  isplitl [Hu]
  · isplitl [Hu]; · iexact Hu
    iempintro
  iexact HO

/-- The head's region changes its two results' arrays only. -/
theorem left1 (c : Dev nD) (b) (hb : b ∈ ucRefs τ sig) : afterRegion (Head.dat (V3 m (bagOuts m)) c) (V3 m (bagOuts m) c) b = V4 m (outs m) c b := by
  obtain ⟨r, -, rfl⟩ := Finset.mem_map.mp (Finset.mem_filter.mp hb).1
  show afterRegion (Head.dat (V3 m (bagOuts m)) c) (V3 m (bagOuts m) c) (Proc.devRef .tc r) = V4 m (outs m) c r
  by_cases h : r = main_v9_1
  · subst h; simp only [V4, Function.update_self]; rfl
  by_cases h' : r = main_v9_0
  · subst h'
    simp only [V4, Function.update_of_ne (StableHlo.devRef_ne_of_ne h : (Proc.devRef .tc main_v9_0 : DevRef τ sig) ≠ Proc.devRef .tc main_v9_1), Function.update_self]; rfl
  · refine (Pipeline.afterRegion_keeps (Head.dat (V3 m (bagOuts m)) c) (V3 m (bagOuts m) c) launch1.win.arr_inj (fun _ => rfl) r ?_).trans
      (V4_of m (outs m) c r (by simp [h, h'])).symm
    rintro w rfl
    exact (by decide : ∀ w, arrRef spec1 w ≠ main_v9_1 → arrRef spec1 w ≠ main_v9_0 → (cfg1.win w).isOut = false) w h h'

/-- The head's region leaves its two results' arrays changed, the rest as it was. -/
theorem hpost1 (c : Dev nD) : (reg1 m).post c ⊢ iprop(StableHlo.held (c : Thread nD τ) (ucRefs τ sig) (V4 m (outs m) c) ∗ rest 2 c) := by
  show iprop(StableHlo.held (c.tc : Thread nD τ) (arrRefs spec1) (afterRegion (Head.dat (V3 m (bagOuts m)) c) (V3 m (bagOuts m) c)) ∗ emp
    ∗ (StableHlo.held (c.tc : Thread nD τ) (ucRefs τ sig \ arrRefs spec1) (V3 m (bagOuts m) c) ∗ emp) ∗ ∃ Wd, owes (c : Thread nD τ) (0 : CellTallies nD τ sig Unit) Wd) ⊢ _
  rw [← StableHlo.held_congr (c.tc : Thread nD τ) (left1 m c), StableHlo.held_sub_split (c.tc : Thread nD τ) arrs1 (afterRegion (Head.dat (V3 m (bagOuts m)) c) (V3 m (bagOuts m) c)),
    StableHlo.held_congr (c.tc : Thread nD τ) (S := ucRefs τ sig \ arrRefs spec1) (Pipeline.afterRegion_off (Head.dat (V3 m (bagOuts m)) c) (V3 m (bagOuts m) c) (ucRefs τ sig))]
  iintro ⟨Ha, -, ⟨Hu, -⟩, HO⟩
  isplitl [Ha Hu]
  · isplitl [Ha]; · iexact Ha
    iexact Hu
  iexact HO

/-- The pipelines' rounds at launch, the counters untouched. -/
abbrev u₀ : UU := (initOf (Pipeline.cells cfgs cellOf_inj) (Pipeline.launchToks cfgs cellOf_inj), 1)

set_option backward.isDefEq.respectTransparency.types false in
/-- Every run terminates with every counter at zero and every buffer held between items at what the last item leaves. -/
theorem run_main (ρ : Dev nD → PrngReg) (hx : ∀ (c : Dev nD) y, k0_chk1 (m ((c : Thread nD τ).loc main_arg0) y)) :
    θ_run defs (onTc (τ := τ) (main (F := F))) ⟨m, fun _ => 0, ρ⟩ (fun r =>
      (∀ c : Dev nD, ∀ b ∈ ucRefs τ sig, r.2.mem (c, b) = V4 m (outs m) c b) ∧ r.2.sem = fun _ => 0) := by
  refine Pipeline.θ_run_regions_kit_dev_sems (pcfgs (F := F)) adm (pdats m) () cellOf_inj embL (defs₀ (F := F)) Variants.none L lv m ρ main
    (segs m (outs m) Variants.none L lv rest () (pdats m) (reg0 m hx) (reg1 m))
    (fun c Q => by
      rewrite [main_chain c, Seg.run_eq_chain,
        show (segs m (outs m) Variants.none L lv rest () (pdats m) (reg0 m hx) (reg1 m) c).map Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Seg.pipes_host, Seg.pipes_region, Seg.pipes_nil]; decide) (fun _ => 0) L_off (fun _ => iprop(emp)) u₀ ?_
    (T₀ := fun c => iprop(StableHlo.held (c : Thread nD τ) (ucRefs τ sig) (V0 m c) ∗ rest 0 c))
    (Tₙ := fun c => StableHlo.held (c : Thread nD τ) (ucRefs τ sig) (V4 m (outs m) c))
    (hch := fun c => ⟨.rfl, hpre0 m hx c, hpost0 m hx c, hpre1 m c, hpost1 m c⟩)
    (hinit := ?_) (QY := fun c s => ∀ b ∈ ucRefs τ sig, s.mem (c, b) = V4 m (outs m) c b)
    (hfin := fun c s' => ?_) (hQ := fun _ h hz => ⟨h, funext fun g => hz g (.inr (regions_no_unscoped g.2))⟩)
  · iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c.tc : Thread nD τ).loc b)) = StableHlo.held (c : Thread nD τ) (ucRefs τ sig) (V0 m c) from Pipeline.unscopedBufs_held c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (ucRefs τ sig) (fun b => ((c : Thread nD τ).1, b)) (V4 m (outs m) c) s') $$ [Hh HSI]
    · isplitl [Hh] <;> iassumption
    icases Hr with ⟨%h, HSI⟩
    imodintro
    isplitr
    · ipureintro; exact h
    · iexact HSI

/-- An unscoped buffer of a core is held between items. -/
theorem mem_uc (r : Ref sig .tc) (h : (Proc.devRef .tc r : DevRef τ sig).isScoped = false) : (Proc.devRef .tc r : DevRef τ sig) ∈ ucRefs τ sig :=
  Finset.mem_filter.mpr ⟨StableHlo.devRef_mem_tcRefs r, by simp [h]⟩

/-- The arguments end as launched, the two results as the head's region leaves them, and every counter at zero. -/
theorem run (ρ : Dev nD → PrngReg) (hx : ∀ (c : Dev nD) y, k0_chk1 (m ((c : Thread nD τ).loc main_arg0) y)) :
    θ_run defs (onTc (τ := τ) (main (F := F))) ⟨m, fun _ => 0, ρ⟩ (fun r =>
      (∀ c : Dev nD,
        (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6))
        ∧ r.2.mem ((c.tc : Thread nD τ).loc main_v9_0) = V4 m (outs m) c main_v9_0
        ∧ r.2.mem ((c.tc : Thread nD τ).loc main_v9_1) = V4 m (outs m) c main_v9_1)
      ∧ r.2.sem = fun _ => 0) := by
  refine (θ_run _ _ _).mono (fun r h => ⟨fun c => ?_, h.2⟩) (run_main m ρ hx)
  have g := fun r hr => h.1 c _ (mem_uc r hr)
  exact ⟨⟨(g main_arg0 rfl).trans (V4_main_arg0 m _ c), (g main_arg1 rfl).trans (V4_main_arg1 m _ c), (g main_arg2 rfl).trans (V4_main_arg2 m _ c),
    (g main_arg3 rfl).trans (V4_main_arg3 m _ c), (g main_arg4 rfl).trans (V4_main_arg4 m _ c), (g main_arg5 rfl).trans (V4_main_arg5 m _ c),
    (g main_arg6 rfl).trans (V4_main_arg6 m _ c)⟩, g main_v9_0 rfl, g main_v9_1 rfl⟩

end Cert.KernelIdeal.Run

end
-- ==== Proof.Kernel.Program.lean ====
module

public import proofs.«01_k».proof.Proof.Kernel.Same
public import proofs.«01_k».proof.Proof.KernelIdeal.Run

/-!
# The two printings of the program are one program

Both kernels, the table of their bodies and the host's program are the same in either printing, so a run proved for
one is a run of the other.
-/

@[expose] public section

set_option maxRecDepth 16384
set_option maxHeartbeats 4000000

noncomputable section

namespace Cert.Same

open Cert.KernelIdeal Cert.KernelIdeal.Gen
open Idealize.ShloMosaic Idealize.ShloMosaic.TcCoe Idealize.SL.Sem

variable {F : FTy → Type} [FloatOps F]

variable (i : grid0.Coords) (arg1 : Memref sig .tc .vmem S32x512 .i32) (harg1 : arg1.IsWhole) (arg2 : Memref sig .tc .vmem S32128x1x16 .f32) (harg2 : arg2.IsWhole)
  (arg3 : Memref sig .tc .vmem S32x1x16 .f32) (harg3 : arg3.IsWhole) (arg4 : Memref sig .tc .smem S32x512 .i32) (harg4 : arg4.IsWhole) (arg5 : DmaSems sig S_)

/-- The bag kernel is the same in both printings. -/
theorem bag : Cert.Kernel.cc0__bag_kernel (F := F) i arg1 harg1 arg2 harg2 arg3 harg3 arg4 harg4 arg5
    = cc0__bag_kernel i arg1 harg1 arg2 harg2 arg3 harg3 arg4 harg4 arg5 := by
  unfold Cert.Kernel.cc0__bag_kernel cc0__bag_kernel
  refine next rfl fun _ => next rfl fun _ => next ?_ fun _ => rfl
  refine congrArg (Scf.Loop.for k0_t1_loop k0_t1_ok PUnit.unit) (funext fun k => funext fun _ => ?_)
  refine next (part86 i arg1 harg1 arg2 harg2 arg3 harg3 arg4 harg4 arg5 k) fun ⟨w, a, b, c, d⟩ => ?_
  exact next (part87 i arg1 harg1 arg2 harg2 arg3 harg3 arg4 harg4 arg5 k w a b c d) fun _ => rfl

/-- The kernels' bodies are the same in both printings: the bag kernel's by `bag`, the head kernel's by unfolding. -/
theorem bodies : Cert.Kernel.defs₀ (F := F) = defs₀ := by
  unfold Cert.Kernel.defs₀ defs₀
  refine congrArg Defs.onTc (funext fun l => funext fun x => ?_)
  match l, x with
  | 0, (t, s) => exact bag _ _ _ _ _ _ _ _ _ _
  | 1, (t, s) => rfl
  | ⟨_ + 2, h⟩, _ => exact absurd h (Nat.not_lt.2 (Nat.le_add_left _ _))

/-- The body tables are the same in both printings. -/
theorem table : Cert.Kernel.defs (F := F) = defs := congrArg (Pipeline.defs pcfgs) bodies

/-- The two programs are the same. -/
theorem program : Cert.Kernel.main (F := F) = main := rfl

/-- What every run of the one program meets, every run of the other meets. -/
theorem run {s : MemSt nD τ sig (Elt F)} {Q : PUnit × MemSt nD τ sig (Elt F) → Prop} (h : θ_run defs (onTc (τ := τ) (main (F := F))) s Q) :
    θ_run (Cert.Kernel.defs (F := F)) (onTc (τ := Cert.Kernel.τ) (Cert.Kernel.main (F := F))) s Q := by
  have e : ∀ (d : Defs nD τ sig (Elt F) (Pipeline.Sig Λ₀ (Fin 2) fun p => (pcfgs (F := F) p).Adm)), d = defs → θ_run d (onTc (τ := τ) (main (F := F))) s Q := by
    rintro _ rfl; exact h
  exact e _ table

end Cert.Same

end
-- ==== Proof.Words.lean ====
module

public import proofs.«01_k».proof.Pre_tokens
public import proofs.«01_k».proof.Proof.Gen.KernelIdeal

/-!
# Token ids are rows of the table

The precondition read at one token id, and the row it names being inside the table.
-/

@[expose] public section

noncomputable section

namespace Cert.Words

open Idealize.ShloMosaic

/-- A conjunction of truth values as bits. -/
theorem andi_ofBool (p q : Bool) : IntOp.andi (BitVec.ofBool p) (BitVec.ofBool q) = BitVec.ofBool (p && q) := by
  cases p <;> cases q <;> decide

/-- A truth value as a bit is one where it is true. -/
theorem ofBool_eq_one (p : Bool) : (BitVec.ofBool p = 1#1) ↔ p = true := by cases p <;> decide

/-- Under the precondition every token id, as a natural number, is below the number of rows. -/
theorem lt_of_tokens [Cert.Pre_tokens.Facts] {F : FTy → Type} [FloatOps F] (x : IVec Pre_tokens.S2048x512 32) (w1 : FVec F Pre_tokens.S16x32128 .f32) (b1 : FVec F Pre_tokens.S16 .f32)
    (w2 : FVec F Pre_tokens.S16x16 .f32) (b2 : FVec F Pre_tokens.S16 .f32) (w3 : FVec F Pre_tokens.S16x16 .f32) (b3 : FVec F Pre_tokens.S16 .f32)
    (h : Cert.Pre_tokens.fn x w1 b1 w2 b2 w3 b3 = fun _ => 1#1) (y : Pre_tokens.S2048x512.Idx) : (x y).toNat < 32128 := by
  have e := congrFun h y
  simp only [Pre_tokens.fn, andi, cmpi, broadcastInDim, constantI, IntOp.cmpi, andi_ofBool, ofBool_eq_one, Bool.and_eq_true] at e
  obtain ⟨hge, hlt⟩ := e
  simp only [BitVec.sle, BitVec.slt, decide_eq_true_eq, BitVec.toInt, BitVec.toNat_ofNat] at hge hlt
  omega

/-- Such a token id names a row inside the table. -/
theorem row_inb (w : BitVec 32) (h : w.toNat < 32128) : Cert.KernelIdeal.k0_chk1 w := by
  intro a
  have e : Cert.KernelIdeal.k0_off2 w = ![w.toNat, 0, 0] := by
    unfold Cert.KernelIdeal.k0_off2
    rfl
  rw [e]
  fin_cases a <;> simp <;> omega

instance facts : Cert.Pre_tokens.Facts where
  bcast_S_S2048x512 := by decide

end Cert.Words

end
-- ==== Proof.KernelIdeal.BagValue.lean ====
module

public import proofs.«01_k».proof.Proof.KernelIdeal.BagRegion
public import proofs.«01_k».proof.Proof.Words
public import Idealize.ShloMosaic.Lib.Pipeline.Value
public import Idealize.ShloMosaic.Lib.Pipeline.ValueKit.Geometry
public import Idealize.ShloMosaic.Lib.ValueIdx
public import Idealize.ShloMosaic.PureOps.Ideal.Laws

/-!
# What the bag kernel leaves, as sums

Over the extended reals the four sums that take turns add up to one plain sum over a row's tokens; and the blocks the
kernel writes make up one array.
-/

@[expose] public section

set_option maxRecDepth 16384

noncomputable section

namespace Cert.KernelIdeal.Bag

open Cert.KernelIdeal Cert.KernelIdeal.Gen
open Idealize.ShloMosaic Idealize.ShloMosaic.TcCoe Idealize.SL.Sem Idealize.ShloMosaic.ValueIdx
open Idealize.ShloMosaic.Pipeline (Dat)
open Idealize.ShloMosaic.ValueKit

/-- The table row a token id names, entry by entry. -/
theorem pick_apply (T : S32128x1x16.Idx → EReal) (w : BitVec 32) (hw : w.toNat < 32128) (j : S16.Idx) :
    pick (F := Ideal) T w j = T (ix3 ⟨w.toNat, hw⟩ 0 (j 0)) := by
  unfold pick
  rw [dif_pos (Cert.Words.row_inb w hw)]
  refine (shapeCast_apply (s := S1x1x16) (t := S16) _ _ j (ix3 0 0 (j 0)) ?_).trans (congrArg T (funext fun a => Fin.ext ?_))
  · rw [Shape.rowMajor_val_three, Shape.rowMajor_val_one]
    show (0 * 1 + 0) * 16 + (j 0).val = (j 0).val
    omega
  · match a with
    | 0 => show k0_off2 w 0 + 1 * 0 = w.toNat; rfl
    | 1 => rfl
    | 2 => show 0 + 1 * (j 0).val = (j 0).val; omega

/-- The four running sums, added. -/
def total (s : Sums Ideal) (j : S16.Idx) : EReal := (s.1 j + s.2.1 j) + (s.2.2.1 j + s.2.2.2 j)

/-- A token adds its row to the four sums' total, whichever sum takes it. -/
theorem total_add (T : S32128x1x16.Idx → EReal) (w : BitVec 32) (s : Sums Ideal) (j : S16.Idx) :
    total (add T w s) j = total s j + pick (F := Ideal) T w j := by
  show (s.2.1 j + s.2.2.1 j) + (s.2.2.2 j + (s.1 j + pick (F := Ideal) T w j)) = ((s.1 j + s.2.1 j) + (s.2.2.1 j + s.2.2.2 j)) + pick (F := Ideal) T w j
  generalize (s.1 j : EReal) = a, (s.2.1 j : EReal) = b, (s.2.2.1 j : EReal) = c, (s.2.2.2 j : EReal) = d, (pick (F := Ideal) T w j : EReal) = e
  show (b + c + (d + (a + e)) : EReal) = a + b + (c + d) + e
  abel

/-- A run of tokens adds their rows to the total. -/
theorem total_sums (T : S32128x1x16.Idx → EReal) (X : S32x512.Idx → BitVec 32) (k : Fin k0_t1_loop.trips) (j : S16.Idx) :
    ∀ (cnt n : ℕ) (h : n + cnt ≤ 512) (s : Sums Ideal),
      total (sums T X k cnt n h s) j = total s j + ∑ t : Fin cnt, pick (F := Ideal) T (X (cell k (n + t.val) (by omega))) j
  | 0, n, h, s => by simp [sums]
  | cnt + 1, n, h, s => by
      rw [sums, total_sums T X k j cnt (n + 1) (by omega), total_add, Fin.sum_univ_succ, add_assoc]
      congr 1
      congr 1
      refine Finset.sum_congr rfl fun t _ => ?_
      have e : n + 1 + t.val = n + (t.succ).val := by rw [Fin.val_succ]; omega
      congr 3

/-- A trip of the loop over rows as a row number. -/
def rowOf (k : Fin k0_t1_loop.trips) : Fin 32 := ⟨k.val, lt_of_lt_of_eq k.isLt trips_eq⟩

/-- The loop's counter is the row number. -/
theorem off_row : ∀ k : Fin k0_t1_loop.trips, rowOff k 0 0 = k.val := by decide

/-- The place of a token in its block, by row and column. -/
theorem cell_eq (k : Fin k0_t1_loop.trips) (n : ℕ) (h : n < 512) : cell k n h = ix2 (rowOf k) ⟨n, h⟩ := by
  funext a
  apply Fin.ext
  match a with
  | 0 => show rowOff k n 0 + 1 * 0 = k.val; exact off_row k
  | 1 => rfl

/-- One row of the result: the sum of the table rows its tokens name. -/
theorem row_apply (T : S32128x1x16.Idx → EReal) (X : S32x512.Idx → BitVec 32) (hX : ∀ y, (X y).toNat < 32128) (k : Fin k0_t1_loop.trips) (j : S16.Idx) :
    row (F := Ideal) T X k j = ∑ t : Fin 512, T (ix3 ⟨(X (ix2 (rowOf k) t)).toNat, hX _⟩ 0 (j 0)) := by
  have e : row (F := Ideal) T X k j = total (sums T X k 512 0 (by decide) (zeros (F := Ideal))) j := rfl
  have z : total (zeros (F := Ideal)) j = 0 := by
    show (Ideal.ofBits .f32 0x00000000#32 + Ideal.ofBits .f32 0x00000000#32) + (Ideal.ofBits .f32 0x00000000#32 + Ideal.ofBits .f32 0x00000000#32) = (0 : EReal)
    rw [Ideal.ofBits_zero_f32]; simp
  rw [e, total_sums, z, zero_add]
  refine Finset.sum_congr rfl fun t _ => ?_
  have ec : cell k (0 + t.val) (by omega) = ix2 (rowOf k) t := by
    rw [cell_eq]; congr 1; exact Fin.ext (Nat.zero_add _)
  rw [ec, pick_apply T _ (hX _)]

/-- The result's block after a grid point, entry by entry. -/
theorem bagOut_apply (T : S32128x1x16.Idx → EReal) (X : S32x512.Idx → BitVec 32) (hX : ∀ y, (X y).toNat < 32128) (y : S32x1x16.Idx) :
    bagOut (F := Ideal) T X y = ∑ t : Fin 512, T (ix3 ⟨(X (ix2 (y 0) t)).toNat, hX _⟩ 0 (y 2)) := by
  unfold bagOut
  refine (shapeCast_apply (s := S16) (t := S1x1x16) _ _ (inner y) (ix1 (y 2)) ?_).trans (row_apply T X hX _ _)
  rw [Shape.rowMajor_val_three, Shape.rowMajor_val_one]
  show (y 2).val = (0 * 1 + 0) * 16 + (y 2).val
  omega

variable (V : Dev nD → Valuation τ sig (Elt Ideal))

/-- A point takes the 32 rows of ids that follow the earlier points'. -/
theorem index_ids : ∀ t : Fin cfg0.N, win0_0.index t = ![t.val, 0] := by decide +kernel
/-- Every point takes the whole table. -/
theorem index_tab : ∀ t : Fin cfg0.N, win0_1.index t = ![0, 0, 0] := by decide +kernel
/-- A point leaves the 32 rows of sums that follow the earlier points'. -/
theorem index_out : ∀ t : Fin cfg0.N, win0_2.index t = ![t.val, 0, 0] := by decide +kernel

/-- The staged table is the table. -/
theorem tab_apply (c : Dev nD) (y : S32128x1x16.Idx) : tab V c y = V c main_v1 y := by
  unfold tab
  blk_simp
  blk_ext [index_tab]

/-- The sums of a batch of rows of token ids `X` over a table `T`. -/
def bagged (T : S32128x1x16.Idx → EReal) (X : S2048x512.Idx → BitVec 32) (hX : ∀ y, (X y).toNat < 32128) : S2048x1x16.Idx → EReal := fun i =>
  ∑ t : Fin 512, T (ix3 ⟨(X (ix2 (i 0) t)).toNat, hX _⟩ 0 (i 2))

/-- The array of sums after the bag kernel: each entry the sum of the table entries its row's tokens name. -/
theorem bag_arr (hx : ∀ c y, (V c main_arg0 y).toNat < 32128) (c : Dev nD) :
    (dat V c).arrAt 2 cfg0.N = bagged (V c main_v1) (V c main_arg0) (hx c) := by
  refine (dat V c).arrAt_eq_of_covers 2 _ (by decide +kernel) fun t hf y => ?_
  blk_simp
  show bagOut (F := Ideal) (tab V c) (ids V c t) y = _
  have hX : ∀ z, (ids V c t z).toNat < 32128 := fun z => hx c _
  refine (bagOut_apply _ _ hX y).trans (Finset.sum_congr rfl fun n _ => ?_)
  rw [tab_apply]
  have e0 : ids V c t (ix2 (y 0) n) = V c main_arg0 (ix2 ((win0_2.blk t).view.emb y 0) n) := by
    unfold ids
    blk_simp
    blk_ext [index_ids]
    show t.val * 32 + (y 0).val = ((win0_2.blk t).view.emb y 0).val
    blk_simp [index_out]
  have e2 : y 2 = (win0_2.blk t).view.emb y 2 := by
    apply Fin.ext
    blk_simp [index_out]
  congr 1
  blk_ext [e0, e2]

end Cert.KernelIdeal.Bag

end
-- ==== Proof.KernelIdeal.HeadValue.lean ====
module

public import proofs.«01_k».proof.Proof.KernelIdeal.HeadRegion
public import Idealize.ShloMosaic.Lib.Pipeline.Value
public import Idealize.ShloMosaic.Lib.Pipeline.ValueKit.Geometry
public import Idealize.ShloMosaic.Lib.ValueIdx
public import Idealize.ShloMosaic.Lib.MatmulPlain
public import Idealize.ShloMosaic.PureOps.Ideal.Laws

/-!
# What the head kernel leaves, as sums

Over the extended reals a layer of the head kernel is a matrix product plus a bias, and the blocks the kernel writes make
up one array for each of the two layers.
-/

@[expose] public section

set_option maxRecDepth 16384

noncomputable section

namespace Cert.KernelIdeal.Head

open Cert.KernelIdeal Cert.KernelIdeal.Gen
open Idealize.ShloMosaic Idealize.ShloMosaic.TcCoe Idealize.SL.Sem Idealize.ShloMosaic.ValueIdx
open Idealize.ShloMosaic.Pipeline (Dat)
open Idealize.ShloMosaic.ValueKit

/-- A bias read along a block's rows: every row holds it. -/
theorem broadcast_bias (B : S1x16.Idx → EReal) (j : S1024x16.Idx) :
    broadcastTo S1024x16 (shapeCast S1x16 B shapeCasts_S1x16_S1x16) broadcasts_S1x16_S1024x16 j = B (ix2 0 (j 1)) := by
  rw [shapeCast_self]
  refine broadcastTo_apply B _ j (ix2 0 (j 1)) fun a => ?_
  match a with
  | 0 => rfl
  | 1 => rfl

/-- The hidden block, entry by entry. -/
theorem hidden_apply (P : S1024x16.Idx → EReal) (B : S1x16.Idx → EReal) (j : S1024x16.Idx) :
    hidden (F := Ideal) P B j = max (P j + B (ix2 0 (j 1))) 0 := by
  unfold hidden
  show max (shapeCast S1024x16 P shapeCasts_S1024x16_S1024x16 j + broadcastTo S1024x16 (shapeCast S1x16 B shapeCasts_S1x16_S1x16) broadcasts_S1x16_S1024x16 j)
    (Ideal.ofBits .f32 0x00000000#32) = _
  rw [broadcast_bias, shapeCast_self, Ideal.ofBits_zero_f32]

/-- A layer's block, entry by entry. -/
theorem layer_apply (P : S1024x16.Idx → EReal) (B : S1x16.Idx → EReal) (W : S16x16.Idx → EReal) (C : S1x16.Idx → EReal) (j : S1024x16.Idx) :
    layer (F := Ideal) P B W C j = (∑ k : Fin 16, max (P (ix2 (j 0) k) + B (ix2 0 k)) 0 * W (ix2 k (j 1))) + C (ix2 0 (j 1)) := by
  unfold layer
  refine congrArg₂ (fun a b : EReal => a + b) ?_ (broadcast_bias C j)
  rw [eq_ix2 j]
  refine (Ideal.matmul_plain_apply (M := 1024) (K := 16) (N := 16) none (hidden (F := Ideal) P B) (shapeCast S16x16 W shapeCasts_S16x16_S16x16)
    (constant S1024x16 .f32 0x00000000#32) (j 0) (j 1)).trans ?_
  rw [show (constant (F := Ideal) S1024x16 .f32 0x00000000#32 (ix2 (j 0) (j 1)) : EReal) = 0 from Ideal.ofBits_zero_f32, zero_add]
  refine Finset.sum_congr rfl fun k _ => ?_
  rw [hidden_apply, shapeCast_self]

/-- A layer of a whole array of sums `P`: the bias `B` added, cut at zero, times the weights `W`, plus the bias `C`. -/
def headed (P : S2048x16.Idx → EReal) (B : S1x16.Idx → EReal) (W : S16x16.Idx → EReal) (C : S1x16.Idx → EReal) : S2048x16.Idx → EReal := fun i =>
  (∑ k : Fin 16, max (P (ix2 (i 0) k) + B (ix2 0 k)) 0 * W (ix2 k (i 1))) + C (ix2 0 (i 1))

variable (V : Dev nD → Valuation τ sig (Elt Ideal))

/-- A point takes the 1024 rows of sums that follow the earlier point's. -/
theorem index_sums : ∀ t : Fin cfg1.N, win1_0.index t = ![t.val, 0] := by decide +kernel
/-- A point leaves the 1024 rows of the first result that follow the earlier point's. -/
theorem index_first : ∀ t : Fin cfg1.N, win1_6.index t = ![t.val, 0] := by decide +kernel
/-- A point leaves the 1024 rows of the second result that follow the earlier point's. -/
theorem index_second : ∀ t : Fin cfg1.N, win1_7.index t = ![t.val, 0] := by decide +kernel
/-- Every point takes the whole of each bias and weight matrix. -/
theorem index_whole : ∀ t : Fin cfg1.N, win1_1.index t = ![0, 0] ∧ win1_2.index t = ![0, 0] ∧ win1_3.index t = ![0, 0] ∧ win1_4.index t = ![0, 0] ∧ win1_5.index t = ![0, 0] := by
  decide +kernel

/-- The staged hidden bias is the hidden bias. -/
theorem bias_apply (c : Dev nD) : bias V c = V c main_v4 := by
  funext y
  have e := (index_whole t1_0).1
  unfold bias; blk_simp; blk_ext [e]
/-- The first layer's staged weights are its weights. -/
theorem w1_apply (c : Dev nD) : w1 V c = V c main_v5 := by
  funext y
  have e := (index_whole t1_0).2.1
  unfold w1; blk_simp; blk_ext [e]
/-- The first layer's staged bias is its bias. -/
theorem b1_apply (c : Dev nD) : b1 V c = V c main_v6 := by
  funext y
  have e := (index_whole t1_0).2.2.1
  unfold b1; blk_simp; blk_ext [e]
/-- The second layer's staged weights are its weights. -/
theorem w2_apply (c : Dev nD) : w2 V c = V c main_v7 := by
  funext y
  have e := (index_whole t1_0).2.2.2.1
  unfold w2; blk_simp; blk_ext [e]
/-- The second layer's staged bias is its bias. -/
theorem b2_apply (c : Dev nD) : b2 V c = V c main_v8 := by
  funext y
  have e := (index_whole t1_0).2.2.2.2
  unfold b2; blk_simp; blk_ext [e]

/-- Where a block's row lies in the array of sums. -/
theorem sums_apply (c : Dev nD) (t : Fin cfg1.N) (r : Fin 1024) (k : Fin 16) (i : S2048x16.Idx) (hi : (i 0).val = t.val * 1024 + r.val) :
    sumsAt V c t (ix2 r k) = V c main_v3 (ix2 (i 0) k) := by
  unfold sumsAt
  blk_simp
  blk_ext [index_sums]
  exact hi.symm

/-- A layer of a block is that block of the layer of the array. -/
theorem layer_block (c : Dev nD) (t : Fin cfg1.N) (B : S1x16.Idx → EReal) (W : S16x16.Idx → EReal) (C : S1x16.Idx → EReal)
    (y : S1024x16.Idx) (i : S2048x16.Idx) (h0 : (i 0).val = t.val * 1024 + (y 0).val) (h1 : i 1 = y 1) :
    layer (F := Ideal) (sumsAt V c t) B W C y = headed (V c main_v3) B W C i := by
  rw [layer_apply]
  unfold headed
  rw [h1]
  refine congrArg (· + C (ix2 0 (y 1))) (Finset.sum_congr rfl fun k _ => ?_)
  rw [sums_apply V c t (y 0) k i h0]

/-- The first result after the head kernel. -/
theorem first_arr (c : Dev nD) : (dat V c).arrAt 6 cfg1.N = headed (V c main_v3) (V c main_v4) (V c main_v5) (V c main_v6) := by
  refine (dat V c).arrAt_eq_of_covers 6 _ (by decide +kernel) fun t hf y => ?_
  blk_simp
  show layer (F := Ideal) (sumsAt V c t) (bias V c) (w1 V c) (b1 V c) y = _
  rw [bias_apply, w1_apply, b1_apply]
  refine layer_block V c t _ _ _ y _ ?_ (Fin.ext ?_) <;> blk_simp [index_first]

/-- The second result after the head kernel. -/
theorem second_arr (c : Dev nD) : (dat V c).arrAt 7 cfg1.N = headed (V c main_v3) (V c main_v4) (V c main_v7) (V c main_v8) := by
  refine (dat V c).arrAt_eq_of_covers 7 _ (by decide +kernel) fun t hf y => ?_
  blk_simp
  show layer (F := Ideal) (sumsAt V c t) (bias V c) (w2 V c) (b2 V c) y = _
  rw [bias_apply, w2_apply, b2_apply]
  refine layer_block V c t _ _ _ y _ ?_ (Fin.ext ?_) <;> blk_simp [index_second]

end Cert.KernelIdeal.Head

end
-- ==== Proof.KernelIdeal.Host.lean ====
module

public import proofs.«01_k».proof.Proof.Gen.KernelIdeal.Regions
public import Idealize.ShloMosaic.Lib.StableHlo.Run
public import Idealize.ShloMosaic.Lib.Pipeline.Value
public import Idealize.ShloMosaic.Lib.ValueIdx
public import Idealize.ShloMosaic.PureOps.Ideal.Laws

/-!
# What the host's operations hand to the kernels

The table is handed over turned, the biases as one-row matrices, the two weight matrices turned.
-/

@[expose] public section

set_option maxRecDepth 16384

noncomputable section

namespace Cert.KernelIdeal.Host

open Cert.KernelIdeal Cert.KernelIdeal.Gen
open Idealize.ShloMosaic Idealize.ShloMosaic.TcCoe Idealize.SL.Sem Idealize.ShloMosaic.ValueIdx Idealize.ShloMosaic.StableHlo

variable {F : FTy → Type} [FloatOps F]

/-- A vector read as a one-row matrix. -/
theorem row_apply {α : Type} (x : S16.Idx → α) (j : S1x16.Idx) : shapeCast S1x16 x shapeCasts_S16_S1x16 j = x (ix1 (j 1)) := by
  refine shapeCast_apply x _ j (ix1 (j 1)) ?_
  rw [Shape.rowMajor_val_one, Shape.rowMajor_val_two]
  have := (j 0).isLt
  show (j 1).val = (j 0).val * 16 + (j 1).val
  have h0 : (j 0).val = 0 := by have : (j 0).val < 1 := (j 0).isLt; omega
  omega

/-- The sums read without their middle axis. -/
theorem flat_apply {α : Type} (x : S2048x1x16.Idx → α) (j : S2048x16.Idx) : shapeCast S2048x16 x shapeCasts_S2048x1x16_S2048x16 j = x (ix3 (j 0) 0 (j 1)) := by
  refine shapeCast_apply x _ j (ix3 (j 0) 0 (j 1)) ?_
  rw [Shape.rowMajor_val_three, Shape.rowMajor_val_two]
  show ((j 0).val * 1 + 0) * 16 + (j 1).val = (j 0).val * 16 + (j 1).val
  omega

/-- A square matrix turned. -/
theorem turn_apply {α : Type} (x : S16x16.Idx → α) (j : S16x16.Idx) : transpose S16x16 [1, 0] x transposes_S16x16_S16x16_1_0 j = x (ix2 (j 1) (j 0)) :=
  transpose_apply [1, 0] x _ j (ix2 (j 1) (j 0)) fun b => match b with
    | ⟨0, _⟩ => rfl
    | ⟨1, _⟩ => rfl

/-- The table turned, with a middle axis of one. -/
theorem table_apply {α : Type} (x : S16x32128.Idx → α) (j : S32128x1x16.Idx) :
    shapeCast S32128x1x16 (transpose S32128x16 [1, 0] x transposes_S16x32128_S32128x16_1_0) shapeCasts_S32128x16_S32128x1x16 j = x (ix2 (j 2) (j 0)) := by
  refine (shapeCast_apply _ _ j (ix2 (j 0) (j 2)) ?_).trans (transpose_apply [1, 0] x _ (ix2 (j 0) (j 2)) (ix2 (j 2) (j 0)) fun b => match b with
    | ⟨0, _⟩ => rfl
    | ⟨1, _⟩ => rfl)
  rw [Shape.rowMajor_val_three, Shape.rowMajor_val_two]
  have h0 : (j 1).val < 1 := (j 1).isLt
  show (j 0).val * 16 + (j 2).val = ((j 0).val * 1 + (j 1).val) * 16 + (j 2).val
  omega

variable (m : (ℓ : Loc nD τ sig) → Buf (Elt F) ℓ) (outs : Outs (F := F)) (c : Dev nD)

/-- The table the bag kernel reads. -/
theorem table : V1 m c main_v1 = shapeCast S32128x1x16 (transpose S32128x16 [1, 0] (m ((c : Thread nD τ).loc main_arg1)) transposes_S16x32128_S32128x16_1_0) shapeCasts_S32128x16_S32128x1x16 := by
  show after hostOps0 (V0 m c) main_v1 = _
  simp only [hostOps0]
  after_results_simp <;> rfl

/-- The sums the head kernel reads. -/
theorem sums : V3 m outs c main_v3 = shapeCast S2048x16 (V2 m outs c main_v2) shapeCasts_S2048x1x16_S2048x16 := by
  show after hostOps1 (V2 m outs c) main_v3 = _
  generalize V2 m outs c = V
  simp only [hostOps1]
  after_results_simp <;> rfl

/-- An argument is as launched when the second stretch of host operations reads it. -/
theorem arg_kept (r : Ref sig .tc) (h : r ∉ hostOps0_W) (h' : r ∉ ([main_v2] : List (Ref sig .tc))) : V2 m outs c r = m ((c : Thread nD τ).loc r) :=
  (V2_of m outs c r h').trans (V1_of m c r h)

/-- The hidden bias the head kernel reads. -/
theorem bias : V3 m outs c main_v4 = shapeCast S1x16 (m ((c : Thread nD τ).loc main_arg2)) shapeCasts_S16_S1x16 := by
  rw [← arg_kept m outs c main_arg2 (by decide) (by decide)]
  show after hostOps1 (V2 m outs c) main_v4 = _
  generalize V2 m outs c = V
  simp only [hostOps1]
  after_results_simp <;> rfl

/-- The first layer's weights the head kernel reads. -/
theorem w1 : V3 m outs c main_v5 = transpose S16x16 [1, 0] (m ((c : Thread nD τ).loc main_arg3)) transposes_S16x16_S16x16_1_0 := by
  rw [← arg_kept m outs c main_arg3 (by decide) (by decide)]
  show after hostOps1 (V2 m outs c) main_v5 = _
  generalize V2 m outs c = V
  simp only [hostOps1]
  after_results_simp <;> rfl

/-- The first layer's bias the head kernel reads. -/
theorem b1 : V3 m outs c main_v6 = shapeCast S1x16 (m ((c : Thread nD τ).loc main_arg4)) shapeCasts_S16_S1x16 := by
  rw [← arg_kept m outs c main_arg4 (by decide) (by decide)]
  show after hostOps1 (V2 m outs c) main_v6 = _
  generalize V2 m outs c = V
  simp only [hostOps1]
  after_results_simp <;> rfl

/-- The second layer's weights the head kernel reads. -/
theorem w2 : V3 m outs c main_v7 = transpose S16x16 [1, 0] (m ((c : Thread nD τ).loc main_arg5)) transposes_S16x16_S16x16_1_0 := by
  rw [← arg_kept m outs c main_arg5 (by decide) (by decide)]
  show after hostOps1 (V2 m outs c) main_v7 = _
  generalize V2 m outs c = V
  simp only [hostOps1]
  after_results_simp <;> rfl

/-- The second layer's bias the head kernel reads. -/
theorem b2 : V3 m outs c main_v8 = shapeCast S1x16 (m ((c : Thread nD τ).loc main_arg6)) shapeCasts_S16_S1x16 := by
  rw [← arg_kept m outs c main_arg6 (by decide) (by decide)]
  show after hostOps1 (V2 m outs c) main_v8 = _
  generalize V2 m outs c = V
  simp only [hostOps1]
  after_results_simp <;> rfl

end Cert.KernelIdeal.Host

end
-- ==== Proof.Counting.lean ====
module

public import Mathlib.Data.EReal.Operations
public import Mathlib.Algebra.BigOperators.Fin
public import Mathlib.Algebra.Order.BigOperators.Group.Finset

/-!
# Counting and weighing

Over the extended reals: a list of rows weighed by how often each is named adds up to the sum of the named rows.
No finiteness is asked of the weights: a count is not negative, and a count of zero takes any weight to zero.
-/

@[expose] public section

namespace Cert.Counting

open Finset

/-- A sum of terms that are not negative, times one factor, is the sum of the products. -/
theorem sum_mul {ι : Type} (s : Finset ι) (f : ι → EReal) (hf : ∀ i, 0 ≤ f i) (w : EReal) :
    (∑ i ∈ s, f i) * w = ∑ i ∈ s, f i * w := by
  classical
  induction s using Finset.induction_on with
  | empty => simp
  | insert a s ha ih =>
    rw [sum_insert ha, sum_insert ha, EReal.right_distrib_of_nonneg (hf a) (sum_nonneg fun i _ => hf i), ih]

/-- The weights, each taken as often as it is named, add up to the weights of the names in turn. -/
theorem sum_count_mul {T V : ℕ} (g : Fin T → Fin V) (w : Fin V → EReal) :
    ∑ v, (∑ t, if g t = v then (1 : EReal) else 0) * w v = ∑ t, w (g t) := by
  have e : ∀ v, (∑ t, if g t = v then (1 : EReal) else 0) * w v = ∑ t, if g t = v then w v else 0 := fun v => by
    rw [sum_mul _ _ fun t => by split <;> simp]
    refine sum_congr rfl fun t _ => ?_
    split <;> simp
  rw [sum_congr rfl fun v _ => e v, sum_comm]
  refine sum_congr rfl fun t _ => ?_
  rw [sum_ite_eq]
  simp

end Cert.Counting
-- ==== Proof.ReferenceIdeal.Counts.lean ====
module

public import proofs.«01_k».proof.Proof.Gen.ReferenceIdeal.Read
public import proofs.«01_k».proof.Proof.Counting
public import Idealize.ShloMosaic.Lib.Routing.OpsPair

/-!
# The reference's histogram

How often each row of a batch names each token, and what the first layer makes of it.
-/

@[expose] public section

set_option maxRecDepth 16384

noncomputable section

namespace Cert.ReferenceIdeal.Counts

open Cert.ReferenceIdeal Cert.ReferenceIdeal.Gen Cert.ReferenceIdeal.Read
open Idealize.ShloMosaic Idealize.ShloMosaic.TcCoe Idealize.SL.Sem Idealize.ShloMosaic.Routing Idealize.ShloMosaic.ValueIdx

/-- A batch of token ids. -/
abbrev Ids : Type := S2048x512.Idx → BitVec 32

/-- A small natural number as a word is that number, read signed. -/
theorem toInt_ofNat (n : ℕ) (h : n < 2 ^ 31) : (BitVec.ofNat 32 n).toInt = n := by
  rw [BitVec.toInt_eq_toNat_cond, BitVec.toNat_ofNat]
  split <;> omega

/-- The first index word of a token: its row. -/
theorem word_row (x0 : Ids) (a : Fin 2048) (b : Fin 512) :
    (val_main_v16 (F := Ideal) x0 (ix3 a b 0)).toInt = (a.val : ℤ) := by
  have e : val_main_v16 (F := Ideal) x0 (ix3 a b 0) = val_main_v14 (F := Ideal) (ix3 a b 0) := by
    unfold val_main_v16
    refine concatenate_pair_apply_left (t := S2048x512x2) (s₁ := S2048x512x1) (s₂ := S2048x512x1) 2 _ _ _ _ rfl (ix3 a b 0) fun q => ?_
    match q with
    | ⟨0, _⟩ => rfl
    | ⟨1, _⟩ => rfl
    | ⟨2, _⟩ => rfl
  rw [e, val_main_v14_apply, val_main_v13_apply, val_main_v7_apply, val_main_v4_apply, val_main_v3_apply, val_main_c_apply,
    val_main_v2_apply, val_main_v1_apply]
  have ha := a.isLt
  rw [wrap_of_lt]
  · exact toInt_ofNat a.val (by omega)
  · show (BitVec.ofNat 32 a.val).toNat < 2 ^ 31
    rw [BitVec.toNat_ofNat]; omega

/-- The second index word of a token: its id. -/
theorem word_id (x0 : Ids) (hx : ∀ y, (x0 y).toNat < 32128) (a : Fin 2048) (b : Fin 512) :
    (val_main_v16 (F := Ideal) x0 (ix3 a b 1)).toInt = ((x0 (ix2 a b)).toNat : ℤ) := by
  have e : val_main_v16 (F := Ideal) x0 (ix3 a b 1) = val_main_v15 (F := Ideal) x0 (ix3 a b 0) := by
    unfold val_main_v16
    refine concatenate_pair_apply_right (t := S2048x512x2) (s₁ := S2048x512x1) (s₂ := S2048x512x1) 2 _ _ _ _ rfl rfl (ix3 a b 0) (fun q hq => ?_) rfl
    match q, hq with
    | ⟨0, _⟩, _ => rfl
    | ⟨1, _⟩, _ => rfl
    | ⟨2, _⟩, hq => exact absurd rfl hq
  have hi : idx_main_v15 (ix3 a b 0) = ix2 a b := by
    funext q
    match q with
    | ⟨0, _⟩ => rfl
    | ⟨1, _⟩ => rfl
  rw [e, val_main_v15_apply, val_main_v12_apply, val_main_v9_apply, val_main_v8_apply, val_main_c_1_apply, hi]
  have h := hx (ix2 a b)
  rw [wrap_of_lt]
  · rw [BitVec.toInt_eq_toNat_cond]; split <;> omega
  · omega

/-- One in the reference's own format is the number one. -/
theorem one_f32 : Ideal.ofBits .f32 0x3F800000#32 = 1 := by
  simp [Ideal.ofBits, Ideal.ieee, -EReal.coe_mul]; norm_num

/-- The histogram at row `r` and token `v`: how many of the row's tokens are `v`. -/
theorem counts_apply (x0 : Ids) (hx : ∀ y, (x0 y).toNat < 32128) (r : Fin 2048) (v : Fin 32128) :
    val_main_v18 (F := Ideal) x0 (ix2 r v)
      = ∑ t : Fin 512, if (⟨(x0 (ix2 r t)).toNat, hx _⟩ : Fin 32128) = v then (1 : EReal) else 0 := by
  have e : val_main_v18 (F := Ideal) x0 (ix2 r v)
      = val_main_v0 (F := Ideal) (ix2 r v) + ∑ j ∈ Finset.univ.filter
          (fun j => scatter_S2048x32128_S2048x512x2_S2048x512_n_01_01_2.resultIdx? j (val_main_v16 (F := Ideal) x0) = some (ix2 r v)),
          val_main_v17 (F := Ideal) j := rfl
  have z : val_main_v0 (F := Ideal) (ix2 r v) = 0 := by
    rw [val_main_v0_apply, val_main_cst_apply]
    exact Ideal.ofBits_zero_f32
  have o : ∀ j, val_main_v17 (F := Ideal) j = 1 := fun j => by
    rw [val_main_v17_apply, val_main_cst_3_apply]
    exact one_f32
  have lands : ∀ (a : Fin 2048) (b : Fin 512),
      scatter_S2048x32128_S2048x512x2_S2048x512_n_01_01_2.resultIdx? (ix2 a b) (val_main_v16 (F := Ideal) x0) = some (ix2 r v)
        ↔ a = r ∧ (⟨(x0 (ix2 a b)).toNat, hx _⟩ : Fin 32128) = v := fun a b => by
    rw [scatter_lands2 _ rfl rfl rfl, word_row, word_id x0 hx, Fin.ext_iff, Fin.ext_iff]
    show ((a.val : ℤ) = r.val ∧ ((x0 (ix2 a b)).toNat : ℤ) = v.val) ↔ (a.val = r.val ∧ (x0 (ix2 a b)).toNat = v.val)
    omega
  rw [e, z, zero_add, Finset.sum_congr rfl fun j _ => o j, ← Finset.sum_filter]
  refine (Finset.sum_bij (fun t _ => ix2 r t) ?_ ?_ ?_ ?_).symm
  · intro t ht
    rw [Finset.mem_filter] at ht ⊢
    exact ⟨Finset.mem_univ _, (lands r t).2 ⟨rfl, ht.2⟩⟩
  · intro t _ t' _ h
    exact congrFun h 1
  · intro j hj
    rw [Finset.mem_filter] at hj
    obtain ⟨_, hj⟩ := hj
    rw [eq_ix2 j] at hj ⊢
    obtain ⟨h1, h2⟩ := (lands _ _).1 hj
    rw [h1] at h2 ⊢
    exact ⟨j 1, Finset.mem_filter.2 ⟨Finset.mem_univ _, h2⟩, rfl⟩
  · intro _ _; rfl

/-- The first layer of the reference: the sum of the columns of its matrix that the row's tokens name. -/
theorem bag_apply (x0 : Ids) (hx : ∀ y, (x0 y).toNat < 32128) (x1 : S16x32128.Idx → EReal) (i : S2048x16.Idx) :
    val_main_v20 (F := Ideal) x0 x1 i = ∑ t : Fin 512, x1 (ix2 (i 1) ⟨(x0 (ix2 (i 0) t)).toNat, hx _⟩) := by
  rw [val_main_v20_apply]
  refine Eq.trans (Finset.sum_congr rfl fun v _ => ?_)
    (Cert.Counting.sum_count_mul (fun t => (⟨(x0 (ix2 (i 0) t)).toNat, hx _⟩ : Fin 32128)) fun v => x1 (ix2 (i 1) v))
  have el : lidx_main_v20 i v = ix2 (i 0) v := by
    funext q
    match q with
    | ⟨0, _⟩ => rfl
    | ⟨1, _⟩ => rfl
  have er : idx_main_v19 (ridx_main_v20 i v) = ix2 (i 1) v := by
    funext q
    match q with
    | ⟨0, _⟩ => rfl
    | ⟨1, _⟩ => rfl
  rw [val_main_v19_apply, el, er]
  exact congrArg (· * x1 (ix2 (i 1) v)) (counts_apply x0 hx (i 0) v)

end Cert.ReferenceIdeal.Counts

end
-- ==== Proof.ReferenceIdeal.Layers.lean ====
module

public import proofs.«01_k».proof.Proof.ReferenceIdeal.Counts
public import Idealize.ShloMosaic.PureOps.Ideal.Laws

/-!
# What the reference computes

Each result of the reference is one layer, with its own weights and bias, of the same hidden row: the sum of the table's
columns the row's tokens name, plus a bias, cut at zero.
-/

@[expose] public section

set_option maxRecDepth 16384

noncomputable section

namespace Cert.ReferenceIdeal.Layers

open Cert.ReferenceIdeal Cert.ReferenceIdeal.Gen Cert.ReferenceIdeal.Read
open Cert.ReferenceIdeal.Counts (Ids bag_apply)
open Idealize.ShloMosaic Idealize.ShloMosaic.TcCoe Idealize.SL.Sem Idealize.ShloMosaic.ValueIdx

/-- Entry `k` of row `r` of the hidden array. -/
def hid (x0 : Ids) (hx : ∀ y, (x0 y).toNat < 32128) (x1 : S16x32128.Idx → EReal) (x2 : S16.Idx → EReal) (r : Fin 2048) (k : Fin 16) : EReal :=
  max ((∑ t : Fin 512, x1 (ix2 k ⟨(x0 (ix2 r t)).toNat, hx _⟩)) + x2 (ix1 k)) 0

/-- A layer of the hidden array, with weights `W` and bias `C`. -/
def scored (x0 : Ids) (hx : ∀ y, (x0 y).toNat < 32128) (x1 : S16x32128.Idx → EReal) (x2 : S16.Idx → EReal) (W : S16x16.Idx → EReal) (C : S16.Idx → EReal) :
    S2048x16.Idx → EReal := fun i =>
  (∑ k : Fin 16, hid x0 hx x1 x2 (i 0) k * W (ix2 (i 1) k)) + C (ix1 (i 1))

/-- The reference's hidden array is `hid`. -/
theorem hidden_apply (x0 : Ids) (hx : ∀ y, (x0 y).toNat < 32128) (x1 : S16x32128.Idx → EReal) (x2 : S16.Idx → EReal) (j : S2048x16.Idx) :
    val_main_v24 (F := Ideal) x0 x1 x2 j = hid x0 hx x1 x2 (j 0) (j 1) := by
  rw [val_main_v24_apply, val_main_v23_apply, val_main_call0_v0_apply, val_main_call0_cst_apply, val_main_v22_apply, val_main_v21_apply, bag_apply x0 hx]
  show max (_ + x2 _) (Ideal.ofBits .f32 0x00000000#32) = _
  rw [Ideal.ofBits_zero_f32]
  unfold hid
  exact congrArg (fun a => max (_ + x2 a) 0) (eq_ix1 _)

/-- The first result is the layer with the first weights and bias. -/
theorem first_eq (x0 : Ids) (hx : ∀ y, (x0 y).toNat < 32128) (x1 : S16x32128.Idx → EReal) (x2 : S16.Idx → EReal) (x3 : S16x16.Idx → EReal) (x4 : S16.Idx → EReal) :
    val_main_v29 (F := Ideal) x0 x1 x2 x3 x4 = scored x0 hx x1 x2 x3 x4 := by
  funext i
  rw [val_main_v29_apply, val_main_v26_apply, val_main_v28_apply, val_main_v27_apply]
  refine congrArg₂ (fun a b : EReal => a + b) (Finset.sum_congr rfl fun k _ => ?_) (congrArg x4 (eq_ix1 _))
  rw [hidden_apply x0 hx, val_main_v25_apply]
  exact congrArg (_ * x3 ·) (eq_ix2 _)

/-- The second result is the layer with the second weights and bias. -/
theorem second_eq (x0 : Ids) (hx : ∀ y, (x0 y).toNat < 32128) (x1 : S16x32128.Idx → EReal) (x2 : S16.Idx → EReal) (x5 : S16x16.Idx → EReal) (x6 : S16.Idx → EReal) :
    val_main_v34 (F := Ideal) x0 x1 x2 x5 x6 = scored x0 hx x1 x2 x5 x6 := by
  funext i
  rw [val_main_v34_apply, val_main_v31_apply, val_main_v33_apply, val_main_v32_apply]
  refine congrArg₂ (fun a b : EReal => a + b) (Finset.sum_congr rfl fun k _ => ?_) (congrArg x6 (eq_ix1 _))
  rw [hidden_apply x0 hx, val_main_v30_apply]
  exact congrArg (_ * x5 ·) (eq_ix2 _)

end Cert.ReferenceIdeal.Layers

end
-- ==== Proof.Equation.lean ====
module

public import proofs.«01_k».proof.Proof.KernelIdeal.BagValue
public import proofs.«01_k».proof.Proof.KernelIdeal.HeadValue
public import proofs.«01_k».proof.Proof.KernelIdeal.Host
public import proofs.«01_k».proof.Proof.KernelIdeal.Run
public import proofs.«01_k».proof.Proof.ReferenceIdeal.Layers

/-!
# The kernel's results are the reference's

Both results of the kernel, over the extended reals, are the layers the reference computes.
-/

@[expose] public section

set_option maxRecDepth 16384

noncomputable section

namespace Cert.Equation

open Cert.KernelIdeal Cert.KernelIdeal.Gen
open Cert.KernelIdeal.Bag (bagged)
open Cert.KernelIdeal.Head (headed)
open Cert.KernelIdeal.Run (outs bagOuts left0 left1 mem_uc)
open Cert.ReferenceIdeal.Layers (hid scored)
open Idealize.ShloMosaic Idealize.ShloMosaic.TcCoe Idealize.SL.Sem Idealize.ShloMosaic.ValueIdx
open Idealize.ShloMosaic.Pipeline (afterRegion)

/-- The head kernel's layer of the bag kernel's sums is the reference's layer. -/
theorem headed_eq (x0 : S2048x512.Idx → BitVec 32) (hx : ∀ y, (x0 y).toNat < 32128) (x1 : S16x32128.Idx → EReal) (x2 : S16.Idx → EReal)
    (W : S16x16.Idx → EReal) (C : S16.Idx → EReal) :
    headed
      (shapeCast S2048x16 (bagged (shapeCast S32128x1x16 (transpose S32128x16 [1, 0] x1 transposes_S16x32128_S32128x16_1_0) shapeCasts_S32128x16_S32128x1x16) x0 hx)
        shapeCasts_S2048x1x16_S2048x16)
      (shapeCast S1x16 x2 shapeCasts_S16_S1x16) (transpose S16x16 [1, 0] W transposes_S16x16_S16x16_1_0) (shapeCast S1x16 C shapeCasts_S16_S1x16)
      = scored x0 hx x1 x2 W C := by
  funext i
  unfold headed scored
  rw [Host.row_apply]
  refine congrArg (· + C (ix1 (i 1))) (Finset.sum_congr rfl fun k _ => ?_)
  rw [Host.turn_apply, Host.row_apply, Host.flat_apply]
  refine congrArg (· * W (ix2 (i 1) k)) ?_
  unfold hid bagged
  refine congrArg (fun a : EReal => max (a + x2 (ix1 k)) 0) (Finset.sum_congr rfl fun t _ => ?_)
  rw [Host.table_apply]

variable (m : (ℓ : Loc nD τ sig) → Buf (Elt Ideal) ℓ)

/-- The bag's sums depend on the ids alone, not on how they are known to be in range. -/
theorem bagged_congr (T : S32128x1x16.Idx → EReal) (X X' : S2048x512.Idx → BitVec 32) (e : X = X') (h) (h') : bagged T X h = bagged T X' h' := by
  subst e; rfl

/-- What the bag kernel hands on. -/
theorem sums_eq (hx : ∀ (c : Dev nD) y, (m ((c : Thread nD τ).loc main_arg0) y).toNat < 32128) (c : Dev nD) :
    V2 m (outs m) c main_v2
      = bagged (shapeCast S32128x1x16 (transpose S32128x16 [1, 0] (m ((c : Thread nD τ).loc main_arg1)) transposes_S16x32128_S32128x16_1_0) shapeCasts_S32128x16_S32128x1x16)
        (m ((c : Thread nD τ).loc main_arg0)) (hx c) := by
  have e : ∀ c, V1 m c main_arg0 = m ((c : Thread nD τ).loc main_arg0) := fun c => V1_of m c main_arg0 (by decide)
  have hx' : ∀ (c : Dev nD) y, (V1 m c main_arg0 y).toNat < 32128 := fun c y => by rw [e c]; exact hx c y
  refine (left0 m c _ (mem_uc main_v2 rfl)).symm.trans ((Pipeline.afterRegion_arr (Bag.dat (V1 m) c) (V1 m c) launch0.win.arr_inj 2).trans ?_)
  refine (Bag.bag_arr (V1 m) hx' c).trans ?_
  rw [Host.table m c]
  exact bagged_congr _ _ _ (e c) _ _

/-- The kernel's first result. -/
theorem first (hx : ∀ (c : Dev nD) y, (m ((c : Thread nD τ).loc main_arg0) y).toNat < 32128) (c : Dev nD) :
    V4 m (outs m) c main_v9_0
      = scored (m ((c : Thread nD τ).loc main_arg0)) (hx c) (m ((c : Thread nD τ).loc main_arg1)) (m ((c : Thread nD τ).loc main_arg2))
        (m ((c : Thread nD τ).loc main_arg3)) (m ((c : Thread nD τ).loc main_arg4)) := by
  refine (left1 m c _ (mem_uc main_v9_0 rfl)).symm.trans
    ((Pipeline.afterRegion_arr (Head.dat (V3 m (outs m)) c) (V3 m (outs m) c) launch1.win.arr_inj 6).trans ((Head.first_arr (V3 m (outs m)) c).trans ?_))
  rw [Host.sums, Host.bias, Host.w1, Host.b1, sums_eq m hx c]
  exact headed_eq _ (hx c) _ _ _ _

/-- The kernel's second result. -/
theorem second (hx : ∀ (c : Dev nD) y, (m ((c : Thread nD τ).loc main_arg0) y).toNat < 32128) (c : Dev nD) :
    V4 m (outs m) c main_v9_1
      = scored (m ((c : Thread nD τ).loc main_arg0)) (hx c) (m ((c : Thread nD τ).loc main_arg1)) (m ((c : Thread nD τ).loc main_arg2))
        (m ((c : Thread nD τ).loc main_arg5)) (m ((c : Thread nD τ).loc main_arg6)) := by
  refine (left1 m c _ (mem_uc main_v9_1 rfl)).symm.trans
    ((Pipeline.afterRegion_arr (Head.dat (V3 m (outs m)) c) (V3 m (outs m) c) launch1.win.arr_inj 7).trans ((Head.second_arr (V3 m (outs m)) c).trans ?_))
  rw [Host.sums, Host.bias, Host.w2, Host.b2, sums_eq m hx c]
  exact headed_eq _ (hx c) _ _ _ _

end Cert.Equation

end
-- ==== Proof.lean ====
module

public import proofs.«01_k».proof.Defs
public import proofs.«01_k».proof.Proof.Gen.Kernel
public import proofs.«01_k».proof.Proof.Kernel.Program
public import proofs.«01_k».proof.Proof.Gen.ReferenceIdeal.Run
public import proofs.«01_k».proof.Proof.Words
public import proofs.«01_k».proof.Proof.Equation
public import Idealize.ShloMosaic.Lib.Claim
public import Idealize.ShloMosaic.Lib.Quiescent

/-!
# The claim

The kernel runs without fault and stops with its arguments unchanged and every counter at zero, for its bits and for
its ideal values; so does the reference; and over the extended reals both results of the two are equal.
-/

@[expose] public section

set_option maxRecDepth 16384

noncomputable section

namespace Cert.Proof

open Idealize.ShloMosaic Idealize.ShloMosaic.TcCoe Idealize.SL.Sem

/-- The reference runs, and stops with its arguments unchanged; it has no counters. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0) :=
  (θ_run _ _ _).mono (fun r h => ⟨fun c => (h c).2.2, sem_eq_zero_of_no_sems (by decide) r.2⟩) (Cert.ReferenceIdeal.Value.run m g)

/-- The kernel runs for its ideal values, and stops with its arguments unchanged and every counter at zero. -/
theorem ideal_frame : Cert.quiescent_KernelIdeal := fun m g h =>
  (θ_run _ _ _).mono (fun _ h => ⟨fun c => (h.1 c).1, h.2⟩)
    (Cert.KernelIdeal.Run.run m g fun c y => Cert.Words.row_inb _ (Cert.Words.lt_of_tokens _ _ _ _ _ _ _ (h c) y))

/-- Over the extended reals the kernel's two results are the reference's. -/
theorem equal : Cert.algebraic_KernelIdeal_ReferenceIdeal := by
  intro m g m' g' h agree
  have hx : ∀ (c : Dev Cert.KernelIdeal.nD) y, (m ((c.tc : Thread Cert.KernelIdeal.nD Cert.KernelIdeal.τ).loc Cert.KernelIdeal.main_arg0) y).toNat < 32128 :=
    fun c y => Cert.Words.lt_of_tokens _ _ _ _ _ _ _ (h c) y
  refine ⟨fun c => Cert.KernelIdeal.Gen.V4 m (Cert.KernelIdeal.Run.outs m) c Cert.KernelIdeal.main_v9_0,
    fun c => Cert.KernelIdeal.Gen.V4 m (Cert.KernelIdeal.Run.outs m) c Cert.KernelIdeal.main_v9_1, ?_, ?_⟩
  · exact (θ_run _ _ _).mono (fun _ h c => ⟨(h.1 c).2.1, (h.1 c).2.2, (h.1 c).1⟩) (Cert.KernelIdeal.Run.run m g fun c y => Cert.Words.row_inb _ (hx c y))
  · refine (θ_run _ _ _).mono (fun _ h c => ⟨(h c).1.trans ?_, (h c).2.1.trans ?_, (h c).2.2⟩) (Cert.ReferenceIdeal.Value.run m' g')
    · refine (Cert.ReferenceIdeal.Read.val_main_v29_eq _ _ _ _ _).trans ?_
      obtain ⟨e0, e1, e2, e3, e4, -, -⟩ := agree c
      rw [e0, e1, e2, e3, e4]
      exact (Cert.ReferenceIdeal.Layers.first_eq _ (hx c) _ _ _ _).trans (Cert.Equation.first m hx c).symm
    · refine (Cert.ReferenceIdeal.Read.val_main_v34_eq _ _ _ _ _).trans ?_
      obtain ⟨e0, e1, e2, -, -, e5, e6⟩ := agree c
      rw [e0, e1, e2, e5, e6]
      exact (Cert.ReferenceIdeal.Layers.second_eq _ (hx c) _ _ _ _).trans (Cert.Equation.second m hx c).symm

/-- The kernel runs for its bits, and stops with its arguments unchanged and every counter at zero. -/
theorem bits_frame : Cert.quiescent_Kernel := fun m g h =>
  Cert.Same.run ((θ_run _ _ _).mono (fun _ h => ⟨fun c => (h.1 c).1, h.2⟩)
    (Cert.KernelIdeal.Run.run (F := Bits) m g fun c y => Cert.Words.row_inb _ (Cert.Words.lt_of_tokens _ _ _ _ _ _ _ (h c) y)))

/-- Every claim. -/
theorem claim : Cert.Claim := ⟨Cert.Kernel.Gen.facts, Cert.KernelIdeal.Gen.facts, Cert.ReferenceIdeal.Gen.facts, Cert.Words.facts,
  bits_frame, ideal_frame, fun m g _ => reference_frame m g, fun m g _ => reference_frame m g, trivial, equal⟩

end Cert.Proof

end
